-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite [hPre_finite : Cert.Pre_finite.Facts] (m : (ℓ : Loc Cert.MoeIdeal.nD Cert.MoeIdeal.τ Cert.MoeIdeal.sig) → Buf (Elt Ideal) ℓ) : Prop :=
  ∀ c : Dev Cert.MoeIdeal.nD,
    (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite [hPre_finite : Cert.Pre_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_scan_finite [hPre_scan_finite : Cert.Pre_scan_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_scan_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_scan_finite [hPre_scan_finite : Cert.Pre_scan_finite.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_scan_finite.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8))) = (fun _ => 1#1)

def Pre_CtxMoe (m : (ℓ : Loc Cert.CtxMoe.nD Cert.CtxMoe.τ Cert.CtxMoe.sig) → Buf (Elt Bits) ℓ) : Prop :=
  True

def Pre_CtxMoeIdeal (m : (ℓ : Loc Cert.CtxMoeIdeal.nD Cert.CtxMoeIdeal.τ Cert.CtxMoeIdeal.sig) → Buf (Elt Ideal) ℓ) : Prop :=
  True

def Pre_CtxMoeIdeal_ctx_finite [hPre_ctx_finite : Cert.Pre_ctx_finite.Facts] (m : (ℓ : Loc Cert.CtxMoeIdeal.nD Cert.CtxMoeIdeal.τ Cert.CtxMoeIdeal.sig) → Buf (Elt Ideal) ℓ) : Prop :=
  ∀ c : Dev Cert.CtxMoeIdeal.nD,
    (Cert.Pre_ctx_finite.fn (F := Ideal) (m ((c.tc : Thread Cert.CtxMoeIdeal.nD Cert.CtxMoeIdeal.τ).loc Cert.CtxMoeIdeal.main_arg0)) (m ((c.tc : Thread Cert.CtxMoeIdeal.nD Cert.CtxMoeIdeal.τ).loc Cert.CtxMoeIdeal.main_arg1)) (m ((c.tc : Thread Cert.CtxMoeIdeal.nD Cert.CtxMoeIdeal.τ).loc Cert.CtxMoeIdeal.main_arg2)) (m ((c.tc : Thread Cert.CtxMoeIdeal.nD Cert.CtxMoeIdeal.τ).loc Cert.CtxMoeIdeal.main_arg3)) (m ((c.tc : Thread Cert.CtxMoeIdeal.nD Cert.CtxMoeIdeal.τ).loc Cert.CtxMoeIdeal.main_arg4)) (m ((c.tc : Thread Cert.CtxMoeIdeal.nD Cert.CtxMoeIdeal.τ).loc Cert.CtxMoeIdeal.main_arg5)) (m ((c.tc : Thread Cert.CtxMoeIdeal.nD Cert.CtxMoeIdeal.τ).loc Cert.CtxMoeIdeal.main_arg6)) (m ((c.tc : Thread Cert.CtxMoeIdeal.nD Cert.CtxMoeIdeal.τ).loc Cert.CtxMoeIdeal.main_arg7)) (m ((c.tc : Thread Cert.CtxMoeIdeal.nD Cert.CtxMoeIdeal.τ).loc Cert.CtxMoeIdeal.main_arg8))) = (fun _ => 1#1)

def Pre_CtxMoeRefIdeal (m : (ℓ : Loc Cert.CtxMoeRefIdeal.nD Cert.CtxMoeRefIdeal.τ Cert.CtxMoeRefIdeal.sig) → Buf (Elt Ideal) ℓ) : Prop :=
  True

def Pre_CtxMoeRefIdeal_ctx_finite [hPre_ctx_finite : Cert.Pre_ctx_finite.Facts] (m : (ℓ : Loc Cert.CtxMoeRefIdeal.nD Cert.CtxMoeRefIdeal.τ Cert.CtxMoeRefIdeal.sig) → Buf (Elt Ideal) ℓ) : Prop :=
  ∀ c : Dev Cert.CtxMoeRefIdeal.nD,
    (Cert.Pre_ctx_finite.fn (F := Ideal) (m ((c.tc : Thread Cert.CtxMoeRefIdeal.nD Cert.CtxMoeRefIdeal.τ).loc Cert.CtxMoeRefIdeal.main_arg0)) (m ((c.tc : Thread Cert.CtxMoeRefIdeal.nD Cert.CtxMoeRefIdeal.τ).loc Cert.CtxMoeRefIdeal.main_arg1)) (m ((c.tc : Thread Cert.CtxMoeRefIdeal.nD Cert.CtxMoeRefIdeal.τ).loc Cert.CtxMoeRefIdeal.main_arg2)) (m ((c.tc : Thread Cert.CtxMoeRefIdeal.nD Cert.CtxMoeRefIdeal.τ).loc Cert.CtxMoeRefIdeal.main_arg3)) (m ((c.tc : Thread Cert.CtxMoeRefIdeal.nD Cert.CtxMoeRefIdeal.τ).loc Cert.CtxMoeRefIdeal.main_arg4)) (m ((c.tc : Thread Cert.CtxMoeRefIdeal.nD Cert.CtxMoeRefIdeal.τ).loc Cert.CtxMoeRefIdeal.main_arg5)) (m ((c.tc : Thread Cert.CtxMoeRefIdeal.nD Cert.CtxMoeRefIdeal.τ).loc Cert.CtxMoeRefIdeal.main_arg6)) (m ((c.tc : Thread Cert.CtxMoeRefIdeal.nD Cert.CtxMoeRefIdeal.τ).loc Cert.CtxMoeRefIdeal.main_arg7)) (m ((c.tc : Thread Cert.CtxMoeRefIdeal.nD Cert.CtxMoeRefIdeal.τ).loc Cert.CtxMoeRefIdeal.main_arg8))) = (fun _ => 1#1)

def Pre_CtxFfn (m : (ℓ : Loc Cert.CtxFfn.nD Cert.CtxFfn.τ Cert.CtxFfn.sig) → Buf (Elt Bits) ℓ) : Prop :=
  True

def Pre_CtxFfnIdeal (m : (ℓ : Loc Cert.CtxFfnIdeal.nD Cert.CtxFfnIdeal.τ Cert.CtxFfnIdeal.sig) → Buf (Elt Ideal) ℓ) : Prop :=
  True

def Pre_CtxFfnRefIdeal (m : (ℓ : Loc Cert.CtxFfnRefIdeal.nD Cert.CtxFfnRefIdeal.τ Cert.CtxFfnRefIdeal.sig) → Buf (Elt Ideal) ℓ) : Prop :=
  True

def Pre_CtxOutProj (m : (ℓ : Loc Cert.CtxOutProj.nD Cert.CtxOutProj.τ Cert.CtxOutProj.sig) → Buf (Elt Bits) ℓ) : Prop :=
  True

def Pre_CtxOutProjIdeal (m : (ℓ : Loc Cert.CtxOutProjIdeal.nD Cert.CtxOutProjIdeal.τ Cert.CtxOutProjIdeal.sig) → Buf (Elt Ideal) ℓ) : Prop :=
  True

def Pre_CtxOutProjIdeal_ctx_scan_finite [hPre_ctx_scan_finite : Cert.Pre_ctx_scan_finite.Facts] (m : (ℓ : Loc Cert.CtxOutProjIdeal.nD Cert.CtxOutProjIdeal.τ Cert.CtxOutProjIdeal.sig) → Buf (Elt Ideal) ℓ) : Prop :=
  ∀ c : Dev Cert.CtxOutProjIdeal.nD,
    (Cert.Pre_ctx_scan_finite.fn (F := Ideal) (m ((c.tc : Thread Cert.CtxOutProjIdeal.nD Cert.CtxOutProjIdeal.τ).loc Cert.CtxOutProjIdeal.main_arg0)) (m ((c.tc : Thread Cert.CtxOutProjIdeal.nD Cert.CtxOutProjIdeal.τ).loc Cert.CtxOutProjIdeal.main_arg1)) (m ((c.tc : Thread Cert.CtxOutProjIdeal.nD Cert.CtxOutProjIdeal.τ).loc Cert.CtxOutProjIdeal.main_arg2)) (m ((c.tc : Thread Cert.CtxOutProjIdeal.nD Cert.CtxOutProjIdeal.τ).loc Cert.CtxOutProjIdeal.main_arg3)) (m ((c.tc : Thread Cert.CtxOutProjIdeal.nD Cert.CtxOutProjIdeal.τ).loc Cert.CtxOutProjIdeal.main_arg4)) (m ((c.tc : Thread Cert.CtxOutProjIdeal.nD Cert.CtxOutProjIdeal.τ).loc Cert.CtxOutProjIdeal.main_arg5)) (m ((c.tc : Thread Cert.CtxOutProjIdeal.nD Cert.CtxOutProjIdeal.τ).loc Cert.CtxOutProjIdeal.main_arg6)) (m ((c.tc : Thread Cert.CtxOutProjIdeal.nD Cert.CtxOutProjIdeal.τ).loc Cert.CtxOutProjIdeal.main_arg7)) (m ((c.tc : Thread Cert.CtxOutProjIdeal.nD Cert.CtxOutProjIdeal.τ).loc Cert.CtxOutProjIdeal.main_arg8))) = (fun _ => 1#1)

def Pre_CtxOutRefIdeal (m : (ℓ : Loc Cert.CtxOutRefIdeal.nD Cert.CtxOutRefIdeal.τ Cert.CtxOutRefIdeal.sig) → Buf (Elt Ideal) ℓ) : Prop :=
  True

def Pre_CtxOutRefIdeal_ctx_scan_finite [hPre_ctx_scan_finite : Cert.Pre_ctx_scan_finite.Facts] (m : (ℓ : Loc Cert.CtxOutRefIdeal.nD Cert.CtxOutRefIdeal.τ Cert.CtxOutRefIdeal.sig) → Buf (Elt Ideal) ℓ) : Prop :=
  ∀ c : Dev Cert.CtxOutRefIdeal.nD,
    (Cert.Pre_ctx_scan_finite.fn (F := Ideal) (m ((c.tc : Thread Cert.CtxOutRefIdeal.nD Cert.CtxOutRefIdeal.τ).loc Cert.CtxOutRefIdeal.main_arg0)) (m ((c.tc : Thread Cert.CtxOutRefIdeal.nD Cert.CtxOutRefIdeal.τ).loc Cert.CtxOutRefIdeal.main_arg1)) (m ((c.tc : Thread Cert.CtxOutRefIdeal.nD Cert.CtxOutRefIdeal.τ).loc Cert.CtxOutRefIdeal.main_arg2)) (m ((c.tc : Thread Cert.CtxOutRefIdeal.nD Cert.CtxOutRefIdeal.τ).loc Cert.CtxOutRefIdeal.main_arg3)) (m ((c.tc : Thread Cert.CtxOutRefIdeal.nD Cert.CtxOutRefIdeal.τ).loc Cert.CtxOutRefIdeal.main_arg4)) (m ((c.tc : Thread Cert.CtxOutRefIdeal.nD Cert.CtxOutRefIdeal.τ).loc Cert.CtxOutRefIdeal.main_arg5)) (m ((c.tc : Thread Cert.CtxOutRefIdeal.nD Cert.CtxOutRefIdeal.τ).loc Cert.CtxOutRefIdeal.main_arg6)) (m ((c.tc : Thread Cert.CtxOutRefIdeal.nD Cert.CtxOutRefIdeal.τ).loc Cert.CtxOutRefIdeal.main_arg7)) (m ((c.tc : Thread Cert.CtxOutRefIdeal.nD Cert.CtxOutRefIdeal.τ).loc Cert.CtxOutRefIdeal.main_arg8))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_finite [hMoeIdeal : Cert.MoeIdeal.Facts] [hPre_finite : Cert.Pre_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_finite [hMoeRefIdeal : Cert.MoeRefIdeal.Facts] [hPre_finite : Cert.Pre_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjIdeal_pre_scan_finite [hOutProjIdeal : Cert.OutProjIdeal.Facts] [hPre_scan_finite : Cert.Pre_scan_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_scan_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_OutRefIdeal_pre_scan_finite [hOutRefIdeal : Cert.OutRefIdeal.Facts] [hPre_scan_finite : Cert.Pre_scan_finite.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_scan_finite m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_CtxMoe [hCtxMoe : Cert.CtxMoe.Facts] : Prop :=
  ∀ (m : (ℓ : Loc Cert.CtxMoe.nD Cert.CtxMoe.τ Cert.CtxMoe.sig) → Buf (Elt Bits) ℓ) (g : Dev Cert.CtxMoe.nD → PrngReg), Pre_CtxMoe m →
    θ_run (Cert.CtxMoe.defs (F := Bits)) (onTc (τ := Cert.CtxMoe.τ) (Cert.CtxMoe.main (F := Bits))) ⟨m, fun _ => 0, g⟩ (fun r => (∀ c : Dev Cert.CtxMoe.nD,
      r.2.mem ((c.tc : Thread Cert.CtxMoe.nD Cert.CtxMoe.τ).loc Cert.CtxMoe.main_arg0) = m ((c.tc : Thread Cert.CtxMoe.nD Cert.CtxMoe.τ).loc Cert.CtxMoe.main_arg0)
      ∧ r.2.mem ((c.tc : Thread Cert.CtxMoe.nD Cert.CtxMoe.τ).loc Cert.CtxMoe.main_arg1) = m ((c.tc : Thread Cert.CtxMoe.nD Cert.CtxMoe.τ).loc Cert.CtxMoe.main_arg1)
      ∧ r.2.mem ((c.tc : Thread Cert.CtxMoe.nD Cert.CtxMoe.τ).loc Cert.CtxMoe.main_arg2) = m ((c.tc : Thread Cert.CtxMoe.nD Cert.CtxMoe.τ).loc Cert.CtxMoe.main_arg2)
      ∧ r.2.mem ((c.tc : Thread Cert.CtxMoe.nD Cert.CtxMoe.τ).loc Cert.CtxMoe.main_arg3) = m ((c.tc : Thread Cert.CtxMoe.nD Cert.CtxMoe.τ).loc Cert.CtxMoe.main_arg3)
      ∧ r.2.mem ((c.tc : Thread Cert.CtxMoe.nD Cert.CtxMoe.τ).loc Cert.CtxMoe.main_arg4) = m ((c.tc : Thread Cert.CtxMoe.nD Cert.CtxMoe.τ).loc Cert.CtxMoe.main_arg4)
      ∧ r.2.mem ((c.tc : Thread Cert.CtxMoe.nD Cert.CtxMoe.τ).loc Cert.CtxMoe.main_arg5) = m ((c.tc : Thread Cert.CtxMoe.nD Cert.CtxMoe.τ).loc Cert.CtxMoe.main_arg5)
      ∧ r.2.mem ((c.tc : Thread Cert.CtxMoe.nD Cert.CtxMoe.τ).loc Cert.CtxMoe.main_arg6) = m ((c.tc : Thread Cert.CtxMoe.nD Cert.CtxMoe.τ).loc Cert.CtxMoe.main_arg6)
      ∧ r.2.mem ((c.tc : Thread Cert.CtxMoe.nD Cert.CtxMoe.τ).loc Cert.CtxMoe.main_arg7) = m ((c.tc : Thread Cert.CtxMoe.nD Cert.CtxMoe.τ).loc Cert.CtxMoe.main_arg7)
      ∧ r.2.mem ((c.tc : Thread Cert.CtxMoe.nD Cert.CtxMoe.τ).loc Cert.CtxMoe.main_arg8) = m ((c.tc : Thread Cert.CtxMoe.nD Cert.CtxMoe.τ).loc Cert.CtxMoe.main_arg8))
      ∧ r.2.sem = fun _ => 0)

def quiescent_CtxMoeIdeal [hCtxMoeIdeal : Cert.CtxMoeIdeal.Facts] : Prop :=
  ∀ (m : (ℓ : Loc Cert.CtxMoeIdeal.nD Cert.CtxMoeIdeal.τ Cert.CtxMoeIdeal.sig) → Buf (Elt Ideal) ℓ) (g : Dev Cert.CtxMoeIdeal.nD → PrngReg), Pre_CtxMoeIdeal m →
    θ_run (Cert.CtxMoeIdeal.defs (F := Ideal)) (onTc (τ := Cert.CtxMoeIdeal.τ) (Cert.CtxMoeIdeal.main (F := Ideal))) ⟨m, fun _ => 0, g⟩ (fun r => (∀ c : Dev Cert.CtxMoeIdeal.nD,
      r.2.mem ((c.tc : Thread Cert.CtxMoeIdeal.nD Cert.CtxMoeIdeal.τ).loc Cert.CtxMoeIdeal.main_arg0) = m ((c.tc : Thread Cert.CtxMoeIdeal.nD Cert.CtxMoeIdeal.τ).loc Cert.CtxMoeIdeal.main_arg0)
      ∧ r.2.mem ((c.tc : Thread Cert.CtxMoeIdeal.nD Cert.CtxMoeIdeal.τ).loc Cert.CtxMoeIdeal.main_arg1) = m ((c.tc : Thread Cert.CtxMoeIdeal.nD Cert.CtxMoeIdeal.τ).loc Cert.CtxMoeIdeal.main_arg1)
      ∧ r.2.mem ((c.tc : Thread Cert.CtxMoeIdeal.nD Cert.CtxMoeIdeal.τ).loc Cert.CtxMoeIdeal.main_arg2) = m ((c.tc : Thread Cert.CtxMoeIdeal.nD Cert.CtxMoeIdeal.τ).loc Cert.CtxMoeIdeal.main_arg2)
      ∧ r.2.mem ((c.tc : Thread Cert.CtxMoeIdeal.nD Cert.CtxMoeIdeal.τ).loc Cert.CtxMoeIdeal.main_arg3) = m ((c.tc : Thread Cert.CtxMoeIdeal.nD Cert.CtxMoeIdeal.τ).loc Cert.CtxMoeIdeal.main_arg3)
      ∧ r.2.mem ((c.tc : Thread Cert.CtxMoeIdeal.nD Cert.CtxMoeIdeal.τ).loc Cert.CtxMoeIdeal.main_arg4) = m ((c.tc : Thread Cert.CtxMoeIdeal.nD Cert.CtxMoeIdeal.τ).loc Cert.CtxMoeIdeal.main_arg4)
      ∧ r.2.mem ((c.tc : Thread Cert.CtxMoeIdeal.nD Cert.CtxMoeIdeal.τ).loc Cert.CtxMoeIdeal.main_arg5) = m ((c.tc : Thread Cert.CtxMoeIdeal.nD Cert.CtxMoeIdeal.τ).loc Cert.CtxMoeIdeal.main_arg5)
      ∧ r.2.mem ((c.tc : Thread Cert.CtxMoeIdeal.nD Cert.CtxMoeIdeal.τ).loc Cert.CtxMoeIdeal.main_arg6) = m ((c.tc : Thread Cert.CtxMoeIdeal.nD Cert.CtxMoeIdeal.τ).loc Cert.CtxMoeIdeal.main_arg6)
      ∧ r.2.mem ((c.tc : Thread Cert.CtxMoeIdeal.nD Cert.CtxMoeIdeal.τ).loc Cert.CtxMoeIdeal.main_arg7) = m ((c.tc : Thread Cert.CtxMoeIdeal.nD Cert.CtxMoeIdeal.τ).loc Cert.CtxMoeIdeal.main_arg7)
      ∧ r.2.mem ((c.tc : Thread Cert.CtxMoeIdeal.nD Cert.CtxMoeIdeal.τ).loc Cert.CtxMoeIdeal.main_arg8) = m ((c.tc : Thread Cert.CtxMoeIdeal.nD Cert.CtxMoeIdeal.τ).loc Cert.CtxMoeIdeal.main_arg8))
      ∧ r.2.sem = fun _ => 0)

def quiescent_CtxMoeIdeal_pre_ctx_finite [hCtxMoeIdeal : Cert.CtxMoeIdeal.Facts] [hPre_ctx_finite : Cert.Pre_ctx_finite.Facts] : Prop :=
  ∀ (m : (ℓ : Loc Cert.CtxMoeIdeal.nD Cert.CtxMoeIdeal.τ Cert.CtxMoeIdeal.sig) → Buf (Elt Ideal) ℓ) (g : Dev Cert.CtxMoeIdeal.nD → PrngReg), Pre_CtxMoeIdeal_ctx_finite m →
    θ_run (Cert.CtxMoeIdeal.defs (F := Ideal)) (onTc (τ := Cert.CtxMoeIdeal.τ) (Cert.CtxMoeIdeal.main (F := Ideal))) ⟨m, fun _ => 0, g⟩ (fun r => (∀ c : Dev Cert.CtxMoeIdeal.nD,
      r.2.mem ((c.tc : Thread Cert.CtxMoeIdeal.nD Cert.CtxMoeIdeal.τ).loc Cert.CtxMoeIdeal.main_arg0) = m ((c.tc : Thread Cert.CtxMoeIdeal.nD Cert.CtxMoeIdeal.τ).loc Cert.CtxMoeIdeal.main_arg0)
      ∧ r.2.mem ((c.tc : Thread Cert.CtxMoeIdeal.nD Cert.CtxMoeIdeal.τ).loc Cert.CtxMoeIdeal.main_arg1) = m ((c.tc : Thread Cert.CtxMoeIdeal.nD Cert.CtxMoeIdeal.τ).loc Cert.CtxMoeIdeal.main_arg1)
      ∧ r.2.mem ((c.tc : Thread Cert.CtxMoeIdeal.nD Cert.CtxMoeIdeal.τ).loc Cert.CtxMoeIdeal.main_arg2) = m ((c.tc : Thread Cert.CtxMoeIdeal.nD Cert.CtxMoeIdeal.τ).loc Cert.CtxMoeIdeal.main_arg2)
      ∧ r.2.mem ((c.tc : Thread Cert.CtxMoeIdeal.nD Cert.CtxMoeIdeal.τ).loc Cert.CtxMoeIdeal.main_arg3) = m ((c.tc : Thread Cert.CtxMoeIdeal.nD Cert.CtxMoeIdeal.τ).loc Cert.CtxMoeIdeal.main_arg3)
      ∧ r.2.mem ((c.tc : Thread Cert.CtxMoeIdeal.nD Cert.CtxMoeIdeal.τ).loc Cert.CtxMoeIdeal.main_arg4) = m ((c.tc : Thread Cert.CtxMoeIdeal.nD Cert.CtxMoeIdeal.τ).loc Cert.CtxMoeIdeal.main_arg4)
      ∧ r.2.mem ((c.tc : Thread Cert.CtxMoeIdeal.nD Cert.CtxMoeIdeal.τ).loc Cert.CtxMoeIdeal.main_arg5) = m ((c.tc : Thread Cert.CtxMoeIdeal.nD Cert.CtxMoeIdeal.τ).loc Cert.CtxMoeIdeal.main_arg5)
      ∧ r.2.mem ((c.tc : Thread Cert.CtxMoeIdeal.nD Cert.CtxMoeIdeal.τ).loc Cert.CtxMoeIdeal.main_arg6) = m ((c.tc : Thread Cert.CtxMoeIdeal.nD Cert.CtxMoeIdeal.τ).loc Cert.CtxMoeIdeal.main_arg6)
      ∧ r.2.mem ((c.tc : Thread Cert.CtxMoeIdeal.nD Cert.CtxMoeIdeal.τ).loc Cert.CtxMoeIdeal.main_arg7) = m ((c.tc : Thread Cert.CtxMoeIdeal.nD Cert.CtxMoeIdeal.τ).loc Cert.CtxMoeIdeal.main_arg7)
      ∧ r.2.mem ((c.tc : Thread Cert.CtxMoeIdeal.nD Cert.CtxMoeIdeal.τ).loc Cert.CtxMoeIdeal.main_arg8) = m ((c.tc : Thread Cert.CtxMoeIdeal.nD Cert.CtxMoeIdeal.τ).loc Cert.CtxMoeIdeal.main_arg8))
      ∧ r.2.sem = fun _ => 0)

def quiescent_CtxMoeRefIdeal [hCtxMoeRefIdeal : Cert.CtxMoeRefIdeal.Facts] : Prop :=
  ∀ (m : (ℓ : Loc Cert.CtxMoeRefIdeal.nD Cert.CtxMoeRefIdeal.τ Cert.CtxMoeRefIdeal.sig) → Buf (Elt Ideal) ℓ) (g : Dev Cert.CtxMoeRefIdeal.nD → PrngReg), Pre_CtxMoeRefIdeal m →
    θ_run (Cert.CtxMoeRefIdeal.defs (F := Ideal)) (onTc (τ := Cert.CtxMoeRefIdeal.τ) (Cert.CtxMoeRefIdeal.main (F := Ideal))) ⟨m, fun _ => 0, g⟩ (fun r => (∀ c : Dev Cert.CtxMoeRefIdeal.nD,
      r.2.mem ((c.tc : Thread Cert.CtxMoeRefIdeal.nD Cert.CtxMoeRefIdeal.τ).loc Cert.CtxMoeRefIdeal.main_arg0) = m ((c.tc : Thread Cert.CtxMoeRefIdeal.nD Cert.CtxMoeRefIdeal.τ).loc Cert.CtxMoeRefIdeal.main_arg0)
      ∧ r.2.mem ((c.tc : Thread Cert.CtxMoeRefIdeal.nD Cert.CtxMoeRefIdeal.τ).loc Cert.CtxMoeRefIdeal.main_arg1) = m ((c.tc : Thread Cert.CtxMoeRefIdeal.nD Cert.CtxMoeRefIdeal.τ).loc Cert.CtxMoeRefIdeal.main_arg1)
      ∧ r.2.mem ((c.tc : Thread Cert.CtxMoeRefIdeal.nD Cert.CtxMoeRefIdeal.τ).loc Cert.CtxMoeRefIdeal.main_arg2) = m ((c.tc : Thread Cert.CtxMoeRefIdeal.nD Cert.CtxMoeRefIdeal.τ).loc Cert.CtxMoeRefIdeal.main_arg2)
      ∧ r.2.mem ((c.tc : Thread Cert.CtxMoeRefIdeal.nD Cert.CtxMoeRefIdeal.τ).loc Cert.CtxMoeRefIdeal.main_arg3) = m ((c.tc : Thread Cert.CtxMoeRefIdeal.nD Cert.CtxMoeRefIdeal.τ).loc Cert.CtxMoeRefIdeal.main_arg3)
      ∧ r.2.mem ((c.tc : Thread Cert.CtxMoeRefIdeal.nD Cert.CtxMoeRefIdeal.τ).loc Cert.CtxMoeRefIdeal.main_arg4) = m ((c.tc : Thread Cert.CtxMoeRefIdeal.nD Cert.CtxMoeRefIdeal.τ).loc Cert.CtxMoeRefIdeal.main_arg4)
      ∧ r.2.mem ((c.tc : Thread Cert.CtxMoeRefIdeal.nD Cert.CtxMoeRefIdeal.τ).loc Cert.CtxMoeRefIdeal.main_arg5) = m ((c.tc : Thread Cert.CtxMoeRefIdeal.nD Cert.CtxMoeRefIdeal.τ).loc Cert.CtxMoeRefIdeal.main_arg5)
      ∧ r.2.mem ((c.tc : Thread Cert.CtxMoeRefIdeal.nD Cert.CtxMoeRefIdeal.τ).loc Cert.CtxMoeRefIdeal.main_arg6) = m ((c.tc : Thread Cert.CtxMoeRefIdeal.nD Cert.CtxMoeRefIdeal.τ).loc Cert.CtxMoeRefIdeal.main_arg6)
      ∧ r.2.mem ((c.tc : Thread Cert.CtxMoeRefIdeal.nD Cert.CtxMoeRefIdeal.τ).loc Cert.CtxMoeRefIdeal.main_arg7) = m ((c.tc : Thread Cert.CtxMoeRefIdeal.nD Cert.CtxMoeRefIdeal.τ).loc Cert.CtxMoeRefIdeal.main_arg7)
      ∧ r.2.mem ((c.tc : Thread Cert.CtxMoeRefIdeal.nD Cert.CtxMoeRefIdeal.τ).loc Cert.CtxMoeRefIdeal.main_arg8) = m ((c.tc : Thread Cert.CtxMoeRefIdeal.nD Cert.CtxMoeRefIdeal.τ).loc Cert.CtxMoeRefIdeal.main_arg8))
      ∧ r.2.sem = fun _ => 0)

def quiescent_CtxMoeRefIdeal_pre_ctx_finite [hCtxMoeRefIdeal : Cert.CtxMoeRefIdeal.Facts] [hPre_ctx_finite : Cert.Pre_ctx_finite.Facts] : Prop :=
  ∀ (m : (ℓ : Loc Cert.CtxMoeRefIdeal.nD Cert.CtxMoeRefIdeal.τ Cert.CtxMoeRefIdeal.sig) → Buf (Elt Ideal) ℓ) (g : Dev Cert.CtxMoeRefIdeal.nD → PrngReg), Pre_CtxMoeRefIdeal_ctx_finite m →
    θ_run (Cert.CtxMoeRefIdeal.defs (F := Ideal)) (onTc (τ := Cert.CtxMoeRefIdeal.τ) (Cert.CtxMoeRefIdeal.main (F := Ideal))) ⟨m, fun _ => 0, g⟩ (fun r => (∀ c : Dev Cert.CtxMoeRefIdeal.nD,
      r.2.mem ((c.tc : Thread Cert.CtxMoeRefIdeal.nD Cert.CtxMoeRefIdeal.τ).loc Cert.CtxMoeRefIdeal.main_arg0) = m ((c.tc : Thread Cert.CtxMoeRefIdeal.nD Cert.CtxMoeRefIdeal.τ).loc Cert.CtxMoeRefIdeal.main_arg0)
      ∧ r.2.mem ((c.tc : Thread Cert.CtxMoeRefIdeal.nD Cert.CtxMoeRefIdeal.τ).loc Cert.CtxMoeRefIdeal.main_arg1) = m ((c.tc : Thread Cert.CtxMoeRefIdeal.nD Cert.CtxMoeRefIdeal.τ).loc Cert.CtxMoeRefIdeal.main_arg1)
      ∧ r.2.mem ((c.tc : Thread Cert.CtxMoeRefIdeal.nD Cert.CtxMoeRefIdeal.τ).loc Cert.CtxMoeRefIdeal.main_arg2) = m ((c.tc : Thread Cert.CtxMoeRefIdeal.nD Cert.CtxMoeRefIdeal.τ).loc Cert.CtxMoeRefIdeal.main_arg2)
      ∧ r.2.mem ((c.tc : Thread Cert.CtxMoeRefIdeal.nD Cert.CtxMoeRefIdeal.τ).loc Cert.CtxMoeRefIdeal.main_arg3) = m ((c.tc : Thread Cert.CtxMoeRefIdeal.nD Cert.CtxMoeRefIdeal.τ).loc Cert.CtxMoeRefIdeal.main_arg3)
      ∧ r.2.mem ((c.tc : Thread Cert.CtxMoeRefIdeal.nD Cert.CtxMoeRefIdeal.τ).loc Cert.CtxMoeRefIdeal.main_arg4) = m ((c.tc : Thread Cert.CtxMoeRefIdeal.nD Cert.CtxMoeRefIdeal.τ).loc Cert.CtxMoeRefIdeal.main_arg4)
      ∧ r.2.mem ((c.tc : Thread Cert.CtxMoeRefIdeal.nD Cert.CtxMoeRefIdeal.τ).loc Cert.CtxMoeRefIdeal.main_arg5) = m ((c.tc : Thread Cert.CtxMoeRefIdeal.nD Cert.CtxMoeRefIdeal.τ).loc Cert.CtxMoeRefIdeal.main_arg5)
      ∧ r.2.mem ((c.tc : Thread Cert.CtxMoeRefIdeal.nD Cert.CtxMoeRefIdeal.τ).loc Cert.CtxMoeRefIdeal.main_arg6) = m ((c.tc : Thread Cert.CtxMoeRefIdeal.nD Cert.CtxMoeRefIdeal.τ).loc Cert.CtxMoeRefIdeal.main_arg6)
      ∧ r.2.mem ((c.tc : Thread Cert.CtxMoeRefIdeal.nD Cert.CtxMoeRefIdeal.τ).loc Cert.CtxMoeRefIdeal.main_arg7) = m ((c.tc : Thread Cert.CtxMoeRefIdeal.nD Cert.CtxMoeRefIdeal.τ).loc Cert.CtxMoeRefIdeal.main_arg7)
      ∧ r.2.mem ((c.tc : Thread Cert.CtxMoeRefIdeal.nD Cert.CtxMoeRefIdeal.τ).loc Cert.CtxMoeRefIdeal.main_arg8) = m ((c.tc : Thread Cert.CtxMoeRefIdeal.nD Cert.CtxMoeRefIdeal.τ).loc Cert.CtxMoeRefIdeal.main_arg8))
      ∧ r.2.sem = fun _ => 0)

def quiescent_CtxFfn [hCtxFfn : Cert.CtxFfn.Facts] : Prop :=
  ∀ (m : (ℓ : Loc Cert.CtxFfn.nD Cert.CtxFfn.τ Cert.CtxFfn.sig) → Buf (Elt Bits) ℓ) (g : Dev Cert.CtxFfn.nD → PrngReg), Pre_CtxFfn m →
    θ_run (Cert.CtxFfn.defs (F := Bits)) (onTc (τ := Cert.CtxFfn.τ) (Cert.CtxFfn.main (F := Bits))) ⟨m, fun _ => 0, g⟩ (fun r => (∀ c : Dev Cert.CtxFfn.nD,
      r.2.mem ((c.tc : Thread Cert.CtxFfn.nD Cert.CtxFfn.τ).loc Cert.CtxFfn.main_arg0) = m ((c.tc : Thread Cert.CtxFfn.nD Cert.CtxFfn.τ).loc Cert.CtxFfn.main_arg0)
      ∧ r.2.mem ((c.tc : Thread Cert.CtxFfn.nD Cert.CtxFfn.τ).loc Cert.CtxFfn.main_arg1) = m ((c.tc : Thread Cert.CtxFfn.nD Cert.CtxFfn.τ).loc Cert.CtxFfn.main_arg1)
      ∧ r.2.mem ((c.tc : Thread Cert.CtxFfn.nD Cert.CtxFfn.τ).loc Cert.CtxFfn.main_arg2) = m ((c.tc : Thread Cert.CtxFfn.nD Cert.CtxFfn.τ).loc Cert.CtxFfn.main_arg2)
      ∧ r.2.mem ((c.tc : Thread Cert.CtxFfn.nD Cert.CtxFfn.τ).loc Cert.CtxFfn.main_arg3) = m ((c.tc : Thread Cert.CtxFfn.nD Cert.CtxFfn.τ).loc Cert.CtxFfn.main_arg3)
      ∧ r.2.mem ((c.tc : Thread Cert.CtxFfn.nD Cert.CtxFfn.τ).loc Cert.CtxFfn.main_arg4) = m ((c.tc : Thread Cert.CtxFfn.nD Cert.CtxFfn.τ).loc Cert.CtxFfn.main_arg4)
      ∧ r.2.mem ((c.tc : Thread Cert.CtxFfn.nD Cert.CtxFfn.τ).loc Cert.CtxFfn.main_arg5) = m ((c.tc : Thread Cert.CtxFfn.nD Cert.CtxFfn.τ).loc Cert.CtxFfn.main_arg5)
      ∧ r.2.mem ((c.tc : Thread Cert.CtxFfn.nD Cert.CtxFfn.τ).loc Cert.CtxFfn.main_arg6) = m ((c.tc : Thread Cert.CtxFfn.nD Cert.CtxFfn.τ).loc Cert.CtxFfn.main_arg6)
      ∧ r.2.mem ((c.tc : Thread Cert.CtxFfn.nD Cert.CtxFfn.τ).loc Cert.CtxFfn.main_arg7) = m ((c.tc : Thread Cert.CtxFfn.nD Cert.CtxFfn.τ).loc Cert.CtxFfn.main_arg7))
      ∧ r.2.sem = fun _ => 0)

def quiescent_CtxFfnIdeal [hCtxFfnIdeal : Cert.CtxFfnIdeal.Facts] : Prop :=
  ∀ (m : (ℓ : Loc Cert.CtxFfnIdeal.nD Cert.CtxFfnIdeal.τ Cert.CtxFfnIdeal.sig) → Buf (Elt Ideal) ℓ) (g : Dev Cert.CtxFfnIdeal.nD → PrngReg), Pre_CtxFfnIdeal m →
    θ_run (Cert.CtxFfnIdeal.defs (F := Ideal)) (onTc (τ := Cert.CtxFfnIdeal.τ) (Cert.CtxFfnIdeal.main (F := Ideal))) ⟨m, fun _ => 0, g⟩ (fun r => (∀ c : Dev Cert.CtxFfnIdeal.nD,
      r.2.mem ((c.tc : Thread Cert.CtxFfnIdeal.nD Cert.CtxFfnIdeal.τ).loc Cert.CtxFfnIdeal.main_arg0) = m ((c.tc : Thread Cert.CtxFfnIdeal.nD Cert.CtxFfnIdeal.τ).loc Cert.CtxFfnIdeal.main_arg0)
      ∧ r.2.mem ((c.tc : Thread Cert.CtxFfnIdeal.nD Cert.CtxFfnIdeal.τ).loc Cert.CtxFfnIdeal.main_arg1) = m ((c.tc : Thread Cert.CtxFfnIdeal.nD Cert.CtxFfnIdeal.τ).loc Cert.CtxFfnIdeal.main_arg1)
      ∧ r.2.mem ((c.tc : Thread Cert.CtxFfnIdeal.nD Cert.CtxFfnIdeal.τ).loc Cert.CtxFfnIdeal.main_arg2) = m ((c.tc : Thread Cert.CtxFfnIdeal.nD Cert.CtxFfnIdeal.τ).loc Cert.CtxFfnIdeal.main_arg2)
      ∧ r.2.mem ((c.tc : Thread Cert.CtxFfnIdeal.nD Cert.CtxFfnIdeal.τ).loc Cert.CtxFfnIdeal.main_arg3) = m ((c.tc : Thread Cert.CtxFfnIdeal.nD Cert.CtxFfnIdeal.τ).loc Cert.CtxFfnIdeal.main_arg3)
      ∧ r.2.mem ((c.tc : Thread Cert.CtxFfnIdeal.nD Cert.CtxFfnIdeal.τ).loc Cert.CtxFfnIdeal.main_arg4) = m ((c.tc : Thread Cert.CtxFfnIdeal.nD Cert.CtxFfnIdeal.τ).loc Cert.CtxFfnIdeal.main_arg4)
      ∧ r.2.mem ((c.tc : Thread Cert.CtxFfnIdeal.nD Cert.CtxFfnIdeal.τ).loc Cert.CtxFfnIdeal.main_arg5) = m ((c.tc : Thread Cert.CtxFfnIdeal.nD Cert.CtxFfnIdeal.τ).loc Cert.CtxFfnIdeal.main_arg5)
      ∧ r.2.mem ((c.tc : Thread Cert.CtxFfnIdeal.nD Cert.CtxFfnIdeal.τ).loc Cert.CtxFfnIdeal.main_arg6) = m ((c.tc : Thread Cert.CtxFfnIdeal.nD Cert.CtxFfnIdeal.τ).loc Cert.CtxFfnIdeal.main_arg6)
      ∧ r.2.mem ((c.tc : Thread Cert.CtxFfnIdeal.nD Cert.CtxFfnIdeal.τ).loc Cert.CtxFfnIdeal.main_arg7) = m ((c.tc : Thread Cert.CtxFfnIdeal.nD Cert.CtxFfnIdeal.τ).loc Cert.CtxFfnIdeal.main_arg7))
      ∧ r.2.sem = fun _ => 0)

def quiescent_CtxFfnRefIdeal [hCtxFfnRefIdeal : Cert.CtxFfnRefIdeal.Facts] : Prop :=
  ∀ (m : (ℓ : Loc Cert.CtxFfnRefIdeal.nD Cert.CtxFfnRefIdeal.τ Cert.CtxFfnRefIdeal.sig) → Buf (Elt Ideal) ℓ) (g : Dev Cert.CtxFfnRefIdeal.nD → PrngReg), Pre_CtxFfnRefIdeal m →
    θ_run (Cert.CtxFfnRefIdeal.defs (F := Ideal)) (onTc (τ := Cert.CtxFfnRefIdeal.τ) (Cert.CtxFfnRefIdeal.main (F := Ideal))) ⟨m, fun _ => 0, g⟩ (fun r => (∀ c : Dev Cert.CtxFfnRefIdeal.nD,
      r.2.mem ((c.tc : Thread Cert.CtxFfnRefIdeal.nD Cert.CtxFfnRefIdeal.τ).loc Cert.CtxFfnRefIdeal.main_arg0) = m ((c.tc : Thread Cert.CtxFfnRefIdeal.nD Cert.CtxFfnRefIdeal.τ).loc Cert.CtxFfnRefIdeal.main_arg0)
      ∧ r.2.mem ((c.tc : Thread Cert.CtxFfnRefIdeal.nD Cert.CtxFfnRefIdeal.τ).loc Cert.CtxFfnRefIdeal.main_arg1) = m ((c.tc : Thread Cert.CtxFfnRefIdeal.nD Cert.CtxFfnRefIdeal.τ).loc Cert.CtxFfnRefIdeal.main_arg1)
      ∧ r.2.mem ((c.tc : Thread Cert.CtxFfnRefIdeal.nD Cert.CtxFfnRefIdeal.τ).loc Cert.CtxFfnRefIdeal.main_arg2) = m ((c.tc : Thread Cert.CtxFfnRefIdeal.nD Cert.CtxFfnRefIdeal.τ).loc Cert.CtxFfnRefIdeal.main_arg2)
      ∧ r.2.mem ((c.tc : Thread Cert.CtxFfnRefIdeal.nD Cert.CtxFfnRefIdeal.τ).loc Cert.CtxFfnRefIdeal.main_arg3) = m ((c.tc : Thread Cert.CtxFfnRefIdeal.nD Cert.CtxFfnRefIdeal.τ).loc Cert.CtxFfnRefIdeal.main_arg3)
      ∧ r.2.mem ((c.tc : Thread Cert.CtxFfnRefIdeal.nD Cert.CtxFfnRefIdeal.τ).loc Cert.CtxFfnRefIdeal.main_arg4) = m ((c.tc : Thread Cert.CtxFfnRefIdeal.nD Cert.CtxFfnRefIdeal.τ).loc Cert.CtxFfnRefIdeal.main_arg4)
      ∧ r.2.mem ((c.tc : Thread Cert.CtxFfnRefIdeal.nD Cert.CtxFfnRefIdeal.τ).loc Cert.CtxFfnRefIdeal.main_arg5) = m ((c.tc : Thread Cert.CtxFfnRefIdeal.nD Cert.CtxFfnRefIdeal.τ).loc Cert.CtxFfnRefIdeal.main_arg5)
      ∧ r.2.mem ((c.tc : Thread Cert.CtxFfnRefIdeal.nD Cert.CtxFfnRefIdeal.τ).loc Cert.CtxFfnRefIdeal.main_arg6) = m ((c.tc : Thread Cert.CtxFfnRefIdeal.nD Cert.CtxFfnRefIdeal.τ).loc Cert.CtxFfnRefIdeal.main_arg6)
      ∧ r.2.mem ((c.tc : Thread Cert.CtxFfnRefIdeal.nD Cert.CtxFfnRefIdeal.τ).loc Cert.CtxFfnRefIdeal.main_arg7) = m ((c.tc : Thread Cert.CtxFfnRefIdeal.nD Cert.CtxFfnRefIdeal.τ).loc Cert.CtxFfnRefIdeal.main_arg7))
      ∧ r.2.sem = fun _ => 0)

def quiescent_CtxOutProj [hCtxOutProj : Cert.CtxOutProj.Facts] : Prop :=
  ∀ (m : (ℓ : Loc Cert.CtxOutProj.nD Cert.CtxOutProj.τ Cert.CtxOutProj.sig) → Buf (Elt Bits) ℓ) (g : Dev Cert.CtxOutProj.nD → PrngReg), Pre_CtxOutProj m →
    θ_run (Cert.CtxOutProj.defs (F := Bits)) (onTc (τ := Cert.CtxOutProj.τ) (Cert.CtxOutProj.main (F := Bits))) ⟨m, fun _ => 0, g⟩ (fun r => (∀ c : Dev Cert.CtxOutProj.nD,
      r.2.mem ((c.tc : Thread Cert.CtxOutProj.nD Cert.CtxOutProj.τ).loc Cert.CtxOutProj.main_arg0) = m ((c.tc : Thread Cert.CtxOutProj.nD Cert.CtxOutProj.τ).loc Cert.CtxOutProj.main_arg0)
      ∧ r.2.mem ((c.tc : Thread Cert.CtxOutProj.nD Cert.CtxOutProj.τ).loc Cert.CtxOutProj.main_arg1) = m ((c.tc : Thread Cert.CtxOutProj.nD Cert.CtxOutProj.τ).loc Cert.CtxOutProj.main_arg1)
      ∧ r.2.mem ((c.tc : Thread Cert.CtxOutProj.nD Cert.CtxOutProj.τ).loc Cert.CtxOutProj.main_arg2) = m ((c.tc : Thread Cert.CtxOutProj.nD Cert.CtxOutProj.τ).loc Cert.CtxOutProj.main_arg2)
      ∧ r.2.mem ((c.tc : Thread Cert.CtxOutProj.nD Cert.CtxOutProj.τ).loc Cert.CtxOutProj.main_arg3) = m ((c.tc : Thread Cert.CtxOutProj.nD Cert.CtxOutProj.τ).loc Cert.CtxOutProj.main_arg3)
      ∧ r.2.mem ((c.tc : Thread Cert.CtxOutProj.nD Cert.CtxOutProj.τ).loc Cert.CtxOutProj.main_arg4) = m ((c.tc : Thread Cert.CtxOutProj.nD Cert.CtxOutProj.τ).loc Cert.CtxOutProj.main_arg4)
      ∧ r.2.mem ((c.tc : Thread Cert.CtxOutProj.nD Cert.CtxOutProj.τ).loc Cert.CtxOutProj.main_arg5) = m ((c.tc : Thread Cert.CtxOutProj.nD Cert.CtxOutProj.τ).loc Cert.CtxOutProj.main_arg5)
      ∧ r.2.mem ((c.tc : Thread Cert.CtxOutProj.nD Cert.CtxOutProj.τ).loc Cert.CtxOutProj.main_arg6) = m ((c.tc : Thread Cert.CtxOutProj.nD Cert.CtxOutProj.τ).loc Cert.CtxOutProj.main_arg6)
      ∧ r.2.mem ((c.tc : Thread Cert.CtxOutProj.nD Cert.CtxOutProj.τ).loc Cert.CtxOutProj.main_arg7) = m ((c.tc : Thread Cert.CtxOutProj.nD Cert.CtxOutProj.τ).loc Cert.CtxOutProj.main_arg7)
      ∧ r.2.mem ((c.tc : Thread Cert.CtxOutProj.nD Cert.CtxOutProj.τ).loc Cert.CtxOutProj.main_arg8) = m ((c.tc : Thread Cert.CtxOutProj.nD Cert.CtxOutProj.τ).loc Cert.CtxOutProj.main_arg8))
      ∧ r.2.sem = fun _ => 0)

def quiescent_CtxOutProjIdeal [hCtxOutProjIdeal : Cert.CtxOutProjIdeal.Facts] : Prop :=
  ∀ (m : (ℓ : Loc Cert.CtxOutProjIdeal.nD Cert.CtxOutProjIdeal.τ Cert.CtxOutProjIdeal.sig) → Buf (Elt Ideal) ℓ) (g : Dev Cert.CtxOutProjIdeal.nD → PrngReg), Pre_CtxOutProjIdeal m →
    θ_run (Cert.CtxOutProjIdeal.defs (F := Ideal)) (onTc (τ := Cert.CtxOutProjIdeal.τ) (Cert.CtxOutProjIdeal.main (F := Ideal))) ⟨m, fun _ => 0, g⟩ (fun r => (∀ c : Dev Cert.CtxOutProjIdeal.nD,
      r.2.mem ((c.tc : Thread Cert.CtxOutProjIdeal.nD Cert.CtxOutProjIdeal.τ).loc Cert.CtxOutProjIdeal.main_arg0) = m ((c.tc : Thread Cert.CtxOutProjIdeal.nD Cert.CtxOutProjIdeal.τ).loc Cert.CtxOutProjIdeal.main_arg0)
      ∧ r.2.mem ((c.tc : Thread Cert.CtxOutProjIdeal.nD Cert.CtxOutProjIdeal.τ).loc Cert.CtxOutProjIdeal.main_arg1) = m ((c.tc : Thread Cert.CtxOutProjIdeal.nD Cert.CtxOutProjIdeal.τ).loc Cert.CtxOutProjIdeal.main_arg1)
      ∧ r.2.mem ((c.tc : Thread Cert.CtxOutProjIdeal.nD Cert.CtxOutProjIdeal.τ).loc Cert.CtxOutProjIdeal.main_arg2) = m ((c.tc : Thread Cert.CtxOutProjIdeal.nD Cert.CtxOutProjIdeal.τ).loc Cert.CtxOutProjIdeal.main_arg2)
      ∧ r.2.mem ((c.tc : Thread Cert.CtxOutProjIdeal.nD Cert.CtxOutProjIdeal.τ).loc Cert.CtxOutProjIdeal.main_arg3) = m ((c.tc : Thread Cert.CtxOutProjIdeal.nD Cert.CtxOutProjIdeal.τ).loc Cert.CtxOutProjIdeal.main_arg3)
      ∧ r.2.mem ((c.tc : Thread Cert.CtxOutProjIdeal.nD Cert.CtxOutProjIdeal.τ).loc Cert.CtxOutProjIdeal.main_arg4) = m ((c.tc : Thread Cert.CtxOutProjIdeal.nD Cert.CtxOutProjIdeal.τ).loc Cert.CtxOutProjIdeal.main_arg4)
      ∧ r.2.mem ((c.tc : Thread Cert.CtxOutProjIdeal.nD Cert.CtxOutProjIdeal.τ).loc Cert.CtxOutProjIdeal.main_arg5) = m ((c.tc : Thread Cert.CtxOutProjIdeal.nD Cert.CtxOutProjIdeal.τ).loc Cert.CtxOutProjIdeal.main_arg5)
      ∧ r.2.mem ((c.tc : Thread Cert.CtxOutProjIdeal.nD Cert.CtxOutProjIdeal.τ).loc Cert.CtxOutProjIdeal.main_arg6) = m ((c.tc : Thread Cert.CtxOutProjIdeal.nD Cert.CtxOutProjIdeal.τ).loc Cert.CtxOutProjIdeal.main_arg6)
      ∧ r.2.mem ((c.tc : Thread Cert.CtxOutProjIdeal.nD Cert.CtxOutProjIdeal.τ).loc Cert.CtxOutProjIdeal.main_arg7) = m ((c.tc : Thread Cert.CtxOutProjIdeal.nD Cert.CtxOutProjIdeal.τ).loc Cert.CtxOutProjIdeal.main_arg7)
      ∧ r.2.mem ((c.tc : Thread Cert.CtxOutProjIdeal.nD Cert.CtxOutProjIdeal.τ).loc Cert.CtxOutProjIdeal.main_arg8) = m ((c.tc : Thread Cert.CtxOutProjIdeal.nD Cert.CtxOutProjIdeal.τ).loc Cert.CtxOutProjIdeal.main_arg8))
      ∧ r.2.sem = fun _ => 0)

def quiescent_CtxOutProjIdeal_pre_ctx_scan_finite [hCtxOutProjIdeal : Cert.CtxOutProjIdeal.Facts] [hPre_ctx_scan_finite : Cert.Pre_ctx_scan_finite.Facts] : Prop :=
  ∀ (m : (ℓ : Loc Cert.CtxOutProjIdeal.nD Cert.CtxOutProjIdeal.τ Cert.CtxOutProjIdeal.sig) → Buf (Elt Ideal) ℓ) (g : Dev Cert.CtxOutProjIdeal.nD → PrngReg), Pre_CtxOutProjIdeal_ctx_scan_finite m →
    θ_run (Cert.CtxOutProjIdeal.defs (F := Ideal)) (onTc (τ := Cert.CtxOutProjIdeal.τ) (Cert.CtxOutProjIdeal.main (F := Ideal))) ⟨m, fun _ => 0, g⟩ (fun r => (∀ c : Dev Cert.CtxOutProjIdeal.nD,
      r.2.mem ((c.tc : Thread Cert.CtxOutProjIdeal.nD Cert.CtxOutProjIdeal.τ).loc Cert.CtxOutProjIdeal.main_arg0) = m ((c.tc : Thread Cert.CtxOutProjIdeal.nD Cert.CtxOutProjIdeal.τ).loc Cert.CtxOutProjIdeal.main_arg0)
      ∧ r.2.mem ((c.tc : Thread Cert.CtxOutProjIdeal.nD Cert.CtxOutProjIdeal.τ).loc Cert.CtxOutProjIdeal.main_arg1) = m ((c.tc : Thread Cert.CtxOutProjIdeal.nD Cert.CtxOutProjIdeal.τ).loc Cert.CtxOutProjIdeal.main_arg1)
      ∧ r.2.mem ((c.tc : Thread Cert.CtxOutProjIdeal.nD Cert.CtxOutProjIdeal.τ).loc Cert.CtxOutProjIdeal.main_arg2) = m ((c.tc : Thread Cert.CtxOutProjIdeal.nD Cert.CtxOutProjIdeal.τ).loc Cert.CtxOutProjIdeal.main_arg2)
      ∧ r.2.mem ((c.tc : Thread Cert.CtxOutProjIdeal.nD Cert.CtxOutProjIdeal.τ).loc Cert.CtxOutProjIdeal.main_arg3) = m ((c.tc : Thread Cert.CtxOutProjIdeal.nD Cert.CtxOutProjIdeal.τ).loc Cert.CtxOutProjIdeal.main_arg3)
      ∧ r.2.mem ((c.tc : Thread Cert.CtxOutProjIdeal.nD Cert.CtxOutProjIdeal.τ).loc Cert.CtxOutProjIdeal.main_arg4) = m ((c.tc : Thread Cert.CtxOutProjIdeal.nD Cert.CtxOutProjIdeal.τ).loc Cert.CtxOutProjIdeal.main_arg4)
      ∧ r.2.mem ((c.tc : Thread Cert.CtxOutProjIdeal.nD Cert.CtxOutProjIdeal.τ).loc Cert.CtxOutProjIdeal.main_arg5) = m ((c.tc : Thread Cert.CtxOutProjIdeal.nD Cert.CtxOutProjIdeal.τ).loc Cert.CtxOutProjIdeal.main_arg5)
      ∧ r.2.mem ((c.tc : Thread Cert.CtxOutProjIdeal.nD Cert.CtxOutProjIdeal.τ).loc Cert.CtxOutProjIdeal.main_arg6) = m ((c.tc : Thread Cert.CtxOutProjIdeal.nD Cert.CtxOutProjIdeal.τ).loc Cert.CtxOutProjIdeal.main_arg6)
      ∧ r.2.mem ((c.tc : Thread Cert.CtxOutProjIdeal.nD Cert.CtxOutProjIdeal.τ).loc Cert.CtxOutProjIdeal.main_arg7) = m ((c.tc : Thread Cert.CtxOutProjIdeal.nD Cert.CtxOutProjIdeal.τ).loc Cert.CtxOutProjIdeal.main_arg7)
      ∧ r.2.mem ((c.tc : Thread Cert.CtxOutProjIdeal.nD Cert.CtxOutProjIdeal.τ).loc Cert.CtxOutProjIdeal.main_arg8) = m ((c.tc : Thread Cert.CtxOutProjIdeal.nD Cert.CtxOutProjIdeal.τ).loc Cert.CtxOutProjIdeal.main_arg8))
      ∧ r.2.sem = fun _ => 0)

def quiescent_CtxOutRefIdeal [hCtxOutRefIdeal : Cert.CtxOutRefIdeal.Facts] : Prop :=
  ∀ (m : (ℓ : Loc Cert.CtxOutRefIdeal.nD Cert.CtxOutRefIdeal.τ Cert.CtxOutRefIdeal.sig) → Buf (Elt Ideal) ℓ) (g : Dev Cert.CtxOutRefIdeal.nD → PrngReg), Pre_CtxOutRefIdeal m →
    θ_run (Cert.CtxOutRefIdeal.defs (F := Ideal)) (onTc (τ := Cert.CtxOutRefIdeal.τ) (Cert.CtxOutRefIdeal.main (F := Ideal))) ⟨m, fun _ => 0, g⟩ (fun r => (∀ c : Dev Cert.CtxOutRefIdeal.nD,
      r.2.mem ((c.tc : Thread Cert.CtxOutRefIdeal.nD Cert.CtxOutRefIdeal.τ).loc Cert.CtxOutRefIdeal.main_arg0) = m ((c.tc : Thread Cert.CtxOutRefIdeal.nD Cert.CtxOutRefIdeal.τ).loc Cert.CtxOutRefIdeal.main_arg0)
      ∧ r.2.mem ((c.tc : Thread Cert.CtxOutRefIdeal.nD Cert.CtxOutRefIdeal.τ).loc Cert.CtxOutRefIdeal.main_arg1) = m ((c.tc : Thread Cert.CtxOutRefIdeal.nD Cert.CtxOutRefIdeal.τ).loc Cert.CtxOutRefIdeal.main_arg1)
      ∧ r.2.mem ((c.tc : Thread Cert.CtxOutRefIdeal.nD Cert.CtxOutRefIdeal.τ).loc Cert.CtxOutRefIdeal.main_arg2) = m ((c.tc : Thread Cert.CtxOutRefIdeal.nD Cert.CtxOutRefIdeal.τ).loc Cert.CtxOutRefIdeal.main_arg2)
      ∧ r.2.mem ((c.tc : Thread Cert.CtxOutRefIdeal.nD Cert.CtxOutRefIdeal.τ).loc Cert.CtxOutRefIdeal.main_arg3) = m ((c.tc : Thread Cert.CtxOutRefIdeal.nD Cert.CtxOutRefIdeal.τ).loc Cert.CtxOutRefIdeal.main_arg3)
      ∧ r.2.mem ((c.tc : Thread Cert.CtxOutRefIdeal.nD Cert.CtxOutRefIdeal.τ).loc Cert.CtxOutRefIdeal.main_arg4) = m ((c.tc : Thread Cert.CtxOutRefIdeal.nD Cert.CtxOutRefIdeal.τ).loc Cert.CtxOutRefIdeal.main_arg4)
      ∧ r.2.mem ((c.tc : Thread Cert.CtxOutRefIdeal.nD Cert.CtxOutRefIdeal.τ).loc Cert.CtxOutRefIdeal.main_arg5) = m ((c.tc : Thread Cert.CtxOutRefIdeal.nD Cert.CtxOutRefIdeal.τ).loc Cert.CtxOutRefIdeal.main_arg5)
      ∧ r.2.mem ((c.tc : Thread Cert.CtxOutRefIdeal.nD Cert.CtxOutRefIdeal.τ).loc Cert.CtxOutRefIdeal.main_arg6) = m ((c.tc : Thread Cert.CtxOutRefIdeal.nD Cert.CtxOutRefIdeal.τ).loc Cert.CtxOutRefIdeal.main_arg6)
      ∧ r.2.mem ((c.tc : Thread Cert.CtxOutRefIdeal.nD Cert.CtxOutRefIdeal.τ).loc Cert.CtxOutRefIdeal.main_arg7) = m ((c.tc : Thread Cert.CtxOutRefIdeal.nD Cert.CtxOutRefIdeal.τ).loc Cert.CtxOutRefIdeal.main_arg7)
      ∧ r.2.mem ((c.tc : Thread Cert.CtxOutRefIdeal.nD Cert.CtxOutRefIdeal.τ).loc Cert.CtxOutRefIdeal.main_arg8) = m ((c.tc : Thread Cert.CtxOutRefIdeal.nD Cert.CtxOutRefIdeal.τ).loc Cert.CtxOutRefIdeal.main_arg8))
      ∧ r.2.sem = fun _ => 0)

def quiescent_CtxOutRefIdeal_pre_ctx_scan_finite [hCtxOutRefIdeal : Cert.CtxOutRefIdeal.Facts] [hPre_ctx_scan_finite : Cert.Pre_ctx_scan_finite.Facts] : Prop :=
  ∀ (m : (ℓ : Loc Cert.CtxOutRefIdeal.nD Cert.CtxOutRefIdeal.τ Cert.CtxOutRefIdeal.sig) → Buf (Elt Ideal) ℓ) (g : Dev Cert.CtxOutRefIdeal.nD → PrngReg), Pre_CtxOutRefIdeal_ctx_scan_finite m →
    θ_run (Cert.CtxOutRefIdeal.defs (F := Ideal)) (onTc (τ := Cert.CtxOutRefIdeal.τ) (Cert.CtxOutRefIdeal.main (F := Ideal))) ⟨m, fun _ => 0, g⟩ (fun r => (∀ c : Dev Cert.CtxOutRefIdeal.nD,
      r.2.mem ((c.tc : Thread Cert.CtxOutRefIdeal.nD Cert.CtxOutRefIdeal.τ).loc Cert.CtxOutRefIdeal.main_arg0) = m ((c.tc : Thread Cert.CtxOutRefIdeal.nD Cert.CtxOutRefIdeal.τ).loc Cert.CtxOutRefIdeal.main_arg0)
      ∧ r.2.mem ((c.tc : Thread Cert.CtxOutRefIdeal.nD Cert.CtxOutRefIdeal.τ).loc Cert.CtxOutRefIdeal.main_arg1) = m ((c.tc : Thread Cert.CtxOutRefIdeal.nD Cert.CtxOutRefIdeal.τ).loc Cert.CtxOutRefIdeal.main_arg1)
      ∧ r.2.mem ((c.tc : Thread Cert.CtxOutRefIdeal.nD Cert.CtxOutRefIdeal.τ).loc Cert.CtxOutRefIdeal.main_arg2) = m ((c.tc : Thread Cert.CtxOutRefIdeal.nD Cert.CtxOutRefIdeal.τ).loc Cert.CtxOutRefIdeal.main_arg2)
      ∧ r.2.mem ((c.tc : Thread Cert.CtxOutRefIdeal.nD Cert.CtxOutRefIdeal.τ).loc Cert.CtxOutRefIdeal.main_arg3) = m ((c.tc : Thread Cert.CtxOutRefIdeal.nD Cert.CtxOutRefIdeal.τ).loc Cert.CtxOutRefIdeal.main_arg3)
      ∧ r.2.mem ((c.tc : Thread Cert.CtxOutRefIdeal.nD Cert.CtxOutRefIdeal.τ).loc Cert.CtxOutRefIdeal.main_arg4) = m ((c.tc : Thread Cert.CtxOutRefIdeal.nD Cert.CtxOutRefIdeal.τ).loc Cert.CtxOutRefIdeal.main_arg4)
      ∧ r.2.mem ((c.tc : Thread Cert.CtxOutRefIdeal.nD Cert.CtxOutRefIdeal.τ).loc Cert.CtxOutRefIdeal.main_arg5) = m ((c.tc : Thread Cert.CtxOutRefIdeal.nD Cert.CtxOutRefIdeal.τ).loc Cert.CtxOutRefIdeal.main_arg5)
      ∧ r.2.mem ((c.tc : Thread Cert.CtxOutRefIdeal.nD Cert.CtxOutRefIdeal.τ).loc Cert.CtxOutRefIdeal.main_arg6) = m ((c.tc : Thread Cert.CtxOutRefIdeal.nD Cert.CtxOutRefIdeal.τ).loc Cert.CtxOutRefIdeal.main_arg6)
      ∧ r.2.mem ((c.tc : Thread Cert.CtxOutRefIdeal.nD Cert.CtxOutRefIdeal.τ).loc Cert.CtxOutRefIdeal.main_arg7) = m ((c.tc : Thread Cert.CtxOutRefIdeal.nD Cert.CtxOutRefIdeal.τ).loc Cert.CtxOutRefIdeal.main_arg7)
      ∧ r.2.mem ((c.tc : Thread Cert.CtxOutRefIdeal.nD Cert.CtxOutRefIdeal.τ).loc Cert.CtxOutRefIdeal.main_arg8) = m ((c.tc : Thread Cert.CtxOutRefIdeal.nD Cert.CtxOutRefIdeal.τ).loc Cert.CtxOutRefIdeal.main_arg8))
      ∧ r.2.sem = fun _ => 0)

def preserves_Moe_MoeIdeal : Prop :=
  IdealRules.named_const.Statement Cert.MoeIdeal.κ "mask" .f32 0xF149F2CA#32 ⊥

def algebraic_MoeIdeal_MoeRefIdeal_pre_finite [hMoeIdeal : Cert.MoeIdeal.Facts] [hMoeRefIdeal : Cert.MoeRefIdeal.Facts] [hPre_finite : Cert.Pre_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v159) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Attn_AttnIdeal : Prop :=
  IdealRules.named_const.Statement Cert.AttnIdeal.κ "mask" .f32 0xF149F2CA#32 ⊥

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)
      ∧ m' ((c.tc : Thread Cert.InRefIdeal.nD Cert.InRefIdeal.τ).loc Cert.InRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v46_0)) (v1 : (c : Dev Cert.InProjIdeal.nD) → Buf (Elt Ideal) ((c.tc : Thread Cert.InProjIdeal.nD Cert.InProjIdeal.τ).loc Cert.InProjIdeal.main_v46_1)) (v2 : (c : Dev Cert.InProjIdeal.nD) → Buf (Elt Ideal) ((c.tc : Thread Cert.InProjIdeal.nD Cert.InProjIdeal.τ).loc Cert.InProjIdeal.main_v46_2)) (v3 : (c : Dev Cert.InProjIdeal.nD) → Buf (Elt Ideal) ((c.tc : Thread Cert.InProjIdeal.nD Cert.InProjIdeal.τ).loc Cert.InProjIdeal.main_v46_3)) (v4 : (c : Dev Cert.InProjIdeal.nD) → Buf (Elt Ideal) ((c.tc : Thread Cert.InProjIdeal.nD Cert.InProjIdeal.τ).loc Cert.InProjIdeal.main_v46_4)) (v5 : (c : Dev Cert.InProjIdeal.nD) → Buf (Elt Ideal) ((c.tc : Thread Cert.InProjIdeal.nD Cert.InProjIdeal.τ).loc Cert.InProjIdeal.main_v46_5)) (v6 : (c : Dev Cert.InProjIdeal.nD) → Buf (Elt Ideal) ((c.tc : Thread Cert.InProjIdeal.nD Cert.InProjIdeal.τ).loc Cert.InProjIdeal.main_v46_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v46_0) = v0 c
          ∧ r.2.mem ((c.tc : Thread Cert.InProjIdeal.nD Cert.InProjIdeal.τ).loc Cert.InProjIdeal.main_v46_1) = v1 c
          ∧ r.2.mem ((c.tc : Thread Cert.InProjIdeal.nD Cert.InProjIdeal.τ).loc Cert.InProjIdeal.main_v46_2) = v2 c
          ∧ r.2.mem ((c.tc : Thread Cert.InProjIdeal.nD Cert.InProjIdeal.τ).loc Cert.InProjIdeal.main_v46_3) = v3 c
          ∧ r.2.mem ((c.tc : Thread Cert.InProjIdeal.nD Cert.InProjIdeal.τ).loc Cert.InProjIdeal.main_v46_4) = v4 c
          ∧ r.2.mem ((c.tc : Thread Cert.InProjIdeal.nD Cert.InProjIdeal.τ).loc Cert.InProjIdeal.main_v46_5) = v5 c
          ∧ r.2.mem ((c.tc : Thread Cert.InProjIdeal.nD Cert.InProjIdeal.τ).loc Cert.InProjIdeal.main_v46_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v27) = v0 c
          ∧ r.2.mem ((c.tc : Thread Cert.InRefIdeal.nD Cert.InRefIdeal.τ).loc Cert.InRefIdeal.main_v28) = v1 c
          ∧ r.2.mem ((c.tc : Thread Cert.InRefIdeal.nD Cert.InRefIdeal.τ).loc Cert.InRefIdeal.main_v31) = v2 c
          ∧ r.2.mem ((c.tc : Thread Cert.InRefIdeal.nD Cert.InRefIdeal.τ).loc Cert.InRefIdeal.main_v163) = v3 c
          ∧ r.2.mem ((c.tc : Thread Cert.InRefIdeal.nD Cert.InRefIdeal.τ).loc Cert.InRefIdeal.main_v164) = v4 c
          ∧ r.2.mem ((c.tc : Thread Cert.InRefIdeal.nD Cert.InRefIdeal.τ).loc Cert.InRefIdeal.main_v34) = v5 c
          ∧ r.2.mem ((c.tc : Thread Cert.InRefIdeal.nD Cert.InRefIdeal.τ).loc Cert.InRefIdeal.main_v162) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_OutProj_OutProjIdeal : Prop :=
  True

def algebraic_OutProjIdeal_OutRefIdeal_pre_scan_finite [hOutProjIdeal : Cert.OutProjIdeal.Facts] [hOutRefIdeal : Cert.OutRefIdeal.Facts] [hPre_scan_finite : Cert.Pre_scan_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal_scan_finite m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)
      ∧ m' ((c.tc : Thread Cert.OutRefIdeal.nD Cert.OutRefIdeal.τ).loc Cert.OutRefIdeal.main_arg7) = m ((c.tc : Thread Cert.OutProjIdeal.nD Cert.OutProjIdeal.τ).loc Cert.OutProjIdeal.main_arg7)
      ∧ m' ((c.tc : Thread Cert.OutRefIdeal.nD Cert.OutRefIdeal.τ).loc Cert.OutRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v16)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v16) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v23) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_CtxMoe_CtxMoeIdeal : Prop :=
  IdealRules.named_const.Statement Cert.CtxMoeIdeal.κ "mask" .f32 0xF149F2CA#32 ⊥

def algebraic_CtxMoeIdeal_CtxMoeRefIdeal_pre_ctx_finite [hCtxMoeIdeal : Cert.CtxMoeIdeal.Facts] [hCtxMoeRefIdeal : Cert.CtxMoeRefIdeal.Facts] [hPre_ctx_finite : Cert.Pre_ctx_finite.Facts] : Prop :=
  ∀ (m : (ℓ : Loc Cert.CtxMoeIdeal.nD Cert.CtxMoeIdeal.τ Cert.CtxMoeIdeal.sig) → Buf (Elt Ideal) ℓ) (g : Dev Cert.CtxMoeIdeal.nD → PrngReg)
    (m' : (ℓ : Loc Cert.CtxMoeRefIdeal.nD Cert.CtxMoeRefIdeal.τ Cert.CtxMoeRefIdeal.sig) → Buf (Elt Ideal) ℓ) (g' : Dev Cert.CtxMoeRefIdeal.nD → PrngReg), Pre_CtxMoeIdeal_ctx_finite m →
    (∀ c : Dev Cert.CtxMoeIdeal.nD,
      m' ((c.tc : Thread Cert.CtxMoeRefIdeal.nD Cert.CtxMoeRefIdeal.τ).loc Cert.CtxMoeRefIdeal.main_arg0) = m ((c.tc : Thread Cert.CtxMoeIdeal.nD Cert.CtxMoeIdeal.τ).loc Cert.CtxMoeIdeal.main_arg0)
      ∧ m' ((c.tc : Thread Cert.CtxMoeRefIdeal.nD Cert.CtxMoeRefIdeal.τ).loc Cert.CtxMoeRefIdeal.main_arg1) = m ((c.tc : Thread Cert.CtxMoeIdeal.nD Cert.CtxMoeIdeal.τ).loc Cert.CtxMoeIdeal.main_arg1)
      ∧ m' ((c.tc : Thread Cert.CtxMoeRefIdeal.nD Cert.CtxMoeRefIdeal.τ).loc Cert.CtxMoeRefIdeal.main_arg2) = m ((c.tc : Thread Cert.CtxMoeIdeal.nD Cert.CtxMoeIdeal.τ).loc Cert.CtxMoeIdeal.main_arg2)
      ∧ m' ((c.tc : Thread Cert.CtxMoeRefIdeal.nD Cert.CtxMoeRefIdeal.τ).loc Cert.CtxMoeRefIdeal.main_arg3) = m ((c.tc : Thread Cert.CtxMoeIdeal.nD Cert.CtxMoeIdeal.τ).loc Cert.CtxMoeIdeal.main_arg3)
      ∧ m' ((c.tc : Thread Cert.CtxMoeRefIdeal.nD Cert.CtxMoeRefIdeal.τ).loc Cert.CtxMoeRefIdeal.main_arg4) = m ((c.tc : Thread Cert.CtxMoeIdeal.nD Cert.CtxMoeIdeal.τ).loc Cert.CtxMoeIdeal.main_arg4)
      ∧ m' ((c.tc : Thread Cert.CtxMoeRefIdeal.nD Cert.CtxMoeRefIdeal.τ).loc Cert.CtxMoeRefIdeal.main_arg5) = m ((c.tc : Thread Cert.CtxMoeIdeal.nD Cert.CtxMoeIdeal.τ).loc Cert.CtxMoeIdeal.main_arg5)
      ∧ m' ((c.tc : Thread Cert.CtxMoeRefIdeal.nD Cert.CtxMoeRefIdeal.τ).loc Cert.CtxMoeRefIdeal.main_arg6) = m ((c.tc : Thread Cert.CtxMoeIdeal.nD Cert.CtxMoeIdeal.τ).loc Cert.CtxMoeIdeal.main_arg6)
      ∧ m' ((c.tc : Thread Cert.CtxMoeRefIdeal.nD Cert.CtxMoeRefIdeal.τ).loc Cert.CtxMoeRefIdeal.main_arg7) = m ((c.tc : Thread Cert.CtxMoeIdeal.nD Cert.CtxMoeIdeal.τ).loc Cert.CtxMoeIdeal.main_arg7)
      ∧ m' ((c.tc : Thread Cert.CtxMoeRefIdeal.nD Cert.CtxMoeRefIdeal.τ).loc Cert.CtxMoeRefIdeal.main_arg8) = m ((c.tc : Thread Cert.CtxMoeIdeal.nD Cert.CtxMoeIdeal.τ).loc Cert.CtxMoeIdeal.main_arg8)) →
    ∃ (v0 : (c : Dev Cert.CtxMoeIdeal.nD) → Buf (Elt Ideal) ((c.tc : Thread Cert.CtxMoeIdeal.nD Cert.CtxMoeIdeal.τ).loc Cert.CtxMoeIdeal.main_v5)),
      θ_run (Cert.CtxMoeIdeal.defs (F := Ideal)) (onTc (τ := Cert.CtxMoeIdeal.τ) (Cert.CtxMoeIdeal.main (F := Ideal))) ⟨m, fun _ => 0, g⟩ (fun r => ∀ c : Dev Cert.CtxMoeIdeal.nD,
          r.2.mem ((c.tc : Thread Cert.CtxMoeIdeal.nD Cert.CtxMoeIdeal.τ).loc Cert.CtxMoeIdeal.main_v5) = v0 c
          ∧ r.2.mem ((c.tc : Thread Cert.CtxMoeIdeal.nD Cert.CtxMoeIdeal.τ).loc Cert.CtxMoeIdeal.main_arg0) = m ((c.tc : Thread Cert.CtxMoeIdeal.nD Cert.CtxMoeIdeal.τ).loc Cert.CtxMoeIdeal.main_arg0)
          ∧ r.2.mem ((c.tc : Thread Cert.CtxMoeIdeal.nD Cert.CtxMoeIdeal.τ).loc Cert.CtxMoeIdeal.main_arg1) = m ((c.tc : Thread Cert.CtxMoeIdeal.nD Cert.CtxMoeIdeal.τ).loc Cert.CtxMoeIdeal.main_arg1)
          ∧ r.2.mem ((c.tc : Thread Cert.CtxMoeIdeal.nD Cert.CtxMoeIdeal.τ).loc Cert.CtxMoeIdeal.main_arg2) = m ((c.tc : Thread Cert.CtxMoeIdeal.nD Cert.CtxMoeIdeal.τ).loc Cert.CtxMoeIdeal.main_arg2)
          ∧ r.2.mem ((c.tc : Thread Cert.CtxMoeIdeal.nD Cert.CtxMoeIdeal.τ).loc Cert.CtxMoeIdeal.main_arg3) = m ((c.tc : Thread Cert.CtxMoeIdeal.nD Cert.CtxMoeIdeal.τ).loc Cert.CtxMoeIdeal.main_arg3)
          ∧ r.2.mem ((c.tc : Thread Cert.CtxMoeIdeal.nD Cert.CtxMoeIdeal.τ).loc Cert.CtxMoeIdeal.main_arg4) = m ((c.tc : Thread Cert.CtxMoeIdeal.nD Cert.CtxMoeIdeal.τ).loc Cert.CtxMoeIdeal.main_arg4)
          ∧ r.2.mem ((c.tc : Thread Cert.CtxMoeIdeal.nD Cert.CtxMoeIdeal.τ).loc Cert.CtxMoeIdeal.main_arg5) = m ((c.tc : Thread Cert.CtxMoeIdeal.nD Cert.CtxMoeIdeal.τ).loc Cert.CtxMoeIdeal.main_arg5)
          ∧ r.2.mem ((c.tc : Thread Cert.CtxMoeIdeal.nD Cert.CtxMoeIdeal.τ).loc Cert.CtxMoeIdeal.main_arg6) = m ((c.tc : Thread Cert.CtxMoeIdeal.nD Cert.CtxMoeIdeal.τ).loc Cert.CtxMoeIdeal.main_arg6)
          ∧ r.2.mem ((c.tc : Thread Cert.CtxMoeIdeal.nD Cert.CtxMoeIdeal.τ).loc Cert.CtxMoeIdeal.main_arg7) = m ((c.tc : Thread Cert.CtxMoeIdeal.nD Cert.CtxMoeIdeal.τ).loc Cert.CtxMoeIdeal.main_arg7)
          ∧ r.2.mem ((c.tc : Thread Cert.CtxMoeIdeal.nD Cert.CtxMoeIdeal.τ).loc Cert.CtxMoeIdeal.main_arg8) = m ((c.tc : Thread Cert.CtxMoeIdeal.nD Cert.CtxMoeIdeal.τ).loc Cert.CtxMoeIdeal.main_arg8))
      ∧ θ_run (Cert.CtxMoeRefIdeal.defs (F := Ideal)) (onTc (τ := Cert.CtxMoeRefIdeal.τ) (Cert.CtxMoeRefIdeal.main (F := Ideal))) ⟨m', fun _ => 0, g'⟩ (fun r => ∀ c : Dev Cert.CtxMoeRefIdeal.nD,
          r.2.mem ((c.tc : Thread Cert.CtxMoeRefIdeal.nD Cert.CtxMoeRefIdeal.τ).loc Cert.CtxMoeRefIdeal.main_v159) = v0 c
          ∧ r.2.mem ((c.tc : Thread Cert.CtxMoeRefIdeal.nD Cert.CtxMoeRefIdeal.τ).loc Cert.CtxMoeRefIdeal.main_arg0) = m' ((c.tc : Thread Cert.CtxMoeRefIdeal.nD Cert.CtxMoeRefIdeal.τ).loc Cert.CtxMoeRefIdeal.main_arg0)
          ∧ r.2.mem ((c.tc : Thread Cert.CtxMoeRefIdeal.nD Cert.CtxMoeRefIdeal.τ).loc Cert.CtxMoeRefIdeal.main_arg1) = m' ((c.tc : Thread Cert.CtxMoeRefIdeal.nD Cert.CtxMoeRefIdeal.τ).loc Cert.CtxMoeRefIdeal.main_arg1)
          ∧ r.2.mem ((c.tc : Thread Cert.CtxMoeRefIdeal.nD Cert.CtxMoeRefIdeal.τ).loc Cert.CtxMoeRefIdeal.main_arg2) = m' ((c.tc : Thread Cert.CtxMoeRefIdeal.nD Cert.CtxMoeRefIdeal.τ).loc Cert.CtxMoeRefIdeal.main_arg2)
          ∧ r.2.mem ((c.tc : Thread Cert.CtxMoeRefIdeal.nD Cert.CtxMoeRefIdeal.τ).loc Cert.CtxMoeRefIdeal.main_arg3) = m' ((c.tc : Thread Cert.CtxMoeRefIdeal.nD Cert.CtxMoeRefIdeal.τ).loc Cert.CtxMoeRefIdeal.main_arg3)
          ∧ r.2.mem ((c.tc : Thread Cert.CtxMoeRefIdeal.nD Cert.CtxMoeRefIdeal.τ).loc Cert.CtxMoeRefIdeal.main_arg4) = m' ((c.tc : Thread Cert.CtxMoeRefIdeal.nD Cert.CtxMoeRefIdeal.τ).loc Cert.CtxMoeRefIdeal.main_arg4)
          ∧ r.2.mem ((c.tc : Thread Cert.CtxMoeRefIdeal.nD Cert.CtxMoeRefIdeal.τ).loc Cert.CtxMoeRefIdeal.main_arg5) = m' ((c.tc : Thread Cert.CtxMoeRefIdeal.nD Cert.CtxMoeRefIdeal.τ).loc Cert.CtxMoeRefIdeal.main_arg5)
          ∧ r.2.mem ((c.tc : Thread Cert.CtxMoeRefIdeal.nD Cert.CtxMoeRefIdeal.τ).loc Cert.CtxMoeRefIdeal.main_arg6) = m' ((c.tc : Thread Cert.CtxMoeRefIdeal.nD Cert.CtxMoeRefIdeal.τ).loc Cert.CtxMoeRefIdeal.main_arg6)
          ∧ r.2.mem ((c.tc : Thread Cert.CtxMoeRefIdeal.nD Cert.CtxMoeRefIdeal.τ).loc Cert.CtxMoeRefIdeal.main_arg7) = m' ((c.tc : Thread Cert.CtxMoeRefIdeal.nD Cert.CtxMoeRefIdeal.τ).loc Cert.CtxMoeRefIdeal.main_arg7)
          ∧ r.2.mem ((c.tc : Thread Cert.CtxMoeRefIdeal.nD Cert.CtxMoeRefIdeal.τ).loc Cert.CtxMoeRefIdeal.main_arg8) = m' ((c.tc : Thread Cert.CtxMoeRefIdeal.nD Cert.CtxMoeRefIdeal.τ).loc Cert.CtxMoeRefIdeal.main_arg8))

def preserves_CtxFfn_CtxFfnIdeal : Prop :=
  True

def algebraic_CtxFfnIdeal_CtxFfnRefIdeal [hCtxFfnIdeal : Cert.CtxFfnIdeal.Facts] [hCtxFfnRefIdeal : Cert.CtxFfnRefIdeal.Facts] : Prop :=
  ∀ (m : (ℓ : Loc Cert.CtxFfnIdeal.nD Cert.CtxFfnIdeal.τ Cert.CtxFfnIdeal.sig) → Buf (Elt Ideal) ℓ) (g : Dev Cert.CtxFfnIdeal.nD → PrngReg)
    (m' : (ℓ : Loc Cert.CtxFfnRefIdeal.nD Cert.CtxFfnRefIdeal.τ Cert.CtxFfnRefIdeal.sig) → Buf (Elt Ideal) ℓ) (g' : Dev Cert.CtxFfnRefIdeal.nD → PrngReg), Pre_CtxFfnIdeal m →
    (∀ c : Dev Cert.CtxFfnIdeal.nD,
      m' ((c.tc : Thread Cert.CtxFfnRefIdeal.nD Cert.CtxFfnRefIdeal.τ).loc Cert.CtxFfnRefIdeal.main_arg0) = m ((c.tc : Thread Cert.CtxFfnIdeal.nD Cert.CtxFfnIdeal.τ).loc Cert.CtxFfnIdeal.main_arg0)
      ∧ m' ((c.tc : Thread Cert.CtxFfnRefIdeal.nD Cert.CtxFfnRefIdeal.τ).loc Cert.CtxFfnRefIdeal.main_arg1) = m ((c.tc : Thread Cert.CtxFfnIdeal.nD Cert.CtxFfnIdeal.τ).loc Cert.CtxFfnIdeal.main_arg1)
      ∧ m' ((c.tc : Thread Cert.CtxFfnRefIdeal.nD Cert.CtxFfnRefIdeal.τ).loc Cert.CtxFfnRefIdeal.main_arg2) = m ((c.tc : Thread Cert.CtxFfnIdeal.nD Cert.CtxFfnIdeal.τ).loc Cert.CtxFfnIdeal.main_arg2)
      ∧ m' ((c.tc : Thread Cert.CtxFfnRefIdeal.nD Cert.CtxFfnRefIdeal.τ).loc Cert.CtxFfnRefIdeal.main_arg3) = m ((c.tc : Thread Cert.CtxFfnIdeal.nD Cert.CtxFfnIdeal.τ).loc Cert.CtxFfnIdeal.main_arg3)
      ∧ m' ((c.tc : Thread Cert.CtxFfnRefIdeal.nD Cert.CtxFfnRefIdeal.τ).loc Cert.CtxFfnRefIdeal.main_arg4) = m ((c.tc : Thread Cert.CtxFfnIdeal.nD Cert.CtxFfnIdeal.τ).loc Cert.CtxFfnIdeal.main_arg4)
      ∧ m' ((c.tc : Thread Cert.CtxFfnRefIdeal.nD Cert.CtxFfnRefIdeal.τ).loc Cert.CtxFfnRefIdeal.main_arg5) = m ((c.tc : Thread Cert.CtxFfnIdeal.nD Cert.CtxFfnIdeal.τ).loc Cert.CtxFfnIdeal.main_arg5)
      ∧ m' ((c.tc : Thread Cert.CtxFfnRefIdeal.nD Cert.CtxFfnRefIdeal.τ).loc Cert.CtxFfnRefIdeal.main_arg6) = m ((c.tc : Thread Cert.CtxFfnIdeal.nD Cert.CtxFfnIdeal.τ).loc Cert.CtxFfnIdeal.main_arg6)
      ∧ m' ((c.tc : Thread Cert.CtxFfnRefIdeal.nD Cert.CtxFfnRefIdeal.τ).loc Cert.CtxFfnRefIdeal.main_arg7) = m ((c.tc : Thread Cert.CtxFfnIdeal.nD Cert.CtxFfnIdeal.τ).loc Cert.CtxFfnIdeal.main_arg7)) →
    ∃ (v0 : (c : Dev Cert.CtxFfnIdeal.nD) → Buf (Elt Ideal) ((c.tc : Thread Cert.CtxFfnIdeal.nD Cert.CtxFfnIdeal.τ).loc Cert.CtxFfnIdeal.main_v4)),
      θ_run (Cert.CtxFfnIdeal.defs (F := Ideal)) (onTc (τ := Cert.CtxFfnIdeal.τ) (Cert.CtxFfnIdeal.main (F := Ideal))) ⟨m, fun _ => 0, g⟩ (fun r => ∀ c : Dev Cert.CtxFfnIdeal.nD,
          r.2.mem ((c.tc : Thread Cert.CtxFfnIdeal.nD Cert.CtxFfnIdeal.τ).loc Cert.CtxFfnIdeal.main_v4) = v0 c
          ∧ r.2.mem ((c.tc : Thread Cert.CtxFfnIdeal.nD Cert.CtxFfnIdeal.τ).loc Cert.CtxFfnIdeal.main_arg0) = m ((c.tc : Thread Cert.CtxFfnIdeal.nD Cert.CtxFfnIdeal.τ).loc Cert.CtxFfnIdeal.main_arg0)
          ∧ r.2.mem ((c.tc : Thread Cert.CtxFfnIdeal.nD Cert.CtxFfnIdeal.τ).loc Cert.CtxFfnIdeal.main_arg1) = m ((c.tc : Thread Cert.CtxFfnIdeal.nD Cert.CtxFfnIdeal.τ).loc Cert.CtxFfnIdeal.main_arg1)
          ∧ r.2.mem ((c.tc : Thread Cert.CtxFfnIdeal.nD Cert.CtxFfnIdeal.τ).loc Cert.CtxFfnIdeal.main_arg2) = m ((c.tc : Thread Cert.CtxFfnIdeal.nD Cert.CtxFfnIdeal.τ).loc Cert.CtxFfnIdeal.main_arg2)
          ∧ r.2.mem ((c.tc : Thread Cert.CtxFfnIdeal.nD Cert.CtxFfnIdeal.τ).loc Cert.CtxFfnIdeal.main_arg3) = m ((c.tc : Thread Cert.CtxFfnIdeal.nD Cert.CtxFfnIdeal.τ).loc Cert.CtxFfnIdeal.main_arg3)
          ∧ r.2.mem ((c.tc : Thread Cert.CtxFfnIdeal.nD Cert.CtxFfnIdeal.τ).loc Cert.CtxFfnIdeal.main_arg4) = m ((c.tc : Thread Cert.CtxFfnIdeal.nD Cert.CtxFfnIdeal.τ).loc Cert.CtxFfnIdeal.main_arg4)
          ∧ r.2.mem ((c.tc : Thread Cert.CtxFfnIdeal.nD Cert.CtxFfnIdeal.τ).loc Cert.CtxFfnIdeal.main_arg5) = m ((c.tc : Thread Cert.CtxFfnIdeal.nD Cert.CtxFfnIdeal.τ).loc Cert.CtxFfnIdeal.main_arg5)
          ∧ r.2.mem ((c.tc : Thread Cert.CtxFfnIdeal.nD Cert.CtxFfnIdeal.τ).loc Cert.CtxFfnIdeal.main_arg6) = m ((c.tc : Thread Cert.CtxFfnIdeal.nD Cert.CtxFfnIdeal.τ).loc Cert.CtxFfnIdeal.main_arg6)
          ∧ r.2.mem ((c.tc : Thread Cert.CtxFfnIdeal.nD Cert.CtxFfnIdeal.τ).loc Cert.CtxFfnIdeal.main_arg7) = m ((c.tc : Thread Cert.CtxFfnIdeal.nD Cert.CtxFfnIdeal.τ).loc Cert.CtxFfnIdeal.main_arg7))
      ∧ θ_run (Cert.CtxFfnRefIdeal.defs (F := Ideal)) (onTc (τ := Cert.CtxFfnRefIdeal.τ) (Cert.CtxFfnRefIdeal.main (F := Ideal))) ⟨m', fun _ => 0, g'⟩ (fun r => ∀ c : Dev Cert.CtxFfnRefIdeal.nD,
          r.2.mem ((c.tc : Thread Cert.CtxFfnRefIdeal.nD Cert.CtxFfnRefIdeal.τ).loc Cert.CtxFfnRefIdeal.main_v26) = v0 c
          ∧ r.2.mem ((c.tc : Thread Cert.CtxFfnRefIdeal.nD Cert.CtxFfnRefIdeal.τ).loc Cert.CtxFfnRefIdeal.main_arg0) = m' ((c.tc : Thread Cert.CtxFfnRefIdeal.nD Cert.CtxFfnRefIdeal.τ).loc Cert.CtxFfnRefIdeal.main_arg0)
          ∧ r.2.mem ((c.tc : Thread Cert.CtxFfnRefIdeal.nD Cert.CtxFfnRefIdeal.τ).loc Cert.CtxFfnRefIdeal.main_arg1) = m' ((c.tc : Thread Cert.CtxFfnRefIdeal.nD Cert.CtxFfnRefIdeal.τ).loc Cert.CtxFfnRefIdeal.main_arg1)
          ∧ r.2.mem ((c.tc : Thread Cert.CtxFfnRefIdeal.nD Cert.CtxFfnRefIdeal.τ).loc Cert.CtxFfnRefIdeal.main_arg2) = m' ((c.tc : Thread Cert.CtxFfnRefIdeal.nD Cert.CtxFfnRefIdeal.τ).loc Cert.CtxFfnRefIdeal.main_arg2)
          ∧ r.2.mem ((c.tc : Thread Cert.CtxFfnRefIdeal.nD Cert.CtxFfnRefIdeal.τ).loc Cert.CtxFfnRefIdeal.main_arg3) = m' ((c.tc : Thread Cert.CtxFfnRefIdeal.nD Cert.CtxFfnRefIdeal.τ).loc Cert.CtxFfnRefIdeal.main_arg3)
          ∧ r.2.mem ((c.tc : Thread Cert.CtxFfnRefIdeal.nD Cert.CtxFfnRefIdeal.τ).loc Cert.CtxFfnRefIdeal.main_arg4) = m' ((c.tc : Thread Cert.CtxFfnRefIdeal.nD Cert.CtxFfnRefIdeal.τ).loc Cert.CtxFfnRefIdeal.main_arg4)
          ∧ r.2.mem ((c.tc : Thread Cert.CtxFfnRefIdeal.nD Cert.CtxFfnRefIdeal.τ).loc Cert.CtxFfnRefIdeal.main_arg5) = m' ((c.tc : Thread Cert.CtxFfnRefIdeal.nD Cert.CtxFfnRefIdeal.τ).loc Cert.CtxFfnRefIdeal.main_arg5)
          ∧ r.2.mem ((c.tc : Thread Cert.CtxFfnRefIdeal.nD Cert.CtxFfnRefIdeal.τ).loc Cert.CtxFfnRefIdeal.main_arg6) = m' ((c.tc : Thread Cert.CtxFfnRefIdeal.nD Cert.CtxFfnRefIdeal.τ).loc Cert.CtxFfnRefIdeal.main_arg6)
          ∧ r.2.mem ((c.tc : Thread Cert.CtxFfnRefIdeal.nD Cert.CtxFfnRefIdeal.τ).loc Cert.CtxFfnRefIdeal.main_arg7) = m' ((c.tc : Thread Cert.CtxFfnRefIdeal.nD Cert.CtxFfnRefIdeal.τ).loc Cert.CtxFfnRefIdeal.main_arg7))

def preserves_CtxOutProj_CtxOutProjIdeal : Prop :=
  True

def algebraic_CtxOutProjIdeal_CtxOutRefIdeal_pre_ctx_scan_finite [hCtxOutProjIdeal : Cert.CtxOutProjIdeal.Facts] [hCtxOutRefIdeal : Cert.CtxOutRefIdeal.Facts] [hPre_ctx_scan_finite : Cert.Pre_ctx_scan_finite.Facts] : Prop :=
  ∀ (m : (ℓ : Loc Cert.CtxOutProjIdeal.nD Cert.CtxOutProjIdeal.τ Cert.CtxOutProjIdeal.sig) → Buf (Elt Ideal) ℓ) (g : Dev Cert.CtxOutProjIdeal.nD → PrngReg)
    (m' : (ℓ : Loc Cert.CtxOutRefIdeal.nD Cert.CtxOutRefIdeal.τ Cert.CtxOutRefIdeal.sig) → Buf (Elt Ideal) ℓ) (g' : Dev Cert.CtxOutRefIdeal.nD → PrngReg), Pre_CtxOutProjIdeal_ctx_scan_finite m →
    (∀ c : Dev Cert.CtxOutProjIdeal.nD,
      m' ((c.tc : Thread Cert.CtxOutRefIdeal.nD Cert.CtxOutRefIdeal.τ).loc Cert.CtxOutRefIdeal.main_arg0) = m ((c.tc : Thread Cert.CtxOutProjIdeal.nD Cert.CtxOutProjIdeal.τ).loc Cert.CtxOutProjIdeal.main_arg0)
      ∧ m' ((c.tc : Thread Cert.CtxOutRefIdeal.nD Cert.CtxOutRefIdeal.τ).loc Cert.CtxOutRefIdeal.main_arg1) = m ((c.tc : Thread Cert.CtxOutProjIdeal.nD Cert.CtxOutProjIdeal.τ).loc Cert.CtxOutProjIdeal.main_arg1)
      ∧ m' ((c.tc : Thread Cert.CtxOutRefIdeal.nD Cert.CtxOutRefIdeal.τ).loc Cert.CtxOutRefIdeal.main_arg2) = m ((c.tc : Thread Cert.CtxOutProjIdeal.nD Cert.CtxOutProjIdeal.τ).loc Cert.CtxOutProjIdeal.main_arg2)
      ∧ m' ((c.tc : Thread Cert.CtxOutRefIdeal.nD Cert.CtxOutRefIdeal.τ).loc Cert.CtxOutRefIdeal.main_arg3) = m ((c.tc : Thread Cert.CtxOutProjIdeal.nD Cert.CtxOutProjIdeal.τ).loc Cert.CtxOutProjIdeal.main_arg3)
      ∧ m' ((c.tc : Thread Cert.CtxOutRefIdeal.nD Cert.CtxOutRefIdeal.τ).loc Cert.CtxOutRefIdeal.main_arg4) = m ((c.tc : Thread Cert.CtxOutProjIdeal.nD Cert.CtxOutProjIdeal.τ).loc Cert.CtxOutProjIdeal.main_arg4)
      ∧ m' ((c.tc : Thread Cert.CtxOutRefIdeal.nD Cert.CtxOutRefIdeal.τ).loc Cert.CtxOutRefIdeal.main_arg5) = m ((c.tc : Thread Cert.CtxOutProjIdeal.nD Cert.CtxOutProjIdeal.τ).loc Cert.CtxOutProjIdeal.main_arg5)
      ∧ m' ((c.tc : Thread Cert.CtxOutRefIdeal.nD Cert.CtxOutRefIdeal.τ).loc Cert.CtxOutRefIdeal.main_arg6) = m ((c.tc : Thread Cert.CtxOutProjIdeal.nD Cert.CtxOutProjIdeal.τ).loc Cert.CtxOutProjIdeal.main_arg6)
      ∧ m' ((c.tc : Thread Cert.CtxOutRefIdeal.nD Cert.CtxOutRefIdeal.τ).loc Cert.CtxOutRefIdeal.main_arg7) = m ((c.tc : Thread Cert.CtxOutProjIdeal.nD Cert.CtxOutProjIdeal.τ).loc Cert.CtxOutProjIdeal.main_arg7)
      ∧ m' ((c.tc : Thread Cert.CtxOutRefIdeal.nD Cert.CtxOutRefIdeal.τ).loc Cert.CtxOutRefIdeal.main_arg8) = m ((c.tc : Thread Cert.CtxOutProjIdeal.nD Cert.CtxOutProjIdeal.τ).loc Cert.CtxOutProjIdeal.main_arg8)) →
    ∃ (v0 : (c : Dev Cert.CtxOutProjIdeal.nD) → Buf (Elt Ideal) ((c.tc : Thread Cert.CtxOutProjIdeal.nD Cert.CtxOutProjIdeal.τ).loc Cert.CtxOutProjIdeal.main_v16)),
      θ_run (Cert.CtxOutProjIdeal.defs (F := Ideal)) (onTc (τ := Cert.CtxOutProjIdeal.τ) (Cert.CtxOutProjIdeal.main (F := Ideal))) ⟨m, fun _ => 0, g⟩ (fun r => ∀ c : Dev Cert.CtxOutProjIdeal.nD,
          r.2.mem ((c.tc : Thread Cert.CtxOutProjIdeal.nD Cert.CtxOutProjIdeal.τ).loc Cert.CtxOutProjIdeal.main_v16) = v0 c
          ∧ r.2.mem ((c.tc : Thread Cert.CtxOutProjIdeal.nD Cert.CtxOutProjIdeal.τ).loc Cert.CtxOutProjIdeal.main_arg0) = m ((c.tc : Thread Cert.CtxOutProjIdeal.nD Cert.CtxOutProjIdeal.τ).loc Cert.CtxOutProjIdeal.main_arg0)
          ∧ r.2.mem ((c.tc : Thread Cert.CtxOutProjIdeal.nD Cert.CtxOutProjIdeal.τ).loc Cert.CtxOutProjIdeal.main_arg1) = m ((c.tc : Thread Cert.CtxOutProjIdeal.nD Cert.CtxOutProjIdeal.τ).loc Cert.CtxOutProjIdeal.main_arg1)
          ∧ r.2.mem ((c.tc : Thread Cert.CtxOutProjIdeal.nD Cert.CtxOutProjIdeal.τ).loc Cert.CtxOutProjIdeal.main_arg2) = m ((c.tc : Thread Cert.CtxOutProjIdeal.nD Cert.CtxOutProjIdeal.τ).loc Cert.CtxOutProjIdeal.main_arg2)
          ∧ r.2.mem ((c.tc : Thread Cert.CtxOutProjIdeal.nD Cert.CtxOutProjIdeal.τ).loc Cert.CtxOutProjIdeal.main_arg3) = m ((c.tc : Thread Cert.CtxOutProjIdeal.nD Cert.CtxOutProjIdeal.τ).loc Cert.CtxOutProjIdeal.main_arg3)
          ∧ r.2.mem ((c.tc : Thread Cert.CtxOutProjIdeal.nD Cert.CtxOutProjIdeal.τ).loc Cert.CtxOutProjIdeal.main_arg4) = m ((c.tc : Thread Cert.CtxOutProjIdeal.nD Cert.CtxOutProjIdeal.τ).loc Cert.CtxOutProjIdeal.main_arg4)
          ∧ r.2.mem ((c.tc : Thread Cert.CtxOutProjIdeal.nD Cert.CtxOutProjIdeal.τ).loc Cert.CtxOutProjIdeal.main_arg5) = m ((c.tc : Thread Cert.CtxOutProjIdeal.nD Cert.CtxOutProjIdeal.τ).loc Cert.CtxOutProjIdeal.main_arg5)
          ∧ r.2.mem ((c.tc : Thread Cert.CtxOutProjIdeal.nD Cert.CtxOutProjIdeal.τ).loc Cert.CtxOutProjIdeal.main_arg6) = m ((c.tc : Thread Cert.CtxOutProjIdeal.nD Cert.CtxOutProjIdeal.τ).loc Cert.CtxOutProjIdeal.main_arg6)
          ∧ r.2.mem ((c.tc : Thread Cert.CtxOutProjIdeal.nD Cert.CtxOutProjIdeal.τ).loc Cert.CtxOutProjIdeal.main_arg7) = m ((c.tc : Thread Cert.CtxOutProjIdeal.nD Cert.CtxOutProjIdeal.τ).loc Cert.CtxOutProjIdeal.main_arg7)
          ∧ r.2.mem ((c.tc : Thread Cert.CtxOutProjIdeal.nD Cert.CtxOutProjIdeal.τ).loc Cert.CtxOutProjIdeal.main_arg8) = m ((c.tc : Thread Cert.CtxOutProjIdeal.nD Cert.CtxOutProjIdeal.τ).loc Cert.CtxOutProjIdeal.main_arg8))
      ∧ θ_run (Cert.CtxOutRefIdeal.defs (F := Ideal)) (onTc (τ := Cert.CtxOutRefIdeal.τ) (Cert.CtxOutRefIdeal.main (F := Ideal))) ⟨m', fun _ => 0, g'⟩ (fun r => ∀ c : Dev Cert.CtxOutRefIdeal.nD,
          r.2.mem ((c.tc : Thread Cert.CtxOutRefIdeal.nD Cert.CtxOutRefIdeal.τ).loc Cert.CtxOutRefIdeal.main_v23) = v0 c
          ∧ r.2.mem ((c.tc : Thread Cert.CtxOutRefIdeal.nD Cert.CtxOutRefIdeal.τ).loc Cert.CtxOutRefIdeal.main_arg0) = m' ((c.tc : Thread Cert.CtxOutRefIdeal.nD Cert.CtxOutRefIdeal.τ).loc Cert.CtxOutRefIdeal.main_arg0)
          ∧ r.2.mem ((c.tc : Thread Cert.CtxOutRefIdeal.nD Cert.CtxOutRefIdeal.τ).loc Cert.CtxOutRefIdeal.main_arg1) = m' ((c.tc : Thread Cert.CtxOutRefIdeal.nD Cert.CtxOutRefIdeal.τ).loc Cert.CtxOutRefIdeal.main_arg1)
          ∧ r.2.mem ((c.tc : Thread Cert.CtxOutRefIdeal.nD Cert.CtxOutRefIdeal.τ).loc Cert.CtxOutRefIdeal.main_arg2) = m' ((c.tc : Thread Cert.CtxOutRefIdeal.nD Cert.CtxOutRefIdeal.τ).loc Cert.CtxOutRefIdeal.main_arg2)
          ∧ r.2.mem ((c.tc : Thread Cert.CtxOutRefIdeal.nD Cert.CtxOutRefIdeal.τ).loc Cert.CtxOutRefIdeal.main_arg3) = m' ((c.tc : Thread Cert.CtxOutRefIdeal.nD Cert.CtxOutRefIdeal.τ).loc Cert.CtxOutRefIdeal.main_arg3)
          ∧ r.2.mem ((c.tc : Thread Cert.CtxOutRefIdeal.nD Cert.CtxOutRefIdeal.τ).loc Cert.CtxOutRefIdeal.main_arg4) = m' ((c.tc : Thread Cert.CtxOutRefIdeal.nD Cert.CtxOutRefIdeal.τ).loc Cert.CtxOutRefIdeal.main_arg4)
          ∧ r.2.mem ((c.tc : Thread Cert.CtxOutRefIdeal.nD Cert.CtxOutRefIdeal.τ).loc Cert.CtxOutRefIdeal.main_arg5) = m' ((c.tc : Thread Cert.CtxOutRefIdeal.nD Cert.CtxOutRefIdeal.τ).loc Cert.CtxOutRefIdeal.main_arg5)
          ∧ r.2.mem ((c.tc : Thread Cert.CtxOutRefIdeal.nD Cert.CtxOutRefIdeal.τ).loc Cert.CtxOutRefIdeal.main_arg6) = m' ((c.tc : Thread Cert.CtxOutRefIdeal.nD Cert.CtxOutRefIdeal.τ).loc Cert.CtxOutRefIdeal.main_arg6)
          ∧ r.2.mem ((c.tc : Thread Cert.CtxOutRefIdeal.nD Cert.CtxOutRefIdeal.τ).loc Cert.CtxOutRefIdeal.main_arg7) = m' ((c.tc : Thread Cert.CtxOutRefIdeal.nD Cert.CtxOutRefIdeal.τ).loc Cert.CtxOutRefIdeal.main_arg7)
          ∧ r.2.mem ((c.tc : Thread Cert.CtxOutRefIdeal.nD Cert.CtxOutRefIdeal.τ).loc Cert.CtxOutRefIdeal.main_arg8) = m' ((c.tc : Thread Cert.CtxOutRefIdeal.nD Cert.CtxOutRefIdeal.τ).loc Cert.CtxOutRefIdeal.main_arg8))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hNorm : Cert.Norm.Facts) (hNormIdeal : Cert.NormIdeal.Facts) (hNormRefIdeal : Cert.NormRefIdeal.Facts) (hAttn : Cert.Attn.Facts) (hAttnIdeal : Cert.AttnIdeal.Facts) (hAttnRefIdeal : Cert.AttnRefIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hCtxMoe : Cert.CtxMoe.Facts) (hCtxMoeIdeal : Cert.CtxMoeIdeal.Facts) (hCtxMoeRefIdeal : Cert.CtxMoeRefIdeal.Facts) (hCtxFfn : Cert.CtxFfn.Facts) (hCtxFfnIdeal : Cert.CtxFfnIdeal.Facts) (hCtxFfnRefIdeal : Cert.CtxFfnRefIdeal.Facts) (hCtxOutProj : Cert.CtxOutProj.Facts) (hCtxOutProjIdeal : Cert.CtxOutProjIdeal.Facts) (hCtxOutRefIdeal : Cert.CtxOutRefIdeal.Facts) (hPre_finite : Cert.Pre_finite.Facts) (hPre_scan_finite : Cert.Pre_scan_finite.Facts) (hPre_ctx_finite : Cert.Pre_ctx_finite.Facts) (hPre_ctx_scan_finite : Cert.Pre_ctx_scan_finite.Facts),
    quiescent_Moe (hMoe := hMoe)
    ∧ quiescent_MoeIdeal (hMoeIdeal := hMoeIdeal)
    ∧ quiescent_MoeIdeal_pre_finite (hMoeIdeal := hMoeIdeal) (hPre_finite := hPre_finite)
    ∧ quiescent_MoeRefIdeal (hMoeRefIdeal := hMoeRefIdeal)
    ∧ quiescent_MoeRefIdeal_pre_finite (hMoeRefIdeal := hMoeRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Norm (hNorm := hNorm)
    ∧ quiescent_NormIdeal (hNormIdeal := hNormIdeal)
    ∧ quiescent_NormRefIdeal (hNormRefIdeal := hNormRefIdeal)
    ∧ quiescent_Attn (hAttn := hAttn)
    ∧ quiescent_AttnIdeal (hAttnIdeal := hAttnIdeal)
    ∧ quiescent_AttnRefIdeal (hAttnRefIdeal := hAttnRefIdeal)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutProjIdeal_pre_scan_finite (hOutProjIdeal := hOutProjIdeal) (hPre_scan_finite := hPre_scan_finite)
    ∧ quiescent_OutRefIdeal (hOutRefIdeal := hOutRefIdeal)
    ∧ quiescent_OutRefIdeal_pre_scan_finite (hOutRefIdeal := hOutRefIdeal) (hPre_scan_finite := hPre_scan_finite)
    ∧ quiescent_CtxMoe (hCtxMoe := hCtxMoe)
    ∧ quiescent_CtxMoeIdeal (hCtxMoeIdeal := hCtxMoeIdeal)
    ∧ quiescent_CtxMoeIdeal_pre_ctx_finite (hCtxMoeIdeal := hCtxMoeIdeal) (hPre_ctx_finite := hPre_ctx_finite)
    ∧ quiescent_CtxMoeRefIdeal (hCtxMoeRefIdeal := hCtxMoeRefIdeal)
    ∧ quiescent_CtxMoeRefIdeal_pre_ctx_finite (hCtxMoeRefIdeal := hCtxMoeRefIdeal) (hPre_ctx_finite := hPre_ctx_finite)
    ∧ quiescent_CtxFfn (hCtxFfn := hCtxFfn)
    ∧ quiescent_CtxFfnIdeal (hCtxFfnIdeal := hCtxFfnIdeal)
    ∧ quiescent_CtxFfnRefIdeal (hCtxFfnRefIdeal := hCtxFfnRefIdeal)
    ∧ quiescent_CtxOutProj (hCtxOutProj := hCtxOutProj)
    ∧ quiescent_CtxOutProjIdeal (hCtxOutProjIdeal := hCtxOutProjIdeal)
    ∧ quiescent_CtxOutProjIdeal_pre_ctx_scan_finite (hCtxOutProjIdeal := hCtxOutProjIdeal) (hPre_ctx_scan_finite := hPre_ctx_scan_finite)
    ∧ quiescent_CtxOutRefIdeal (hCtxOutRefIdeal := hCtxOutRefIdeal)
    ∧ quiescent_CtxOutRefIdeal_pre_ctx_scan_finite (hCtxOutRefIdeal := hCtxOutRefIdeal) (hPre_ctx_scan_finite := hPre_ctx_scan_finite)
    ∧ preserves_Moe_MoeIdeal
    ∧ algebraic_MoeIdeal_MoeRefIdeal_pre_finite (hMoeIdeal := hMoeIdeal) (hMoeRefIdeal := hMoeRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Norm_NormIdeal
    ∧ algebraic_NormIdeal_NormRefIdeal (hNormIdeal := hNormIdeal) (hNormRefIdeal := hNormRefIdeal)
    ∧ preserves_Attn_AttnIdeal
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal_pre_scan_finite (hOutProjIdeal := hOutProjIdeal) (hOutRefIdeal := hOutRefIdeal) (hPre_scan_finite := hPre_scan_finite)
    ∧ preserves_CtxMoe_CtxMoeIdeal
    ∧ algebraic_CtxMoeIdeal_CtxMoeRefIdeal_pre_ctx_finite (hCtxMoeIdeal := hCtxMoeIdeal) (hCtxMoeRefIdeal := hCtxMoeRefIdeal) (hPre_ctx_finite := hPre_ctx_finite)
    ∧ preserves_CtxFfn_CtxFfnIdeal
    ∧ algebraic_CtxFfnIdeal_CtxFfnRefIdeal (hCtxFfnIdeal := hCtxFfnIdeal) (hCtxFfnRefIdeal := hCtxFfnRefIdeal)
    ∧ preserves_CtxOutProj_CtxOutProjIdeal
    ∧ algebraic_CtxOutProjIdeal_CtxOutRefIdeal_pre_ctx_scan_finite (hCtxOutProjIdeal := hCtxOutProjIdeal) (hCtxOutRefIdeal := hCtxOutRefIdeal) (hPre_ctx_scan_finite := hPre_ctx_scan_finite)
-- ==== Pre_ctx_finite.lean ====
abbrev S4x256x1024 : Shape := ⟨3, ![4, 256, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_arg5 : FVec F S1024x8 .f32) (main_v3 : IVec S_ 1) (main_v7 : IVec S_ 1) (main_v11 : IVec S_ 1) (main_v15 : IVec S_ 1) : IVec S_ 1 :=
  let main_v16 : FVec F S1024x8 .f32 := Host.absf main_arg5
  let main_cst_6 : FVec F S_ .f32 := constant S_ .f32 0x7F800000#32
  let main_v17 : FVec F S1024x8 .f32 := broadcastInDim S1024x8 ![] bcast_S_S1024x8 main_cst_6
  let main_v18 : IVec S1024x8 1 := cmpf .olt main_v16 main_v17
  let main_c_7 : IVec S_ 1 := constantI S_ 1 1#1
  let main_v19 : IVec S_ 1 := (fun x v => Host.reduce IntOp.andi x v reducesTo_S1024x8_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x256x1024 .f32) (main_arg1 : FVec F S1024 .f32) (main_arg2 : FVec F S4x1x1024 .f32) (main_arg3 : FVec F S4x1x1024 .f32) (main_arg4 : FVec F S4x1x1024 .f32) (main_arg5 : FVec F S1024x8 .f32) (main_arg6 : FVec F S8x1024x3584 .f32) (main_arg7 : FVec F S8x1024x3584 .f32) (main_arg8 : FVec F S8x3584x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S4x1x1024 .f32 := Host.absf main_arg2
  let main_cst_2 : FVec F S_ .f32 := constant S_ .f32 0x7F800000#32
  let main_v9 : FVec F S4x1x1024 .f32 := broadcastInDim S4x1x1024 ![] bcast_S_S4x1x1024 main_cst_2
  let main_v10 : IVec S4x1x1024 1 := cmpf .olt main_v8 main_v9
  let main_c_3 : IVec S_ 1 := constantI S_ 1 1#1
  let main_v11 : IVec S_ 1 := (fun x v => Host.reduce IntOp.andi x v reducesTo_S4x1x1024_S_d0_1_2 h_S_) main_v10 main_c_3
  let main_v12 : FVec F S4x1x1024 .f32 := Host.absf main_arg3
  let main_cst_4 : FVec F S_ .f32 := constant S_ .f32 0x7F800000#32
  let main_v13 : FVec F S4x1x1024 .f32 := broadcastInDim S4x1x1024 ![] bcast_S_S4x1x1024 main_cst_4
  let main_v14 : IVec S4x1x1024 1 := cmpf .olt main_v12 main_v13
  let main_c_5 : IVec S_ 1 := constantI S_ 1 1#1
  let main_v15 : IVec S_ 1 := (fun x v => Host.reduce IntOp.andi x v reducesTo_S4x1x1024_S_d0_1_2 h_S_) main_v14 main_c_5
  fn_part1 (F := F) main_arg5 main_v3 main_v7 main_v11 main_v15
-- ==== Pre_ctx_scan_finite.lean ====
abbrev S4x256x384 : Shape := ⟨3, ![4, 256, 384]⟩
abbrev S64 : Shape := ⟨1, ![64]⟩
abbrev S4x256x256 : Shape := ⟨3, ![4, 256, 256]⟩
abbrev S4x256x1024 : Shape := ⟨3, ![4, 256, 1024]⟩
abbrev S4x1x1024 : Shape := ⟨3, ![4, 1, 1024]⟩
abbrev S1024x1024 : Shape := ⟨2, ![1024, 1024]⟩
abbrev S_ : Shape := ⟨0, ![]⟩

class Facts : Prop where
  bcast_S_S4x256x384 : S_.BroadcastsInDim S4x256x384 (![] : Fin 0 → Fin S4x256x384.rank)
  reducesTo_S4x256x384_S_d0_1_2 : S4x256x384.ReducesTo [0, 1, 2] S_
  h_S_ : 0 < S_.numel

variable [Facts]

def fn {F : FTy → Type} [FloatOps F] (main_arg0 : FVec F S4x256x384 .f32) (main_arg1 : FVec F S4x256x384 .f32) (main_arg2 : FVec F S4x256x384 .f32) (main_arg3 : FVec F S64 .f32) (main_arg4 : FVec F S4x256x256 .f32) (main_arg5 : FVec F S4x256x384 .f32) (main_arg6 : FVec F S4x256x1024 .f32) (main_arg7 : FVec F S4x1x1024 .f32) (main_arg8 : FVec F S1024x1024 .f32) : IVec S_ 1 :=
  let main_v0 : FVec F S4x256x384 .f32 := Host.absf main_arg0
  let main_cst : FVec F S_ .f32 := constant S_ .f32 0x7F800000#32
  let main_v1 : FVec F S4x256x384 .f32 := broadcastInDim S4x256x384 ![] bcast_S_S4x256x384 main_cst
  let main_v2 : IVec S4x256x384 1 := cmpf .olt main_v0 main_v1
  let main_c : IVec S_ 1 := constantI S_ 1 1#1
  let main_v3 : IVec S_ 1 := (fun x v => Host.reduce IntOp.andi x v reducesTo_S4x256x384_S_d0_1_2 h_S_) main_v2 main_c
  let main_v4 : FVec F S4x256x384 .f32 := Host.absf main_arg1
  let main_cst_0 : FVec F S_ .f32 := constant S_ .f32 0x7F800000#32
  let main_v5 : FVec F S4x256x384 .f32 := broadcastInDim S4x256x384 ![] bcast_S_S4x256x384 main_cst_0
  let main_v6 : IVec S4x256x384 1 := cmpf .olt main_v4 main_v5
  let main_c_1 : IVec S_ 1 := constantI S_ 1 1#1
  let main_v7 : IVec S_ 1 := (fun x v => Host.reduce IntOp.andi x v reducesTo_S4x256x384_S_d0_1_2 h_S_) main_v6 main_c_1
  let main_v8 : IVec S_ 1 := andi main_v3 main_v7
  main_v8
-- ==== Pre_finite.lean ====
abbrev S4x4096x1024 : Shape := ⟨3, ![4, 4096, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_arg5 : FVec F S1024x8 .f32) (main_v3 : IVec S_ 1) (main_v7 : IVec S_ 1) (main_v11 : IVec S_ 1) (main_v15 : IVec S_ 1) : IVec S_ 1 :=
  let main_v16 : FVec F S1024x8 .f32 := Host.absf main_arg5
  let main_cst_6 : FVec F S_ .f32 := constant S_ .f32 0x7F800000#32
  let main_v17 : FVec F S1024x8 .f32 := broadcastInDim S1024x8 ![] bcast_S_S1024x8 main_cst_6
  let main_v18 : IVec S1024x8 1 := cmpf .olt main_v16 main_v17
  let main_c_7 : IVec S_ 1 := constantI S_ 1 1#1
  let main_v19 : IVec S_ 1 := (fun x v => Host.reduce IntOp.andi x v reducesTo_S1024x8_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x4096x1024 .f32) (main_arg1 : FVec F S1024 .f32) (main_arg2 : FVec F S4x1x1024 .f32) (main_arg3 : FVec F S4x1x1024 .f32) (main_arg4 : FVec F S4x1x1024 .f32) (main_arg5 : FVec F S1024x8 .f32) (main_arg6 : FVec F S8x1024x3584 .f32) (main_arg7 : FVec F S8x1024x3584 .f32) (main_arg8 : FVec F S8x3584x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S4x1x1024 .f32 := Host.absf main_arg2
  let main_cst_2 : FVec F S_ .f32 := constant S_ .f32 0x7F800000#32
  let main_v9 : FVec F S4x1x1024 .f32 := broadcastInDim S4x1x1024 ![] bcast_S_S4x1x1024 main_cst_2
  let main_v10 : IVec S4x1x1024 1 := cmpf .olt main_v8 main_v9
  let main_c_3 : IVec S_ 1 := constantI S_ 1 1#1
  let main_v11 : IVec S_ 1 := (fun x v => Host.reduce IntOp.andi x v reducesTo_S4x1x1024_S_d0_1_2 h_S_) main_v10 main_c_3
  let main_v12 : FVec F S4x1x1024 .f32 := Host.absf main_arg3
  let main_cst_4 : FVec F S_ .f32 := constant S_ .f32 0x7F800000#32
  let main_v13 : FVec F S4x1x1024 .f32 := broadcastInDim S4x1x1024 ![] bcast_S_S4x1x1024 main_cst_4
  let main_v14 : IVec S4x1x1024 1 := cmpf .olt main_v12 main_v13
  let main_c_5 : IVec S_ 1 := constantI S_ 1 1#1
  let main_v15 : IVec S_ 1 := (fun x v => Host.reduce IntOp.andi x v reducesTo_S4x1x1024_S_d0_1_2 h_S_) main_v14 main_c_5
  fn_part1 (F := F) main_arg5 main_v3 main_v7 main_v11 main_v15
-- ==== Pre_scan_finite.lean ====
abbrev S4x4096x384 : Shape := ⟨3, ![4, 4096, 384]⟩
abbrev S64 : Shape := ⟨1, ![64]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024x1024 : Shape := ⟨2, ![1024, 1024]⟩
abbrev S_ : Shape := ⟨0, ![]⟩

class Facts : Prop where
  bcast_S_S4x4096x384 : S_.BroadcastsInDim S4x4096x384 (![] : Fin 0 → Fin S4x4096x384.rank)
  reducesTo_S4x4096x384_S_d0_1_2 : S4x4096x384.ReducesTo [0, 1, 2] S_
  h_S_ : 0 < S_.numel

variable [Facts]

def fn {F : FTy → Type} [FloatOps F] (main_arg0 : FVec F S4x4096x384 .f32) (main_arg1 : FVec F S4x4096x384 .f32) (main_arg2 : FVec F S4x4096x384 .f32) (main_arg3 : FVec F S64 .f32) (main_arg4 : FVec F S4x4096x256 .f32) (main_arg5 : FVec F S4x4096x384 .f32) (main_arg6 : FVec F S4x4096x1024 .f32) (main_arg7 : FVec F S4x1x1024 .f32) (main_arg8 : FVec F S1024x1024 .f32) : IVec S_ 1 :=
  let main_v0 : FVec F S4x4096x384 .f32 := Host.absf main_arg0
  let main_cst : FVec F S_ .f32 := constant S_ .f32 0x7F800000#32
  let main_v1 : FVec F S4x4096x384 .f32 := broadcastInDim S4x4096x384 ![] bcast_S_S4x4096x384 main_cst
  let main_v2 : IVec S4x4096x384 1 := cmpf .olt main_v0 main_v1
  let main_c : IVec S_ 1 := constantI S_ 1 1#1
  let main_v3 : IVec S_ 1 := (fun x v => Host.reduce IntOp.andi x v reducesTo_S4x4096x384_S_d0_1_2 h_S_) main_v2 main_c
  let main_v4 : FVec F S4x4096x384 .f32 := Host.absf main_arg1
  let main_cst_0 : FVec F S_ .f32 := constant S_ .f32 0x7F800000#32
  let main_v5 : FVec F S4x4096x384 .f32 := broadcastInDim S4x4096x384 ![] bcast_S_S4x4096x384 main_cst_0
  let main_v6 : IVec S4x4096x384 1 := cmpf .olt main_v4 main_v5
  let main_c_1 : IVec S_ 1 := constantI S_ 1 1#1
  let main_v7 : IVec S_ 1 := (fun x v => Host.reduce IntOp.andi x v reducesTo_S4x4096x384_S_d0_1_2 h_S_) main_v6 main_c_1
  let main_v8 : IVec S_ 1 := andi main_v3 main_v7
  main_v8
-- ==== Moe.lean ====
abbrev S4x4096x1024 : Shape := ⟨3, ![4, 4096, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1x1024 : Shape := ⟨2, ![1, 1024]⟩
abbrev S1x512x1024 : Shape := ⟨3, ![1, 512, 1024]⟩
abbrev S1x1x1024 : Shape := ⟨3, ![1, 1, 1024]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 17
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x8, .f32⟩
  | .hbm, ⟨6, _⟩ => ⟨S8x1024x3584, .f32⟩
  | .hbm, ⟨7, _⟩ => ⟨S8x1024x3584, .f32⟩
  | .hbm, ⟨8, _⟩ => ⟨S8x3584x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1x1024, .f32⟩
  | .hbm, ⟨13, _⟩ => ⟨S8x1024x3584, .bf16⟩
  | .hbm, ⟨14, _⟩ => ⟨S8x1024x3584, .bf16⟩
  | .hbm, ⟨15, _⟩ => ⟨S8x3584x1024, .bf16⟩
  | .hbm, ⟨16, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .f32⟩
  | .local _ .vmem, ⟨10, _⟩ => ⟨S1x1024x1792, .bf16⟩
  | .local _ .vmem, ⟨11, _⟩ => ⟨S1x1024x1792, .bf16⟩
  | .local _ .vmem, ⟨12, _⟩ => ⟨S1x1024x1792, .bf16⟩
  | .local _ .vmem, ⟨13, _⟩ => ⟨S1x1024x1792, .bf16⟩
  | .local _ .vmem, ⟨14, _⟩ => ⟨S1x1792x1024, .bf16⟩
  | .local _ .vmem, ⟨15, _⟩ => ⟨S1x1792x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S512x1024, .f32⟩
  | .local _ .vmem, ⟨20, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨4, ![4, 8, 8, 2], ![false, false, false, false]⟩

def k0_cond2 (i : grid0.Coords) : BitVec 1 :=
  let arg2 : BitVec 32 := BitVec.ofNat 32 (i 2).val
  let c7_i32 : BitVec 32 := 7#32
  let v40 : BitVec 1 := Scalar.cmpi .eq arg2 c7_i32
  let arg3 : BitVec 32 := BitVec.ofNat 32 (i 3).val
  let c1_i32 : BitVec 32 := 1#32
  let v41 : BitVec 1 := Scalar.cmpi .eq arg3 c1_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1x1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true, true]

abbrev stage0_8 : Fin 2 → Memref sig .tc .vmem S1x1792x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false, false]
-- ==== MoeIdeal.lean ====
abbrev S4x4096x1024 : Shape := ⟨3, ![4, 4096, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1x1024 : Shape := ⟨2, ![1, 1024]⟩
abbrev S1x512x1024 : Shape := ⟨3, ![1, 512, 1024]⟩
abbrev S1x1x1024 : Shape := ⟨3, ![1, 1, 1024]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 17
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x8, .f32⟩
  | .hbm, ⟨6, _⟩ => ⟨S8x1024x3584, .f32⟩
  | .hbm, ⟨7, _⟩ => ⟨S8x1024x3584, .f32⟩
  | .hbm, ⟨8, _⟩ => ⟨S8x3584x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1x1024, .f32⟩
  | .hbm, ⟨13, _⟩ => ⟨S8x1024x3584, .bf16⟩
  | .hbm, ⟨14, _⟩ => ⟨S8x1024x3584, .bf16⟩
  | .hbm, ⟨15, _⟩ => ⟨S8x3584x1024, .bf16⟩
  | .hbm, ⟨16, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .f32⟩
  | .local _ .vmem, ⟨10, _⟩ => ⟨S1x1024x1792, .bf16⟩
  | .local _ .vmem, ⟨11, _⟩ => ⟨S1x1024x1792, .bf16⟩
  | .local _ .vmem, ⟨12, _⟩ => ⟨S1x1024x1792, .bf16⟩
  | .local _ .vmem, ⟨13, _⟩ => ⟨S1x1024x1792, .bf16⟩
  | .local _ .vmem, ⟨14, _⟩ => ⟨S1x1792x1024, .bf16⟩
  | .local _ .vmem, ⟨15, _⟩ => ⟨S1x1792x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S512x1024, .f32⟩
  | .local _ .vmem, ⟨20, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F] [Named F]

def κ : String → Option EReal := fun
  | "mask" => some ⊥
  | _ => none

abbrev grid0 : Pipeline.Grid := ⟨4, ![4, 8, 8, 2], ![false, false, false, false]⟩

def k0_cond2 (i : grid0.Coords) : BitVec 1 :=
  let arg2 : BitVec 32 := BitVec.ofNat 32 (i 2).val
  let c7_i32 : BitVec 32 := 7#32
  let v40 : BitVec 1 := Scalar.cmpi .eq arg2 c7_i32
  let arg3 : BitVec 32 := BitVec.ofNat 32 (i 3).val
  let c1_i32 : BitVec 32 := 1#32
  let v41 : BitVec 1 := Scalar.cmpi .eq arg3 c1_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1x1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true, true]

abbrev stage0_8 : Fin 2 → Memref sig .tc .vmem S1x1792x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false, false]
-- ==== MoeRefIdeal.lean ====
abbrev S4x4096x1024 : Shape := ⟨3, ![4, 4096, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8 : Shape := ⟨3, ![4, 4096, 8]⟩
abbrev S4x4096x2 : Shape := ⟨3, ![4, 4096, 2]⟩
abbrev S4x4096x2x1 : Shape := ⟨4, ![4, 4096, 2, 1]⟩
abbrev S1x1x1x8 : Shape := ⟨4, ![1, 1, 1, 8]⟩
abbrev S4x4096x2x8 : Shape := ⟨4, ![4, 4096, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S4x4096x3584 : Shape := ⟨3, ![4, 4096, 3584]⟩

abbrev nBuf : Space → Nat
  | .hbm => 249
  | .vmem => 0
  | .smem => 0
  | _ => 0

abbrev hbmTy0_0 (i : Nat) : BufTy := match i % 128 with
  | 0 => ⟨S4x4096x1024, .f32⟩
  | 1 => ⟨S1024, .f32⟩
  | 2 => ⟨S4x1x1024, .f32⟩
  | 3 => ⟨S4x1x1024, .f32⟩
  | 4 => ⟨S4x1x1024, .f32⟩
  | 5 => ⟨S1024x8, .f32⟩
  | 6 => ⟨S8x1024x3584, .f32⟩
  | 7 => ⟨S8x1024x3584, .f32⟩
  | 8 => ⟨S8x3584x1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S_, .f32⟩
  | 26 => ⟨S4x1x1024, .f32⟩
  | 27 => ⟨S4x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x8, .f32⟩
  | 33 => ⟨S4x4096x2, .f32⟩
  | 34 => ⟨S4x4096x2, .i32⟩
  | 35 => ⟨S_, .f32⟩
  | 36 => ⟨S4x4096, .f32⟩
  | 37 => ⟨S_, .f32⟩
  | 38 => ⟨S4x4096, .f32⟩
  | 39 => ⟨S4x4096, .f32⟩
  | 40 => ⟨S4x4096x1, .f32⟩
  | 41 => ⟨S4x4096x2, .f32⟩
  | 42 => ⟨S4x4096x2, .f32⟩
  | 43 => ⟨S4x4096x2, .f32⟩
  | 44 => ⟨S_, .f32⟩
  | 45 => ⟨S4x4096, .f32⟩
  | 46 => ⟨S4x4096x1, .f32⟩
  | 47 => ⟨S4x4096x2, .f32⟩
  | 48 => ⟨S4x4096x2, .f32⟩
  | 49 => ⟨S4x4096x2x1, .i32⟩
  | 50 => ⟨S1x1x1x8, .i32⟩
  | 51 => ⟨S4x4096x2x8, .i32⟩
  | 52 => ⟨S4x4096x2x8, .i32⟩
  | 53 => ⟨S4x4096x2x8, .i1⟩
  | 54 => ⟨S4x4096x2x8, .f32⟩
  | 55 => ⟨S4x4096x2x1, .f32⟩
  | 56 => ⟨S4x4096x2x8, .f32⟩
  | 57 => ⟨S4x4096x2x8, .f32⟩
  | 58 => ⟨S_, .f32⟩
  | 59 => ⟨S4x4096x8, .f32⟩
  | 60 => ⟨S_, .f32⟩
  | 61 => ⟨S4x4096x1024, .f32⟩
  | 62 => ⟨S4x4096x1, .f32⟩
  | 63 => ⟨S1x1024x3584, .f32⟩
  | 64 => ⟨S1024x3584, .f32⟩
  | 65 => ⟨S1x1024x3584, .f32⟩
  | 66 => ⟨S1024x3584, .f32⟩
  | 67 => ⟨S1x3584x1024, .f32⟩
  | 68 => ⟨S3584x1024, .f32⟩
  | 69 => ⟨S4x4096x3584, .f32⟩
  | 70 => ⟨S4x4096x3584, .f32⟩
  | 71 => ⟨S4x4096x3584, .f32⟩
  | 72 => ⟨S_, .f32⟩
  | 73 => ⟨S4x4096x3584, .f32⟩
  | 74 => ⟨S4x4096x3584, .f32⟩
  | 75 => ⟨S_, .f32⟩
  | 76 => ⟨S4x4096x3584, .f32⟩
  | 77 => ⟨S4x4096x3584, .f32⟩
  | 78 => ⟨S4x4096x3584, .f32⟩
  | 79 => ⟨S4x4096x3584, .f32⟩
  | 80 => ⟨S4x4096x3584, .f32⟩
  | 81 => ⟨S4x4096x1024, .f32⟩
  | 82 => ⟨S4x4096x1024, .f32⟩
  | 83 => ⟨S4x4096x1024, .f32⟩
  | 84 => ⟨S4x4096x1024, .f32⟩
  | 85 => ⟨S4x4096x1, .f32⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S4x4096x3584, .f32⟩
  | 93 => ⟨S4x4096x3584, .f32⟩
  | 94 => ⟨S4x4096x3584, .f32⟩
  | 95 => ⟨S_, .f32⟩
  | 96 => ⟨S4x4096x3584, .f32⟩
  | 97 => ⟨S4x4096x3584, .f32⟩
  | 98 => ⟨S_, .f32⟩
  | 99 => ⟨S4x4096x3584, .f32⟩
  | 100 => ⟨S4x4096x3584, .f32⟩
  | 101 => ⟨S4x4096x3584, .f32⟩
  | 102 => ⟨S4x4096x3584, .f32⟩
  | 103 => ⟨S4x4096x3584, .f32⟩
  | 104 => ⟨S4x4096x1024, .f32⟩
  | 105 => ⟨S4x4096x1024, .f32⟩
  | 106 => ⟨S4x4096x1024, .f32⟩
  | 107 => ⟨S4x4096x1024, .f32⟩
  | 108 => ⟨S4x4096x1, .f32⟩
  | 109 => ⟨S1x1024x3584, .f32⟩
  | 110 => ⟨S1024x3584, .f32⟩
  | 111 => ⟨S1x1024x3584, .f32⟩
  | 112 => ⟨S1024x3584, .f32⟩
  | 113 => ⟨S1x3584x1024, .f32⟩
  | 114 => ⟨S3584x1024, .f32⟩
  | 115 => ⟨S4x4096x3584, .f32⟩
  | 116 => ⟨S4x4096x3584, .f32⟩
  | 117 => ⟨S4x4096x3584, .f32⟩
  | 118 => ⟨S_, .f32⟩
  | 119 => ⟨S4x4096x3584, .f32⟩
  | 120 => ⟨S4x4096x3584, .f32⟩
  | 121 => ⟨S_, .f32⟩
  | 122 => ⟨S4x4096x3584, .f32⟩
  | 123 => ⟨S4x4096x3584, .f32⟩
  | 124 => ⟨S4x4096x3584, .f32⟩
  | 125 => ⟨S4x4096x3584, .f32⟩
  | 126 => ⟨S4x4096x3584, .f32⟩
  | 127 => ⟨S4x4096x1024, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1, .f32⟩
  | 4 => ⟨S1x1024x3584, .f32⟩
  | 5 => ⟨S1024x3584, .f32⟩
  | 6 => ⟨S1x1024x3584, .f32⟩
  | 7 => ⟨S1024x3584, .f32⟩
  | 8 => ⟨S1x3584x1024, .f32⟩
  | 9 => ⟨S3584x1024, .f32⟩
  | 10 => ⟨S4x4096x3584, .f32⟩
  | 11 => ⟨S4x4096x3584, .f32⟩
  | 12 => ⟨S4x4096x3584, .f32⟩
  | 13 => ⟨S_, .f32⟩
  | 14 => ⟨S4x4096x3584, .f32⟩
  | 15 => ⟨S4x4096x3584, .f32⟩
  | 16 => ⟨S_, .f32⟩
  | 17 => ⟨S4x4096x3584, .f32⟩
  | 18 => ⟨S4x4096x3584, .f32⟩
  | 19 => ⟨S4x4096x3584, .f32⟩
  | 20 => ⟨S4x4096x3584, .f32⟩
  | 21 => ⟨S4x4096x3584, .f32⟩
  | 22 => ⟨S4x4096x1024, .f32⟩
  | 23 => ⟨S4x4096x1024, .f32⟩
  | 24 => ⟨S4x4096x1024, .f32⟩
  | 25 => ⟨S4x4096x1024, .f32⟩
  | 26 => ⟨S4x4096x1, .f32⟩
  | 27 => ⟨S1x1024x3584, .f32⟩
  | 28 => ⟨S1024x3584, .f32⟩
  | 29 => ⟨S1x1024x3584, .f32⟩
  | 30 => ⟨S1024x3584, .f32⟩
  | 31 => ⟨S1x3584x1024, .f32⟩
  | 32 => ⟨S3584x1024, .f32⟩
  | 33 => ⟨S4x4096x3584, .f32⟩
  | 34 => ⟨S4x4096x3584, .f32⟩
  | 35 => ⟨S4x4096x3584, .f32⟩
  | 36 => ⟨S_, .f32⟩
  | 37 => ⟨S4x4096x3584, .f32⟩
  | 38 => ⟨S4x4096x3584, .f32⟩
  | 39 => ⟨S_, .f32⟩
  | 40 => ⟨S4x4096x3584, .f32⟩
  | 41 => ⟨S4x4096x3584, .f32⟩
  | 42 => ⟨S4x4096x3584, .f32⟩
  | 43 => ⟨S4x4096x3584, .f32⟩
  | 44 => ⟨S4x4096x3584, .f32⟩
  | 45 => ⟨S4x4096x1024, .f32⟩
  | 46 => ⟨S4x4096x1024, .f32⟩
  | 47 => ⟨S4x4096x1024, .f32⟩
  | 48 => ⟨S4x4096x1024, .f32⟩
  | 49 => ⟨S4x4096x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S4x4096x3584, .f32⟩
  | 57 => ⟨S4x4096x3584, .f32⟩
  | 58 => ⟨S4x4096x3584, .f32⟩
  | 59 => ⟨S_, .f32⟩
  | 60 => ⟨S4x4096x3584, .f32⟩
  | 61 => ⟨S4x4096x3584, .f32⟩
  | 62 => ⟨S_, .f32⟩
  | 63 => ⟨S4x4096x3584, .f32⟩
  | 64 => ⟨S4x4096x3584, .f32⟩
  | 65 => ⟨S4x4096x3584, .f32⟩
  | 66 => ⟨S4x4096x3584, .f32⟩
  | 67 => ⟨S4x4096x3584, .f32⟩
  | 68 => ⟨S4x4096x1024, .f32⟩
  | 69 => ⟨S4x4096x1024, .f32⟩
  | 70 => ⟨S4x4096x1024, .f32⟩
  | 71 => ⟨S4x4096x1024, .f32⟩
  | 72 => ⟨S4x4096x1, .f32⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S4x4096x3584, .f32⟩
  | 80 => ⟨S4x4096x3584, .f32⟩
  | 81 => ⟨S4x4096x3584, .f32⟩
  | 82 => ⟨S_, .f32⟩
  | 83 => ⟨S4x4096x3584, .f32⟩
  | 84 => ⟨S4x4096x3584, .f32⟩
  | 85 => ⟨S_, .f32⟩
  | 86 => ⟨S4x4096x3584, .f32⟩
  | 87 => ⟨S4x4096x3584, .f32⟩
  | 88 => ⟨S4x4096x3584, .f32⟩
  | 89 => ⟨S4x4096x3584, .f32⟩
  | 90 => ⟨S4x4096x3584, .f32⟩
  | 91 => ⟨S4x4096x1024, .f32⟩
  | 92 => ⟨S4x4096x1024, .f32⟩
  | 93 => ⟨S4x4096x1024, .f32⟩
  | 94 => ⟨S4x4096x1024, .f32⟩
  | 95 => ⟨S4x4096x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S4x4096x3584, .f32⟩
  | 103 => ⟨S4x4096x3584, .f32⟩
  | 104 => ⟨S4x4096x3584, .f32⟩
  | 105 => ⟨S_, .f32⟩
  | 106 => ⟨S4x4096x3584, .f32⟩
  | 107 => ⟨S4x4096x3584, .f32⟩
  | 108 => ⟨S_, .f32⟩
  | 109 => ⟨S4x4096x3584, .f32⟩
  | 110 => ⟨S4x4096x3584, .f32⟩
  | 111 => ⟨S4x4096x3584, .f32⟩
  | 112 => ⟨S4x4096x3584, .f32⟩
  | 113 => ⟨S4x4096x3584, .f32⟩
  | 114 => ⟨S4x4096x1024, .f32⟩
  | 115 => ⟨S4x4096x1024, .f32⟩
  | 116 => ⟨S4x4096x1024, .f32⟩
  | 117 => ⟨S4x4096x1024, .f32⟩
  | 118 => ⟨S4x4096x1024, .f32⟩
  | 119 => ⟨S4x4096x1024, .f32⟩
  | 120 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_values : Ref sig .tc := ⟨.hbm, 33, rfl⟩
abbrev main_indices : Ref sig .tc := ⟨.hbm, 34, rfl⟩
abbrev main_cst_3 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_call6_v0 : Ref sig .tc := ⟨.hbm, 185, rfl⟩
abbrev main_call6_v1 : Ref sig .tc := ⟨.hbm, 186, rfl⟩
abbrev main_call6_cst : Ref sig .tc := ⟨.hbm, 187, rfl⟩
abbrev main_call6_v2 : Ref sig .tc := ⟨.hbm, 188, rfl⟩
abbrev main_call6_v3 : Ref sig .tc := ⟨.hbm, 189, rfl⟩
abbrev main_call6_cst_0 : Ref sig .tc := ⟨.hbm, 190, rfl⟩
abbrev main_call6_v4 : Ref sig .tc := ⟨.hbm, 191, rfl⟩
abbrev main_call6_v5 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_call7_v0 : Ref sig .tc := ⟨.hbm, 208, rfl⟩
abbrev main_call7_v1 : Ref sig .tc := ⟨.hbm, 209, rfl⟩
abbrev main_call7_cst : Ref sig .tc := ⟨.hbm, 210, rfl⟩
abbrev main_call7_v2 : Ref sig .tc := ⟨.hbm, 211, rfl⟩
abbrev main_call7_v3 : Ref sig .tc := ⟨.hbm, 212, rfl⟩
abbrev main_call7_cst_0 : Ref sig .tc := ⟨.hbm, 213, rfl⟩
abbrev main_call7_v4 : Ref sig .tc := ⟨.hbm, 214, rfl⟩
abbrev main_call7_v5 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_call8_v0 : Ref sig .tc := ⟨.hbm, 231, rfl⟩
abbrev main_call8_v1 : Ref sig .tc := ⟨.hbm, 232, rfl⟩
abbrev main_call8_cst : Ref sig .tc := ⟨.hbm, 233, rfl⟩
abbrev main_call8_v2 : Ref sig .tc := ⟨.hbm, 234, rfl⟩
abbrev main_call8_v3 : Ref sig .tc := ⟨.hbm, 235, rfl⟩
abbrev main_call8_cst_0 : Ref sig .tc := ⟨.hbm, 236, rfl⟩
abbrev main_call8_v4 : Ref sig .tc := ⟨.hbm, 237, rfl⟩
abbrev main_call8_v5 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩

abbrev nD : Nat := 1
abbrev τ : Topo := Topo.v7x

variable {F : FTy → Type} [FloatOps F]
-- ==== Ffn.lean ====
abbrev S4x4096x1024 : Shape := ⟨3, ![4, 4096, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S1024x1408 : Shape := ⟨2, ![1024, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S512x1408 : Shape := ⟨2, ![512, 1408]⟩

abbrev nBuf : Space → Nat
  | .hbm => 13
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnIdeal.lean ====
abbrev S4x4096x1024 : Shape := ⟨3, ![4, 4096, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S1024x1408 : Shape := ⟨2, ![1024, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S512x1408 : Shape := ⟨2, ![512, 1408]⟩

abbrev nBuf : Space → Nat
  | .hbm => 13
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnRefIdeal.lean ====
abbrev S4x4096x1024 : Shape := ⟨3, ![4, 4096, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Norm.lean ====
abbrev S4x4096x1024 : Shape := ⟨3, ![4, 4096, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024, .f32⟩
  | .hbm, ⟨3, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormRefIdeal.lean ====
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x4096x1024, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Attn.lean ====
abbrev S4x4096x384 : Shape := ⟨3, ![4, 4096, 384]⟩
abbrev S4x4096x128 : Shape := ⟨3, ![4, 4096, 128]⟩
abbrev S4x256x128 : Shape := ⟨3, ![4, 256, 128]⟩
abbrev S6 : Shape := ⟨1, ![6]⟩
abbrev S1x128x384 : Shape := ⟨3, ![1, 128, 384]⟩
abbrev S1x128x128 : Shape := ⟨3, ![1, 128, 128]⟩
abbrev S1x256x128 : Shape := ⟨3, ![1, 256, 128]⟩
abbrev S128x128 : Shape := ⟨2, ![128, 128]⟩
abbrev S256x128 : Shape := ⟨2, ![256, 128]⟩
abbrev S640x128 : Shape := ⟨2, ![640, 128]⟩
abbrev S128x384 : Shape := ⟨2, ![128, 384]⟩
abbrev S384x640 : Shape := ⟨2, ![384, 640]⟩
abbrev S384x128 : Shape := ⟨2, ![384, 128]⟩
abbrev S384x1 : Shape := ⟨2, ![384, 1]⟩
abbrev S1 : Shape := ⟨1, ![1]⟩
abbrev S384 : Shape := ⟨1, ![384]⟩

abbrev nBuf : Space → Nat
  | .hbm => 7
  | .vmem => 20
  | .smem => 1
  | _ => 0

abbrev bufTy : (tb : Table) → Fin (tcTables nBuf tb) → BufTy
  | .hbm, ⟨0, _⟩ => ⟨S4x4096x384, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S6, .f32⟩
  | .hbm, ⟨6, _⟩ => ⟨S4x4096x384, .f32⟩
  | .local _ .vmem, ⟨0, _⟩ => ⟨S1x128x384, .f32⟩
  | .local _ .vmem, ⟨1, _⟩ => ⟨S1x128x384, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x128x384, .f32⟩
  | .local _ .vmem, ⟨19, _⟩ => ⟨S1x128x384, .f32⟩
  | .local _ .smem, ⟨0, _⟩ => ⟨S6, .f32⟩
  | _, _ => ⟨S4x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4x4096x384 : Shape := ⟨3, ![4, 4096, 384]⟩
abbrev S4x4096x128 : Shape := ⟨3, ![4, 4096, 128]⟩
abbrev S4x256x128 : Shape := ⟨3, ![4, 256, 128]⟩
abbrev S6 : Shape := ⟨1, ![6]⟩
abbrev S4x32x128x2x3x64 : Shape := ⟨6, ![4, 32, 128, 2, 3, 64]⟩
abbrev S4x256x2x64 : Shape := ⟨4, ![4, 256, 2, 64]⟩
abbrev S4x32x128x2x64 : Shape := ⟨5, ![4, 32, 128, 2, 64]⟩
abbrev S_ : Shape := ⟨0, ![]⟩
abbrev S4x34x128x2x64 : Shape := ⟨5, ![4, 34, 128, 2, 64]⟩
abbrev S4x32x384x2x64 : Shape := ⟨5, ![4, 32, 384, 2, 64]⟩
abbrev S4x32x2x384x128x3 : Shape := ⟨6, ![4, 32, 2, 384, 128, 3]⟩
abbrev S4x32x2x3x128x384 : Shape := ⟨6, ![4, 32, 2, 3, 128, 384]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S384 : Shape := ⟨1, ![384]⟩
abbrev S1x1x384 : Shape := ⟨3, ![1, 1, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S4x2x256x32x128x3 : Shape := ⟨6, ![4, 2, 256, 32, 128, 3]⟩
abbrev S4x32x2x3x128x256 : Shape := ⟨6, ![4, 32, 2, 3, 128, 256]⟩
abbrev S1x1x2x3x1x1 : Shape := ⟨6, ![1, 1, 2, 3, 1, 1]⟩
abbrev S4x32x2x3x128x1 : Shape := ⟨6, ![4, 32, 2, 3, 128, 1]⟩
abbrev S4x32x2x3x128x641 : Shape := ⟨6, ![4, 32, 2, 3, 128, 641]⟩
abbrev S4x32x2x3x128 : Shape := ⟨5, ![4, 32, 2, 3, 128]⟩
abbrev S4x32x2x64x3x128 : Shape := ⟨6, ![4, 32, 2, 64, 3, 128]⟩
abbrev S4x2x64x32x3x128 : Shape := ⟨6, ![4, 2, 64, 32, 3, 128]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x384, .f32⟩
  | .hbm, ⟨1, _⟩ => ⟨S4x4096x128, .f32⟩
  | .hbm, ⟨2, _⟩ => ⟨S4x4096x128, .f32⟩
  | .hbm, ⟨3, _⟩ => ⟨S4x256x128, .f32⟩
  | .hbm, ⟨4, _⟩ => ⟨S4x256x128, .f32⟩
  | .hbm, ⟨5, _⟩ => ⟨S6, .f32⟩
  | .hbm, ⟨6, _⟩ => ⟨S4x32x128x2x3x64, .f32⟩
  | .hbm, ⟨7, _⟩ => ⟨S4x256x2x64, .f32⟩
  | .hbm, ⟨8, _⟩ => ⟨S4x256x2x64, .f32⟩
  | .hbm, ⟨9, _⟩ => ⟨S4x32x128x2x64, .f32⟩
  | .hbm, ⟨10, _⟩ => ⟨S_, .i32⟩
  | .hbm, ⟨11, _⟩ => ⟨S_, .f32⟩
  | .hbm, ⟨12, _⟩ => ⟨S4x34x128x2x64, .f32⟩
  | .hbm, ⟨13, _⟩ => ⟨S4x32x128x2x64, .f32⟩
  | .hbm, ⟨14, _⟩ => ⟨S4x32x128x2x64, .f32⟩
  | .hbm, ⟨15, _⟩ => ⟨S4x32x128x2x64, .f32⟩
  | .hbm, ⟨16, _⟩ => ⟨S4x32x384x2x64, .f32⟩
  | .hbm, ⟨17, _⟩ => ⟨S4x32x128x2x64, .f32⟩
  | .hbm, ⟨18, _⟩ => ⟨S_, .i32⟩
  | .hbm, ⟨19, _⟩ => ⟨S_, .f32⟩
  | .hbm, ⟨20, _⟩ => ⟨S4x34x128x2x64, .f32⟩
  | .hbm, ⟨21, _⟩ => ⟨S4x32x128x2x64, .f32⟩
  | .hbm, ⟨22, _⟩ => ⟨S4x32x128x2x64, .f32⟩
  | .hbm, ⟨23, _⟩ => ⟨S4x32x128x2x64, .f32⟩
  | .hbm, ⟨24, _⟩ => ⟨S4x32x384x2x64, .f32⟩
  | .hbm, ⟨25, _⟩ => ⟨S4x32x2x384x128x3, .f32⟩
  | .hbm, ⟨26, _⟩ => ⟨S4x32x2x3x128x384, .f32⟩
  | .hbm, ⟨27, _⟩ => ⟨S32, .i32⟩
  | .hbm, ⟨28, _⟩ => ⟨S32x1x1, .i32⟩
  | .hbm, ⟨29, _⟩ => ⟨S_, .i32⟩
  | .hbm, ⟨30, _⟩ => ⟨S32x1x1, .i32⟩
  | .hbm, ⟨31, _⟩ => ⟨S32x1x1, .i32⟩
  | .hbm, ⟨32, _⟩ => ⟨S128, .i32⟩
  | .hbm, ⟨33, _⟩ => ⟨S1x128x1, .i32⟩
  | .hbm, ⟨34, _⟩ => ⟨S32x128x1, .i32⟩
  | .hbm, ⟨35, _⟩ => ⟨S32x128x1, .i32⟩
  | .hbm, ⟨36, _⟩ => ⟨S32x128x1, .i32⟩
  | .hbm, ⟨37, _⟩ => ⟨S_, .i32⟩
  | .hbm, ⟨38, _⟩ => ⟨S32x1x1, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S384, .i32⟩
  | .hbm, ⟨44, _⟩ => ⟨S1x1x384, .i32⟩
  | .hbm, ⟨45, _⟩ => ⟨S32x1x384, .i32⟩
  | .hbm, ⟨46, _⟩ => ⟨S32x1x384, .i32⟩
  | .hbm, ⟨47, _⟩ => ⟨S32x1x384, .i32⟩
  | .hbm, ⟨48, _⟩ => ⟨S32x128x384, .i32⟩
  | .hbm, ⟨49, _⟩ => ⟨S32x128x384, .i32⟩
  | .hbm, ⟨50, _⟩ => ⟨S32x128x384, .i32⟩
  | .hbm, ⟨51, _⟩ => ⟨S32x128x384, .i32⟩
  | .hbm, ⟨52, _⟩ => ⟨S_, .i32⟩
  | .hbm, ⟨53, _⟩ => ⟨S32x128x384, .i32⟩
  | .hbm, ⟨54, _⟩ => ⟨S32x128x384, .i1⟩
  | .hbm, ⟨55, _⟩ => ⟨S_, .i32⟩
  | .hbm, ⟨56, _⟩ => ⟨S32x1x384, .i32⟩
  | .hbm, ⟨57, _⟩ => ⟨S32x1x384, .i1⟩
  | .hbm, ⟨58, _⟩ => ⟨S32x128x384, .i1⟩
  | .hbm, ⟨59, _⟩ => ⟨S32x128x384, .i1⟩
  | .hbm, ⟨60, _⟩ => ⟨S_, .i32⟩
  | .hbm, ⟨61, _⟩ => ⟨S32x1x384, .i32⟩
  | .hbm, ⟨62, _⟩ => ⟨S32x1x384, .i1⟩
  | .hbm, ⟨63, _⟩ => ⟨S32x128x384, .i1⟩
  | .hbm, ⟨64, _⟩ => ⟨S32x128x384, .i1⟩
  | .hbm, ⟨65, _⟩ => ⟨S1x32x1x1x128x384, .i1⟩
  | .hbm, ⟨66, _⟩ => ⟨S_, .f32⟩
  | .hbm, ⟨67, _⟩ => ⟨S_, .f32⟩
  | .hbm, ⟨68, _⟩ => ⟨S4x32x2x3x128x384, .i1⟩
  | .hbm, ⟨69, _⟩ => ⟨S4x32x2x3x128x384, .f32⟩
  | .hbm, ⟨70, _⟩ => ⟨S4x32x2x3x128x384, .f32⟩
  | .hbm, ⟨71, _⟩ => ⟨S4x2x256x32x128x3, .f32⟩
  | .hbm, ⟨72, _⟩ => ⟨S4x32x2x3x128x256, .f32⟩
  | .hbm, ⟨73, _⟩ => ⟨S1x1x2x3x1x1, .f32⟩
  | .hbm, ⟨74, _⟩ => ⟨S4x32x2x3x128x1, .f32⟩
  | .hbm, ⟨75, _⟩ => ⟨S4x32x2x3x128x641, .f32⟩
  | .hbm, ⟨76, _⟩ => ⟨S_, .f32⟩
  | .hbm, ⟨77, _⟩ => ⟨S4x32x2x3x128, .f32⟩
  | .hbm, ⟨78, _⟩ => ⟨S_, .f32⟩
  | .hbm, ⟨79, _⟩ => ⟨S4x32x2x3x128, .f32⟩
  | .hbm, ⟨80, _⟩ => ⟨S4x32x2x3x128, .f32⟩
  | .hbm, ⟨81, _⟩ => ⟨S4x32x2x3x128x1, .f32⟩
  | .hbm, ⟨82, _⟩ => ⟨S4x32x2x3x128x641, .f32⟩
  | .hbm, ⟨83, _⟩ => ⟨S4x32x2x3x128x641, .f32⟩
  | .hbm, ⟨84, _⟩ => ⟨S4x32x2x3x128x641, .f32⟩
  | .hbm, ⟨85, _⟩ => ⟨S_, .f32⟩
  | .hbm, ⟨86, _⟩ => ⟨S4x32x2x3x128, .f32⟩
  | .hbm, ⟨87, _⟩ => ⟨S4x32x2x3x128x1, .f32⟩
  | .hbm, ⟨88, _⟩ => ⟨S4x32x2x3x128x641, .f32⟩
  | .hbm, ⟨89, _⟩ => ⟨S4x32x2x3x128x641, .f32⟩
  | .hbm, ⟨90, _⟩ => ⟨S4x32x2x3x128x384, .f32⟩
  | .hbm, ⟨91, _⟩ => ⟨S4x32x2x64x3x128, .f32⟩
  | .hbm, ⟨92, _⟩ => ⟨S4x32x128x2x3x64, .f32⟩
  | .hbm, ⟨93, _⟩ => ⟨S4x32x2x3x128x256, .f32⟩
  | .hbm, ⟨94, _⟩ => ⟨S4x2x64x32x3x128, .f32⟩
  | .hbm, ⟨95, _⟩ => ⟨S4x32x128x2x3x64, .f32⟩
  | .hbm, ⟨96, _⟩ => ⟨S4x32x128x2x3x64, .f32⟩
  | .hbm, ⟨97, _⟩ => ⟨S4x4096x384, .f32⟩
  | _, _ => ⟨S4x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]

def κ : String → Option EReal := fun
  | "mask" => some ⊥
  | _ => none
-- ==== InProj.lean ====
abbrev S4x4096x1024 : Shape := ⟨3, ![4, 4096, 1024]⟩
abbrev S1024 : Shape := ⟨1, ![1024]⟩
abbrev S4x1x1024 : Shape := ⟨3, ![4, 1, 1024]⟩
abbrev S1024x2968 : Shape := ⟨2, ![1024, 2968]⟩
abbrev S1x1024 : Shape := ⟨2, ![1, 1024]⟩
abbrev S_ : Shape := ⟨0, ![]⟩
abbrev S1024x104 : Shape := ⟨2, ![1024, 104]⟩
abbrev S1024x1536 : Shape := ⟨2, ![1024, 1536]⟩
abbrev S1024x1408 : Shape := ⟨2, ![1024, 1408]⟩
abbrev S1024x24 : Shape := ⟨2, ![1024, 24]⟩
abbrev S1024x3072 : Shape := ⟨2, ![1024, 3072]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4x4096x1152 : Shape := ⟨3, ![4, 4096, 1152]⟩
abbrev S4x4096x384 : Shape := ⟨3, ![4, 4096, 384]⟩
abbrev S4x4096x768 : Shape := ⟨3, ![4, 4096, 768]⟩
abbrev S4x4096x128 : Shape := ⟨3, ![4, 4096, 128]⟩
abbrev S1x512x1024 : Shape := ⟨3, ![1, 512, 1024]⟩
abbrev S1x1x1024 : Shape := ⟨3, ![1, 1, 1024]⟩
abbrev S512x128 : Shape := ⟨2, ![512, 128]⟩
abbrev S1x512x1152 : Shape := ⟨3, ![1, 512, 1152]⟩
abbrev S1x512x384 : Shape := ⟨3, ![1, 512, 384]⟩
abbrev S1x512x768 : Shape := ⟨3, ![1, 512, 768]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x1152 : Shape := ⟨2, ![1024, 1152]⟩
abbrev S512x1152 : Shape := ⟨2, ![512, 1152]⟩
abbrev S1024x384 : Shape := ⟨2, ![1024, 384]⟩
abbrev S512x384 : Shape := ⟨2, ![512, 384]⟩
abbrev S1024x768 : Shape := ⟨2, ![1024, 768]⟩
abbrev S512x768 : Shape := ⟨2, ![512, 768]⟩
abbrev S1024x128 : Shape := ⟨2, ![1024, 128]⟩

abbrev nBuf : Space → Nat
  | .hbm => 99
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x2968, .f32⟩
  | .hbm, ⟨5, _⟩ => ⟨S1x1024, .f32⟩
  | .hbm, ⟨6, _⟩ => ⟨S_, .f32⟩
  | .hbm, ⟨7, _⟩ => ⟨S1024x104, .f32⟩
  | .hbm, ⟨8, _⟩ => ⟨S1024x1536, .f32⟩
  | .hbm, ⟨9, _⟩ => ⟨S1024x1408, .f32⟩
  | .hbm, ⟨10, _⟩ => ⟨S1024x24, .f32⟩
  | .hbm, ⟨11, _⟩ => ⟨S1024x3072, .f32⟩
  | .hbm, ⟨12, _⟩ => ⟨S1024x3072, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .i32⟩
  | .hbm, ⟨22, _⟩ => ⟨S_, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096, .f32⟩
  | .hbm, ⟨41, _⟩ => ⟨S4096x1, .f32⟩
  | .hbm, ⟨42, _⟩ => ⟨S1x16, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S_, .i1⟩
  | .hbm, ⟨62, _⟩ => ⟨S4096, .i1⟩
  | .hbm, ⟨63, _⟩ => ⟨S4096, .i1⟩
  | .hbm, ⟨64, _⟩ => ⟨S4096, .i1⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096, .f32⟩
  | .hbm, ⟨69, _⟩ => ⟨S4096x1, .f32⟩
  | .hbm, ⟨70, _⟩ => ⟨S1x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x64, .f32⟩
  | .hbm, ⟨79, _⟩ => ⟨S4096x16, .f32⟩
  | .hbm, ⟨80, _⟩ => ⟨S4096x16, .f32⟩
  | .hbm, ⟨81, _⟩ => ⟨S4096x16, .f32⟩
  | .hbm, ⟨82, _⟩ => ⟨S4096x16, .f32⟩
  | .hbm, ⟨83, _⟩ => ⟨S4096x16, .f32⟩
  | .hbm, ⟨84, _⟩ => ⟨S4096x16, .f32⟩
  | .hbm, ⟨85, _⟩ => ⟨S4096x64, .f32⟩
  | .hbm, ⟨86, _⟩ => ⟨S1x4096x1x64, .f32⟩
  | .hbm, ⟨87, _⟩ => ⟨S1x4096x2x64, .f32⟩
  | .hbm, ⟨88, _⟩ => ⟨S4096x128, .f32⟩
  | .hbm, ⟨89, _⟩ => ⟨S1x4096x1x64, .f32⟩
  | .hbm, ⟨90, _⟩ => ⟨S1x4096x2x64, .f32⟩
  | .hbm, ⟨91, _⟩ => ⟨S4096x128, .f32⟩
  | .hbm, ⟨92, _⟩ => ⟨S4x4096x1152, .f32⟩
  | .hbm, ⟨93, _⟩ => ⟨S4x4096x384, .f32⟩
  | .hbm, ⟨94, _⟩ => ⟨S4x4096x768, .f32⟩
  | .hbm, ⟨95, _⟩ => ⟨S4x4096x384, .f32⟩
  | .hbm, ⟨96, _⟩ => ⟨S4x4096x128, .f32⟩
  | .hbm, ⟨97, _⟩ => ⟨S4x4096x128, .f32⟩
  | .hbm, ⟨98, _⟩ => ⟨S4x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x1152, .f32⟩
  | .local _ .vmem, ⟨13, _⟩ => ⟨S1x512x1152, .f32⟩
  | .local _ .vmem, ⟨14, _⟩ => ⟨S1x512x384, .f32⟩
  | .local _ .vmem, ⟨15, _⟩ => ⟨S1x512x384, .f32⟩
  | .local _ .vmem, ⟨16, _⟩ => ⟨S1x512x768, .f32⟩
  | .local _ .vmem, ⟨17, _⟩ => ⟨S1x512x768, .f32⟩
  | .local _ .vmem, ⟨18, _⟩ => ⟨S1x512x384, .f32⟩
  | .local _ .vmem, ⟨19, _⟩ => ⟨S1x512x384, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_2 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46_0 : Ref sig .tc := ⟨.hbm, 92, rfl⟩
abbrev main_v46_1 : Ref sig .tc := ⟨.hbm, 93, rfl⟩
abbrev main_v46_2 : Ref sig .tc := ⟨.hbm, 94, rfl⟩
abbrev main_v46_3 : Ref sig .tc := ⟨.hbm, 95, rfl⟩
abbrev main_v46_4 : Ref sig .tc := ⟨.hbm, 96, rfl⟩
abbrev main_v46_5 : Ref sig .tc := ⟨.hbm, 97, rfl⟩
abbrev main_v46_6 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InRefIdeal.lean ====
abbrev S4x4096x1024 : Shape := ⟨3, ![4, 4096, 1024]⟩
abbrev S1024 : Shape := ⟨1, ![1024]⟩
abbrev S4x1x1024 : Shape := ⟨3, ![4, 1, 1024]⟩
abbrev S1024x2968 : Shape := ⟨2, ![1024, 2968]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2968 : Shape := ⟨3, ![4, 4096, 2968]⟩
abbrev S4x4096x1152 : Shape := ⟨3, ![4, 4096, 1152]⟩
abbrev S4x4096x384 : Shape := ⟨3, ![4, 4096, 384]⟩
abbrev S4x4096x12 : Shape := ⟨3, ![4, 4096, 12]⟩
abbrev S4x4096x768 : Shape := ⟨3, ![4, 4096, 768]⟩
abbrev S4x4096x128 : Shape := ⟨3, ![4, 4096, 128]⟩
abbrev S4x4096x6x64 : Shape := ⟨4, ![4, 4096, 6, 64]⟩
abbrev S4x4096x6x32 : Shape := ⟨4, ![4, 4096, 6, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x6x16 : Shape := ⟨4, ![4, 4096, 6, 16]⟩
abbrev S4x4096x2x64 : Shape := ⟨4, ![4, 4096, 2, 64]⟩
abbrev S4x4096x2x32 : Shape := ⟨4, ![4, 4096, 2, 32]⟩
abbrev S4x4096x2x16 : Shape := ⟨4, ![4, 4096, 2, 16]⟩
abbrev S4x4096x24 : Shape := ⟨3, ![4, 4096, 24]⟩

abbrev nBuf : Space → Nat
  | .hbm => 185
  | .vmem => 0
  | .smem => 0
  | _ => 0

abbrev hbmTy0_0 (i : Nat) : BufTy := match i % 128 with
  | 0 => ⟨S4x4096x1024, .f32⟩
  | 1 => ⟨S1024, .f32⟩
  | 2 => ⟨S4x1x1024, .f32⟩
  | 3 => ⟨S4x1x1024, .f32⟩
  | 4 => ⟨S1024x2968, .f32⟩
  | 5 => ⟨S64, .i32⟩
  | 6 => ⟨S64x64, .i32⟩
  | 7 => ⟨S4096, .i32⟩
  | 8 => ⟨S64, .i32⟩
  | 9 => ⟨S1x64, .i32⟩
  | 10 => ⟨S64x64, .i32⟩
  | 11 => ⟨S4096, .i32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x2968, .f32⟩
  | 36 => ⟨S4x4096x1152, .f32⟩
  | 37 => ⟨S4x4096x384, .f32⟩
  | 38 => ⟨S4x4096x12, .f32⟩
  | 39 => ⟨S4x4096x12, .f32⟩
  | 40 => ⟨S4x4096x768, .f32⟩
  | 41 => ⟨S4x4096x384, .f32⟩
  | 42 => ⟨S4x4096x128, .f32⟩
  | 43 => ⟨S4x4096x128, .f32⟩
  | 44 => ⟨S4x4096x6x64, .f32⟩
  | 45 => ⟨S4x4096x6x32, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S4096, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S4096x16, .f32⟩
  | 61 => ⟨S1x4096x1x16, .f32⟩
  | 62 => ⟨S4096x16, .f32⟩
  | 63 => ⟨S1x4096x1x16, .f32⟩
  | 64 => ⟨S4x4096x6x16, .f32⟩
  | 65 => ⟨S4x4096x6x16, .f32⟩
  | 66 => ⟨S4x4096x6x16, .f32⟩
  | 67 => ⟨S4x4096x6x16, .f32⟩
  | 68 => ⟨S4x4096x6x16, .f32⟩
  | 69 => ⟨S4x4096x6x16, .f32⟩
  | 70 => ⟨S4x4096x6x16, .f32⟩
  | 71 => ⟨S4x4096x6x16, .f32⟩
  | 72 => ⟨S4x4096x6x16, .f32⟩
  | 73 => ⟨S4x4096x6x16, .f32⟩
  | 74 => ⟨S4x4096x6x16, .f32⟩
  | 75 => ⟨S4x4096x6x16, .f32⟩
  | 76 => ⟨S4x4096x6x32, .f32⟩
  | 77 => ⟨S4x4096x6x32, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S4096, .f32⟩
  | 87 => ⟨S4096x1, .f32⟩
  | 88 => ⟨S1x16, .f32⟩
  | 89 => ⟨S4096x16, .f32⟩
  | 90 => ⟨S4096x16, .f32⟩
  | 91 => ⟨S4096x16, .f32⟩
  | 92 => ⟨S4096x16, .f32⟩
  | 93 => ⟨S1x4096x1x16, .f32⟩
  | 94 => ⟨S4096x16, .f32⟩
  | 95 => ⟨S1x4096x1x16, .f32⟩
  | 96 => ⟨S4x4096x6x16, .f32⟩
  | 97 => ⟨S4x4096x6x16, .f32⟩
  | 98 => ⟨S4x4096x6x16, .f32⟩
  | 99 => ⟨S4x4096x6x16, .f32⟩
  | 100 => ⟨S4x4096x6x16, .f32⟩
  | 101 => ⟨S4x4096x6x16, .f32⟩
  | 102 => ⟨S4x4096x6x16, .f32⟩
  | 103 => ⟨S4x4096x6x16, .f32⟩
  | 104 => ⟨S4x4096x6x16, .f32⟩
  | 105 => ⟨S4x4096x6x16, .f32⟩
  | 106 => ⟨S4x4096x6x16, .f32⟩
  | 107 => ⟨S4x4096x6x16, .f32⟩
  | 108 => ⟨S4x4096x6x32, .f32⟩
  | 109 => ⟨S4x4096x6x64, .f32⟩
  | 110 => ⟨S_, .f32⟩
  | 111 => ⟨S4x4096x6x64, .f32⟩
  | 112 => ⟨S4x4096x6x64, .f32⟩
  | 113 => ⟨S4x4096x2x64, .f32⟩
  | 114 => ⟨S4x4096x2x32, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S4096, .f32⟩
  | 124 => ⟨S4096x1, .f32⟩
  | 125 => ⟨S1x16, .f32⟩
  | 126 => ⟨S4096x16, .f32⟩
  | 127 => ⟨S4096x16, .f32⟩
  | _ => ⟨S4x4096x1024, .f32⟩

abbrev hbmTy0_1 (i : Nat) : BufTy := match i % 128 with
  | 0 => ⟨S4096x16, .f32⟩
  | 1 => ⟨S4096x16, .f32⟩
  | 2 => ⟨S1x4096x1x16, .f32⟩
  | 3 => ⟨S4096x16, .f32⟩
  | 4 => ⟨S1x4096x1x16, .f32⟩
  | 5 => ⟨S4x4096x2x16, .f32⟩
  | 6 => ⟨S4x4096x2x16, .f32⟩
  | 7 => ⟨S4x4096x2x16, .f32⟩
  | 8 => ⟨S4x4096x2x16, .f32⟩
  | 9 => ⟨S4x4096x2x16, .f32⟩
  | 10 => ⟨S4x4096x2x16, .f32⟩
  | 11 => ⟨S4x4096x2x16, .f32⟩
  | 12 => ⟨S4x4096x2x16, .f32⟩
  | 13 => ⟨S4x4096x2x16, .f32⟩
  | 14 => ⟨S4x4096x2x16, .f32⟩
  | 15 => ⟨S4x4096x2x16, .f32⟩
  | 16 => ⟨S4x4096x2x16, .f32⟩
  | 17 => ⟨S4x4096x2x32, .f32⟩
  | 18 => ⟨S4x4096x2x32, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096, .f32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x16, .f32⟩
  | 34 => ⟨S1x4096x1x16, .f32⟩
  | 35 => ⟨S4096x16, .f32⟩
  | 36 => ⟨S1x4096x1x16, .f32⟩
  | 37 => ⟨S4x4096x2x16, .f32⟩
  | 38 => ⟨S4x4096x2x16, .f32⟩
  | 39 => ⟨S4x4096x2x16, .f32⟩
  | 40 => ⟨S4x4096x2x16, .f32⟩
  | 41 => ⟨S4x4096x2x16, .f32⟩
  | 42 => ⟨S4x4096x2x16, .f32⟩
  | 43 => ⟨S4x4096x2x16, .f32⟩
  | 44 => ⟨S4x4096x2x16, .f32⟩
  | 45 => ⟨S4x4096x2x16, .f32⟩
  | 46 => ⟨S4x4096x2x16, .f32⟩
  | 47 => ⟨S4x4096x2x16, .f32⟩
  | 48 => ⟨S4x4096x2x16, .f32⟩
  | 49 => ⟨S4x4096x2x32, .f32⟩
  | 50 => ⟨S4x4096x2x64, .f32⟩
  | 51 => ⟨S4x4096x24, .f32⟩
  | 52 => ⟨S_, .i32⟩
  | 53 => ⟨S_, .f32⟩
  | 54 => ⟨S4x4096x128, .f32⟩
  | 55 => ⟨S4x4096x384, .f32⟩
  | 56 => ⟨S4x4096x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_5 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_7 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_8 : Ref sig .tc := ⟨.hbm, 117, rfl⟩
abbrev main_v103 : Ref sig .tc := ⟨.hbm, 118, rfl⟩
abbrev main_v104 : Ref sig .tc := ⟨.hbm, 119, rfl⟩
abbrev main_cst_9 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_cst_10 : Ref sig .tc := ⟨.hbm, 149, rfl⟩
abbrev main_v133 : Ref sig .tc := ⟨.hbm, 150, rfl⟩
abbrev main_v134 : Ref sig .tc := ⟨.hbm, 151, rfl⟩
abbrev main_cst_11 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_c : Ref sig .tc := ⟨.hbm, 180, rfl⟩
abbrev main_call0_v0 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩

abbrev nD : Nat := 1
abbrev τ : Topo := Topo.v7x

variable {F : FTy → Type} [FloatOps F]
-- ==== OutProj.lean ====
abbrev S4x4096x384 : Shape := ⟨3, ![4, 4096, 384]⟩
abbrev S64 : Shape := ⟨1, ![64]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024x1024 : Shape := ⟨2, ![1024, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S6 : Shape := ⟨1, ![6]⟩
abbrev S384x1 : Shape := ⟨2, ![384, 1]⟩
abbrev S384x384 : Shape := ⟨2, ![384, 384]⟩
abbrev S4096x4x256 : Shape := ⟨3, ![4096, 4, 256]⟩
abbrev S4096x1024 : Shape := ⟨2, ![4096, 1024]⟩
abbrev S1x512x384 : Shape := ⟨3, ![1, 512, 384]⟩
abbrev S512x256 : Shape := ⟨2, ![512, 256]⟩
abbrev S1x512x1024 : Shape := ⟨3, ![1, 512, 1024]⟩
abbrev S1x1x1024 : Shape := ⟨3, ![1, 1, 1024]⟩
abbrev S512x384 : Shape := ⟨2, ![512, 384]⟩
abbrev S384x1024 : Shape := ⟨2, ![384, 1024]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 26
  | .vmem => 19
  | .smem => 0
  | _ => 0

abbrev bufTy : (tb : Table) → Fin (tcTables nBuf tb) → BufTy
  | .hbm, ⟨0, _⟩ => ⟨S4x4096x384, .f32⟩
  | .hbm, ⟨1, _⟩ => ⟨S4x4096x384, .f32⟩
  | .hbm, ⟨2, _⟩ => ⟨S4x4096x384, .f32⟩
  | .hbm, ⟨3, _⟩ => ⟨S64, .f32⟩
  | .hbm, ⟨4, _⟩ => ⟨S4x4096x256, .f32⟩
  | .hbm, ⟨5, _⟩ => ⟨S4x4096x384, .f32⟩
  | .hbm, ⟨6, _⟩ => ⟨S4x4096x1024, .f32⟩
  | .hbm, ⟨7, _⟩ => ⟨S4x1x1024, .f32⟩
  | .hbm, ⟨8, _⟩ => ⟨S1024x1024, .f32⟩
  | .hbm, ⟨9, _⟩ => ⟨S1x64, .f32⟩
  | .hbm, ⟨10, _⟩ => ⟨S6x64, .f32⟩
  | .hbm, ⟨11, _⟩ => ⟨S384, .f32⟩
  | .hbm, ⟨12, _⟩ => ⟨S1x384, .f32⟩
  | .hbm, ⟨13, _⟩ => ⟨S6, .i32⟩
  | .hbm, ⟨14, _⟩ => ⟨S6x64, .i32⟩
  | .hbm, ⟨15, _⟩ => ⟨S384, .i32⟩
  | .hbm, ⟨16, _⟩ => ⟨S384x1, .i32⟩
  | .hbm, ⟨17, _⟩ => ⟨S1x384, .i32⟩
  | .hbm, ⟨18, _⟩ => ⟨S384x384, .i32⟩
  | .hbm, ⟨19, _⟩ => ⟨S384x384, .i32⟩
  | .hbm, ⟨20, _⟩ => ⟨S384x384, .i1⟩
  | .hbm, ⟨21, _⟩ => ⟨S384x384, .bf16⟩
  | .hbm, ⟨22, _⟩ => ⟨S4096x4x256, .f32⟩
  | .hbm, ⟨23, _⟩ => ⟨S4096x1024, .f32⟩
  | .hbm, ⟨24, _⟩ => ⟨S1024x1024, .bf16⟩
  | .hbm, ⟨25, _⟩ => ⟨S4x4096x1024, .f32⟩
  | .local _ .vmem, ⟨0, _⟩ => ⟨S1x512x384, .f32⟩
  | .local _ .vmem, ⟨1, _⟩ => ⟨S1x512x384, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x384, .f32⟩
  | .local _ .vmem, ⟨7, _⟩ => ⟨S384x384, .bf16⟩
  | .local _ .vmem, ⟨8, _⟩ => ⟨S512x256, .f32⟩
  | .local _ .vmem, ⟨9, _⟩ => ⟨S512x256, .f32⟩
  | .local _ .vmem, ⟨10, _⟩ => ⟨S1x512x384, .f32⟩
  | .local _ .vmem, ⟨11, _⟩ => ⟨S1x512x384, .f32⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S4x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjIdeal.lean ====
abbrev S4x4096x384 : Shape := ⟨3, ![4, 4096, 384]⟩
abbrev S64 : Shape := ⟨1, ![64]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024x1024 : Shape := ⟨2, ![1024, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S6 : Shape := ⟨1, ![6]⟩
abbrev S384x1 : Shape := ⟨2, ![384, 1]⟩
abbrev S384x384 : Shape := ⟨2, ![384, 384]⟩
abbrev S4096x4x256 : Shape := ⟨3, ![4096, 4, 256]⟩
abbrev S4096x1024 : Shape := ⟨2, ![4096, 1024]⟩
abbrev S1x512x384 : Shape := ⟨3, ![1, 512, 384]⟩
abbrev S512x256 : Shape := ⟨2, ![512, 256]⟩
abbrev S1x512x1024 : Shape := ⟨3, ![1, 512, 1024]⟩
abbrev S1x1x1024 : Shape := ⟨3, ![1, 1, 1024]⟩
abbrev S512x384 : Shape := ⟨2, ![512, 384]⟩
abbrev S384x1024 : Shape := ⟨2, ![384, 1024]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 26
  | .vmem => 19
  | .smem => 0
  | _ => 0

abbrev bufTy : (tb : Table) → Fin (tcTables nBuf tb) → BufTy
  | .hbm, ⟨0, _⟩ => ⟨S4x4096x384, .f32⟩
  | .hbm, ⟨1, _⟩ => ⟨S4x4096x384, .f32⟩
  | .hbm, ⟨2, _⟩ => ⟨S4x4096x384, .f32⟩
  | .hbm, ⟨3, _⟩ => ⟨S64, .f32⟩
  | .hbm, ⟨4, _⟩ => ⟨S4x4096x256, .f32⟩
  | .hbm, ⟨5, _⟩ => ⟨S4x4096x384, .f32⟩
  | .hbm, ⟨6, _⟩ => ⟨S4x4096x1024, .f32⟩
  | .hbm, ⟨7, _⟩ => ⟨S4x1x1024, .f32⟩
  | .hbm, ⟨8, _⟩ => ⟨S1024x1024, .f32⟩
  | .hbm, ⟨9, _⟩ => ⟨S1x64, .f32⟩
  | .hbm, ⟨10, _⟩ => ⟨S6x64, .f32⟩
  | .hbm, ⟨11, _⟩ => ⟨S384, .f32⟩
  | .hbm, ⟨12, _⟩ => ⟨S1x384, .f32⟩
  | .hbm, ⟨13, _⟩ => ⟨S6, .i32⟩
  | .hbm, ⟨14, _⟩ => ⟨S6x64, .i32⟩
  | .hbm, ⟨15, _⟩ => ⟨S384, .i32⟩
  | .hbm, ⟨16, _⟩ => ⟨S384x1, .i32⟩
  | .hbm, ⟨17, _⟩ => ⟨S1x384, .i32⟩
  | .hbm, ⟨18, _⟩ => ⟨S384x384, .i32⟩
  | .hbm, ⟨19, _⟩ => ⟨S384x384, .i32⟩
  | .hbm, ⟨20, _⟩ => ⟨S384x384, .i1⟩
  | .hbm, ⟨21, _⟩ => ⟨S384x384, .bf16⟩
  | .hbm, ⟨22, _⟩ => ⟨S4096x4x256, .f32⟩
  | .hbm, ⟨23, _⟩ => ⟨S4096x1024, .f32⟩
  | .hbm, ⟨24, _⟩ => ⟨S1024x1024, .bf16⟩
  | .hbm, ⟨25, _⟩ => ⟨S4x4096x1024, .f32⟩
  | .local _ .vmem, ⟨0, _⟩ => ⟨S1x512x384, .f32⟩
  | .local _ .vmem, ⟨1, _⟩ => ⟨S1x512x384, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x384, .f32⟩
  | .local _ .vmem, ⟨7, _⟩ => ⟨S384x384, .bf16⟩
  | .local _ .vmem, ⟨8, _⟩ => ⟨S512x256, .f32⟩
  | .local _ .vmem, ⟨9, _⟩ => ⟨S512x256, .f32⟩
  | .local _ .vmem, ⟨10, _⟩ => ⟨S1x512x384, .f32⟩
  | .local _ .vmem, ⟨11, _⟩ => ⟨S1x512x384, .f32⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S4x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutRefIdeal.lean ====
abbrev S4x4096x384 : Shape := ⟨3, ![4, 4096, 384]⟩
abbrev S64 : Shape := ⟨1, ![64]⟩
abbrev S4x4096x256 : Shape := ⟨3, ![4, 4096, 256]⟩
abbrev S4x4096x1024 : Shape := ⟨3, ![4, 4096, 1024]⟩
abbrev S4x1x1024 : Shape := ⟨3, ![4, 1, 1024]⟩
abbrev S1024x1024 : Shape := ⟨2, ![1024, 1024]⟩
abbrev S4x4096x6x64 : Shape := ⟨4, ![4, 4096, 6, 64]⟩
abbrev S_ : Shape := ⟨0, ![]⟩
abbrev S4x4096x6 : Shape := ⟨3, ![4, 4096, 6]⟩
abbrev S4x4096x6x1 : Shape := ⟨4, ![4, 4096, 6, 1]⟩
abbrev S1x1x1x64 : Shape := ⟨4, ![1, 1, 1, 64]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x384, .f32⟩
  | .hbm, ⟨1, _⟩ => ⟨S4x4096x384, .f32⟩
  | .hbm, ⟨2, _⟩ => ⟨S4x4096x384, .f32⟩
  | .hbm, ⟨3, _⟩ => ⟨S64, .f32⟩
  | .hbm, ⟨4, _⟩ => ⟨S4x4096x256, .f32⟩
  | .hbm, ⟨5, _⟩ => ⟨S4x4096x384, .f32⟩
  | .hbm, ⟨6, _⟩ => ⟨S4x4096x1024, .f32⟩
  | .hbm, ⟨7, _⟩ => ⟨S4x1x1024, .f32⟩
  | .hbm, ⟨8, _⟩ => ⟨S1024x1024, .f32⟩
  | .hbm, ⟨9, _⟩ => ⟨S4x4096x384, .f32⟩
  | .hbm, ⟨10, _⟩ => ⟨S4x4096x6x64, .f32⟩
  | .hbm, ⟨11, _⟩ => ⟨S4x4096x6x64, .f32⟩
  | .hbm, ⟨12, _⟩ => ⟨S_, .f32⟩
  | .hbm, ⟨13, _⟩ => ⟨S4x4096x6, .f32⟩
  | .hbm, ⟨14, _⟩ => ⟨S4x4096x6x1, .f32⟩
  | .hbm, ⟨15, _⟩ => ⟨S_, .f32⟩
  | .hbm, ⟨16, _⟩ => ⟨S4x4096x6x1, .f32⟩
  | .hbm, ⟨17, _⟩ => ⟨S4x4096x6x1, .f32⟩
  | .hbm, ⟨18, _⟩ => ⟨S_, .f32⟩
  | .hbm, ⟨19, _⟩ => ⟨S4x4096x6x1, .f32⟩
  | .hbm, ⟨20, _⟩ => ⟨S4x4096x6x1, .f32⟩
  | .hbm, ⟨21, _⟩ => ⟨S4x4096x6x1, .f32⟩
  | .hbm, ⟨22, _⟩ => ⟨S4x4096x6x64, .f32⟩
  | .hbm, ⟨23, _⟩ => ⟨S4x4096x6x64, .f32⟩
  | .hbm, ⟨24, _⟩ => ⟨S1x1x1x64, .f32⟩
  | .hbm, ⟨25, _⟩ => ⟨S4x4096x6x64, .f32⟩
  | .hbm, ⟨26, _⟩ => ⟨S4x4096x6x64, .f32⟩
  | .hbm, ⟨27, _⟩ => ⟨S4x4096x6x64, .f32⟩
  | .hbm, ⟨28, _⟩ => ⟨S4x4096x6x64, .f32⟩
  | .hbm, ⟨29, _⟩ => ⟨S4x4096x6x64, .f32⟩
  | .hbm, ⟨30, _⟩ => ⟨S_, .f32⟩
  | .hbm, ⟨31, _⟩ => ⟨S4x4096x6x64, .f32⟩
  | .hbm, ⟨32, _⟩ => ⟨S4x4096x6x64, .f32⟩
  | .hbm, ⟨33, _⟩ => ⟨S_, .f32⟩
  | .hbm, ⟨34, _⟩ => ⟨S4x4096x6x64, .f32⟩
  | .hbm, ⟨35, _⟩ => ⟨S4x4096x6x64, .f32⟩
  | .hbm, ⟨36, _⟩ => ⟨S4x4096x6x64, .f32⟩
  | .hbm, ⟨37, _⟩ => ⟨S4x4096x6x64, .f32⟩
  | .hbm, ⟨38, _⟩ => ⟨S4x4096x384, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | _, _ => ⟨S4x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== CtxMoe.lean ====
abbrev S4x256x1024 : Shape := ⟨3, ![4, 256, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1x1024 : Shape := ⟨2, ![1, 1024]⟩
abbrev S1x256x1024 : Shape := ⟨3, ![1, 256, 1024]⟩
abbrev S1x1x1024 : Shape := ⟨3, ![1, 1, 1024]⟩
abbrev S1x1024x1792 : Shape := ⟨3, ![1, 1024, 1792]⟩
abbrev S1x1792x1024 : Shape := ⟨3, ![1, 1792, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩
abbrev S1792x1024 : Shape := ⟨2, ![1792, 1024]⟩

abbrev nBuf : Space → Nat
  | .hbm => 17
  | .vmem => 21
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x8, .f32⟩
  | .hbm, ⟨6, _⟩ => ⟨S8x1024x3584, .f32⟩
  | .hbm, ⟨7, _⟩ => ⟨S8x1024x3584, .f32⟩
  | .hbm, ⟨8, _⟩ => ⟨S8x3584x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1x1024, .f32⟩
  | .hbm, ⟨13, _⟩ => ⟨S8x1024x3584, .bf16⟩
  | .hbm, ⟨14, _⟩ => ⟨S8x1024x3584, .bf16⟩
  | .hbm, ⟨15, _⟩ => ⟨S8x3584x1024, .bf16⟩
  | .hbm, ⟨16, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .f32⟩
  | .local _ .vmem, ⟨10, _⟩ => ⟨S1x1024x1792, .bf16⟩
  | .local _ .vmem, ⟨11, _⟩ => ⟨S1x1024x1792, .bf16⟩
  | .local _ .vmem, ⟨12, _⟩ => ⟨S1x1024x1792, .bf16⟩
  | .local _ .vmem, ⟨13, _⟩ => ⟨S1x1024x1792, .bf16⟩
  | .local _ .vmem, ⟨14, _⟩ => ⟨S1x1792x1024, .bf16⟩
  | .local _ .vmem, ⟨15, _⟩ => ⟨S1x1792x1024, .bf16⟩
  | .local _ .vmem, ⟨16, _⟩ => ⟨S1x256x1024, .f32⟩
  | .local _ .vmem, ⟨17, _⟩ => ⟨S1x256x1024, .f32⟩
  | .local _ .vmem, ⟨18, _⟩ => ⟨S256x1024, .bf16⟩
  | .local _ .vmem, ⟨19, _⟩ => ⟨S256x1024, .f32⟩
  | .local _ .vmem, ⟨20, _⟩ => ⟨S256x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨4, ![4, 1, 8, 2], ![false, false, false, false]⟩

def k0_cond2 (i : grid0.Coords) : BitVec 1 :=
  let arg2 : BitVec 32 := BitVec.ofNat 32 (i 2).val
  let c7_i32 : BitVec 32 := 7#32
  let v40 : BitVec 1 := Scalar.cmpi .eq arg2 c7_i32
  let arg3 : BitVec 32 := BitVec.ofNat 32 (i 3).val
  let c1_i32 : BitVec 32 := 1#32
  let v41 : BitVec 1 := Scalar.cmpi .eq arg3 c1_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1x1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true, true]

abbrev stage0_8 : Fin 2 → Memref sig .tc .vmem S1x1792x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false, false]
-- ==== CtxMoeIdeal.lean ====
variable {F : FTy → Type} [FloatOps F] [Named F]
def κ : String → Option EReal := fun
  | "mask" => some ⊥
  | _ => none
-- ==== CtxMoeRefIdeal.lean ====
abbrev S4x256x1024 : Shape := ⟨3, ![4, 256, 1024]⟩
abbrev S1024 : Shape := ⟨1, ![1024]⟩
abbrev S4x1x1024 : Shape := ⟨3, ![4, 1, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x8 : Shape := ⟨3, ![4, 256, 8]⟩
abbrev S4x256x2 : Shape := ⟨3, ![4, 256, 2]⟩
abbrev S4x256x2x1 : Shape := ⟨4, ![4, 256, 2, 1]⟩
abbrev S1x1x1x8 : Shape := ⟨4, ![1, 1, 1, 8]⟩
abbrev S4x256x2x8 : Shape := ⟨4, ![4, 256, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S4x256x3584 : Shape := ⟨3, ![4, 256, 3584]⟩

abbrev nBuf : Space → Nat
  | .hbm => 249
  | .vmem => 0
  | .smem => 0
  | _ => 0

abbrev hbmTy0_0 (i : Nat) : BufTy := match i % 128 with
  | 0 => ⟨S4x256x1024, .f32⟩
  | 1 => ⟨S1024, .f32⟩
  | 2 => ⟨S4x1x1024, .f32⟩
  | 3 => ⟨S4x1x1024, .f32⟩
  | 4 => ⟨S4x1x1024, .f32⟩
  | 5 => ⟨S1024x8, .f32⟩
  | 6 => ⟨S8x1024x3584, .f32⟩
  | 7 => ⟨S8x1024x3584, .f32⟩
  | 8 => ⟨S8x3584x1024, .f32⟩
  | 9 => ⟨S4x256x1024, .f32⟩
  | 10 => ⟨S_, .f32⟩
  | 11 => ⟨S4x256, .f32⟩
  | 12 => ⟨S4x256x1, .f32⟩
  | 13 => ⟨S_, .f32⟩
  | 14 => ⟨S4x256x1, .f32⟩
  | 15 => ⟨S4x256x1, .f32⟩
  | 16 => ⟨S_, .f32⟩
  | 17 => ⟨S4x256x1, .f32⟩
  | 18 => ⟨S4x256x1, .f32⟩
  | 19 => ⟨S4x256x1, .f32⟩
  | 20 => ⟨S4x256x1024, .f32⟩
  | 21 => ⟨S4x256x1024, .f32⟩
  | 22 => ⟨S1x1x1024, .f32⟩
  | 23 => ⟨S4x256x1024, .f32⟩
  | 24 => ⟨S4x256x1024, .f32⟩
  | 25 => ⟨S_, .f32⟩
  | 26 => ⟨S4x1x1024, .f32⟩
  | 27 => ⟨S4x1x1024, .f32⟩
  | 28 => ⟨S4x256x1024, .f32⟩
  | 29 => ⟨S4x256x1024, .f32⟩
  | 30 => ⟨S4x256x1024, .f32⟩
  | 31 => ⟨S4x256x1024, .f32⟩
  | 32 => ⟨S4x256x8, .f32⟩
  | 33 => ⟨S4x256x2, .f32⟩
  | 34 => ⟨S4x256x2, .i32⟩
  | 35 => ⟨S_, .f32⟩
  | 36 => ⟨S4x256, .f32⟩
  | 37 => ⟨S_, .f32⟩
  | 38 => ⟨S4x256, .f32⟩
  | 39 => ⟨S4x256, .f32⟩
  | 40 => ⟨S4x256x1, .f32⟩
  | 41 => ⟨S4x256x2, .f32⟩
  | 42 => ⟨S4x256x2, .f32⟩
  | 43 => ⟨S4x256x2, .f32⟩
  | 44 => ⟨S_, .f32⟩
  | 45 => ⟨S4x256, .f32⟩
  | 46 => ⟨S4x256x1, .f32⟩
  | 47 => ⟨S4x256x2, .f32⟩
  | 48 => ⟨S4x256x2, .f32⟩
  | 49 => ⟨S4x256x2x1, .i32⟩
  | 50 => ⟨S1x1x1x8, .i32⟩
  | 51 => ⟨S4x256x2x8, .i32⟩
  | 52 => ⟨S4x256x2x8, .i32⟩
  | 53 => ⟨S4x256x2x8, .i1⟩
  | 54 => ⟨S4x256x2x8, .f32⟩
  | 55 => ⟨S4x256x2x1, .f32⟩
  | 56 => ⟨S4x256x2x8, .f32⟩
  | 57 => ⟨S4x256x2x8, .f32⟩
  | 58 => ⟨S_, .f32⟩
  | 59 => ⟨S4x256x8, .f32⟩
  | 60 => ⟨S_, .f32⟩
  | 61 => ⟨S4x256x1024, .f32⟩
  | 62 => ⟨S4x256x1, .f32⟩
  | 63 => ⟨S1x1024x3584, .f32⟩
  | 64 => ⟨S1024x3584, .f32⟩
  | 65 => ⟨S1x1024x3584, .f32⟩
  | 66 => ⟨S1024x3584, .f32⟩
  | 67 => ⟨S1x3584x1024, .f32⟩
  | 68 => ⟨S3584x1024, .f32⟩
  | 69 => ⟨S4x256x3584, .f32⟩
  | 70 => ⟨S4x256x3584, .f32⟩
  | 71 => ⟨S4x256x3584, .f32⟩
  | 72 => ⟨S_, .f32⟩
  | 73 => ⟨S4x256x3584, .f32⟩
  | 74 => ⟨S4x256x3584, .f32⟩
  | 75 => ⟨S_, .f32⟩
  | 76 => ⟨S4x256x3584, .f32⟩
  | 77 => ⟨S4x256x3584, .f32⟩
  | 78 => ⟨S4x256x3584, .f32⟩
  | 79 => ⟨S4x256x3584, .f32⟩
  | 80 => ⟨S4x256x3584, .f32⟩
  | 81 => ⟨S4x256x1024, .f32⟩
  | 82 => ⟨S4x256x1024, .f32⟩
  | 83 => ⟨S4x256x1024, .f32⟩
  | 84 => ⟨S4x256x1024, .f32⟩
  | 85 => ⟨S4x256x1, .f32⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S4x256x3584, .f32⟩
  | 93 => ⟨S4x256x3584, .f32⟩
  | 94 => ⟨S4x256x3584, .f32⟩
  | 95 => ⟨S_, .f32⟩
  | 96 => ⟨S4x256x3584, .f32⟩
  | 97 => ⟨S4x256x3584, .f32⟩
  | 98 => ⟨S_, .f32⟩
  | 99 => ⟨S4x256x3584, .f32⟩
  | 100 => ⟨S4x256x3584, .f32⟩
  | 101 => ⟨S4x256x3584, .f32⟩
  | 102 => ⟨S4x256x3584, .f32⟩
  | 103 => ⟨S4x256x3584, .f32⟩
  | 104 => ⟨S4x256x1024, .f32⟩
  | 105 => ⟨S4x256x1024, .f32⟩
  | 106 => ⟨S4x256x1024, .f32⟩
  | 107 => ⟨S4x256x1024, .f32⟩
  | 108 => ⟨S4x256x1, .f32⟩
  | 109 => ⟨S1x1024x3584, .f32⟩
  | 110 => ⟨S1024x3584, .f32⟩
  | 111 => ⟨S1x1024x3584, .f32⟩
  | 112 => ⟨S1024x3584, .f32⟩
  | 113 => ⟨S1x3584x1024, .f32⟩
  | 114 => ⟨S3584x1024, .f32⟩
  | 115 => ⟨S4x256x3584, .f32⟩
  | 116 => ⟨S4x256x3584, .f32⟩
  | 117 => ⟨S4x256x3584, .f32⟩
  | 118 => ⟨S_, .f32⟩
  | 119 => ⟨S4x256x3584, .f32⟩
  | 120 => ⟨S4x256x3584, .f32⟩
  | 121 => ⟨S_, .f32⟩
  | 122 => ⟨S4x256x3584, .f32⟩
  | 123 => ⟨S4x256x3584, .f32⟩
  | 124 => ⟨S4x256x3584, .f32⟩
  | 125 => ⟨S4x256x3584, .f32⟩
  | 126 => ⟨S4x256x3584, .f32⟩
  | 127 => ⟨S4x256x1024, .f32⟩
  | _ => ⟨S4x256x1024, .f32⟩

abbrev hbmTy0_1 (i : Nat) : BufTy := match i % 128 with
  | 0 => ⟨S4x256x1024, .f32⟩
  | 1 => ⟨S4x256x1024, .f32⟩
  | 2 => ⟨S4x256x1024, .f32⟩
  | 3 => ⟨S4x256x1, .f32⟩
  | 4 => ⟨S1x1024x3584, .f32⟩
  | 5 => ⟨S1024x3584, .f32⟩
  | 6 => ⟨S1x1024x3584, .f32⟩
  | 7 => ⟨S1024x3584, .f32⟩
  | 8 => ⟨S1x3584x1024, .f32⟩
  | 9 => ⟨S3584x1024, .f32⟩
  | 10 => ⟨S4x256x3584, .f32⟩
  | 11 => ⟨S4x256x3584, .f32⟩
  | 12 => ⟨S4x256x3584, .f32⟩
  | 13 => ⟨S_, .f32⟩
  | 14 => ⟨S4x256x3584, .f32⟩
  | 15 => ⟨S4x256x3584, .f32⟩
  | 16 => ⟨S_, .f32⟩
  | 17 => ⟨S4x256x3584, .f32⟩
  | 18 => ⟨S4x256x3584, .f32⟩
  | 19 => ⟨S4x256x3584, .f32⟩
  | 20 => ⟨S4x256x3584, .f32⟩
  | 21 => ⟨S4x256x3584, .f32⟩
  | 22 => ⟨S4x256x1024, .f32⟩
  | 23 => ⟨S4x256x1024, .f32⟩
  | 24 => ⟨S4x256x1024, .f32⟩
  | 25 => ⟨S4x256x1024, .f32⟩
  | 26 => ⟨S4x256x1, .f32⟩
  | 27 => ⟨S1x1024x3584, .f32⟩
  | 28 => ⟨S1024x3584, .f32⟩
  | 29 => ⟨S1x1024x3584, .f32⟩
  | 30 => ⟨S1024x3584, .f32⟩
  | 31 => ⟨S1x3584x1024, .f32⟩
  | 32 => ⟨S3584x1024, .f32⟩
  | 33 => ⟨S4x256x3584, .f32⟩
  | 34 => ⟨S4x256x3584, .f32⟩
  | 35 => ⟨S4x256x3584, .f32⟩
  | 36 => ⟨S_, .f32⟩
  | 37 => ⟨S4x256x3584, .f32⟩
  | 38 => ⟨S4x256x3584, .f32⟩
  | 39 => ⟨S_, .f32⟩
  | 40 => ⟨S4x256x3584, .f32⟩
  | 41 => ⟨S4x256x3584, .f32⟩
  | 42 => ⟨S4x256x3584, .f32⟩
  | 43 => ⟨S4x256x3584, .f32⟩
  | 44 => ⟨S4x256x3584, .f32⟩
  | 45 => ⟨S4x256x1024, .f32⟩
  | 46 => ⟨S4x256x1024, .f32⟩
  | 47 => ⟨S4x256x1024, .f32⟩
  | 48 => ⟨S4x256x1024, .f32⟩
  | 49 => ⟨S4x256x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S4x256x3584, .f32⟩
  | 57 => ⟨S4x256x3584, .f32⟩
  | 58 => ⟨S4x256x3584, .f32⟩
  | 59 => ⟨S_, .f32⟩
  | 60 => ⟨S4x256x3584, .f32⟩
  | 61 => ⟨S4x256x3584, .f32⟩
  | 62 => ⟨S_, .f32⟩
  | 63 => ⟨S4x256x3584, .f32⟩
  | 64 => ⟨S4x256x3584, .f32⟩
  | 65 => ⟨S4x256x3584, .f32⟩
  | 66 => ⟨S4x256x3584, .f32⟩
  | 67 => ⟨S4x256x3584, .f32⟩
  | 68 => ⟨S4x256x1024, .f32⟩
  | 69 => ⟨S4x256x1024, .f32⟩
  | 70 => ⟨S4x256x1024, .f32⟩
  | 71 => ⟨S4x256x1024, .f32⟩
  | 72 => ⟨S4x256x1, .f32⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S4x256x3584, .f32⟩
  | 80 => ⟨S4x256x3584, .f32⟩
  | 81 => ⟨S4x256x3584, .f32⟩
  | 82 => ⟨S_, .f32⟩
  | 83 => ⟨S4x256x3584, .f32⟩
  | 84 => ⟨S4x256x3584, .f32⟩
  | 85 => ⟨S_, .f32⟩
  | 86 => ⟨S4x256x3584, .f32⟩
  | 87 => ⟨S4x256x3584, .f32⟩
  | 88 => ⟨S4x256x3584, .f32⟩
  | 89 => ⟨S4x256x3584, .f32⟩
  | 90 => ⟨S4x256x3584, .f32⟩
  | 91 => ⟨S4x256x1024, .f32⟩
  | 92 => ⟨S4x256x1024, .f32⟩
  | 93 => ⟨S4x256x1024, .f32⟩
  | 94 => ⟨S4x256x1024, .f32⟩
  | 95 => ⟨S4x256x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S4x256x3584, .f32⟩
  | 103 => ⟨S4x256x3584, .f32⟩
  | 104 => ⟨S4x256x3584, .f32⟩
  | 105 => ⟨S_, .f32⟩
  | 106 => ⟨S4x256x3584, .f32⟩
  | 107 => ⟨S4x256x3584, .f32⟩
  | 108 => ⟨S_, .f32⟩
  | 109 => ⟨S4x256x3584, .f32⟩
  | 110 => ⟨S4x256x3584, .f32⟩
  | 111 => ⟨S4x256x3584, .f32⟩
  | 112 => ⟨S4x256x3584, .f32⟩
  | 113 => ⟨S4x256x3584, .f32⟩
  | 114 => ⟨S4x256x1024, .f32⟩
  | 115 => ⟨S4x256x1024, .f32⟩
  | 116 => ⟨S4x256x1024, .f32⟩
  | 117 => ⟨S4x256x1024, .f32⟩
  | 118 => ⟨S4x256x1024, .f32⟩
  | 119 => ⟨S4x256x1024, .f32⟩
  | 120 => ⟨S4x256x1024, .f32⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_values : Ref sig .tc := ⟨.hbm, 33, rfl⟩
abbrev main_indices : Ref sig .tc := ⟨.hbm, 34, rfl⟩
abbrev main_cst_3 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_call6_v0 : Ref sig .tc := ⟨.hbm, 185, rfl⟩
abbrev main_call6_v1 : Ref sig .tc := ⟨.hbm, 186, rfl⟩
abbrev main_call6_cst : Ref sig .tc := ⟨.hbm, 187, rfl⟩
abbrev main_call6_v2 : Ref sig .tc := ⟨.hbm, 188, rfl⟩
abbrev main_call6_v3 : Ref sig .tc := ⟨.hbm, 189, rfl⟩
abbrev main_call6_cst_0 : Ref sig .tc := ⟨.hbm, 190, rfl⟩
abbrev main_call6_v4 : Ref sig .tc := ⟨.hbm, 191, rfl⟩
abbrev main_call6_v5 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_call7_v0 : Ref sig .tc := ⟨.hbm, 208, rfl⟩
abbrev main_call7_v1 : Ref sig .tc := ⟨.hbm, 209, rfl⟩
abbrev main_call7_cst : Ref sig .tc := ⟨.hbm, 210, rfl⟩
abbrev main_call7_v2 : Ref sig .tc := ⟨.hbm, 211, rfl⟩
abbrev main_call7_v3 : Ref sig .tc := ⟨.hbm, 212, rfl⟩
abbrev main_call7_cst_0 : Ref sig .tc := ⟨.hbm, 213, rfl⟩
abbrev main_call7_v4 : Ref sig .tc := ⟨.hbm, 214, rfl⟩
abbrev main_call7_v5 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_call8_v0 : Ref sig .tc := ⟨.hbm, 231, rfl⟩
abbrev main_call8_v1 : Ref sig .tc := ⟨.hbm, 232, rfl⟩
abbrev main_call8_cst : Ref sig .tc := ⟨.hbm, 233, rfl⟩
abbrev main_call8_v2 : Ref sig .tc := ⟨.hbm, 234, rfl⟩
abbrev main_call8_v3 : Ref sig .tc := ⟨.hbm, 235, rfl⟩
abbrev main_call8_cst_0 : Ref sig .tc := ⟨.hbm, 236, rfl⟩
abbrev main_call8_v4 : Ref sig .tc := ⟨.hbm, 237, rfl⟩
abbrev main_call8_v5 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩

abbrev nD : Nat := 1
abbrev τ : Topo := Topo.v7x

variable {F : FTy → Type} [FloatOps F]
-- ==== CtxFfn.lean ====
abbrev S4x256x1024 : Shape := ⟨3, ![4, 256, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S1x1024 : Shape := ⟨2, ![1, 1024]⟩
abbrev S1x256x1024 : Shape := ⟨3, ![1, 256, 1024]⟩
abbrev S1x1x1024 : Shape := ⟨3, ![1, 1, 1024]⟩
abbrev S1024x1408 : Shape := ⟨2, ![1024, 1408]⟩
abbrev S1408x1024 : Shape := ⟨2, ![1408, 1024]⟩
abbrev S256x1024 : Shape := ⟨2, ![256, 1024]⟩
abbrev S256 : Shape := ⟨1, ![256]⟩
abbrev S256x1 : Shape := ⟨2, ![256, 1]⟩
abbrev S256x1408 : Shape := ⟨2, ![256, 1408]⟩

abbrev nBuf : Space → Nat
  | .hbm => 13
  | .vmem => 19
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x256x1024, .f32⟩
  | .local _ .vmem, ⟨16, _⟩ => ⟨S1x256x1024, .f32⟩
  | .local _ .vmem, ⟨17, _⟩ => ⟨S256x1024, .bf16⟩
  | .local _ .vmem, ⟨18, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== CtxFfnRefIdeal.lean ====
abbrev S4x256x1024 : Shape := ⟨3, ![4, 256, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2816 : Shape := ⟨3, ![4, 256, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S4x256x2816, .f32⟩
  | .hbm, ⟨32, _⟩ => ⟨S4x256x2816, .f32⟩
  | .hbm, ⟨33, _⟩ => ⟨S4x256x2816, .f32⟩
  | .hbm, ⟨34, _⟩ => ⟨S_, .f32⟩
  | .hbm, ⟨35, _⟩ => ⟨S4x256x2816, .f32⟩
  | .hbm, ⟨36, _⟩ => ⟨S4x256x2816, .f32⟩
  | .hbm, ⟨37, _⟩ => ⟨S_, .f32⟩
  | .hbm, ⟨38, _⟩ => ⟨S4x256x2816, .f32⟩
  | .hbm, ⟨39, _⟩ => ⟨S4x256x2816, .f32⟩
  | .hbm, ⟨40, _⟩ => ⟨S4x256x2816, .f32⟩
  | .hbm, ⟨41, _⟩ => ⟨S4x256x2816, .f32⟩
  | .hbm, ⟨42, _⟩ => ⟨S4x256x2816, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== CtxOutProj.lean ====
abbrev S4x256x384 : Shape := ⟨3, ![4, 256, 384]⟩
abbrev S64 : Shape := ⟨1, ![64]⟩
abbrev S4x256x256 : Shape := ⟨3, ![4, 256, 256]⟩
abbrev S4x256x1024 : Shape := ⟨3, ![4, 256, 1024]⟩
abbrev S4x1x1024 : Shape := ⟨3, ![4, 1, 1024]⟩
abbrev S1024x1024 : Shape := ⟨2, ![1024, 1024]⟩
abbrev S1x64 : Shape := ⟨2, ![1, 64]⟩
abbrev S6x64 : Shape := ⟨2, ![6, 64]⟩
abbrev S384 : Shape := ⟨1, ![384]⟩
abbrev S1x384 : Shape := ⟨2, ![1, 384]⟩
abbrev S6 : Shape := ⟨1, ![6]⟩
abbrev S384x1 : Shape := ⟨2, ![384, 1]⟩
abbrev S384x384 : Shape := ⟨2, ![384, 384]⟩
abbrev S256x4x256 : Shape := ⟨3, ![256, 4, 256]⟩
abbrev S256x1024 : Shape := ⟨2, ![256, 1024]⟩
abbrev S1x256x384 : Shape := ⟨3, ![1, 256, 384]⟩
abbrev S256x256 : Shape := ⟨2, ![256, 256]⟩
abbrev S1x256x1024 : Shape := ⟨3, ![1, 256, 1024]⟩
abbrev S1x1x1024 : Shape := ⟨3, ![1, 1, 1024]⟩
abbrev S256x384 : Shape := ⟨2, ![256, 384]⟩
abbrev S384x1024 : Shape := ⟨2, ![384, 1024]⟩
abbrev S1x1024 : Shape := ⟨2, ![1, 1024]⟩

abbrev nBuf : Space → Nat
  | .hbm => 26
  | .vmem => 19
  | .smem => 0
  | _ => 0

abbrev bufTy : (tb : Table) → Fin (tcTables nBuf tb) → BufTy
  | .hbm, ⟨0, _⟩ => ⟨S4x256x384, .f32⟩
  | .hbm, ⟨1, _⟩ => ⟨S4x256x384, .f32⟩
  | .hbm, ⟨2, _⟩ => ⟨S4x256x384, .f32⟩
  | .hbm, ⟨3, _⟩ => ⟨S64, .f32⟩
  | .hbm, ⟨4, _⟩ => ⟨S4x256x256, .f32⟩
  | .hbm, ⟨5, _⟩ => ⟨S4x256x384, .f32⟩
  | .hbm, ⟨6, _⟩ => ⟨S4x256x1024, .f32⟩
  | .hbm, ⟨7, _⟩ => ⟨S4x1x1024, .f32⟩
  | .hbm, ⟨8, _⟩ => ⟨S1024x1024, .f32⟩
  | .hbm, ⟨9, _⟩ => ⟨S1x64, .f32⟩
  | .hbm, ⟨10, _⟩ => ⟨S6x64, .f32⟩
  | .hbm, ⟨11, _⟩ => ⟨S384, .f32⟩
  | .hbm, ⟨12, _⟩ => ⟨S1x384, .f32⟩
  | .hbm, ⟨13, _⟩ => ⟨S6, .i32⟩
  | .hbm, ⟨14, _⟩ => ⟨S6x64, .i32⟩
  | .hbm, ⟨15, _⟩ => ⟨S384, .i32⟩
  | .hbm, ⟨16, _⟩ => ⟨S384x1, .i32⟩
  | .hbm, ⟨17, _⟩ => ⟨S1x384, .i32⟩
  | .hbm, ⟨18, _⟩ => ⟨S384x384, .i32⟩
  | .hbm, ⟨19, _⟩ => ⟨S384x384, .i32⟩
  | .hbm, ⟨20, _⟩ => ⟨S384x384, .i1⟩
  | .hbm, ⟨21, _⟩ => ⟨S384x384, .bf16⟩
  | .hbm, ⟨22, _⟩ => ⟨S256x4x256, .f32⟩
  | .hbm, ⟨23, _⟩ => ⟨S256x1024, .f32⟩
  | .hbm, ⟨24, _⟩ => ⟨S1024x1024, .bf16⟩
  | .hbm, ⟨25, _⟩ => ⟨S4x256x1024, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x384, .f32⟩
  | .local _ .vmem, ⟨7, _⟩ => ⟨S384x384, .bf16⟩
  | .local _ .vmem, ⟨8, _⟩ => ⟨S256x256, .f32⟩
  | .local _ .vmem, ⟨9, _⟩ => ⟨S256x256, .f32⟩
  | .local _ .vmem, ⟨10, _⟩ => ⟨S1x256x384, .f32⟩
  | .local _ .vmem, ⟨11, _⟩ => ⟨S1x256x384, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | _, _ => ⟨S4x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== CtxOutRefIdeal.lean ====
abbrev S4x256x384 : Shape := ⟨3, ![4, 256, 384]⟩
abbrev S64 : Shape := ⟨1, ![64]⟩
abbrev S4x256x256 : Shape := ⟨3, ![4, 256, 256]⟩
abbrev S4x256x1024 : Shape := ⟨3, ![4, 256, 1024]⟩
abbrev S4x1x1024 : Shape := ⟨3, ![4, 1, 1024]⟩
abbrev S1024x1024 : Shape := ⟨2, ![1024, 1024]⟩
abbrev S4x256x6x64 : Shape := ⟨4, ![4, 256, 6, 64]⟩
abbrev S_ : Shape := ⟨0, ![]⟩
abbrev S4x256x6 : Shape := ⟨3, ![4, 256, 6]⟩
abbrev S4x256x6x1 : Shape := ⟨4, ![4, 256, 6, 1]⟩
abbrev S1x1x1x64 : Shape := ⟨4, ![1, 1, 1, 64]⟩

abbrev nBuf : Space → Nat
  | .hbm => 44
  | .vmem => 0
  | .smem => 0
  | _ => 0

abbrev bufTy : (tb : Table) → Fin (tcTables nBuf tb) → BufTy
  | .hbm, ⟨0, _⟩ => ⟨S4x256x384, .f32⟩
  | .hbm, ⟨1, _⟩ => ⟨S4x256x384, .f32⟩
  | .hbm, ⟨2, _⟩ => ⟨S4x256x384, .f32⟩
  | .hbm, ⟨3, _⟩ => ⟨S64, .f32⟩
  | .hbm, ⟨4, _⟩ => ⟨S4x256x256, .f32⟩
  | .hbm, ⟨5, _⟩ => ⟨S4x256x384, .f32⟩
  | .hbm, ⟨6, _⟩ => ⟨S4x256x1024, .f32⟩
  | .hbm, ⟨7, _⟩ => ⟨S4x1x1024, .f32⟩
  | .hbm, ⟨8, _⟩ => ⟨S1024x1024, .f32⟩
  | .hbm, ⟨9, _⟩ => ⟨S4x256x384, .f32⟩
  | .hbm, ⟨10, _⟩ => ⟨S4x256x6x64, .f32⟩
  | .hbm, ⟨11, _⟩ => ⟨S4x256x6x64, .f32⟩
  | .hbm, ⟨12, _⟩ => ⟨S_, .f32⟩
  | .hbm, ⟨13, _⟩ => ⟨S4x256x6, .f32⟩
  | .hbm, ⟨14, _⟩ => ⟨S4x256x6x1, .f32⟩
  | .hbm, ⟨15, _⟩ => ⟨S_, .f32⟩
  | .hbm, ⟨16, _⟩ => ⟨S4x256x6x1, .f32⟩
  | .hbm, ⟨17, _⟩ => ⟨S4x256x6x1, .f32⟩
  | .hbm, ⟨18, _⟩ => ⟨S_, .f32⟩
  | .hbm, ⟨19, _⟩ => ⟨S4x256x6x1, .f32⟩
  | .hbm, ⟨20, _⟩ => ⟨S4x256x6x1, .f32⟩
  | .hbm, ⟨21, _⟩ => ⟨S4x256x6x1, .f32⟩
  | .hbm, ⟨22, _⟩ => ⟨S4x256x6x64, .f32⟩
  | .hbm, ⟨23, _⟩ => ⟨S4x256x6x64, .f32⟩
  | .hbm, ⟨24, _⟩ => ⟨S1x1x1x64, .f32⟩
  | .hbm, ⟨25, _⟩ => ⟨S4x256x6x64, .f32⟩
  | .hbm, ⟨26, _⟩ => ⟨S4x256x6x64, .f32⟩
  | .hbm, ⟨27, _⟩ => ⟨S4x256x6x64, .f32⟩
  | .hbm, ⟨28, _⟩ => ⟨S4x256x6x64, .f32⟩
  | .hbm, ⟨29, _⟩ => ⟨S4x256x6x64, .f32⟩
  | .hbm, ⟨30, _⟩ => ⟨S_, .f32⟩
  | .hbm, ⟨31, _⟩ => ⟨S4x256x6x64, .f32⟩
  | .hbm, ⟨32, _⟩ => ⟨S4x256x6x64, .f32⟩
  | .hbm, ⟨33, _⟩ => ⟨S_, .f32⟩
  | .hbm, ⟨34, _⟩ => ⟨S4x256x6x64, .f32⟩
  | .hbm, ⟨35, _⟩ => ⟨S4x256x6x64, .f32⟩
  | .hbm, ⟨36, _⟩ => ⟨S4x256x6x64, .f32⟩
  | .hbm, ⟨37, _⟩ => ⟨S4x256x6x64, .f32⟩
  | .hbm, ⟨38, _⟩ => ⟨S4x256x384, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S4x256x1024, .f32⟩
  | .hbm, ⟨43, _⟩ => ⟨S4x256x1024, .f32⟩
  | _, _ => ⟨S4x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Proof.MoeFrames.lean ====
/-
  The claims about the routed mixture-of-experts sub-layer that do not speak of its value: its runs and its one named literal.
-/
module

public import proofs.«01_k».proof.Defs
public import proofs.«01_k».proof.Proof.Gen.Moe.Frame
public import proofs.«01_k».proof.Proof.Gen.MoeIdeal.Value
public import proofs.«01_k».proof.Proof.Gen.MoeRefIdeal.Run
public import proofs.«01_k».proof.Proof.Gen.Pre_finite
public import Idealize.ShloMosaic.Adequacy
public import Idealize.ShloMosaic.Init

@[expose] public section

set_option maxRecDepth 16384

noncomputable section

open Idealize.ShloMosaic Idealize.ShloMosaic.TcCoe Idealize.SL.Sem

namespace Cert.MoeClaims

theorem frame_p : Cert.quiescent_Moe := fun m ρ _ => Cert.Moe.Gen.frame m ρ

theorem frame_pi : Cert.quiescent_MoeIdeal := fun m ρ _ => Cert.MoeIdeal.Gen.frame m ρ

theorem frame_ri : Cert.quiescent_MoeRefIdeal := fun m ρ _ => (θ_run Cert.MoeRefIdeal.defs _ _).mono (fun r h => ⟨fun c => (h c).2,
      Idealize.ShloMosaic.sem_eq_zero_of_no_sems (by decide) r.2⟩) (Cert.MoeRefIdeal.Value.run (F := Ideal) m ρ)

theorem frame_pi_pre : Cert.quiescent_MoeIdeal_pre_finite := fun m ρ _ => Cert.MoeIdeal.Gen.frame m ρ

theorem frame_ri_pre : Cert.quiescent_MoeRefIdeal_pre_finite := fun m ρ _ => frame_ri m ρ trivial

/-- The one named literal: the mask constant stands for minus infinity. -/
theorem preserves : Cert.preserves_Moe_MoeIdeal :=
  IdealRules.named_const.statement Cert.MoeIdeal.κ "mask" .f32 0xF149F2CA#32 ⊥ rfl

end Cert.MoeClaims

end
-- ==== Proof.TopTwo.lean ====
/-
  The two greatest of a row, three ways: as a pair of positions, as a row maximum and the first lane holding it taken twice, and as
  the first two positions of a stable sort. All three name the same two positions, also among equal entries.
-/
module

public import Idealize.ShloMosaic.PureOps.Reduce
public import Idealize.ShloMosaic.PureOps.Ideal.Laws
public import Idealize.ShloMosaic.Lib.SortPrefix

@[expose] public section

noncomputable section

open Idealize.ShloMosaic

namespace Cert.TopTwo

/-- `i` is the first position of a greatest entry. -/
structure First {n : Nat} (g : Fin n → EReal) (i : Fin n) : Prop where
  le : ∀ k, g k ≤ g i
  lt : ∀ k, k < i → g k < g i

/-- `i` is the first position of a greatest entry and `j` the first of a greatest among the others. -/
structure Two {n : Nat} (f : Fin n → EReal) (i j : Fin n) : Prop where
  first : First f i
  ne : j ≠ i
  le : ∀ k, k ≠ i → f k ≤ f j
  lt : ∀ k, k ≠ i → k < j → f k < f j

theorem exists_first_of {n : Nat} (g : Fin n → EReal) (p : Fin n → Prop) (h : ∃ k, p k) :
    ∃ i, p i ∧ (∀ k, p k → g k ≤ g i) ∧ ∀ k, p k → k < i → g k < g i := by
  classical
  obtain ⟨k0, hk0⟩ := h
  obtain ⟨a, ha, hmax⟩ := Finset.exists_max_image (Finset.univ.filter p) g ⟨k0, by simpa using hk0⟩
  have hpa : p a := by simpa using ha
  have ne : (Finset.univ.filter fun k => p k ∧ g k = g a).Nonempty := ⟨a, by simp [hpa]⟩
  have hm := Finset.min'_mem _ ne
  generalize hi : (Finset.univ.filter fun k => p k ∧ g k = g a).min' ne = i at hm
  have hm' : p i ∧ g i = g a := by simpa using hm
  refine ⟨i, hm'.1, fun k hk => ?_, fun k hk hki => ?_⟩
  · rw [hm'.2]; exact hmax k (by simpa using hk)
  · refine lt_of_le_of_ne (by rw [hm'.2]; exact hmax k (by simpa using hk)) fun e => ?_
    have := Finset.min'_le (Finset.univ.filter fun k => p k ∧ g k = g a) k (by simp [hk, e, hm'.2])
    rw [hi] at this
    exact absurd hki (not_lt.mpr this)

/-- Of at least two entries there are two greatest. -/
theorem exists_two {n : Nat} (f : Fin n → EReal) (a b : Fin n) (hab : a ≠ b) : ∃ i j, Two f i j := by
  obtain ⟨i, -, h1, h2⟩ := exists_first_of f (fun _ => True) ⟨a, trivial⟩
  have : ∃ k, k ≠ i := by
    by_cases h : a = i
    · exact ⟨b, fun e => hab (h.trans e.symm)⟩
    · exact ⟨a, h⟩
  obtain ⟨j, hj, h3, h4⟩ := exists_first_of f (fun k => k ≠ i) this
  exact ⟨i, j, ⟨fun k => h1 k trivial, fun k hk => h2 k trivial hk⟩, hj, h3, h4⟩

/-- The row maximum from −∞ is the entry at the first greatest position. -/
theorem fold_max {n : Nat} (g : Fin n → EReal) (i : Fin n) (h : First g i) : Finset.univ.fold max (⊥ : EReal) g = g i := by
  refine le_antisymm ?_ ?_
  · rw [Finset.fold_max_le]; exact ⟨bot_le, fun k _ => h.le k⟩
  · rw [Finset.le_fold_max]; exact Or.inr ⟨i, Finset.mem_univ i, le_rfl⟩

theorem toInt_minsi (x y : BitVec 32) : (IntOp.minsi x y).toInt = min x.toInt y.toInt := by
  unfold IntOp.minsi
  rw [BitVec.slt]
  by_cases h : x.toInt < y.toInt
  · simp [h, min_eq_left h.le]
  · simp [h, min_eq_right (not_lt.mp h)]

theorem toInt_lane (k : Nat) (h : k ≤ 128) : (BitVec.ofNat 32 k).toInt = k := by
  rw [BitVec.toInt_ofNat']
  simp only [Int.bmod]
  norm_num
  omega

/-- The least lane holding the row maximum, the others counted as lane 128. -/
theorem fold_min (g : Fin 128 → EReal) (i : Fin 128) (h : First g i) :
    Finset.univ.fold IntOp.minsi (2147483647#32) (fun x : Fin 128 => if g x = g i then BitVec.ofNat 32 x.val else 128#32)
      = BitVec.ofNat 32 i.val := by
  refine BitVec.eq_of_toInt_eq ?_
  rw [← Finset.fold_hom (op' := min) (m := BitVec.toInt) toInt_minsi, toInt_lane i.val (by omega)]
  have e : ∀ x : Fin 128, (if g x = g i then BitVec.ofNat 32 x.val else 128#32).toInt = if g x = g i then (x.val : Int) else 128 := by
    intro x
    split
    · exact toInt_lane _ (by omega)
    · rfl
  refine le_antisymm ?_ ?_
  · rw [Finset.fold_min_le]
    refine Or.inr ⟨i, Finset.mem_univ i, ?_⟩
    rw [e, if_pos rfl]
  · rw [Finset.le_fold_min]
    refine ⟨?_, fun x _ => ?_⟩
    · have : (2147483647#32).toInt = 2147483647 := by decide
      rw [this]
      omega
    rw [e]
    split
    · next hx =>
      have : ¬x < i := fun hlt => absurd (h.lt x hlt) (by rw [hx]; exact lt_irrefl _)
      have : i.val ≤ x.val := not_lt.mp this
      omega
    · omega

/-- A row of eight entries on the first lanes and −∞ on the others. -/
def Wide (f : Fin 8 → EReal) (k : Fin 128) : EReal := if h : k.val < 8 then f ⟨k.val, h⟩ else ⊥

abbrev lane (i : Fin 8) : Fin 128 := ⟨i.val, by omega⟩

theorem wide_lane (f : Fin 8 → EReal) (i : Fin 8) : Wide f (lane i) = f i := by
  unfold Wide
  rw [dif_pos i.isLt]

theorem first_wide (f : Fin 8 → EReal) (hf : ∀ k, f k ≠ ⊥) (i j : Fin 8) (h : Two f i j) : First (Wide f) (lane i) := by
  constructor
  · intro k
    rw [wide_lane]
    unfold Wide
    split
    · exact h.first.le _
    · exact bot_le
  · intro k hk
    have hk' : k.val < i.val := hk
    have : k.val < 8 := by omega
    rw [wide_lane]
    unfold Wide
    rw [dif_pos this]
    exact h.first.lt _ hk'

/-- With the greatest entry replaced by −∞ the second position is the first of a greatest. -/
theorem second_wide (f : Fin 8 → EReal) (hf : ∀ k, f k ≠ ⊥) (i j : Fin 8) (h : Two f i j) :
    First (fun k => if k = lane i then ⊥ else Wide f k) (lane j) := by
  have hne : lane j ≠ lane i := fun e => h.ne (Fin.ext (congrArg (fun x : Fin 128 => x.val) e))
  constructor
  · intro k
    show (if k = lane i then ⊥ else Wide f k) ≤ if lane j = lane i then ⊥ else Wide f (lane j)
    rw [if_neg hne, wide_lane]
    split
    · exact bot_le
    · next hk =>
      unfold Wide
      split
      · next h8 => exact h.le _ fun e => hk (Fin.ext (congrArg (fun x : Fin 8 => x.val) e))
      · exact bot_le
  · intro k hkj
    show (if k = lane i then ⊥ else Wide f k) < if lane j = lane i then ⊥ else Wide f (lane j)
    rw [if_neg hne, wide_lane]
    have hk' : k.val < j.val := hkj
    have h8 : k.val < 8 := by omega
    split
    · exact bot_lt_iff_ne_bot.mpr (hf j)
    · next hk =>
      unfold Wide
      rw [dif_pos h8]
      exact h.lt _ (fun e => hk (Fin.ext (congrArg (fun x : Fin 8 => x.val) e))) hk'

/-- The order of a stable sort that puts greater entries first: greater, or equal and earlier. -/
def before {n : Nat} (f : Fin n → EReal) (k k' : Fin n) : Bool := decide (f k' < f k) || (decide (f k = f k') && decide (k < k'))

theorem before_total {n : Nat} (f : Fin n → EReal) : StrictTotalBefore (before f) := by
  classical
  have := StrictTotalBefore.of_key_then_position (fun a b : EReal => decide (b < a)) f (by simp)
    (by intro a b c; simp only [decide_eq_true_eq]; exact fun h1 h2 => h2.trans h1)
    (by intro a b; simp only [decide_eq_true_eq]; rcases lt_trichotomy a b with h | h | h <;> simp [h])
  exact ⟨fun a => by simp [before], this.trans, this.total⟩

/-- On a list in increasing position the stable sort by the entries alone is the sort by the entries and then the position. -/
theorem stableSort_key {n : Nat} (f : Fin n → EReal) (l : List (Fin n)) (hl : l.Pairwise (· < ·)) :
    stableSort (fun k k' => decide (f k' < f k)) l = stableSort (before f) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hb' : b ∈ l := (perm_stableSort (before f) l).mem_iff.mp hb
    have : ¬b < a := not_lt.mpr (hl.1 b hb').le
    simp [before, this]

theorem sortedFrom_two {n : Nat} (f : Fin n → EReal) (i j : Fin n) (h : Two f i j) (hn : 2 ≤ n) :
    ∀ k : Fin 2, sortedFrom (fun k k' => decide (f k' < f k)) (k.castLE hn) = ![i, j] k := by
  have e : sortedFrom (fun k k' => decide (f k' < f k)) = sortedFrom (before f) := by
    have := stableSort_key f (List.finRange n) (List.pairwise_lt_finRange n)
    funext k
    exact List.get_of_eq this _
  rw [e]
  have hij : before f j i = false := by
    have a := h.first.le j
    simp only [before, Bool.or_eq_false_iff, Bool.and_eq_false_iff, decide_eq_false_iff_not]
    refine ⟨not_lt.mpr a, ?_⟩
    by_cases e : f j = f i
    · exact Or.inr fun hlt => absurd (h.first.lt j hlt) (by rw [e]; exact lt_irrefl _)
    · exact Or.inl e
  refine (before_total f).sortedFrom_eq_of_prefix hn ![i, j] ?_ ?_ ?_
  · intro a b hab
    match a, b with
    | ⟨0, _⟩, ⟨0, _⟩ => rfl
    | ⟨1, _⟩, ⟨1, _⟩ => rfl
    | ⟨0, _⟩, ⟨1, _⟩ => exact absurd hab.symm h.ne
    | ⟨1, _⟩, ⟨0, _⟩ => exact absurd hab h.ne
  · intro a b hab
    match a, b with
    | ⟨0, _⟩, ⟨1, _⟩ => exact hij
    | ⟨0, _⟩, ⟨0, _⟩ => exact absurd hab (lt_irrefl _)
    | ⟨1, _⟩, ⟨1, _⟩ => exact absurd hab (lt_irrefl _)
    | ⟨1, _⟩, ⟨0, _⟩ => exact absurd hab (Nat.not_lt.mpr (Nat.zero_le _))
  · intro a p hp
    have hpi : p ≠ i := fun e => hp 0 e.symm
    have key : ∀ q, f p ≤ f q → (p < q → f p < f q) → before f p q = false := by
      intro q h1 h2
      simp only [before, Bool.or_eq_false_iff, Bool.and_eq_false_iff, decide_eq_false_iff_not]
      refine ⟨not_lt.mpr h1, ?_⟩
      by_cases e : f p = f q
      · exact Or.inr fun hlt => absurd (h2 hlt) (by rw [e]; exact lt_irrefl _)
      · exact Or.inl e
    match a with
    | ⟨0, _⟩ => exact key i (h.first.le p) (h.first.lt p)
    | ⟨1, _⟩ => exact key j (h.le p hpi) (h.lt p hpi)

end Cert.TopTwo

end
-- ==== Proof.MoeSteps.lean ====
/-
  The expert kernel's run of sixteen grid points per row block (eight experts, two halves of the inner width), as payloads of
  the input blocks: the first point stores the hidden rows and the gates and starts the sum, every point adds its term, the
  last writes the row block.
-/
module

public import proofs.«01_k».proof.Proof.Gen.MoeIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeProof

open Cert.MoeIdeal Cert.MoeIdeal.Gen

variable (m : (ℓ : Loc nD τ sig) → Buf (Elt Ideal) ℓ)

/-- The gates of a row block as the run's first point stores them, from the rows' block, norm gain, shift, scale and router. -/
def GATES (x : FVec Ideal S1x512x1024 .f32) (g : FVec Ideal S1x1024 .f32) (sh sc : FVec Ideal S1x1x1024 .f32) (w : FVec Ideal S1024x128 .f32) :
    FVec Ideal S512x128 .f32 :=
  k0_pay19 (F := Ideal) (k0_pay16 (F := Ideal) (k0_pay6 (F := Ideal) x g sh sc) (k0_pay7 (F := Ideal) x g sh sc) (k0_pay8 (F := Ideal) w) (k0_pay9 (F := Ideal) w))
    (k0_pay17 (F := Ideal) (k0_pay6 (F := Ideal) x g sh sc) (k0_pay7 (F := Ideal) x g sh sc) (k0_pay8 (F := Ideal) w) (k0_pay9 (F := Ideal) w))
    (k0_pay18 (F := Ideal) (k0_pay6 (F := Ideal) x g sh sc) (k0_pay7 (F := Ideal) x g sh sc) (k0_pay8 (F := Ideal) w) (k0_pay9 (F := Ideal) w))

theorem first_hid (c : Dev nD) (t : Fin cfg0.N) (h0 : t.val % 16 = 0) (h1 : ¬t.val % 16 = 15) :
    (outsAt0 m c t.val t.isLt).2.1 = k0_pay4 (F := Ideal) (iblk m c 0 t) (iblk m c 1 t) (iblk m c 2 t) (iblk m c 3 t) := by
  rw [outsAt0_A m c t h0 h1]; frame_out; simp only [k0_pay4, k0_pay3]

theorem first_acc (c : Dev nD) (t : Fin cfg0.N) (h0 : t.val % 16 = 0) (h1 : ¬t.val % 16 = 15) :
    (outsAt0 m c t.val t.isLt).2.2.1 = k0_pay1 (F := Ideal) (k0_pay20 (F := Ideal))
      (k0_pay21 (F := Ideal) (grid0.coords t) (k0_pay4 (F := Ideal) (iblk m c 0 t) (iblk m c 1 t) (iblk m c 2 t) (iblk m c 3 t))
        (GATES (iblk m c 0 t) (iblk m c 1 t) (iblk m c 2 t) (iblk m c 3 t) (iblk m c 5 t)) (iblk m c 6 t) (iblk m c 7 t)) (iblk m c 8 t) := by
  rw [outsAt0_A m c t h0 h1]; frame_out; simp only [GATES, k0_pay4, k0_pay6, k0_pay7, k0_pay8, k0_pay9, k0_pay5, k0_pay3]

theorem first_gates (c : Dev nD) (t : Fin cfg0.N) (h0 : t.val % 16 = 0) (h1 : ¬t.val % 16 = 15) :
    (outsAt0 m c t.val t.isLt).2.2.2 = GATES (iblk m c 0 t) (iblk m c 1 t) (iblk m c 2 t) (iblk m c 3 t) (iblk m c 5 t) := by
  rw [outsAt0_A m c t h0 h1]; frame_out; simp only [GATES, k0_pay4, k0_pay6, k0_pay7, k0_pay8, k0_pay9, k0_pay5, k0_pay3]

theorem mid_hid (c : Dev nD) (t : Fin cfg0.N) (h0 : ¬t.val % 16 = 0) (h1 : ¬t.val % 16 = 15) :
    (outsAt0 m c t.val t.isLt).2.1 = (outsAt0 m c (t.val - 1) (by omega)).2.1 := by
  rw [outsAt0_B m c t h0 h1]; rfl

theorem mid_acc (c : Dev nD) (t : Fin cfg0.N) (h0 : ¬t.val % 16 = 0) (h1 : ¬t.val % 16 = 15) :
    (outsAt0 m c t.val t.isLt).2.2.1 = k0_pay1 (F := Ideal) (outsAt0 m c (t.val - 1) (by omega)).2.2.1
      (k0_pay21 (F := Ideal) (grid0.coords t) (outsAt0 m c (t.val - 1) (by omega)).2.1 (outsAt0 m c (t.val - 1) (by omega)).2.2.2
        (iblk m c 6 t) (iblk m c 7 t)) (iblk m c 8 t) := by
  rw [outsAt0_B m c t h0 h1]; frame_out; simp only [read_unread_whole]

theorem mid_gates (c : Dev nD) (t : Fin cfg0.N) (h0 : ¬t.val % 16 = 0) (h1 : ¬t.val % 16 = 15) :
    (outsAt0 m c t.val t.isLt).2.2.2 = (outsAt0 m c (t.val - 1) (by omega)).2.2.2 := by
  rw [outsAt0_B m c t h0 h1]; rfl

theorem last_out (c : Dev nD) (t : Fin cfg0.N) (h0 : ¬t.val % 16 = 0) (h1 : t.val % 16 = 15) :
    (outsAt0 m c t.val t.isLt).1 = k0_pay2 (F := Ideal) (iblk m c 0 t) (iblk m c 4 t)
      (k0_pay1 (F := Ideal) (outsAt0 m c (t.val - 1) (by omega)).2.2.1
        (k0_pay21 (F := Ideal) (grid0.coords t) (outsAt0 m c (t.val - 1) (by omega)).2.1 (outsAt0 m c (t.val - 1) (by omega)).2.2.2
          (iblk m c 6 t) (iblk m c 7 t)) (iblk m c 8 t)) := by
  rw [outsAt0_C m c t h0 h1]; frame_out; simp only [read_unread_whole]

end Cert.MoeProof

end
-- ==== Proof.MoeGates.lean ====
/-
  The gates of the expert kernel. A row of eight logits on the first lanes, −∞ on the rest: the kernel's two row maxima and first
  lanes are the two greatest entries, and its stored row holds their softmax weights at their lanes and 0 elsewhere.
-/
module

public import proofs.«01_k».proof.Proof.TopTwo
public import proofs.«01_k».proof.Proof.MoeSteps

@[expose] public section

set_option maxRecDepth 16384

noncomputable section

open Idealize.ShloMosaic Idealize.ShloMosaic.TcCoe Idealize.SL.Sem

namespace Cert.MoeProof

open Cert.MoeIdeal Cert.MoeIdeal.Gen Cert.TopTwo

/-- The weight of an expert when `i` and `j` are the two of greatest logit: the softmax over the two logits. -/
def WEIGHT (f : Fin 8 → EReal) (i j e : Fin 8) : EReal :=
  if e = i then Ideal.div 1 (1 + Ideal.exp (f j - f i))
  else if e = j then Ideal.exp (f j - f i) * Ideal.div 1 (1 + Ideal.exp (f j - f i)) else 0

theorem mask_bot : (Named.named κ "mask" 0xF149F2CA#32 : Ideal .f32) = (⊥ : EReal) := by
  rfl

theorem eq_lane (k : Fin 128) (i : Fin 8) : IntOp.cmpi CmpIPredicate.eq (BitVec.ofNat 32 k.val) (BitVec.ofNat 32 i.val) = BitVec.ofBool (decide (k = lane i)) := by
  have : (BitVec.ofNat 32 k.val = BitVec.ofNat 32 i.val) ↔ k = lane i := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  exact congrArg BitVec.ofBool (by rw [Bool.eq_iff_iff, beq_iff_eq, decide_eq_true_iff]; exact this)

theorem select_eq {α : Type} (k : Fin 128) (i : Fin 8) (a b : α) :
    Scalar.select (IntOp.cmpi CmpIPredicate.eq (BitVec.ofNat 32 k.val) (BitVec.ofNat 32 i.val)) a b = if k = lane i then a else b := by
  rw [eq_lane]
  by_cases h : k = lane i <;> simp [h, Scalar.select]

section
variable (a b : FVec Ideal S512x1024 .bf16) (u v : FVec Ideal S1024x128 .bf16) (f : Fin 8 → EReal) (hf : ∀ k, f k ≠ ⊥)
  (i j : Fin 8) (T : Two f i j) (r : Fin 512) (hL : ∀ k : Fin 128, k0_pay10 (F := Ideal) a b u v (ix2 r k) = Wide f k)
include hf T hL

theorem max_one : k0_pay11 (F := Ideal) a b u v (ix2 r 0) = f i := by
  simp only [k0_pay11]
  generalize k0_pay10 (F := Ideal) a b u v = L at hL
  pointwise
  rw [show Ideal.ofBits FTy.f32 4286578688#32 = ⊥ from rfl]
  simp only [hL]
  rw [fold_max _ _ (first_wide f hf i j T), wide_lane]

theorem lane_one : k0_pay12 (F := Ideal) a b u v (ix2 r 0) = BitVec.ofNat 32 i.val := by
  have h := max_one a b u v f hf i j T r hL
  simp only [k0_pay12]
  generalize k0_pay11 (F := Ideal) a b u v = M at h
  generalize k0_pay10 (F := Ideal) a b u v = L at hL
  pointwise
  simp only [hL, h]
  have := fold_min _ _ (first_wide f hf i j T)
  rw [wide_lane] at this
  exact this

theorem rest (k : Fin 128) : k0_pay13 (F := Ideal) a b u v (ix2 r k) = if k = lane i then ⊥ else Wide f k := by
  have h := lane_one a b u v f hf i j T r hL
  simp only [k0_pay13]
  generalize k0_pay12 (F := Ideal) a b u v = M at h
  generalize k0_pay10 (F := Ideal) a b u v = L at hL
  pointwise
  simp only [h, hL]
  rw [select_eq, mask_bot]

theorem max_two : k0_pay14 (F := Ideal) a b u v (ix2 r 0) = f j := by
  have h := rest a b u v f hf i j T r hL
  simp only [k0_pay14]
  generalize k0_pay13 (F := Ideal) a b u v = L at h
  pointwise
  rw [show Ideal.ofBits FTy.f32 4286578688#32 = ⊥ from rfl]
  simp only [h]
  rw [fold_max _ _ (second_wide f hf i j T), wide_lane, if_neg]
  exact fun e => T.ne (Fin.ext (congrArg (fun x : Fin 128 => x.val) e))

theorem ratio : k0_pay15 (F := Ideal) a b u v (ix2 r 0) = Ideal.exp (f j - f i) := by
  have h := max_two a b u v f hf i j T r hL
  have h' := max_one a b u v f hf i j T r hL
  simp only [k0_pay15]
  generalize k0_pay14 (F := Ideal) a b u v = M at h
  generalize k0_pay11 (F := Ideal) a b u v = M' at h'
  pointwise
  rw [h, h']

theorem weight_one : k0_pay16 (F := Ideal) a b u v (ix2 r 0) = Ideal.div 1 (1 + Ideal.exp (f j - f i)) := by
  have h := ratio a b u v f hf i j T r hL
  simp only [k0_pay16]
  generalize k0_pay15 (F := Ideal) a b u v = M at h
  pointwise
  rw [h]

theorem hit_one (k : Fin 128) : k0_pay17 (F := Ideal) a b u v (ix2 r k) = BitVec.ofBool (decide (k = lane i)) := by
  have h := lane_one a b u v f hf i j T r hL
  simp only [k0_pay17]
  generalize k0_pay12 (F := Ideal) a b u v = M at h
  pointwise
  rw [h]
  exact eq_lane k i

theorem weight_two (k : Fin 128) : k0_pay18 (F := Ideal) a b u v (ix2 r k)
    = if k = lane j then Ideal.exp (f j - f i) * Ideal.div 1 (1 + Ideal.exp (f j - f i)) else 0 := by
  have h := ratio a b u v f hf i j T r hL
  have h1 := weight_one a b u v f hf i j T r hL
  have h2 := rest a b u v f hf i j T r hL
  have h3 := max_two a b u v f hf i j T r hL
  have hne : lane j ≠ lane i := fun e => T.ne (Fin.ext (congrArg (fun x : Fin 128 => x.val) e))
  simp only [k0_pay18]
  generalize k0_pay16 (F := Ideal) a b u v = M1 at h1
  generalize k0_pay15 (F := Ideal) a b u v = M at h
  generalize k0_pay13 (F := Ideal) a b u v = M2 at h2
  generalize k0_pay14 (F := Ideal) a b u v = M3 at h3
  pointwise
  simp only [h, h1, h2, h3]
  have := fold_min _ _ (second_wide f hf i j T)
  rw [if_neg hne, wide_lane] at this
  rw [this]
  exact select_eq k j _ _

/-- The stored row of gates. -/
theorem gates_row (e : Fin 8) : k0_pay19 (F := Ideal) (k0_pay16 (F := Ideal) a b u v) (k0_pay17 (F := Ideal) a b u v)
    (k0_pay18 (F := Ideal) a b u v) (ix2 r (lane e)) = WEIGHT f i j e := by
  have h1 := weight_one a b u v f hf i j T r hL
  have h2 := hit_one a b u v f hf i j T r hL (lane e)
  have h3 := weight_two a b u v f hf i j T r hL (lane e)
  generalize k0_pay16 (F := Ideal) a b u v = M1 at *
  generalize k0_pay17 (F := Ideal) a b u v = M2 at *
  generalize k0_pay18 (F := Ideal) a b u v = M3 at *
  pointwise [k0_pay19]
  have q : ∀ x y : Fin 8, lane x = lane y ↔ x = y := fun x y =>
    ⟨fun h => Fin.ext (congrArg (fun x : Fin 128 => x.val) h), fun h => h ▸ rfl⟩
  simp only [q] at h2 h3
  rw [h1, h2, h3]
  unfold WEIGHT
  by_cases h : e = i <;> simp [h, Scalar.select]

end

end Cert.MoeProof

end
-- ==== Proof.MoeRefGates.lean ====
/-
  The gates of the reference expert layer: the softmax of the two greatest logits, written at their experts, is the weight that the
  two greatest entries of the row of logits name.
-/
module

public import proofs.«01_k».proof.Proof.MoeGates
public import proofs.«01_k».proof.Proof.Gen.MoeRefIdeal.Read
public import Idealize.ShloMosaic.Lib.Pipeline.ValueKit

@[expose] public section

set_option maxRecDepth 16384

noncomputable section

open Idealize.ShloMosaic Idealize.ShloMosaic.TcCoe Idealize.SL.Sem

namespace Cert.MoeProof

open Cert.MoeRefIdeal Cert.MoeRefIdeal.Gen Cert.TopTwo

theorem gt_word (a c : Ideal .f32) : (FloatOps.cmpfTotal (F := Ideal) (φ := .f32) .gt a c == 1#1) = decide ((c : EReal) < a) := by
  show (BitVec.ofBool (decide ((c : EReal) < a)) == 1#1) = _
  cases decide ((c : EReal) < a) <;> rfl

theorem along_entry (b : Fin 4) (r : Fin 4096) (q : Fin 8) (h : 2 < S4x4096x8.rank) (k : Fin (S4x4096x8.size ⟨2, h⟩)) :
    (ix3 b r q : S4x4096x8.Idx).along ⟨2, h⟩ k = ix3 b r (show Fin 8 from k) := by
  funext a
  match a with
  | ⟨0, _⟩ => rfl
  | ⟨1, _⟩ => rfl
  | ⟨2, _⟩ => rfl

/-- Where the sort takes its two first entries from. -/
theorem sort_pair {α : Type} (L : FVec Ideal S4x4096x8 .f32) (I : IVec S4x4096x8 32) (x : S4x4096x8.Idx → α) (b : Fin 4) (r : Fin 4096) (i j : Fin 8)
    (T : Two (fun k => L (ix3 b r k)) i j) (q : Fin 2) :
    extractStridedSlice S4x4096x2 (fun _ => 0) (Host.sortBy S4x4096x8 2
      (fun l r => FloatOps.cmpfTotal (F := Ideal) (φ := .f32) CmpDirection.gt l.1 r.1) (fun j => (L j, I j)) x) sliceFits_S4x4096x8_S4x4096x2 (ix3 b r q)
      = x (ix3 b r (![i, j] q)) := by
  refine (extractStridedSlice_apply _ _ _ (ix3 b r q) (ix3 b r (q.castLE (by decide))) fun a => ?_).trans ?_
  · match a with
    | ⟨0, _⟩ => exact (Nat.zero_add _).symm
    | ⟨1, _⟩ => exact (Nat.zero_add _).symm
    | ⟨2, _⟩ => exact (Nat.zero_add _).symm
  · have h := sortedFrom_two _ i j T (by decide) q
    have e := fun k => along_entry b r (q.castLE (by decide : 2 ≤ 8)) (by decide) k
    unfold Host.sortBy
    rw [dif_pos (by decide)]
    refine congrArg x ((e _).trans ?_)
    rw [← h]
    refine congrArg (fun z => ix3 b r z) ?_
    refine congrArg (fun R => sortedFrom R (q.castLE (by decide : 2 ≤ 8))) ?_
    funext k k'
    rw [gt_word]
    show decide (L _ < L _) = _
    rw [e, e]

theorem top_pair (L : FVec Ideal S4x4096x8 .f32) (b : Fin 4) (r : Fin 4096) (i j : Fin 8) (T : Two (fun k => L (ix3 b r k)) i j) (q : Fin 2) :
    (Host.topK S4x4096x2 2 (FloatOps.cmpfTotal (F := Ideal) (φ := .f32) .gt) L sliceFits_S4x4096x8_S4x4096x2).1 (ix3 b r q) = L (ix3 b r (![i, j] q))
    ∧ (Host.topK S4x4096x2 2 (FloatOps.cmpfTotal (F := Ideal) (φ := .f32) .gt) L sliceFits_S4x4096x8_S4x4096x2).2 (ix3 b r q) = BitVec.ofNat 32 (![i, j] q).val := by
  unfold Host.topK
  dsimp only
  rw [Host.sort2_eq_sortBy]
  dsimp only
  refine ⟨sort_pair L _ L b r i j T q, (sort_pair L _ _ b r i j T q).trans ?_⟩
  rw [dif_pos (by decide)]
  rfl

theorem eq_expert (i e : Fin 8) : IntOp.cmpi CmpIPredicate.eq (BitVec.ofNat 32 i.val) (BitVec.ofNat 32 e.val) = BitVec.ofBool (decide (e = i)) := by
  revert i e; decide

theorem one_hot (i e : Fin 8) : (FloatOps.uitofp FTy.f32 (IntOp.cmpi CmpIPredicate.eq (BitVec.ofNat 32 i.val) (BitVec.ofNat 32 e.val)) : Ideal .f32)
    = (if e = i then (1 : EReal) else 0) := by
  rw [eq_expert]
  by_cases h : e = i <;> simp [h, FloatOps.uitofp]

/-- The softmax of two reals, the greater first. -/
theorem soft_two (p q : ℝ) : Ideal.div (Ideal.exp ((p : EReal) - p)) (Ideal.exp ((p : EReal) - p) + Ideal.exp ((q : EReal) - p))
      = Ideal.div 1 (1 + Ideal.exp ((q : EReal) - p))
    ∧ Ideal.div (Ideal.exp ((q : EReal) - p)) (Ideal.exp ((p : EReal) - p) + Ideal.exp ((q : EReal) - p))
      = Ideal.exp ((q : EReal) - p) * Ideal.div 1 (1 + Ideal.exp ((q : EReal) - p)) := by
  have e0 : (p : EReal) - p = ((0 : ℝ) : EReal) := by rw [← EReal.coe_sub, sub_self]
  have e1 : Ideal.exp ((0 : ℝ) : EReal) = 1 := by rw [Ideal.exp_coe, Real.exp_zero]; rfl
  have hp : (0 : ℝ) < 1 + Real.exp (q - p) := by positivity
  rw [e0, e1, ← EReal.coe_sub, Ideal.exp_coe, show (1 : EReal) + (Real.exp (q - p) : EReal) = ((1 + Real.exp (q - p) : ℝ) : EReal) from rfl,
    Ideal.div_coe hp.ne', Ideal.div_coe hp.ne']
  exact ⟨rfl, by rw [one_mul]⟩

variable (x0 : FVec Ideal S4x4096x1024 .f32) (x1 : FVec Ideal S1024 .f32) (x2 x3 : FVec Ideal S4x1x1024 .f32) (x5 : FVec Ideal S1024x8 .f32)

/-- The gate of the reference at an expert. -/
theorem ref_gates (b : Fin 4) (r : Fin 4096) (f : Fin 8 → EReal) (hf : ∀ k, ∃ z : ℝ, f k = z)
    (hL : ∀ k, Read.val_main_v19 (F := Ideal) x0 x1 x2 x3 x5 (ix3 b r k) = f k) (i j : Fin 8) (T : Two f i j) (e : Fin 8) :
    Read.val_main_v35 (F := Ideal) x0 x1 x2 x3 x5 (ix3 b r e) = WEIGHT f i j e := by
  simp only [Read.val_main_v35_apply, Read.val_main_v34_apply, Read.val_main_v33_apply, Read.val_main_v32_apply, Read.val_main_v31_apply,
    Read.val_main_v30_apply, Read.val_main_v29_apply, Read.val_main_v28_apply, Read.val_main_v27_apply, Read.val_main_v26_apply,
    Read.val_main_v25_apply, Read.val_main_v24_apply, Read.val_main_v23_apply, Read.val_main_v22_apply, Read.val_main_v21_apply,
    Read.val_main_call0_v4_apply, Read.val_main_call0_v3_apply, Read.val_main_call0_v2_apply, Read.val_main_call0_v1_apply,
    Read.val_main_call0_v0_apply, Read.val_main_cst_6_apply, Read.val_main_cst_5_apply, Read.val_main_cst_4_apply]
  simp only [Read.val_main_v20, Read.val_main_values, Read.val_main_indices, Read.val_main_cst_3]
  generalize Read.val_main_v19 (F := Ideal) x0 x1 x2 x3 x5 = L at hL
  have T' : Two (fun k => L (ix3 b r k)) i j := by rw [show (fun k => L (ix3 b r k)) = f from funext hL]; exact T
  have hV := fun q => (top_pair L b r i j T' q).1
  have hI := fun q => (top_pair L b r i j T' q).2
  generalize (Host.topK S4x4096x2 2 (FloatOps.cmpfTotal (F := Ideal) (φ := .f32) .gt) L sliceFits_S4x4096x8_S4x4096x2).1 = V at hV
  generalize (Host.topK S4x4096x2 2 (FloatOps.cmpfTotal (F := Ideal) (φ := .f32) .gt) L sliceFits_S4x4096x8_S4x4096x2).2 = I at hI
  pointwise
  simp only [hL] at hV
  have i1 : ∀ x : Fin 2, Read.idx_main_call0_v0 (Read.idx_main_call0_v2 (Read.idx_main_v35 (ix3 b r e) x)) = ix3 b r x := by
    intro x; funext a; match a with | ⟨0, _⟩ => rfl | ⟨1, _⟩ => rfl | ⟨2, _⟩ => rfl
  have i2 : ∀ x : Fin 2, Read.idx_main_v32 (Read.idx_main_v33 (Read.idx_main_v35 (ix3 b r e) x)) = ix3 b r x := by
    intro x; funext a; match a with | ⟨0, _⟩ => rfl | ⟨1, _⟩ => rfl | ⟨2, _⟩ => rfl
  have i3 : ∀ x k : Fin 2, Read.idx_main_v27 (Read.idx_main_v28 (Read.idx_main_v29 (ix3 b r x))) k = ix3 b r k := by
    intro x k; funext a; match a with | ⟨0, _⟩ => rfl | ⟨1, _⟩ => rfl | ⟨2, _⟩ => rfl
  simp only [i1, i2, i3, hV, hI]
  have m : max (Ideal.ofBits FTy.f32 4286578688#32) (Finset.fold max (Ideal.ofBits FTy.f32 4286578688#32) (fun x : Fin 2 => f (![i, j] x)) Finset.univ) = f i := by
    rw [show Ideal.ofBits FTy.f32 4286578688#32 = (⊥ : EReal) from rfl]
    rw [fold_max (fun x : Fin 2 => f (![i, j] x)) (0 : Fin 2) ⟨fun k => T.first.le _, fun k hk => absurd hk (by omega)⟩]
    exact max_eq_right bot_le
  rw [m]
  simp only [Fin.sum_univ_two, one_hot]
  show (if e = i then (1 : EReal) else 0) * Ideal.div (Ideal.exp (f i - f i)) (Ideal.exp (f i - f i) + Ideal.exp (f j - f i))
    + (if e = j then (1 : EReal) else 0) * Ideal.div (Ideal.exp (f j - f i)) (Ideal.exp (f i - f i) + Ideal.exp (f j - f i)) = _
  obtain ⟨p, hp⟩ := hf i
  obtain ⟨q, hq⟩ := hf j
  unfold WEIGHT
  rw [hp, hq, (soft_two p q).1, (soft_two p q).2]
  have ne := T.ne
  by_cases h1 : e = i
  · have h2 : ¬ e = j := fun h => ne (h.symm.trans h1)
    simp [h1, h2, Ne.symm ne]
  · by_cases h2 : e = j <;> simp [h1, h2, ne]

end Cert.MoeProof

end
-- ==== Proof.MoeExperts.lean ====
/-
  The experts of the reference layer, one by one: the reference runs its eight experts as eight stretches of stages; each stretch is the
  same sum of activation and down projection, at that expert's weights.
-/
module

public import proofs.«01_k».proof.Proof.Gen.MoeRefIdeal.Read
public import Idealize.ShloMosaic.Lib.Pipeline.ValueKit

@[expose] public section

set_option maxRecDepth 16384

noncomputable section

open Idealize.ShloMosaic Idealize.ShloMosaic.TcCoe Idealize.SL.Sem

namespace Cert.MoeProof

open Cert.MoeRefIdeal Cert.MoeRefIdeal.Gen

/-- An expert's product of gated activation and down projection at one inner unit, of the hidden rows `H`. -/
def PROD (H : FVec Ideal S4x4096x1024 .f32) (wg wu : FVec Ideal S8x1024x3584 .f32) (wd : FVec Ideal S8x3584x1024 .f32)
    (e : Fin 8) (b : Fin 4) (r : Fin 4096) (d : Fin 1024) (f : Fin 3584) : EReal :=
  (∑ k : Fin 1024, H (ix3 b r k) * wg (ix3 e k f)) * Ideal.div 1 (1 + Ideal.exp (-∑ k : Fin 1024, H (ix3 b r k) * wg (ix3 e k f)))
    * (∑ k : Fin 1024, H (ix3 b r k) * wu (ix3 e k f)) * wd (ix3 e f d)

variable (x0 : FVec Ideal S4x4096x1024 .f32) (x1 : FVec Ideal S1024 .f32) (x2 x3 : FVec Ideal S4x1x1024 .f32) (x5 : FVec Ideal S1024x8 .f32)
  (x6 x7 : FVec Ideal S8x1024x3584 .f32) (x8 : FVec Ideal S8x3584x1024 .f32)

theorem expert_0 (b : Fin 4) (r : Fin 4096) (d : Fin 1024) :
    Read.val_main_v48 (F := Ideal) x0 x1 x2 x3 x6 x7 x8 (ix3 b r d)
      = ∑ f : Fin 3584, PROD (Read.val_main_v18 (F := Ideal) x0 x1 x2 x3) x6 x7 x8 0 b r d f := by
  simp only [Read.val_main_v48_apply, Read.val_main_v47_apply, Read.val_main_v46_apply, Read.val_main_v45_apply, Read.val_main_v44_apply, Read.val_main_v43_apply, Read.val_main_v42_apply, Read.val_main_v41_apply, Read.val_main_v40_apply, Read.val_main_v39_apply, Read.val_main_v38_apply, Read.val_main_call1_v5_apply, Read.val_main_call1_v4_apply, Read.val_main_call1_v3_apply, Read.val_main_call1_v2_apply, Read.val_main_call1_v1_apply, Read.val_main_call1_v0_apply, Read.val_main_call1_cst_apply, Read.val_main_call1_cst_0_apply]
  generalize Read.val_main_v18 (F := Ideal) x0 x1 x2 x3 = H
  unfold PROD
  pointwise
  blk_point []

theorem expert_1 (b : Fin 4) (r : Fin 4096) (d : Fin 1024) :
    Read.val_main_v63 (F := Ideal) x0 x1 x2 x3 x6 x7 x8 (ix3 b r d)
      = ∑ f : Fin 3584, PROD (Read.val_main_v18 (F := Ideal) x0 x1 x2 x3) x6 x7 x8 1 b r d f := by
  simp only [Read.val_main_v63_apply, Read.val_main_v62_apply, Read.val_main_v61_apply, Read.val_main_v60_apply, Read.val_main_v59_apply, Read.val_main_v58_apply, Read.val_main_v57_apply, Read.val_main_v56_apply, Read.val_main_v55_apply, Read.val_main_v54_apply, Read.val_main_v53_apply, Read.val_main_call2_v5_apply, Read.val_main_call2_v4_apply, Read.val_main_call2_v3_apply, Read.val_main_call2_v2_apply, Read.val_main_call2_v1_apply, Read.val_main_call2_v0_apply, Read.val_main_call2_cst_apply, Read.val_main_call2_cst_0_apply]
  generalize Read.val_main_v18 (F := Ideal) x0 x1 x2 x3 = H
  unfold PROD
  pointwise
  blk_point []

theorem expert_2 (b : Fin 4) (r : Fin 4096) (d : Fin 1024) :
    Read.val_main_v78 (F := Ideal) x0 x1 x2 x3 x6 x7 x8 (ix3 b r d)
      = ∑ f : Fin 3584, PROD (Read.val_main_v18 (F := Ideal) x0 x1 x2 x3) x6 x7 x8 2 b r d f := by
  simp only [Read.val_main_v78_apply, Read.val_main_v77_apply, Read.val_main_v76_apply, Read.val_main_v75_apply, Read.val_main_v74_apply, Read.val_main_v73_apply, Read.val_main_v72_apply, Read.val_main_v71_apply, Read.val_main_v70_apply, Read.val_main_v69_apply, Read.val_main_v68_apply, Read.val_main_call3_v5_apply, Read.val_main_call3_v4_apply, Read.val_main_call3_v3_apply, Read.val_main_call3_v2_apply, Read.val_main_call3_v1_apply, Read.val_main_call3_v0_apply, Read.val_main_call3_cst_apply, Read.val_main_call3_cst_0_apply]
  generalize Read.val_main_v18 (F := Ideal) x0 x1 x2 x3 = H
  unfold PROD
  pointwise
  blk_point []

theorem expert_3 (b : Fin 4) (r : Fin 4096) (d : Fin 1024) :
    Read.val_main_v93 (F := Ideal) x0 x1 x2 x3 x6 x7 x8 (ix3 b r d)
      = ∑ f : Fin 3584, PROD (Read.val_main_v18 (F := Ideal) x0 x1 x2 x3) x6 x7 x8 3 b r d f := by
  simp only [Read.val_main_v93_apply, Read.val_main_v92_apply, Read.val_main_v91_apply, Read.val_main_v90_apply, Read.val_main_v89_apply, Read.val_main_v88_apply, Read.val_main_v87_apply, Read.val_main_v86_apply, Read.val_main_v85_apply, Read.val_main_v84_apply, Read.val_main_v83_apply, Read.val_main_call4_v5_apply, Read.val_main_call4_v4_apply, Read.val_main_call4_v3_apply, Read.val_main_call4_v2_apply, Read.val_main_call4_v1_apply, Read.val_main_call4_v0_apply, Read.val_main_call4_cst_apply, Read.val_main_call4_cst_0_apply]
  generalize Read.val_main_v18 (F := Ideal) x0 x1 x2 x3 = H
  unfold PROD
  pointwise
  blk_point []

theorem expert_4 (b : Fin 4) (r : Fin 4096) (d : Fin 1024) :
    Read.val_main_v108 (F := Ideal) x0 x1 x2 x3 x6 x7 x8 (ix3 b r d)
      = ∑ f : Fin 3584, PROD (Read.val_main_v18 (F := Ideal) x0 x1 x2 x3) x6 x7 x8 4 b r d f := by
  simp only [Read.val_main_v108_apply, Read.val_main_v107_apply, Read.val_main_v106_apply, Read.val_main_v105_apply, Read.val_main_v104_apply, Read.val_main_v103_apply, Read.val_main_v102_apply, Read.val_main_v101_apply, Read.val_main_v100_apply, Read.val_main_v99_apply, Read.val_main_v98_apply, Read.val_main_call5_v5_apply, Read.val_main_call5_v4_apply, Read.val_main_call5_v3_apply, Read.val_main_call5_v2_apply, Read.val_main_call5_v1_apply, Read.val_main_call5_v0_apply, Read.val_main_call5_cst_apply, Read.val_main_call5_cst_0_apply]
  generalize Read.val_main_v18 (F := Ideal) x0 x1 x2 x3 = H
  unfold PROD
  pointwise
  blk_point []

theorem expert_5 (b : Fin 4) (r : Fin 4096) (d : Fin 1024) :
    Read.val_main_v123 (F := Ideal) x0 x1 x2 x3 x6 x7 x8 (ix3 b r d)
      = ∑ f : Fin 3584, PROD (Read.val_main_v18 (F := Ideal) x0 x1 x2 x3) x6 x7 x8 5 b r d f := by
  simp only [Read.val_main_v123_apply, Read.val_main_v122_apply, Read.val_main_v121_apply, Read.val_main_v120_apply, Read.val_main_v119_apply, Read.val_main_v118_apply, Read.val_main_v117_apply, Read.val_main_v116_apply, Read.val_main_v115_apply, Read.val_main_v114_apply, Read.val_main_v113_apply, Read.val_main_call6_v5_apply, Read.val_main_call6_v4_apply, Read.val_main_call6_v3_apply, Read.val_main_call6_v2_apply, Read.val_main_call6_v1_apply, Read.val_main_call6_v0_apply, Read.val_main_call6_cst_apply, Read.val_main_call6_cst_0_apply]
  generalize Read.val_main_v18 (F := Ideal) x0 x1 x2 x3 = H
  unfold PROD
  pointwise
  blk_point []

theorem expert_6 (b : Fin 4) (r : Fin 4096) (d : Fin 1024) :
    Read.val_main_v138 (F := Ideal) x0 x1 x2 x3 x6 x7 x8 (ix3 b r d)
      = ∑ f : Fin 3584, PROD (Read.val_main_v18 (F := Ideal) x0 x1 x2 x3) x6 x7 x8 6 b r d f := by
  simp only [Read.val_main_v138_apply, Read.val_main_v137_apply, Read.val_main_v136_apply, Read.val_main_v135_apply, Read.val_main_v134_apply, Read.val_main_v133_apply, Read.val_main_v132_apply, Read.val_main_v131_apply, Read.val_main_v130_apply, Read.val_main_v129_apply, Read.val_main_v128_apply, Read.val_main_call7_v5_apply, Read.val_main_call7_v4_apply, Read.val_main_call7_v3_apply, Read.val_main_call7_v2_apply, Read.val_main_call7_v1_apply, Read.val_main_call7_v0_apply, Read.val_main_call7_cst_apply, Read.val_main_call7_cst_0_apply]
  generalize Read.val_main_v18 (F := Ideal) x0 x1 x2 x3 = H
  unfold PROD
  pointwise
  blk_point []

theorem expert_7 (b : Fin 4) (r : Fin 4096) (d : Fin 1024) :
    Read.val_main_v153 (F := Ideal) x0 x1 x2 x3 x6 x7 x8 (ix3 b r d)
      = ∑ f : Fin 3584, PROD (Read.val_main_v18 (F := Ideal) x0 x1 x2 x3) x6 x7 x8 7 b r d f := by
  simp only [Read.val_main_v153_apply, Read.val_main_v152_apply, Read.val_main_v151_apply, Read.val_main_v150_apply, Read.val_main_v149_apply, Read.val_main_v148_apply, Read.val_main_v147_apply, Read.val_main_v146_apply, Read.val_main_v145_apply, Read.val_main_v144_apply, Read.val_main_v143_apply, Read.val_main_call8_v5_apply, Read.val_main_call8_v4_apply, Read.val_main_call8_v3_apply, Read.val_main_call8_v2_apply, Read.val_main_call8_v1_apply, Read.val_main_call8_v0_apply, Read.val_main_call8_cst_apply, Read.val_main_call8_cst_0_apply]
  generalize Read.val_main_v18 (F := Ideal) x0 x1 x2 x3 = H
  unfold PROD
  pointwise
  blk_point []

/-- The reference's result: the rows plus the gated, router-weighted sum of the experts. -/
theorem ref_point (x4 : FVec Ideal S4x1x1024 .f32) (b : Fin 4) (r : Fin 4096) (d : Fin 1024) :
    Read.val_main_v159 (F := Ideal) x0 x1 x2 x3 x4 x5 x6 x7 x8 (ix3 b r d)
      = x0 (ix3 b r d) + x4 (ix3 b 0 d) * ∑ e : Fin 8, Read.val_main_v35 (F := Ideal) x0 x1 x2 x3 x5 (ix3 b r e)
          * ∑ f : Fin 3584, PROD (Read.val_main_v18 (F := Ideal) x0 x1 x2 x3) x6 x7 x8 e b r d f := by
  simp only [Read.val_main_v51_apply, Read.val_main_v50_apply, Read.val_main_v49_apply, Read.val_main_v37_apply, Read.val_main_v66_apply, Read.val_main_v65_apply, Read.val_main_v64_apply, Read.val_main_v52_apply, Read.val_main_v81_apply, Read.val_main_v80_apply, Read.val_main_v79_apply, Read.val_main_v67_apply, Read.val_main_v96_apply, Read.val_main_v95_apply, Read.val_main_v94_apply, Read.val_main_v82_apply, Read.val_main_v111_apply, Read.val_main_v110_apply, Read.val_main_v109_apply, Read.val_main_v97_apply, Read.val_main_v126_apply, Read.val_main_v125_apply, Read.val_main_v124_apply, Read.val_main_v112_apply, Read.val_main_v141_apply, Read.val_main_v140_apply, Read.val_main_v139_apply, Read.val_main_v127_apply, Read.val_main_v156_apply, Read.val_main_v155_apply, Read.val_main_v154_apply, Read.val_main_v142_apply, Read.val_main_v36_apply, Read.val_main_cst_7_apply, Read.val_main_v157_apply, Read.val_main_v158_apply, Read.val_main_v159_apply]
  simp only [expert_0, expert_1, expert_2, expert_3, expert_4, expert_5, expert_6, expert_7, Fin.sum_univ_eight]
  generalize Read.val_main_v18 (F := Ideal) x0 x1 x2 x3 = H
  generalize Read.val_main_v35 (F := Ideal) x0 x1 x2 x3 x5 = G
  pointwise
  blk_point []

end Cert.MoeProof

end
-- ==== Proof.MoeReals.lean ====
/-
  Under the precondition the hidden rows and the router's logits of the expert layer are reals: the norm's root is of a positive real,
  and the rest are sums and products of reals.
-/
module

public import proofs.«01_k».proof.Proof.Gen.MoeRefIdeal.Read
public import Idealize.ShloMosaic.Lib.Pipeline.ValueKit

@[expose] public section

set_option maxRecDepth 16384

noncomputable section

open Idealize.ShloMosaic Idealize.ShloMosaic.TcCoe Idealize.SL.Sem

namespace Cert.MoeProof

open Cert.MoeRefIdeal Cert.MoeRefIdeal.Gen

/-- A value that is neither infinity. -/
def Fin' (x : EReal) : Prop := ∃ z : ℝ, x = z

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem sub_self' {x : EReal} (hx : Fin' x) : x - x = 0 := by
  obtain ⟨a, rfl⟩ := hx
  rw [← EReal.coe_sub, sub_self]; rfl

theorem Fin'.sum {n : Nat} {g : Fin n → EReal} (h : ∀ k, Fin' (g k)) : Fin' (∑ k, g k) := by
  choose z hz using h
  refine ⟨∑ k, z k, ?_⟩
  rw [show g = fun k => (z k : EReal) from funext hz]
  exact (map_sum (⟨⟨Real.toEReal, EReal.coe_zero⟩, EReal.coe_add⟩ : ℝ →+ EReal) z Finset.univ).symm

/-- The root of a mean of squares of reals, a positive constant added, is real. -/
theorem root_fin {n : Nat} {g : Fin n → EReal} (h : ∀ k, Fin' (g k)) (p q : ℝ) (hp : 0 < p) (hq : 0 < q) :
    Fin' (Ideal.rsqrt (Ideal.div (∑ k, g k * g k) (p : EReal) + (q : EReal))) := by
  choose z hz using h
  have s : ∑ k, g k * g k = ((∑ k, z k * z k : ℝ) : EReal) := by
    rw [show (fun k => g k * g k) = fun k => ((z k * z k : ℝ) : EReal) from funext fun k => by rw [hz k, EReal.coe_mul]]
    exact (map_sum (⟨⟨Real.toEReal, EReal.coe_zero⟩, EReal.coe_add⟩ : ℝ →+ EReal) (fun k => z k * z k) Finset.univ).symm
  have pos : 0 < (∑ k, z k * z k) * (1 / p) + q := by
    have : 0 ≤ ∑ k, z k * z k := Finset.sum_nonneg fun k _ => mul_self_nonneg _
    positivity
  rw [s, Ideal.div_coe hp.ne', ← EReal.coe_mul, ← EReal.coe_add, Ideal.rsqrt_coe, if_neg (by linarith), if_neg pos.ne']
  exact ⟨_, rfl⟩

theorem const_count : Ideal.ofBits FTy.f32 1149239296#32 = ((1024 : ℝ) : EReal) := by
  simp [Ideal.ofBits, Ideal.ieee, -EReal.coe_mul]
  norm_num

theorem const_eps : ∃ q : ℝ, 0 < q ∧ Ideal.ofBits FTy.f32 897988541#32 = (q : EReal) := by
  refine ⟨8796093 * 2 ^ (-43 : Int), by positivity, ?_⟩
  simp [Ideal.ofBits, Ideal.ieee, -EReal.coe_mul]

variable (x0 : FVec Ideal S4x4096x1024 .f32) (x1 : FVec Ideal S1024 .f32) (x2 x3 : FVec Ideal S4x1x1024 .f32) (x5 : FVec Ideal S1024x8 .f32)
  (h0 : ∀ i, Fin' (x0 i)) (h1 : ∀ i, Fin' (x1 i)) (h2 : ∀ i, Fin' (x2 i)) (h3 : ∀ i, Fin' (x3 i)) (h5 : ∀ i, Fin' (x5 i))
include h0 h1 h2 h3

/-- The hidden rows are real. -/
theorem hid_fin (b : Fin 4) (r : Fin 4096) (d : Fin 1024) : Fin' (Read.val_main_v18 (F := Ideal) x0 x1 x2 x3 (ix3 b r d)) := by
  simp only [Read.val_main_cst_apply, Read.val_main_v0_apply, Read.val_main_v1_apply,
    Read.val_main_v2_apply, Read.val_main_v3_apply, Read.val_main_v4_apply,
    Read.val_main_v5_apply, Read.val_main_v6_apply, Read.val_main_v7_apply,
    Read.val_main_v8_apply, Read.val_main_v9_apply, Read.val_main_v10_apply,
    Read.val_main_v11_apply, Read.val_main_v12_apply, Read.val_main_v13_apply,
    Read.val_main_v14_apply, Read.val_main_v15_apply, Read.val_main_v16_apply,
    Read.val_main_v17_apply, Read.val_main_v18_apply, Read.val_main_cst_0_apply,
    Read.val_main_cst_1_apply, Read.val_main_cst_2_apply]
  pointwise
  obtain ⟨q, hq, e⟩ := const_eps
  rw [const_count, e]
  exact (((((h0 _).mul (root_fin (fun k => h0 _) 1024 q (by norm_num) hq)).mul (h1 _)).mul (Fin'.add ⟨1, rfl⟩ (h3 _))).add (h2 _))

include h5

/-- The router's logits are real. -/
theorem logit_fin (b : Fin 4) (r : Fin 4096) (e : Fin 8) :
    Fin' (∑ k : Fin 1024, Read.val_main_v18 (F := Ideal) x0 x1 x2 x3 (ix3 b r k) * x5 (ix2 k e)) :=
  Fin'.sum fun k => (hid_fin x0 x1 x2 x3 h0 h1 h2 h3 b r k).mul (h5 _)

omit h0 h1 h2 h3 h5 in
theorem logit_ref (b : Fin 4) (r : Fin 4096) (e : Fin 8) : Read.val_main_v19 (F := Ideal) x0 x1 x2 x3 x5 (ix3 b r e)
    = ∑ k : Fin 1024, Read.val_main_v18 (F := Ideal) x0 x1 x2 x3 (ix3 b r k) * x5 (ix2 k e) := by
  rw [Read.val_main_v19_apply]
  generalize Read.val_main_v18 (F := Ideal) x0 x1 x2 x3 = H
  blk_point []

end Cert.MoeProof

end
-- ==== Proof.MoeBlocks.lean ====
/-
  The blocks of the expert kernel: where each window's block of a grid point lies, the hidden rows a run's first point keeps, and the
  gates it stores.
-/
module

public import proofs.«01_k».proof.Proof.MoeRefGates
public import proofs.«01_k».proof.Proof.MoeExperts
public import proofs.«01_k».proof.Proof.MoeReals
public import proofs.«01_k».proof.Proof.Gen.MoeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MoeProof

open Cert.MoeIdeal Cert.MoeIdeal.Gen Cert.TopTwo

variable (m : (ℓ : Loc nD τ sig) → Buf (Elt Ideal) ℓ)

/-- Where each window's block of a grid point lies: batch `t / 128`, row block `t / 16 % 8`, expert `t / 2 % 8`, half `t % 2`. -/
theorem idx : ∀ t : Fin cfg0.N, win0_0.index t = ![t.val / 128, t.val / 16 % 8, 0] ∧ win0_1.index t = ![0, 0]
    ∧ win0_2.index t = ![t.val / 128, 0, 0] ∧ win0_3.index t = ![t.val / 128, 0, 0] ∧ win0_4.index t = ![t.val / 128, 0, 0]
    ∧ win0_5.index t = ![0, 0] ∧ win0_6.index t = ![t.val / 2 % 8, 0, t.val % 2] ∧ win0_7.index t = ![t.val / 2 % 8, 0, t.val % 2]
    ∧ win0_8.index t = ![t.val / 2 % 8, t.val % 2, 0] ∧ win0_9.index t = ![t.val / 128, t.val / 16 % 8, 0] :=
  (by decide +kernel : ∀ t : Fin grid0.N, _)

theorem coord : ∀ t : Fin cfg0.N, (grid0.coords t 2).val = t.val / 2 % 8 := (by decide +kernel : ∀ t : Fin grid0.N, _)

theorem lt_of (t : Fin cfg0.N) : t.val < 512 := t.isLt

/-- The arguments of the program, by name. -/
abbrev aX (c : Dev nD) : FVec Ideal S4x4096x1024 .f32 := m ((c : Thread nD τ).loc main_arg0)
abbrev aG (c : Dev nD) : FVec Ideal S1024 .f32 := m ((c : Thread nD τ).loc main_arg1)
abbrev aShift (c : Dev nD) : FVec Ideal S4x1x1024 .f32 := m ((c : Thread nD τ).loc main_arg2)
abbrev aScale (c : Dev nD) : FVec Ideal S4x1x1024 .f32 := m ((c : Thread nD τ).loc main_arg3)
abbrev aGate (c : Dev nD) : FVec Ideal S4x1x1024 .f32 := m ((c : Thread nD τ).loc main_arg4)
abbrev aRouter (c : Dev nD) : FVec Ideal S1024x8 .f32 := m ((c : Thread nD τ).loc main_arg5)
abbrev aWg (c : Dev nD) : FVec Ideal S8x1024x3584 .f32 := m ((c : Thread nD τ).loc main_arg6)
abbrev aWu (c : Dev nD) : FVec Ideal S8x1024x3584 .f32 := m ((c : Thread nD τ).loc main_arg7)
abbrev aWd (c : Dev nD) : FVec Ideal S8x3584x1024 .f32 := m ((c : Thread nD τ).loc main_arg8)

/-- The hidden rows of the reference program. -/
abbrev HID (c : Dev nD) : FVec Ideal S4x4096x1024 .f32 :=
  Cert.MoeRefIdeal.Read.val_main_v18 (F := Ideal) (aX m c) (aG m c) (aShift m c) (aScale m c)

/-- The arguments the precondition bounds are real. -/
structure Reals (c : Dev nD) : Prop where
  x : ∀ i, Fin' (aX m c i)
  g : ∀ i, Fin' (aG m c i)
  sh : ∀ i, Fin' (aShift m c i)
  sc : ∀ i, Fin' (aScale m c i)
  w : ∀ i, Fin' (aRouter m c i)

/-- Batch of a grid point. -/
abbrev bat (t : Fin cfg0.N) : Fin 4 := ⟨t.val / 128, by have := lt_of t; omega⟩
/-- Row of the whole array of a row of the point's block. -/
abbrev row (t : Fin cfg0.N) (r : Fin 512) : Fin 4096 := ⟨t.val / 16 % 8 * 512 + r.val, by omega⟩

theorem entry_gain (c : Dev nD) : V m c main_v1 = broadcastInDim S1x1024 ![1] bcast_S1024_S1x1024_1 (aG m c) := by
  show StableHlo.after (hostOps0 ++ (hostOps0_1 ++ hostOps0_2)) (fun b => m (c, b)) (Proc.tc.devRef main_v1) = _
  simp only [hostOps0, hostOps0_1, hostOps0_2, List.cons_append, List.nil_append]
  after_results

theorem entry_router (c : Dev nD) : V m c main_v0 = pad S1024x128 ![0, 0] ![0, 120] ![0, 0] (aRouter m c)
    (sitofp (F := Ideal) .f32 (constantI S_ 32 0#32)) pads_S1024x8_S1024x128_000_01200 h_S_ := by
  show StableHlo.after (hostOps0 ++ (hostOps0_1 ++ hostOps0_2)) (fun b => m (c, b)) (Proc.tc.devRef main_v0) = _
  simp only [hostOps0, hostOps0_1, hostOps0_2, List.cons_append, List.nil_append]
  after_results
  rfl

theorem entry_wg (c : Dev nD) : V m c main_v2 = aWg m c := by
  show StableHlo.after (hostOps0 ++ (hostOps0_1 ++ hostOps0_2)) (fun b => m (c, b)) (Proc.tc.devRef main_v2) = _
  simp only [hostOps0, hostOps0_1, hostOps0_2, List.cons_append, List.nil_append]
  after_results
  rfl

theorem entry_wu (c : Dev nD) : V m c main_v3 = aWu m c := by
  show StableHlo.after (hostOps0 ++ (hostOps0_1 ++ hostOps0_2)) (fun b => m (c, b)) (Proc.tc.devRef main_v3) = _
  simp only [hostOps0, hostOps0_1, hostOps0_2, List.cons_append, List.nil_append]
  after_results
  rfl

theorem entry_wd (c : Dev nD) : V m c main_v4 = aWd m c := by
  show StableHlo.after (hostOps0 ++ (hostOps0_1 ++ hostOps0_2)) (fun b => m (c, b)) (Proc.tc.devRef main_v4) = _
  simp only [hostOps0, hostOps0_1, hostOps0_2, List.cons_append, List.nil_append]
  after_results
  rfl

theorem hid_point (c : Dev nD) (t : Fin cfg0.N) (y : S512x1024.Idx) :
    k0_pay3 (F := Ideal) (iblk m c 0 t) (iblk m c 1 t) (iblk m c 2 t) (iblk m c 3 t) y = HID m c (ix3 (bat t) (row t (y 0)) (y 1)) := by
  simp only [HID, Cert.MoeRefIdeal.Read.val_main_cst_apply, Cert.MoeRefIdeal.Read.val_main_v0_apply, Cert.MoeRefIdeal.Read.val_main_v1_apply,
    Cert.MoeRefIdeal.Read.val_main_v2_apply, Cert.MoeRefIdeal.Read.val_main_v3_apply, Cert.MoeRefIdeal.Read.val_main_v4_apply,
    Cert.MoeRefIdeal.Read.val_main_v5_apply, Cert.MoeRefIdeal.Read.val_main_v6_apply, Cert.MoeRefIdeal.Read.val_main_v7_apply,
    Cert.MoeRefIdeal.Read.val_main_v8_apply, Cert.MoeRefIdeal.Read.val_main_v9_apply, Cert.MoeRefIdeal.Read.val_main_v10_apply,
    Cert.MoeRefIdeal.Read.val_main_v11_apply, Cert.MoeRefIdeal.Read.val_main_v12_apply, Cert.MoeRefIdeal.Read.val_main_v13_apply,
    Cert.MoeRefIdeal.Read.val_main_v14_apply, Cert.MoeRefIdeal.Read.val_main_v15_apply, Cert.MoeRefIdeal.Read.val_main_v16_apply,
    Cert.MoeRefIdeal.Read.val_main_v17_apply, Cert.MoeRefIdeal.Read.val_main_v18_apply, Cert.MoeRefIdeal.Read.val_main_cst_0_apply,
    Cert.MoeRefIdeal.Read.val_main_cst_1_apply, Cert.MoeRefIdeal.Read.val_main_cst_2_apply]
  pointwise [k0_pay3]
  blk_point [iblk, V, idx t]
  rw [entry_gain]
  generalize aG m c = g
  pointwise
  blk_point [idx t]

/-- The router's block on the first eight lanes. -/
theorem router_point (c : Dev nD) (t : Fin cfg0.N) (k : Fin 1024) (e : Fin 8) :
    (iblk m c 5 t : FVec Ideal S1024x128 .f32) (ix2 k (lane e)) = aRouter m c (ix2 k e) := by
  show V m c main_v0 ((win0_5.blk t).view.emb (ix2 k (lane e))) = _
  have q : (win0_5.blk t).view.emb (ix2 k (lane e)) = ix2 k (lane e) := by blk_ext [idx t]
  rw [q, entry_router]
  generalize aRouter m c = g
  pointwise

/-- A logit of the router. -/
def LOGIT (c : Dev nD) (b : Fin 4) (r : Fin 4096) (e : Fin 8) : EReal := ∑ k : Fin 1024, HID m c (ix3 b r k) * aRouter m c (ix2 k e)

variable {m}

theorem Reals.hid {c : Dev nD} (R : Reals m c) (b : Fin 4) (r : Fin 4096) (d : Fin 1024) : Fin' (HID m c (ix3 b r d)) :=
  hid_fin _ _ _ _ R.x R.g R.sh R.sc b r d

theorem Reals.logit {c : Dev nD} (R : Reals m c) (b : Fin 4) (r : Fin 4096) (e : Fin 8) : Fin' (LOGIT m c b r e) :=
  logit_fin _ _ _ _ _ R.x R.g R.sh R.sc R.w b r e

/-- Split products whose low halves vanish are the logits, the lanes past the experts masked. -/
theorem wide_logits (a b : FVec Ideal S512x1024 .bf16) (u v : FVec Ideal S1024x128 .bf16) (r : Fin 512) (H : Fin 1024 → EReal) (w : Fin 1024 → Fin 8 → EReal)
    (ha : ∀ k, a (ix2 r k) = H k) (hb : ∀ k, b (ix2 r k) = 0) (hu : ∀ k e, u (ix2 k (lane e)) = w k e) (hv : ∀ k e, v (ix2 k (lane e)) = 0) (k : Fin 128) :
    k0_pay10 (F := Ideal) a b u v (ix2 r k) = Wide (fun e => ∑ k, H k * w k e) k := by
  pointwise [k0_pay10]
  rw [mask_bot]
  by_cases h : k.val < 8
  · obtain ⟨e, rfl⟩ : ∃ e, k = lane e := ⟨⟨k.val, h⟩, rfl⟩
    rw [wide_lane]
    simp only [ha, hb, hu, hv, zero_mul, mul_zero, Finset.sum_const_zero, add_zero]
    have : IntOp.cmpi CmpIPredicate.slt (BitVec.ofNat 32 (lane e).val) 8#32 = 1#1 := by revert e; decide
    rw [this]; rfl
  · have e : IntOp.cmpi CmpIPredicate.slt (BitVec.ofNat 32 k.val) 8#32 = 0#1 := by revert k; decide
    rw [e, Wide, dif_neg h]
    rfl

/-- The gates the first point stores are the reference program's. -/
theorem gate_point {c : Dev nD} (R : Reals m c) (t : Fin cfg0.N) (r : Fin 512) (e : Fin 8) :
    GATES (iblk m c 0 t) (iblk m c 1 t) (iblk m c 2 t) (iblk m c 3 t) (iblk m c 5 t) (ix2 r (lane e))
      = Cert.MoeRefIdeal.Read.val_main_v35 (F := Ideal) (aX m c) (aG m c) (aShift m c) (aScale m c) (aRouter m c) (ix3 (bat t) (row t r) e) := by
  obtain ⟨i, j, T⟩ := exists_two (LOGIT m c (bat t) (row t r)) 0 1 (by decide)
  rw [ref_gates _ _ _ _ _ (bat t) (row t r) (LOGIT m c (bat t) (row t r)) (R.logit _ _) (logit_ref _ _ _ _ _ _ _) i j T e]
  have hp := hid_point m c t
  have hr := router_point m c t
  unfold GATES
  refine gates_row _ _ _ _ _ (fun k => ?_) i j T r (fun k => ?_) e
  · obtain ⟨z, hz⟩ := R.logit (bat t) (row t r) k
    rw [hz]; exact EReal.coe_ne_bot z
  · refine wide_logits _ _ _ _ r (fun k => HID m c (ix3 (bat t) (row t r) k)) (fun k e => aRouter m c (ix2 k e)) (fun k => ?_) (fun k => ?_) (fun k e => ?_) (fun k e => ?_) k
    · exact hp (ix2 r k)
    · have h : k0_pay7 (F := Ideal) (iblk m c 0 t) (iblk m c 1 t) (iblk m c 2 t) (iblk m c 3 t) (ix2 r k)
          = k0_pay3 (F := Ideal) (iblk m c 0 t) (iblk m c 1 t) (iblk m c 2 t) (iblk m c 3 t) (ix2 r k)
            - k0_pay3 (F := Ideal) (iblk m c 0 t) (iblk m c 1 t) (iblk m c 2 t) (iblk m c 3 t) (ix2 r k) := rfl
      rw [h, hp (ix2 r k)]
      exact sub_self' (R.hid _ _ _)
    · pointwise [k0_pay8, k0_pay5]
      exact hr k e
    · pointwise [k0_pay9, k0_pay8, k0_pay5]
      rw [hr k e]
      exact sub_self' (R.w _)

end Cert.MoeProof

end
-- ==== Proof.MoeValue.lean ====
/-
  The value of the expert kernel: a run of sixteen points visits the eight experts, each in two halves of its inner width; the
  accumulator holds the router-weighted sum of what has been visited, and the last point stores the reference program's rows.
-/
module

public import proofs.«01_k».proof.Proof.MoeBlocks

@[expose] public section

set_option maxRecDepth 16384

noncomputable section

open Idealize.ShloMosaic Idealize.ShloMosaic.TcCoe Idealize.SL.Sem
open Idealize.ShloMosaic.Pipeline (Dat)

namespace Cert.MoeProof

open Cert.MoeIdeal Cert.MoeIdeal.Gen Cert.TopTwo

variable (m : (ℓ : Loc nD τ sig) → Buf (Elt Ideal) ℓ)

/-- A finite factor that is not negative goes through a sum. -/
theorem weight_sum {n : Nat} (w : EReal) (h0 : 0 ≤ w) (h1 : w ≠ ⊤) (g : Fin n → EReal) : w * ∑ k, g k = ∑ k, w * g k := by
  induction n with
  | zero => simp
  | succ n ih => rw [Fin.sum_univ_succ, Fin.sum_univ_succ, EReal.left_distrib_of_nonneg_of_ne_top h0 h1, ih]

/-- A softmax weight of two reals is finite and not negative. -/
theorem weight_ok (f : Fin 8 → EReal) (hf : ∀ k, Fin' (f k)) (i j e : Fin 8) : 0 ≤ WEIGHT f i j e ∧ WEIGHT f i j e ≠ ⊤ := by
  obtain ⟨p, hp⟩ := hf i
  obtain ⟨q, hq⟩ := hf j
  have pos : (0 : ℝ) < 1 + Real.exp (q - p) := by positivity
  unfold WEIGHT
  rw [hp, hq, ← EReal.coe_sub, Ideal.exp_coe, show (1 : EReal) + (Real.exp (q - p) : EReal) = ((1 + Real.exp (q - p) : ℝ) : EReal) from rfl,
    Ideal.div_coe pos.ne', one_mul, ← EReal.coe_mul]
  split
  · exact ⟨EReal.coe_nonneg.mpr (by positivity), EReal.coe_ne_top _⟩
  · split
    · exact ⟨EReal.coe_nonneg.mpr (by positivity), EReal.coe_ne_top _⟩
    · exact ⟨le_rfl, EReal.zero_ne_top⟩

/-- The gate of the reference program at a row and an expert. -/
def GREF (c : Dev nD) (b : Fin 4) (r : Fin 4096) (e : Fin 8) : EReal :=
  Cert.MoeRefIdeal.Read.val_main_v35 (F := Ideal) (aX m c) (aG m c) (aShift m c) (aScale m c) (aRouter m c) (ix3 b r e)

/-- What one half of an expert's inner width adds to a row. -/
def PART (c : Dev nD) (b : Fin 4) (r : Fin 4096) (d : Fin 1024) (e : Fin 8) (u : Fin 2) : EReal :=
  ∑ f : Fin 1792, PROD (HID m c) (aWg m c) (aWu m c) (aWd m c) e b r d ⟨u.val * 1792 + f.val, by omega⟩

/-- The reference program's whole result. -/
abbrev REF (c : Dev nD) : FVec Ideal S4x4096x1024 .f32 :=
  Cert.MoeRefIdeal.Read.val_main_v159 (F := Ideal) (aX m c) (aG m c) (aShift m c) (aScale m c) (aGate m c) (aRouter m c) (aWg m c) (aWu m c) (aWd m c)

/-- Expert of a grid point. -/
abbrev exp_ (t : Fin cfg0.N) : Fin 8 := ⟨t.val / 2 % 8, by omega⟩
/-- Half of a grid point. -/
abbrev half (t : Fin cfg0.N) : Fin 2 := ⟨t.val % 2, by omega⟩

variable {m}

theorem gref_ok {c : Dev nD} (R : Reals m c) (b : Fin 4) (r : Fin 4096) (e : Fin 8) : 0 ≤ GREF m c b r e ∧ GREF m c b r e ≠ ⊤ := by
  obtain ⟨i, j, T⟩ := exists_two (LOGIT m c b r) 0 1 (by decide)
  rw [GREF, ref_gates _ _ _ _ _ b r (LOGIT m c b r) (R.logit _ _) (logit_ref _ _ _ _ _ _ _) i j T e]
  exact weight_ok _ (R.logit _ _) i j e

/-- The gate a point picks from the stored row. -/
theorem pick (t : Fin cfg0.N) (g : Fin 128 → EReal) :
    ∑ x : Fin 128, Scalar.select (IntOp.cmpi CmpIPredicate.eq (BitVec.ofNat 32 x.val) (BitVec.ofNat 32 (grid0.coords t 2).val)) (g x) (0 : EReal) = g (lane (exp_ t)) := by
  have e : ∀ x : Fin 128, Scalar.select (IntOp.cmpi CmpIPredicate.eq (BitVec.ofNat 32 x.val) (BitVec.ofNat 32 (grid0.coords t 2).val)) (g x) (0 : EReal)
      = if x = lane (exp_ t) then g x else 0 := by
    intro x
    rw [show (grid0.coords t 2).val = (exp_ t).val from coord t]
    exact select_eq x (exp_ t) _ _
  simp only [e]
  rw [Finset.sum_ite_eq' Finset.univ (lane (exp_ t)) g]
  simp

theorem wg_point (c : Dev nD) (t : Fin cfg0.N) (k : Fin 1024) (f : Fin 1792) :
    (iblk m c 6 t : FVec Ideal S1x1024x1792 .bf16) (ix3 0 k f) = aWg m c (ix3 (exp_ t) k ⟨t.val % 2 * 1792 + f.val, by omega⟩) := by
  show V m c main_v2 ((win0_6.blk t).view.emb (ix3 0 k f)) = _
  rw [entry_wg]
  blk_ext [idx t]

theorem wu_point (c : Dev nD) (t : Fin cfg0.N) (k : Fin 1024) (f : Fin 1792) :
    (iblk m c 7 t : FVec Ideal S1x1024x1792 .bf16) (ix3 0 k f) = aWu m c (ix3 (exp_ t) k ⟨t.val % 2 * 1792 + f.val, by omega⟩) := by
  show V m c main_v3 ((win0_7.blk t).view.emb (ix3 0 k f)) = _
  rw [entry_wu]
  blk_ext [idx t]

theorem wd_point (c : Dev nD) (t : Fin cfg0.N) (f : Fin 1792) (d : Fin 1024) :
    (iblk m c 8 t : FVec Ideal S1x1792x1024 .bf16) (ix3 0 f d) = aWd m c (ix3 (exp_ t) ⟨t.val % 2 * 1792 + f.val, by omega⟩ d) := by
  show V m c main_v4 ((win0_8.blk t).view.emb (ix3 0 f d)) = _
  rw [entry_wd]
  blk_ext [idx t]

/-- One point: the accumulator grows by its expert's half, weighted by its gate. -/
theorem act_point {c : Dev nD} (R : Reals m c) (t : Fin cfg0.N) (h : FVec Ideal S512x1024 .bf16) (g : FVec Ideal S512x128 .f32)
    (hh : ∀ y : S512x1024.Idx, h y = HID m c (ix3 (bat t) (row t (y 0)) (y 1)))
    (hg : ∀ (r : Fin 512) (e : Fin 8), g (ix2 r (lane e)) = GREF m c (bat t) (row t r) e)
    (acc : FVec Ideal S512x1024 .f32) (y : S512x1024.Idx) :
    k0_pay1 (F := Ideal) acc (k0_pay21 (F := Ideal) (grid0.coords t) h g (iblk m c 6 t) (iblk m c 7 t)) (iblk m c 8 t) y
      = acc y + GREF m c (bat t) (row t (y 0)) (exp_ t) * PART m c (bat t) (row t (y 0)) (y 1) (exp_ t) (half t) := by
  have ok := gref_ok R (bat t) (row t (y 0)) (exp_ t)
  have hg' := hg (y 0) (exp_ t)
  obtain rfl : h = _ := funext hh
  unfold PART
  rw [weight_sum _ ok.1 ok.2, ← hg']
  generalize HID m c = H
  unfold PROD
  pointwise [k0_pay1, k0_pay21]
  have w1 := wg_point (m := m) c t
  have w2 := wu_point (m := m) c t
  have w3 := wd_point (m := m) c t
  generalize (iblk m c 6 t : FVec Ideal S1x1024x1792 .bf16) = b6 at *
  generalize (iblk m c 7 t : FVec Ideal S1x1024x1792 .bf16) = b7 at *
  generalize (iblk m c 8 t : FVec Ideal S1x1792x1024 .bf16) = b8 at *
  have q := pick t (fun x => g (ix2 (y 0) x))
  rw [q]
  generalize g (ix2 (y 0) (lane (exp_ t))) = G
  have e : ∀ a w : EReal, a * G * w = G * (a * w) := fun a w => by rw [mul_comm a G, mul_assoc]
  simp only [zero_sub, e, w1, w2]
  exact congrArg (acc y + ·) (Finset.sum_congr rfl fun x _ => congrArg (G * ·) (congrArg (_ * ·) (w3 x (y 1))))

/-- The sum over a run's points up to the `s`-th of what each adds. -/
def UPTO (c : Dev nD) (b : Fin 4) (r : Fin 4096) (d : Fin 1024) (s : Nat) : EReal :=
  ∑ k ∈ Finset.range s, GREF m c b r ⟨k / 2 % 8, by omega⟩ * PART m c b r d ⟨k / 2 % 8, by omega⟩ ⟨k % 2, by omega⟩

theorem weight_add (w : EReal) (h0 : 0 ≤ w) (h1 : w ≠ ⊤) (a b : EReal) : w * a + w * b = w * (a + b) :=
  (EReal.left_distrib_of_nonneg_of_ne_top h0 h1 a b).symm

/-- The whole inner width is the first half and the second. -/
theorem halves (T : Fin 3584 → EReal) :
    ∑ f : Fin 3584, T f = (∑ f : Fin 1792, T ⟨0 * 1792 + f.val, by omega⟩) + ∑ f : Fin 1792, T ⟨1 * 1792 + f.val, by omega⟩ := by
  rw [show (∑ f : Fin 3584, T f) = ∑ f : Fin (1792 + 1792), T f from rfl, Fin.sum_univ_add]
  refine congrArg₂ (· + ·) (Finset.sum_congr rfl fun f _ => congrArg T (Fin.ext ?_)) (Finset.sum_congr rfl fun f _ => congrArg T (Fin.ext ?_))
  · show f.val = 0 * 1792 + f.val
    omega
  · show 1792 + f.val = 1 * 1792 + f.val
    omega

/-- Over the sixteen points of a run every expert is added whole. -/
theorem upto_all {c : Dev nD} (R : Reals m c) (b : Fin 4) (r : Fin 4096) (d : Fin 1024) :
    UPTO (m := m) c b r d 16 = ∑ e : Fin 8, GREF m c b r e * ∑ f : Fin 3584, PROD (HID m c) (aWg m c) (aWu m c) (aWd m c) e b r d f := by
  have one : ∀ e : Fin 8, GREF m c b r e * ∑ f : Fin 3584, PROD (HID m c) (aWg m c) (aWu m c) (aWd m c) e b r d f
      = GREF m c b r e * PART m c b r d e 0 + GREF m c b r e * PART m c b r d e 1 := by
    intro e
    have ok := gref_ok R b r e
    rw [weight_add _ ok.1 ok.2, halves]
    rfl
  simp only [one, Fin.sum_univ_eight]
  unfold UPTO
  generalize GREF m c b r = G
  generalize PART m c b r d = P
  simp only [Finset.sum_range_succ, Finset.sum_range_zero, zero_add]
  simp only [← add_assoc]
  rfl

/-- What a run keeps after its point `s`, for batch `b` and the rows `q`: the hidden rows, the gates and the accumulator. -/
structure Kept (c : Dev nD) (b : Fin 4) (q : Fin 512 → Fin 4096) (s : Nat) (h : FVec Ideal S512x1024 .bf16) (g : FVec Ideal S512x128 .f32)
    (a : FVec Ideal S512x1024 .f32) : Prop where
  hid : ∀ y : S512x1024.Idx, h y = HID m c (ix3 b (q (y 0)) (y 1))
  gate : ∀ (r : Fin 512) (e : Fin 8), g (ix2 r (lane e)) = GREF m c b (q r) e
  acc : ∀ y : S512x1024.Idx, a y = UPTO (m := m) c b (q (y 0)) (y 1) (s + 1)

/-- What the point before kept, with this point's batch and rows: they are the same within a run. -/
theorem kept_prev {c : Dev nD} {s : Nat} (hs : s < 15) (t : Fin cfg0.N) (n0 : ¬t.val % 16 = 0) {h : FVec Ideal S512x1024 .bf16}
    {g : FVec Ideal S512x128 .f32} {a : FVec Ideal S512x1024 .f32}
    (k : Kept (m := m) c (bat ⟨t.val - 1, by have := lt_of t; omega⟩) (row ⟨t.val - 1, by have := lt_of t; omega⟩) s h g a) :
    Kept (m := m) c (bat t) (row t) s h g a := by
  have tl := lt_of t
  have e1 : bat ⟨t.val - 1, by omega⟩ = bat t := Fin.ext (by show (t.val - 1) / 128 = t.val / 128; omega)
  have e2 : row ⟨t.val - 1, by omega⟩ = row t := funext fun r => Fin.ext (by
    show (t.val - 1) / 16 % 8 * 512 + r.val = t.val / 16 % 8 * 512 + r.val
    omega)
  exact e1 ▸ e2 ▸ k

/-- The state of a run after its point `s`. -/
theorem state {c : Dev nD} (R : Reals m c) : ∀ (s : Nat) (hs : s < 15) (t : Fin cfg0.N), t.val % 16 = s →
    Kept (m := m) c (bat t) (row t) s (outsAt0 m c t.val t.isLt).2.1 (outsAt0 m c t.val t.isLt).2.2.2 (outsAt0 m c t.val t.isLt).2.2.1 := by
  intro s
  induction s with
  | zero =>
    intro hs t ht
    have n1 : ¬t.val % 16 = 15 := by omega
    have hid : ∀ y : S512x1024.Idx, k0_pay4 (F := Ideal) (iblk m c 0 t) (iblk m c 1 t) (iblk m c 2 t) (iblk m c 3 t) y
        = HID m c (ix3 (bat t) (row t (y 0)) (y 1)) := fun y => by
      rw [← hid_point m c t y]
      pointwise [k0_pay4]
    have gate := gate_point R t
    have acc := act_point R t _ _ hid gate (k0_pay20 (F := Ideal))
    rw [← first_acc m c t ht n1] at acc
    rw [← first_hid m c t ht n1] at hid
    refine ⟨hid, fun r e => ?_, fun y => ?_⟩
    · rw [first_gates m c t ht n1]
      exact gate r e
    · rw [acc y]
      have z : k0_pay20 (F := Ideal) y = 0 := by pointwise [k0_pay20]
      rw [z, zero_add]
      unfold UPTO
      rw [Finset.sum_range_one]
      have q1 : exp_ t = ⟨0 / 2 % 8, by omega⟩ := Fin.ext (by show t.val / 2 % 8 = 0 / 2 % 8; omega)
      have q2 : half t = ⟨0 % 2, by omega⟩ := Fin.ext (by show t.val % 2 = 0 % 2; omega)
      rw [q1, q2]
  | succ s ih =>
    intro hs t ht
    have tl := lt_of t
    have n0 : ¬t.val % 16 = 0 := by omega
    have n1 : ¬t.val % 16 = 15 := by omega
    have prev := kept_prev (s := s) (by omega) t n0 (ih (by omega) ⟨t.val - 1, by omega⟩ (by show (t.val - 1) % 16 = s; omega))
    obtain ⟨hid, gate, acc⟩ := prev
    have step := act_point R t _ _ hid gate (outsAt0 m c (t.val - 1) (by omega)).2.2.1
    rw [← mid_acc m c t n0 n1] at step
    refine ⟨fun y => ?_, fun r e => ?_, fun y => ?_⟩
    · rw [mid_hid m c t n0 n1]
      exact hid y
    · rw [mid_gates m c t n0 n1]
      exact gate r e
    · rw [step y, acc y]
      have q1 : exp_ t = ⟨(s + 1) / 2 % 8, by omega⟩ := Fin.ext (by show t.val / 2 % 8 = (s + 1) / 2 % 8; omega)
      have q2 : half t = ⟨(s + 1) % 2, by omega⟩ := Fin.ext (by show t.val % 2 = (s + 1) % 2; omega)
      rw [q1, q2]
      unfold UPTO
      rw [Finset.sum_range_succ _ (s + 1)]

/-- A run's last point stores the reference program's rows. -/
theorem flush_point {c : Dev nD} (R : Reals m c) (t : Fin cfg0.N) (h1 : t.val % 16 = 15) (y : S1x512x1024.Idx) :
    (outsAt0 m c t.val t.isLt).1 y = REF m c (((cfg0.win 9).blk t).view.emb y) := by
  have tl := lt_of t
  have n0 : ¬t.val % 16 = 0 := by omega
  rw [last_out m c t n0 h1]
  have prev := kept_prev (s := 14) (by omega) t n0 (state R 14 (by omega) ⟨t.val - 1, by omega⟩ (by show (t.val - 1) % 16 = 14; omega))
  obtain ⟨hid, gate, acc⟩ := prev
  have step := act_point R t _ _ hid gate (outsAt0 m c (t.val - 1) (by omega)).2.2.1
  have tot : ∀ w : S512x1024.Idx, k0_pay1 (F := Ideal) (outsAt0 m c (t.val - 1) (by omega)).2.2.1
        (k0_pay21 (F := Ideal) (grid0.coords t) (outsAt0 m c (t.val - 1) (by omega)).2.1 (outsAt0 m c (t.val - 1) (by omega)).2.2.2
          (iblk m c 6 t) (iblk m c 7 t)) (iblk m c 8 t) w
      = ∑ e : Fin 8, GREF m c (bat t) (row t (w 0)) e * ∑ f : Fin 3584, PROD (HID m c) (aWg m c) (aWu m c) (aWd m c) e (bat t) (row t (w 0)) (w 1) f := by
    intro w
    refine Eq.trans ?_ (upto_all R (bat t) (row t (w 0)) (w 1))
    rw [step w, acc w]
    have q1 : exp_ t = ⟨15 / 2 % 8, by omega⟩ := Fin.ext (by show t.val / 2 % 8 = 15 / 2 % 8; omega)
    have q2 : half t = ⟨15 % 2, by omega⟩ := Fin.ext (by show t.val % 2 = 15 % 2; omega)
    rw [q1, q2]
    unfold UPTO
    rw [Finset.sum_range_succ _ 15]
  generalize k0_pay1 (F := Ideal) (outsAt0 m c (t.val - 1) (by omega)).2.2.1
        (k0_pay21 (F := Ideal) (grid0.coords t) (outsAt0 m c (t.val - 1) (by omega)).2.1 (outsAt0 m c (t.val - 1) (by omega)).2.2.2
          (iblk m c 6 t) (iblk m c 7 t)) (iblk m c 8 t) = A at tot ⊢
  have q : ((cfg0.win 9).blk t).view.emb y = ix3 (bat t) (row t (y 1)) (y 2) := by blk_ext [idx t]
  rw [q]
  refine Eq.trans ?_ (ref_point _ _ _ _ _ _ _ _ _ _ _ _).symm
  refine Eq.trans ?_ (congrArg (fun z => aX m c (ix3 (bat t) (row t (y 1)) (y 2)) + aGate m c (ix3 (bat t) 0 (y 2)) * z) (tot (ix2 (y 1) (y 2))))
  pointwise [k0_pay2]
  blk_point [iblk, V, idx t]

theorem final {c : Dev nD} (R : Reals m c) : (dats m 0 c).arrAt 9 cfg0.N = REF m c := by
  refine (dats m 0 c).arrAt_eq_of_covers 9 _ (by decide +kernel) fun t ht y => ?_
  blk_simp
  rw [after0_9]
  exact flush_point R t ((flush0_9 t).mp ht) y

end Cert.MoeProof

end
-- ==== Proof.MoeClaims.lean ====
/-
  The claim about the value of the routed mixture-of-experts sub-layer, for finite activations, gain, modulation and router.
-/
module

public import proofs.«01_k».proof.Defs
public import proofs.«01_k».proof.Proof.Gen.Pre_finite
public import proofs.«01_k».proof.Proof.Gen.MoeIdeal.Value
public import proofs.«01_k».proof.Proof.Gen.MoeRefIdeal.Run
public import proofs.«01_k».proof.Proof.Gen.MoeRefIdeal.Read
public import proofs.«01_k».proof.Proof.MoeValue
public import Idealize.ShloMosaic.Lib.ReduceAll
public import Idealize.ShloMosaic.Adequacy
public import Idealize.ShloMosaic.Init

@[expose] public section

set_option maxRecDepth 16384

noncomputable section

open Idealize.ShloMosaic Idealize.ShloMosaic.TcCoe Idealize.SL.Sem

namespace Cert.MoeClaims

/-- An extended real whose absolute value is below the positive infinity of the 32-bit format is a real. -/
theorem real_of_abs (x : Ideal .f32) (h : FloatOps.cmpf .olt (FloatOps.hostAbsf x) (FloatOps.ofBits (F := Ideal) .f32 0x7F800000#32) = 1#1) :
    Cert.MoeProof.Fin' x := by
  have top : FloatOps.ofBits (F := Ideal) .f32 0x7F800000#32 = (⊤ : EReal) := by
    simp [FloatOps.ofBits, FloatOps.scalar, Ideal.ofBits, Ideal.ieee]
  rw [top] at h
  induction x using EReal.rec with
  | bot => exact absurd h (by simp [FloatOps.cmpf, FloatOps.hostAbsf, FloatOps.scalar, Ideal.cmp])
  | coe r => exact ⟨r, rfl⟩
  | top => exact absurd h (by simp [FloatOps.cmpf, FloatOps.hostAbsf, FloatOps.scalar, Ideal.cmp])

instance : Subsingleton Cert.Pre_finite.S_.Idx := ⟨fun a b => funext fun d => d.elim0⟩

/-- What the precondition says of the arguments. -/
theorem reals {m : (ℓ : Loc Cert.MoeIdeal.nD Cert.MoeIdeal.τ Cert.MoeIdeal.sig) → Buf (Elt Ideal) ℓ} (h : Cert.Pre_MoeIdeal_finite m)
    (c : Dev Cert.MoeIdeal.nD) : Cert.MoeProof.Reals m c := by
  have g := congrFun (h c) (fun d => d.elim0)
  dsimp only [Cert.Pre_finite.fn, Cert.Pre_finite.fn_part1] at g
  obtain ⟨g, h5⟩ := IntOp.andi_eq_one.1 g
  obtain ⟨g, h3⟩ := IntOp.andi_eq_one.1 g
  obtain ⟨g, h2⟩ := IntOp.andi_eq_one.1 g
  obtain ⟨h0, h1⟩ := IntOp.andi_eq_one.1 g
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h5 i)⟩

/-- The reference program's result from memories that agree with the kernel's on the arguments. -/
theorem agree (x0 y0 : FVec Ideal Cert.MoeRefIdeal.S4x4096x1024 .f32) (x1 y1 : FVec Ideal Cert.MoeRefIdeal.S1024 .f32)
    (x2 y2 x3 y3 x4 y4 : FVec Ideal Cert.MoeRefIdeal.S4x1x1024 .f32) (x5 y5 : FVec Ideal Cert.MoeRefIdeal.S1024x8 .f32)
    (x6 y6 x7 y7 : FVec Ideal Cert.MoeRefIdeal.S8x1024x3584 .f32) (x8 y8 : FVec Ideal Cert.MoeRefIdeal.S8x3584x1024 .f32)
    (h : x0 = y0 ∧ x1 = y1 ∧ x2 = y2 ∧ x3 = y3 ∧ x4 = y4 ∧ x5 = y5 ∧ x6 = y6 ∧ x7 = y7 ∧ x8 = y8) :
    Cert.MoeRefIdeal.Read.val_main_v159 (F := Ideal) x0 x1 x2 x3 x4 x5 x6 x7 x8
      = Cert.MoeRefIdeal.Read.val_main_v159 (F := Ideal) y0 y1 y2 y3 y4 y5 y6 y7 y8 := by
  obtain ⟨e0, e1, e2, e3, e4, e5, e6, e7, e8⟩ := h
  rw [e0, e1, e2, e3, e4, e5, e6, e7, e8]

/-- At the ideal instance the kernel's result array and the reference program's are one function of the arguments. -/
theorem algebraic : Cert.algebraic_MoeIdeal_MoeRefIdeal_pre_finite := by
  intro m ρ m' ρ' pre hagree
  refine ⟨fun c => Cert.MoeProof.REF m c, (θ_run Cert.MoeIdeal.defs _ _).mono
    (fun r h c => ⟨(h c).1.trans (Cert.MoeProof.final (reals pre c)), (h c).2⟩) (Cert.MoeIdeal.Value.run_blocks (F := Ideal) m ρ), ?_⟩
  exact (θ_run Cert.MoeRefIdeal.defs _ _).mono (fun _ h c => ⟨(h c).1.trans
    ((Cert.MoeRefIdeal.Read.val_main_v159_eq _).trans (agree _ _ _ _ _ _ _ _ _ _ _ _ _ _ _ _ _ _ (hagree c))), (h c).2⟩)
    (Cert.MoeRefIdeal.Value.run (F := Ideal) m' ρ')

end Cert.MoeClaims

end
-- ==== Proof.AttnFrames.lean ====
/-
  The claims about the windowed attention that do not speak of its value: its runs and its one named literal.
-/
module

public import proofs.«01_k».proof.Defs
public import proofs.«01_k».proof.Proof.Gen.Attn.Frame
public import proofs.«01_k».proof.Proof.Gen.AttnIdeal.Value
public import proofs.«01_k».proof.Proof.Gen.AttnRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.AttnClaims

theorem frame_p : Cert.quiescent_Attn := fun m ρ _ => Cert.Attn.Gen.frame m ρ

theorem frame_pi : Cert.quiescent_AttnIdeal := fun m ρ _ => Cert.AttnIdeal.Gen.frame m ρ

theorem frame_ri : Cert.quiescent_AttnRefIdeal := fun m ρ _ => (θ_run Cert.AttnRefIdeal.defs _ _).mono (fun r h => ⟨fun c => (h c).2,
      Idealize.ShloMosaic.sem_eq_zero_of_no_sems (by decide) r.2⟩) (Cert.AttnRefIdeal.Value.run (F := Ideal) m ρ)

/-- The one named literal: the mask constant stands for minus infinity. -/
theorem preserves : Cert.preserves_Attn_AttnIdeal :=
  IdealRules.named_const.statement Cert.AttnIdeal.κ "mask" .f32 0xF149F2CA#32 ⊥ rfl

end Cert.AttnClaims

end
-- ==== Proof.FfnSteps.lean ====
/-
  The dense feed-forward kernel's run of two grid points per row block, as payloads of the input blocks: the first point stores the
  hidden rows and starts the sum, the second adds its half of the inner width and writes the row block.
-/
module

public import proofs.«01_k».proof.Proof.Gen.FfnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnProof

open Cert.FfnIdeal Cert.FfnIdeal.Gen

variable (m : (ℓ : Loc nD τ sig) → Buf (Elt Ideal) ℓ)

theorem first_hid (c : Dev nD) (t : Fin cfg0.N) (h0 : t.val % 2 = 0) (h1 : ¬t.val % 2 = 1) :
    (outsAt0 m c t.val t.isLt).2.1 = k0_pay1 (F := Ideal) (iblk m c 0 t) (iblk m c 1 t) (iblk m c 2 t) (iblk m c 3 t) := by
  rw [outsAt0_A m c t h0 h1]; frame_out

theorem first_acc (c : Dev nD) (t : Fin cfg0.N) (h0 : t.val % 2 = 0) (h1 : ¬t.val % 2 = 1) :
    (outsAt0 m c t.val t.isLt).2.2 = k0_pay3 (F := Ideal) (k0_pay1 (F := Ideal) (iblk m c 0 t) (iblk m c 1 t) (iblk m c 2 t) (iblk m c 3 t))
      (iblk m c 5 t) (iblk m c 6 t) (k0_pay2 (F := Ideal)) (iblk m c 7 t) := by
  rw [outsAt0_A m c t h0 h1]; frame_out

theorem last_out (c : Dev nD) (t : Fin cfg0.N) (h0 : ¬t.val % 2 = 0) (h1 : t.val % 2 = 1) :
    (outsAt0 m c t.val t.isLt).1 = k0_pay4 (F := Ideal) (iblk m c 0 t) (iblk m c 4 t)
      (k0_pay3 (F := Ideal) (outsAt0 m c (t.val - 1) (by omega)).2.1
        (iblk m c 5 t) (iblk m c 6 t) (outsAt0 m c (t.val - 1) (by omega)).2.2 (iblk m c 7 t)) := by
  rw [outsAt0_B m c t h0 h1]; frame_out; simp only [read_unread_whole]

end Cert.FfnProof

end
-- ==== Proof.FfnValue.lean ====
/-
  The dense feed-forward sub-layer: what its kernel leaves in the result array is the plain sub-layer of the argument arrays.
-/
module

public import proofs.«01_k».proof.Proof.FfnSteps
public import proofs.«01_k».proof.Proof.Gen.FfnRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnProof

open Cert.FfnIdeal Cert.FfnIdeal.Gen

variable (m : (ℓ : Loc nD τ sig) → Buf (Elt Ideal) ℓ)

/-- Where each window's block of a grid point lies: batch `t / 16`, row block `t / 2 % 8`, half `t % 2` of the inner width. -/
theorem idx : ∀ t : Fin cfg0.N, win0_0.index t = ![t.val / 16, t.val / 2 % 8, 0] ∧ win0_1.index t = ![0, 0]
    ∧ win0_2.index t = ![t.val / 16, 0, 0] ∧ win0_3.index t = ![t.val / 16, 0, 0] ∧ win0_4.index t = ![t.val / 16, 0, 0]
    ∧ win0_5.index t = ![0, t.val % 2] ∧ win0_6.index t = ![0, t.val % 2] ∧ win0_7.index t = ![t.val % 2, 0]
    ∧ win0_8.index t = ![t.val / 16, t.val / 2 % 8, 0] :=
  (by decide +kernel : ∀ t : Fin grid0.N, _)

/-- The arguments of the program, by name. -/
abbrev aX (c : Dev nD) : FVec Ideal S4x4096x1024 .f32 := m ((c : Thread nD τ).loc main_arg0)
abbrev aG (c : Dev nD) : FVec Ideal S1024 .f32 := m ((c : Thread nD τ).loc main_arg1)
abbrev aShift (c : Dev nD) : FVec Ideal S4x1x1024 .f32 := m ((c : Thread nD τ).loc main_arg2)
abbrev aScale (c : Dev nD) : FVec Ideal S4x1x1024 .f32 := m ((c : Thread nD τ).loc main_arg3)
abbrev aGate (c : Dev nD) : FVec Ideal S4x1x1024 .f32 := m ((c : Thread nD τ).loc main_arg4)
abbrev aWg (c : Dev nD) : FVec Ideal S1024x2816 .f32 := m ((c : Thread nD τ).loc main_arg5)
abbrev aWu (c : Dev nD) : FVec Ideal S1024x2816 .f32 := m ((c : Thread nD τ).loc main_arg6)
abbrev aWd (c : Dev nD) : FVec Ideal S2816x1024 .f32 := m ((c : Thread nD τ).loc main_arg7)

/-- The hidden rows of the reference program. -/
abbrev HID (c : Dev nD) : FVec Ideal S4x4096x1024 .f32 :=
  Cert.FfnRefIdeal.Read.val_main_v18 (F := Ideal) (aX m c) (aG m c) (aShift m c) (aScale m c)

/-- The product of activation and down projection at one inner unit. -/
def TERM (c : Dev nD) (b : Fin 4) (r : Fin 4096) (d : Fin 1024) (f : Fin 2816) : EReal :=
  Cert.FfnRefIdeal.Read.val_main_v22 (F := Ideal) (aX m c) (aG m c) (aShift m c) (aScale m c) (aWg m c) (aWu m c) (ix3 b r f)
    * aWd m c (ix2 f d)

/-- The reference program's whole result. -/
abbrev REF (c : Dev nD) : FVec Ideal S4x4096x1024 .f32 :=
  Cert.FfnRefIdeal.Read.val_main_v26 (F := Ideal) (aX m c) (aG m c) (aShift m c) (aScale m c) (aGate m c) (aWg m c) (aWu m c) (aWd m c)

theorem lt_of (t : Fin cfg0.N) : t.val < 64 := t.isLt

/-- The hidden rows a run of two points keeps are the reference program's. -/
theorem hid_point (c : Dev nD) (t : Fin cfg0.N) (y : S512x1024.Idx) :
    k0_pay1 (F := Ideal) (iblk m c 0 t) (iblk m c 1 t) (iblk m c 2 t) (iblk m c 3 t) y
      = HID m c (ix3 ⟨t.val / 16, by have := lt_of t; omega⟩ ⟨t.val / 2 % 8 * 512 + (y 0).val, by have : (y 0).val < 512 := (y 0).isLt; omega⟩ (y 1)) := by
  simp only [HID, Cert.FfnRefIdeal.Read.val_main_cst_apply, Cert.FfnRefIdeal.Read.val_main_v0_apply, Cert.FfnRefIdeal.Read.val_main_v1_apply,
    Cert.FfnRefIdeal.Read.val_main_v2_apply, Cert.FfnRefIdeal.Read.val_main_v3_apply, Cert.FfnRefIdeal.Read.val_main_v4_apply,
    Cert.FfnRefIdeal.Read.val_main_v5_apply, Cert.FfnRefIdeal.Read.val_main_v6_apply, Cert.FfnRefIdeal.Read.val_main_v7_apply,
    Cert.FfnRefIdeal.Read.val_main_v8_apply, Cert.FfnRefIdeal.Read.val_main_v9_apply, Cert.FfnRefIdeal.Read.val_main_v10_apply,
    Cert.FfnRefIdeal.Read.val_main_v11_apply, Cert.FfnRefIdeal.Read.val_main_v12_apply, Cert.FfnRefIdeal.Read.val_main_v13_apply,
    Cert.FfnRefIdeal.Read.val_main_v14_apply, Cert.FfnRefIdeal.Read.val_main_v15_apply, Cert.FfnRefIdeal.Read.val_main_v16_apply,
    Cert.FfnRefIdeal.Read.val_main_v17_apply, Cert.FfnRefIdeal.Read.val_main_v18_apply, Cert.FfnRefIdeal.Read.val_main_cst_0_apply,
    Cert.FfnRefIdeal.Read.val_main_cst_1_apply, Cert.FfnRefIdeal.Read.val_main_cst_2_apply]
  pointwise [k0_pay1]
  blk_point [iblk, V, idx t]

theorem act_point (c : Dev nD) (t : Fin cfg0.N) (h : FVec Ideal S512x1024 .bf16)
    (hh : ∀ y : S512x1024.Idx, h y = HID m c (ix3 ⟨t.val / 16, by have := lt_of t; omega⟩ ⟨t.val / 2 % 8 * 512 + (y 0).val, by have : (y 0).val < 512 := (y 0).isLt; omega⟩ (y 1)))
    (acc : FVec Ideal S512x1024 .f32) (y : S512x1024.Idx) :
    k0_pay3 (F := Ideal) h (iblk m c 5 t) (iblk m c 6 t) acc (iblk m c 7 t) y
      = acc y + ∑ f : Fin 1408, TERM m c ⟨t.val / 16, by have := lt_of t; omega⟩ ⟨t.val / 2 % 8 * 512 + (y 0).val, by have : (y 0).val < 512 := (y 0).isLt; omega⟩ (y 1)
          ⟨t.val % 2 * 1408 + f.val, by omega⟩ := by
  obtain rfl : h = _ := funext hh
  simp only [TERM, Cert.FfnRefIdeal.Read.val_main_v22_apply, Cert.FfnRefIdeal.Read.val_main_v21_apply, Cert.FfnRefIdeal.Read.val_main_v20_apply,
    Cert.FfnRefIdeal.Read.val_main_v19_apply, Cert.FfnRefIdeal.Read.val_main_call0_v5_apply, Cert.FfnRefIdeal.Read.val_main_call0_v4_apply,
    Cert.FfnRefIdeal.Read.val_main_call0_v3_apply, Cert.FfnRefIdeal.Read.val_main_call0_v2_apply, Cert.FfnRefIdeal.Read.val_main_call0_v1_apply,
    Cert.FfnRefIdeal.Read.val_main_call0_v0_apply, Cert.FfnRefIdeal.Read.val_main_call0_cst_apply, Cert.FfnRefIdeal.Read.val_main_call0_cst_0_apply]
  simp only [HID]
  generalize Cert.FfnRefIdeal.Read.val_main_v18 (F := Ideal) (aX m c) (aG m c) (aShift m c) (aScale m c) = H
  pointwise [k0_pay3]
  simp only [zero_sub]
  blk_point [iblk, V, idx t]

/-- The whole inner width is the first half and the second. -/
theorem halves (T : Fin 2816 → EReal) :
    ∑ f : Fin 2816, T f = (∑ f : Fin 1408, T ⟨0 * 1408 + f.val, by omega⟩) + ∑ f : Fin 1408, T ⟨1 * 1408 + f.val, by omega⟩ := by
  rw [show (∑ f : Fin 2816, T f) = ∑ f : Fin (1408 + 1408), T f from rfl, Fin.sum_univ_add]
  refine congrArg₂ (· + ·) (Finset.sum_congr rfl fun f _ => congrArg T (Fin.ext ?_)) (Finset.sum_congr rfl fun f _ => congrArg T (Fin.ext ?_))
  · show f.val = 0 * 1408 + f.val
    omega
  · show 1408 + f.val = 1 * 1408 + f.val
    omega

theorem flush_point (c : Dev nD) (t : Fin cfg0.N) (h1 : t.val % 2 = 1) (y : S1x512x1024.Idx) :
    (outsAt0 m c t.val t.isLt).1 y = REF m c (((cfg0.win 8).blk t).view.emb y) := by
  have ht := lt_of t
  rw [last_out m c t (by omega) h1]
  have e0 := first_hid m c ⟨t.val - 1, by omega⟩ (by show (t.val - 1) % 2 = 0; omega) (by show ¬(t.val - 1) % 2 = 1; omega)
  have e1 := first_acc m c ⟨t.val - 1, by omega⟩ (by show (t.val - 1) % 2 = 0; omega) (by show ¬(t.val - 1) % 2 = 1; omega)
  have hid := hid_point m c ⟨t.val - 1, by omega⟩
  have acc := act_point m c ⟨t.val - 1, by omega⟩ _ hid (k0_pay2 (F := Ideal))
  rw [← e0] at hid
  rw [← e1] at acc
  generalize (outsAt0 m c (t.val - 1) (by omega)).2.1 = h at hid ⊢
  generalize (outsAt0 m c (t.val - 1) (by omega)).2.2 = a at acc ⊢
  have q1 : (t.val - 1) / 16 = t.val / 16 := by omega
  have q2 : (t.val - 1) / 2 = t.val / 2 := by omega
  have q3 : (t.val - 1) % 2 = 0 := by omega
  simp only [q1, q2, q3] at hid acc
  have tot : ∀ w : S512x1024.Idx, k0_pay3 (F := Ideal) h (iblk m c 5 t) (iblk m c 6 t) a (iblk m c 7 t) w
      = ∑ f : Fin 2816, TERM m c ⟨t.val / 16, by omega⟩ ⟨t.val / 2 % 8 * 512 + (w 0).val, by have : (w 0).val < 512 := (w 0).isLt; omega⟩ (w 1) f := by
    intro w
    rw [act_point m c t h hid a w, acc w, halves]
    have z : k0_pay2 (F := Ideal) w = 0 := by pointwise [k0_pay2]
    simp only [h1, z, zero_add]
  generalize k0_pay3 (F := Ideal) h (iblk m c 5 t) (iblk m c 6 t) a (iblk m c 7 t) = A at tot ⊢
  obtain rfl : A = _ := funext tot
  simp only [REF, Cert.FfnRefIdeal.Read.val_main_v26_apply, Cert.FfnRefIdeal.Read.val_main_v25_apply, Cert.FfnRefIdeal.Read.val_main_v24_apply,
    Cert.FfnRefIdeal.Read.val_main_v23_apply, TERM]
  generalize Cert.FfnRefIdeal.Read.val_main_v22 (F := Ideal) (aX m c) (aG m c) (aShift m c) (aScale m c) (aWg m c) (aWu m c) = A
  pointwise [k0_pay4]
  blk_point [iblk, V, idx t]

theorem final (c : Dev nD) : (dats m 0 c).arrAt 8 cfg0.N = REF m c := by
  refine (dats m 0 c).arrAt_eq_of_covers 8 _ (by decide +kernel) fun t ht y => ?_
  blk_simp
  rw [after0_8]
  exact flush_point m c t ((flush0_8 t).mp ht) y

end Cert.FfnProof

end
-- ==== Proof.FfnClaims.lean ====
/-
  The claims about the dense feed-forward sub-layer.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnValue
public import Idealize.ShloMosaic.Adequacy
public import Idealize.ShloMosaic.Init

@[expose] public section

set_option maxRecDepth 16384

noncomputable section

open Idealize.ShloMosaic Idealize.ShloMosaic.TcCoe Idealize.SL.Sem

namespace Cert.FfnClaims

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnRefIdeal := fun m ρ _ => (θ_run Cert.FfnRefIdeal.defs _ _).mono (fun r h => ⟨fun c => (h c).2,
      Idealize.ShloMosaic.sem_eq_zero_of_no_sems (by decide) r.2⟩) (Cert.FfnRefIdeal.Value.run (F := Ideal) m ρ)

theorem preserves : Cert.preserves_Ffn_FfnIdeal := trivial

/-- At the ideal instance the kernel's result array and the reference program's are one function of the arguments. -/
theorem algebraic : Cert.algebraic_FfnIdeal_FfnRefIdeal := by
  intro m ρ m' ρ' _ hagree
  refine ⟨fun c => Cert.FfnProof.REF m c, (θ_run Cert.FfnIdeal.defs _ _).mono (fun r h c => ⟨(h c).1.trans (Cert.FfnProof.final m c), (h c).2⟩)
    (Cert.FfnIdeal.Value.run_blocks (F := Ideal) m ρ), ?_⟩
  refine (θ_run Cert.FfnRefIdeal.defs _ _).mono (fun _ h c => ⟨(h c).1.trans ?_, (h c).2⟩)
    (Cert.FfnRefIdeal.Value.run (F := Ideal) m' ρ')
  obtain ⟨e0, e1, e2, e3, e4, e5, e6, e7⟩ := hagree c
  rw [Cert.FfnRefIdeal.Read.val_main_v26_eq, e0, e1, e2, e3, e4, e5, e6, e7]

end Cert.FfnClaims

end
-- ==== Proof.NormValue.lean ====
/-
  The final norm: what its kernel leaves in the result array is the plain root-mean-square norm of the
  argument arrays, and the claims about it.
-/
module

public import proofs.«01_k».proof.Defs
public import proofs.«01_k».proof.Proof.Gen.NormIdeal.Value
public import proofs.«01_k».proof.Proof.Gen.NormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormProof

open Cert.NormIdeal Cert.NormIdeal.Gen

variable (m : (ℓ : Loc nD τ sig) → Buf (Elt Ideal) ℓ)

/-- The plain norm, as the reference program's term over its two arguments. -/
abbrev REF (x : FVec Ideal S4x4096x1024 .f32) (g : FVec Ideal S1024 .f32) : FVec Ideal S4x4096x1024 .f32 :=
  Cert.NormRefIdeal.Read.val_main_v12 (F := Ideal) x g

/-- Where each window's block of a grid point lies. -/
theorem idx : ∀ t : Fin cfg0.N, win0_0.index t = ![t.val / 4, t.val % 4, 0] ∧ win0_1.index t = ![0, 0]
    ∧ win0_2.index t = ![t.val / 4, t.val % 4, 0] :=
  (by decide +kernel : ∀ t : Fin grid0.N, _)

theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  rw [REF, ← Cert.NormRefIdeal.Read.val_main_v12_eq]
  pointwise [k0_pay1]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormProof

end
-- ==== Proof.NormClaims.lean ====
/-
  The claims about the final norm.
-/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.NormValue
public import Idealize.ShloMosaic.Adequacy
public import Idealize.ShloMosaic.Init

@[expose] public section

set_option maxRecDepth 16384

noncomputable section

open Idealize.ShloMosaic Idealize.ShloMosaic.TcCoe Idealize.SL.Sem

namespace Cert.NormClaims

theorem frame_p : Cert.quiescent_Norm := fun m ρ _ => Cert.Norm.Gen.frame m ρ

theorem frame_pi : Cert.quiescent_NormIdeal := fun m ρ _ => Cert.NormIdeal.Gen.frame m ρ

theorem frame_ri : Cert.quiescent_NormRefIdeal := fun m ρ _ => (θ_run Cert.NormRefIdeal.defs _ _).mono (fun r h => ⟨fun c => (h c).2,
      Idealize.ShloMosaic.sem_eq_zero_of_no_sems (by decide) r.2⟩) (Cert.NormRefIdeal.Value.run (F := Ideal) m ρ)

theorem preserves : Cert.preserves_Norm_NormIdeal := trivial

/-- At the ideal instance the kernel's result array and the reference program's are one function of the arguments. -/
theorem algebraic : Cert.algebraic_NormIdeal_NormRefIdeal := by
  intro m ρ m' ρ' _ hagree
  refine ⟨fun c => Cert.NormProof.REF (m ((c : Thread Cert.NormIdeal.nD Cert.NormIdeal.τ).loc Cert.NormIdeal.main_arg0)) (m ((c : Thread Cert.NormIdeal.nD Cert.NormIdeal.τ).loc Cert.NormIdeal.main_arg1)), (θ_run Cert.NormIdeal.defs _ _).mono (fun r h c => ⟨(h c).1.trans (Cert.NormProof.final m c), (h c).2⟩)
    (Cert.NormIdeal.Value.run_blocks (F := Ideal) m ρ), ?_⟩
  refine (θ_run Cert.NormRefIdeal.defs _ _).mono (fun _ h c => ⟨(h c).1.trans ?_, (h c).2⟩)
    (Cert.NormRefIdeal.Value.run (F := Ideal) m' ρ')
  obtain ⟨e0, e1⟩ := hagree c
  rw [e0, e1]
  exact Cert.NormRefIdeal.Read.val_main_v12_eq _ _

end Cert.NormClaims

end
-- ==== Proof.OutBlocks.lean ====
/-
  The output projection: where each window's block of a grid point lies, and what the host's operations leave in the arrays the kernel reads.
-/
module

public import proofs.«01_k».proof.Proof.Gen.OutProjIdeal.Value
public import proofs.«01_k».proof.Proof.Gen.OutRefIdeal.Read
public import proofs.«01_k».proof.Proof.MoeReals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProof

open Cert.OutRefIdeal.Read
open Cert.OutProjIdeal Cert.OutProjIdeal.Gen
open Cert.MoeProof (Fin' sub_self')

variable (m : (ℓ : Loc nD τ sig) → Buf (Elt Ideal) ℓ)

/-- Where each window's block of a grid point lies: batch `t / 8`, row block `t % 8`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0]
    ∧ win0_5.index t = ![t.val % 8, t.val / 8] ∧ win0_6.index t = ![t.val / 8, t.val % 8, 0] ∧ win0_7.index t = ![t.val / 8, t.val % 8, 0]
    ∧ win0_8.index t = ![t.val / 8, 0, 0] ∧ win0_9.index t = ![0, 0] ∧ win0_10.index t = ![t.val / 8, t.val % 8, 0] :=
  (by decide +kernel : ∀ t : Fin grid0.N, _)

theorem lt_of (t : Fin cfg0.N) : t.val < 32 := t.isLt

/-- The arguments of the program, by name. -/
abbrev aOf (c : Dev nD) : FVec Ideal S4x4096x384 .f32 := m ((c : Thread nD τ).loc main_arg0)
abbrev aOb (c : Dev nD) : FVec Ideal S4x4096x384 .f32 := m ((c : Thread nD τ).loc main_arg1)
abbrev aZ (c : Dev nD) : FVec Ideal S4x4096x384 .f32 := m ((c : Thread nD τ).loc main_arg2)
abbrev aG (c : Dev nD) : FVec Ideal S64 .f32 := m ((c : Thread nD τ).loc main_arg3)
abbrev aHy (c : Dev nD) : FVec Ideal S4x4096x256 .f32 := m ((c : Thread nD τ).loc main_arg4)
abbrev aSw (c : Dev nD) : FVec Ideal S4x4096x384 .f32 := m ((c : Thread nD τ).loc main_arg5)
abbrev aX (c : Dev nD) : FVec Ideal S4x4096x1024 .f32 := m ((c : Thread nD τ).loc main_arg6)
abbrev aGate (c : Dev nD) : FVec Ideal S4x1x1024 .f32 := m ((c : Thread nD τ).loc main_arg7)
abbrev aW (c : Dev nD) : FVec Ideal S1024x1024 .f32 := m ((c : Thread nD τ).loc main_arg8)

/-- Batch of a grid point. -/
abbrev bat (t : Fin cfg0.N) : Fin 4 := ⟨t.val / 8, by have := lt_of t; omega⟩
/-- Row of the whole array of a row of the point's block. -/
abbrev row (t : Fin cfg0.N) (r : Fin 512) : Fin 4096 := ⟨t.val % 8 * 512 + r.val, by omega⟩

/-- The tiled gain: lane `d` of its row is the gain of lane `d % 64` of a head. -/
theorem gain_entry (c : Dev nD) (d : Fin 384) : (V m c main_v3 : FVec Ideal S1x384 .f32) (ix2 0 d) = aG m c (ix1 ⟨d.val % 64, by omega⟩) := by
  have e : V m c main_v3 = broadcastInDim S1x384 ![1] bcast_S384_S1x384_1 (shapeCast S384 (broadcastInDim S6x64 ![0, 1] bcast_S1x64_S6x64_0_1
      (shapeCast S1x64 (aG m c) shapeCasts_S64_S1x64)) shapeCasts_S6x64_S384) := by
    show StableHlo.after hostOps0 (fun b => m (c, b)) (Proc.tc.devRef main_v3) = _
    simp only [hostOps0]
    after_results
    rfl
  rw [e]
  generalize aG m c = g
  pointwise

/-- The head matrix is one where the two lanes are of one head, zero elsewhere. -/
theorem heads_entry (c : Dev nD) (k d : Fin 384) : (V m c main_v12 : FVec Ideal S384x384 .bf16) (ix2 k d) = if k.val / 64 = d.val / 64 then (1 : EReal) else 0 := by
  have e : V m c main_v12 = uitofp (F := Ideal) .bf16 (cmpi .eq
      (broadcastInDim S384x384 ![0, 1] bcast_S384x1_S384x384_0_1 (broadcastInDim S384x1 ![0] bcast_S384_S384x1_0
        (shapeCast S384 (broadcastInDim S6x64 ![0] bcast_S6_S6x64_0 (iotaInDim S6 32 0)) shapeCasts_S6x64_S384)))
      (broadcastInDim S384x384 ![0, 1] bcast_S1x384_S384x384_0_1 (broadcastInDim S1x384 ![1] bcast_S384_S1x384_1
        (shapeCast S384 (broadcastInDim S6x64 ![0] bcast_S6_S6x64_0 (iotaInDim S6 32 0)) shapeCasts_S6x64_S384)))) := by
    show StableHlo.after hostOps0 (fun b => m (c, b)) (Proc.tc.devRef main_v12) = _
    simp only [hostOps0]
    after_results
    rfl
  rw [e]
  pointwise
  have hk := k.isLt
  have hd := d.isLt
  by_cases h : k.val / 64 = d.val / 64
  · simp [h, IntOp.cmpi, FloatOps.uitofp]
  · have q : BitVec.ofNat 32 (k.val / 64) ≠ BitVec.ofNat 32 (d.val / 64) := fun h' => h (by
      have := congrArg BitVec.toNat h'
      simp only [BitVec.toNat_ofNat] at this
      omega)
    simp [h, beq_eq_false_iff_ne.mpr q, IntOp.cmpi, FloatOps.uitofp]

/-- The transposed array: row `r`, lane `b * 256 + d` is entry `b, r, d`. -/
theorem hy_entry (c : Dev nD) (r : Fin 4096) (e : Fin 1024) : (V m c main_v14 : FVec Ideal S4096x1024 .f32) (ix2 r e)
    = aHy m c (ix3 ⟨e.val / 256, by omega⟩ r ⟨e.val % 256, by omega⟩) := by
  have e : V m c main_v14 = shapeCast S4096x1024 (transpose S4096x4x256 [1, 0, 2] (aHy m c) transposes_S4x4096x256_S4096x4x256_1_0_2) shapeCasts_S4096x4x256_S4096x1024 := by
    show StableHlo.after hostOps0 (fun b => m (c, b)) (Proc.tc.devRef main_v14) = _
    simp only [hostOps0]
    after_results
    rfl
  rw [e]
  generalize aHy m c = g
  pointwise

theorem w_entry (c : Dev nD) : V m c main_v15 = aW m c := by
  show StableHlo.after hostOps0 (fun b => m (c, b)) (Proc.tc.devRef main_v15) = _
  simp only [hostOps0]
  after_results
  rfl

/-- A head's gated norm on one lane: the head's 64 lanes `o`, the lane's own entry, gain and gate. -/
def HN (o : Fin 64 → EReal) (od g z : EReal) : EReal :=
  od * Ideal.rsqrt (Ideal.div (∑ k, o k * o k) (Ideal.ofBits FTy.f32 1115684864#32) + Ideal.ofBits FTy.f32 897988541#32) * g
    * (z * Ideal.div 1 (1 + Ideal.exp (-z)))

/-- A lane of the same head. -/
abbrev mate (d : Fin 384) (k : Fin 64) : Fin 384 := ⟨d.val / 64 * 64 + k.val, by omega⟩

/-- A sum against the column of the head matrix is the sum over the head's lanes. -/
theorem head_sum (s G : Fin 384 → EReal) (d : Fin 384) (hG : ∀ x, G x = if x.val / 64 = d.val / 64 then (1 : EReal) else 0) :
    ∑ x, s x * G x = ∑ k : Fin 64, s (mate d k) := by
  have e : (∑ x : Fin 384, s x * G x) = ∑ p : Fin 6 × Fin 64, s (finProdFinEquiv p) * G (finProdFinEquiv p) :=
    (Equiv.sum_comp (finProdFinEquiv (m := 6) (n := 64)) (fun x : Fin 384 => s x * G x)).symm
  rw [e, Fintype.sum_prod_type, Finset.sum_eq_single (⟨d.val / 64, by omega⟩ : Fin 6)]
  · refine Finset.sum_congr rfl fun k _ => ?_
    have q : (finProdFinEquiv ((⟨d.val / 64, by omega⟩ : Fin 6), k) : Fin 384) = mate d k := Fin.ext (by
      show k.val + 64 * (d.val / 64) = d.val / 64 * 64 + k.val
      omega)
    rw [q, hG, if_pos (by show (d.val / 64 * 64 + k.val) / 64 = d.val / 64; omega), mul_one]
  · intro a _ ha
    refine Finset.sum_eq_zero fun k _ => ?_
    rw [hG, if_neg, mul_zero]
    intro h
    refine ha (Fin.ext ?_)
    have h' : (k.val + 64 * a.val) / 64 = d.val / 64 := h
    show a.val = d.val / 64
    omega
  · exact fun h => absurd (Finset.mem_univ _) h

theorem const_head : Ideal.ofBits FTy.f32 1115684864#32 = ((64 : ℝ) : EReal) := by
  simp [Ideal.ofBits, Ideal.ieee, -EReal.coe_mul]
  norm_num

theorem const_inv : Ideal.ofBits FTy.f32 1015021568#32 = ((1 / 64 : ℝ) : EReal) := by
  simp [Ideal.ofBits, Ideal.ieee, -EReal.coe_mul]
  norm_num

/-- The gated head norm, from blocks whose head matrix is the one of the heads. -/
theorem dn_point (a b : FVec Ideal S1x512x384 .f32) (G : FVec Ideal S384x384 .bf16) (g : FVec Ideal S1x384 .f32) (z : FVec Ideal S1x512x384 .f32)
    (ha : ∀ r d, Fin' (a (ix3 0 r d))) (hb : ∀ r d, Fin' (b (ix3 0 r d)))
    (hG : ∀ x d, G (ix2 x d) = if x.val / 64 = d.val / 64 then (1 : EReal) else 0) (r : Fin 512) (d : Fin 384) :
    k0_pay2 (F := Ideal) a b G g z (ix2 r d)
      = HN (fun k => a (ix3 0 r (mate d k)) + b (ix3 0 r (mate d k))) (a (ix3 0 r d) + b (ix3 0 r d)) (g (ix2 0 d)) (z (ix3 0 r d)) := by
  have low : ∀ x, (a (ix3 0 r x) + b (ix3 0 r x)) * (a (ix3 0 r x) + b (ix3 0 r x)) - (a (ix3 0 r x) + b (ix3 0 r x)) * (a (ix3 0 r x) + b (ix3 0 r x)) = 0 :=
    fun x => sub_self' (((ha r x).add (hb r x)).mul ((ha r x).add (hb r x)))
  pointwise [k0_pay2]
  simp only [low, zero_mul, Finset.sum_const_zero, add_zero, zero_sub]
  rw [head_sum (fun x => (a (ix3 0 r x) + b (ix3 0 r x)) * (a (ix3 0 r x) + b (ix3 0 r x))) (fun x => G (ix2 x d)) d (fun x => hG x d)]
  rw [HN, const_head, Ideal.div_coe (by norm_num), const_inv]

theorem dn_ref (x0 x1 x2 : FVec Ideal S4x4096x384 .f32) (x3 : FVec Ideal S64 .f32) (b : Fin 4) (r : Fin 4096) (d : Fin 384) :
    Cert.OutRefIdeal.Read.val_main_v18 (F := Ideal) x0 x1 x2 x3 (ix3 b r d)
      = HN (fun k => x0 (ix3 b r (mate d k)) + x1 (ix3 b r (mate d k))) (x0 (ix3 b r d) + x1 (ix3 b r d)) (x3 (ix1 ⟨d.val % 64, by omega⟩)) (x2 (ix3 b r d)) := by
  simp only [val_main_v18_apply, val_main_v17_apply, val_main_v16_apply, val_main_call0_v5_apply, val_main_call0_v4_apply, val_main_call0_cst_0_apply, val_main_call0_v3_apply, val_main_call0_v2_apply, val_main_call0_cst_apply, val_main_call0_v1_apply, val_main_call0_v0_apply, val_main_v15_apply, val_main_v14_apply, val_main_v13_apply, val_main_v12_apply, val_main_v11_apply, val_main_v10_apply, val_main_v9_apply, val_main_v8_apply, val_main_v7_apply, val_main_cst_1_apply, val_main_v6_apply, val_main_v5_apply, val_main_cst_0_apply, val_main_v4_apply, val_main_v3_apply, val_main_cst_apply, val_main_v2_apply, val_main_v1_apply, val_main_v0_apply]
  have e1 : idx_main_v1 (idx_main_v18 (ix3 b r d)) = ix3 b r d := by
    funext a; fin_cases a <;> refine Fin.ext ?_ <;> simp [idx_main_v1, idx_main_v18] <;> omega
  have e2 : ∀ k, idx_main_v1 (idx_main_v3 (idx_main_v4 (idx_main_v10 (idx_main_v18 (ix3 b r d)))) k) = ix3 b r (mate d k) := by
    intro k
    funext a; fin_cases a <;> refine Fin.ext ?_ <;> simp [idx_main_v1, idx_main_v3, idx_main_v4, idx_main_v10, idx_main_v18, mate] <;> omega
  have e3 : idx_main_v12 (idx_main_v13 (idx_main_v18 (ix3 b r d))) = ix1 ⟨d.val % 64, by omega⟩ := by
    funext a; fin_cases a <;> refine Fin.ext ?_ <;> simp [idx_main_v12, idx_main_v13, idx_main_v18] <;> omega
  have e4 : idx_main_v15 (idx_main_v18 (ix3 b r d)) = ix3 b r d := by
    funext a; fin_cases a <;> refine Fin.ext ?_ <;> simp [idx_main_v15, idx_main_v18] <;> omega
  simp only [e1, e2, e3, e4]
  pointwise [HN]

/-- The three parts laid side by side, entry by entry. -/
theorem cat_ref (x0 x1 x2 : FVec Ideal S4x4096x384 .f32) (x3 : FVec Ideal S64 .f32) (x4 : FVec Ideal S4x4096x256 .f32) (x5 : FVec Ideal S4x4096x384 .f32)
    (b : Fin 4) (r : Fin 4096) (k : Fin 1024) :
    val_main_v19 (F := Ideal) x0 x1 x2 x3 x4 x5 (ix3 b r k)
      = if h : k.val < 384 then val_main_v18 (F := Ideal) x0 x1 x2 x3 (ix3 b r ⟨k.val, h⟩)
        else if h : k.val - 384 < 256 then x4 (ix3 b r ⟨k.val - 384, h⟩) else x5 (ix3 b r ⟨k.val - 384 - 256, by omega⟩) := by
  rw [val_main_v19]
  generalize val_main_v18 (F := Ideal) x0 x1 x2 x3 = D
  pointwise

/-- A sum over the 1024 lanes is the sum over the three parts. -/
theorem parts (T : Fin 1024 → EReal) :
    ∑ k, T k = ((∑ k : Fin 384, T ⟨k.val, by omega⟩) + ∑ k : Fin 256, T ⟨384 + k.val, by omega⟩) + ∑ k : Fin 384, T ⟨640 + k.val, by omega⟩ := by
  rw [show (∑ k, T k) = ∑ k : Fin (384 + 256 + 384), T k from rfl, Fin.sum_univ_add, Fin.sum_univ_add]
  rfl

/-- The reference's product, part by part. -/
theorem prod_ref (x0 x1 x2 : FVec Ideal S4x4096x384 .f32) (x3 : FVec Ideal S64 .f32) (x4 : FVec Ideal S4x4096x256 .f32) (x5 : FVec Ideal S4x4096x384 .f32)
    (x8 : FVec Ideal S1024x1024 .f32) (b : Fin 4) (r : Fin 4096) (e : Fin 1024) :
    val_main_v20 (F := Ideal) x0 x1 x2 x3 x4 x5 x8 (ix3 b r e)
      = ((∑ k : Fin 384, val_main_v18 (F := Ideal) x0 x1 x2 x3 (ix3 b r k) * x8 (ix2 ⟨k.val, by omega⟩ e))
          + ∑ k : Fin 256, x4 (ix3 b r k) * x8 (ix2 ⟨384 + k.val, by omega⟩ e))
        + ∑ k : Fin 384, x5 (ix3 b r k) * x8 (ix2 ⟨640 + k.val, by omega⟩ e) := by
  have h : val_main_v20 (F := Ideal) x0 x1 x2 x3 x4 x5 x8 (ix3 b r e)
      = ∑ k : Fin 1024, val_main_v19 (F := Ideal) x0 x1 x2 x3 x4 x5 (ix3 b r k) * x8 (ix2 k e) := by
    rw [val_main_v20_apply]
    refine Finset.sum_congr rfl fun k _ => congrArg₂ (· * ·) (congrArg _ ?_) (congrArg _ ?_)
    · funext a; fin_cases a <;> rfl
    · funext a; fin_cases a <;> rfl
  rw [h, parts]
  refine congrArg₂ (· + ·) (congrArg₂ (· + ·) (Finset.sum_congr rfl fun k _ => ?_) (Finset.sum_congr rfl fun k _ => ?_)) (Finset.sum_congr rfl fun k _ => ?_)
  · rw [cat_ref, dif_pos k.isLt]
  · rw [cat_ref, dif_neg (by show ¬ 384 + k.val < 384; omega), dif_pos (by show 384 + k.val - 384 < 256; omega)]
    refine congrArg₂ (· * ·) (congrArg x4 (congrArg (ix3 b r) (Fin.ext ?_))) rfl
    show 384 + k.val - 384 = k.val
    omega
  · rw [cat_ref, dif_neg (by show ¬ 640 + k.val < 384; omega), dif_neg (by show ¬ 640 + k.val - 384 < 256; omega)]
    refine congrArg₂ (· * ·) (congrArg x5 (congrArg (ix3 b r) (Fin.ext ?_))) rfl
    show 640 + k.val - 384 - 256 = k.val
    omega

end Cert.OutProof

end
-- ==== Proof.OutValue.lean ====
/-
  The output projection: what its kernel leaves in the result array is the plain output projection of the argument arrays.
-/
module

public import proofs.«01_k».proof.Proof.OutBlocks

@[expose] public section

set_option maxRecDepth 16384

noncomputable section

open Idealize.ShloMosaic Idealize.ShloMosaic.TcCoe Idealize.SL.Sem
open Idealize.ShloMosaic.Pipeline (Dat)

namespace Cert.OutProof

open Cert.OutRefIdeal.Read
open Cert.OutProjIdeal Cert.OutProjIdeal.Gen
open Cert.MoeProof (Fin' sub_self')

variable (m : (ℓ : Loc nD τ sig) → Buf (Elt Ideal) ℓ)

/-- The two scan outputs are real. -/
structure Reals (c : Dev nD) : Prop where
  f : ∀ i, Fin' (aOf m c i)
  b : ∀ i, Fin' (aOb m c i)

/-- The reference's gated head norm. -/
abbrev DN (c : Dev nD) : FVec Ideal S4x4096x384 .f32 := val_main_v18 (F := Ideal) (aOf m c) (aOb m c) (aZ m c) (aG m c)

/-- The reference's whole result. -/
abbrev REF (c : Dev nD) : FVec Ideal S4x4096x1024 .f32 :=
  val_main_v23 (F := Ideal) (aOf m c) (aOb m c) (aZ m c) (aG m c) (aHy m c) (aSw m c) (aX m c) (aGate m c) (aW m c)

theorem blk_of (c : Dev nD) (t : Fin cfg0.N) (r : Fin 512) (d : Fin 384) :
    (iblk m c 0 t : FVec Ideal S1x512x384 .f32) (ix3 0 r d) = aOf m c (ix3 (bat t) (row t r) d) := by
  blk_ext [iblk, V, idx t]

theorem blk_ob (c : Dev nD) (t : Fin cfg0.N) (r : Fin 512) (d : Fin 384) :
    (iblk m c 1 t : FVec Ideal S1x512x384 .f32) (ix3 0 r d) = aOb m c (ix3 (bat t) (row t r) d) := by
  blk_ext [iblk, V, idx t]

theorem blk_z (c : Dev nD) (t : Fin cfg0.N) (r : Fin 512) (d : Fin 384) :
    (iblk m c 2 t : FVec Ideal S1x512x384 .f32) (ix3 0 r d) = aZ m c (ix3 (bat t) (row t r) d) := by
  blk_ext [iblk, V, idx t]

theorem blk_g (c : Dev nD) (t : Fin cfg0.N) (d : Fin 384) :
    (iblk m c 3 t : FVec Ideal S1x384 .f32) (ix2 0 d) = aG m c (ix1 ⟨d.val % 64, by omega⟩) := by
  show V m c main_v3 ((win0_3.blk t).view.emb (ix2 0 d)) = _
  have q : (win0_3.blk t).view.emb (ix2 0 d) = ix2 0 d := by blk_ext [idx t]
  rw [q]
  exact gain_entry m c d

theorem blk_heads (c : Dev nD) (t : Fin cfg0.N) (k d : Fin 384) :
    (iblk m c 4 t : FVec Ideal S384x384 .bf16) (ix2 k d) = if k.val / 64 = d.val / 64 then (1 : EReal) else 0 := by
  show V m c main_v12 ((win0_4.blk t).view.emb (ix2 k d)) = _
  have q : (win0_4.blk t).view.emb (ix2 k d) = ix2 k d := by blk_ext [idx t]
  rw [q]
  exact heads_entry m c k d

theorem blk_hy (c : Dev nD) (t : Fin cfg0.N) (r : Fin 512) (d : Fin 256) :
    (iblk m c 5 t : FVec Ideal S512x256 .f32) (ix2 r d) = aHy m c (ix3 (bat t) (row t r) d) := by
  have ht := lt_of t
  show V m c main_v14 ((win0_5.blk t).view.emb (ix2 r d)) = _
  have q : (win0_5.blk t).view.emb (ix2 r d) = ix2 (row t r) ⟨t.val / 8 * 256 + d.val, by omega⟩ := by blk_ext [idx t]
  rw [q]
  refine (hy_entry m c _ _).trans (congrArg (aHy m c) ?_)
  funext a
  fin_cases a <;> refine Fin.ext ?_
  · show (t.val / 8 * 256 + d.val) / 256 = t.val / 8; omega
  · rfl
  · show (t.val / 8 * 256 + d.val) % 256 = d.val; omega

theorem blk_sw (c : Dev nD) (t : Fin cfg0.N) (r : Fin 512) (d : Fin 384) :
    (iblk m c 6 t : FVec Ideal S1x512x384 .f32) (ix3 0 r d) = aSw m c (ix3 (bat t) (row t r) d) := by
  blk_ext [iblk, V, idx t]

theorem blk_w (c : Dev nD) (t : Fin cfg0.N) (k e : Fin 1024) :
    (iblk m c 9 t : FVec Ideal S1024x1024 .bf16) (ix2 k e) = aW m c (ix2 k e) := by
  show V m c main_v15 ((win0_9.blk t).view.emb (ix2 k e)) = _
  have q : (win0_9.blk t).view.emb (ix2 k e) = ix2 k e := by blk_ext [idx t]
  rw [q, w_entry]

/-- The rows the kernel forms from the scans are the reference's gated head norm. -/
theorem dn_block (c : Dev nD) (R : Reals m c) (t : Fin cfg0.N) (r : Fin 512) (d : Fin 384) :
    k0_pay2 (F := Ideal) (iblk m c 0 t) (iblk m c 1 t) (iblk m c 4 t) (iblk m c 3 t) (iblk m c 2 t) (ix2 r d) = DN m c (ix3 (bat t) (row t r) d) := by
  refine (dn_point _ _ _ _ _ (fun r d => by rw [blk_of]; exact R.f _) (fun r d => by rw [blk_ob]; exact R.b _) (blk_heads m c t) r d).trans ?_
  rw [DN, dn_ref, blk_g, blk_z, blk_of, blk_ob]
  refine congrArg (HN · _ _ _) (funext fun k => ?_)
  rw [blk_of, blk_ob]

/-- What is stored, from the rows and the blocks. -/
theorem out_point (D : FVec Ideal S512x384 .bf16) (w1 : FVec Ideal S384x1024 .bf16) (hy : FVec Ideal S512x256 .f32) (w2 : FVec Ideal S256x1024 .bf16)
    (sw : FVec Ideal S1x512x384 .f32) (w3 : FVec Ideal S384x1024 .bf16) (x : FVec Ideal S1x512x1024 .f32) (g : FVec Ideal S1x1x1024 .f32) (r : Fin 512) (e : Fin 1024) :
    k0_pay1 (F := Ideal) D w1 hy w2 sw w3 x g (ix3 0 r e)
      = x (ix3 0 r e) + g (ix3 0 0 e) * (((∑ k, D (ix2 r k) * w1 (ix2 k e)) + ∑ k, hy (ix2 r k) * w2 (ix2 k e)) + ∑ k, sw (ix3 0 r k) * w3 (ix2 k e)) := by
  pointwise [k0_pay1]

/-- The three row ranges of the weights the kernel loads. -/
theorem ld_dn (w : FVec Ideal S1024x1024 .bf16) (k : Fin 384) (e : Fin 1024) :
    (View.ld (Val := Elt Ideal) (e' := .bf16) w r0_3 : FVec Ideal S384x1024 .bf16) (ix2 k e) = w (ix2 ⟨k.val, by omega⟩ e) := by
  refine congrArg w ?_
  funext a
  fin_cases a <;> refine Fin.ext ?_
  · simp
  · simp
theorem ld_hy (w : FVec Ideal S1024x1024 .bf16) (k : Fin 256) (e : Fin 1024) :
    (View.ld (Val := Elt Ideal) (e' := .bf16) w r0_5 : FVec Ideal S256x1024 .bf16) (ix2 k e) = w (ix2 ⟨384 + k.val, by omega⟩ e) := by
  refine congrArg w ?_
  funext a
  fin_cases a <;> refine Fin.ext ?_
  · simp
  · simp
theorem ld_sw (w : FVec Ideal S1024x1024 .bf16) (k : Fin 384) (e : Fin 1024) :
    (View.ld (Val := Elt Ideal) (e' := .bf16) w r0_6 : FVec Ideal S384x1024 .bf16) (ix2 k e) = w (ix2 ⟨640 + k.val, by omega⟩ e) := by
  refine congrArg w ?_
  funext a
  fin_cases a <;> refine Fin.ext ?_
  · simp
  · simp

theorem ref_point (x0 x1 x2 : FVec Ideal S4x4096x384 .f32) (x3 : FVec Ideal S64 .f32) (x4 : FVec Ideal S4x4096x256 .f32) (x5 : FVec Ideal S4x4096x384 .f32)
    (x6 : FVec Ideal S4x4096x1024 .f32) (x7 : FVec Ideal S4x1x1024 .f32) (x8 : FVec Ideal S1024x1024 .f32) (b : Fin 4) (r : Fin 4096) (e : Fin 1024) :
    val_main_v23 (F := Ideal) x0 x1 x2 x3 x4 x5 x6 x7 x8 (ix3 b r e)
      = x6 (ix3 b r e) + x7 (ix3 b 0 e) * val_main_v20 (F := Ideal) x0 x1 x2 x3 x4 x5 x8 (ix3 b r e) := by
  simp only [val_main_v23_apply, val_main_v22_apply, val_main_v21_apply]
  generalize val_main_v20 (F := Ideal) x0 x1 x2 x3 x4 x5 x8 = P
  pointwise
  blk_point []

theorem blk_x (c : Dev nD) (t : Fin cfg0.N) (r : Fin 512) (e : Fin 1024) :
    (iblk m c 7 t : FVec Ideal S1x512x1024 .f32) (ix3 0 r e) = aX m c (ix3 (bat t) (row t r) e) := by
  blk_ext [iblk, V, idx t]

theorem blk_gate (c : Dev nD) (t : Fin cfg0.N) (e : Fin 1024) :
    (iblk m c 8 t : FVec Ideal S1x1x1024 .f32) (ix3 0 0 e) = aGate m c (ix3 (bat t) 0 e) := by
  blk_ext [iblk, V, idx t]

theorem point (c : Dev nD) (R : Reals m c) (t : Fin cfg0.N) (y : S1x512x1024.Idx) :
    k0_pay1 (F := Ideal) (k0_pay2 (iblk m c 0 t) (iblk m c 1 t) (iblk m c 4 t) (iblk m c 3 t) (iblk m c 2 t))
      (View.ld (Val := Elt Ideal) (e' := .bf16) (iblk m c 9 t) r0_3) (iblk m c 5 t) (View.ld (Val := Elt Ideal) (e' := .bf16) (iblk m c 9 t) r0_5) (iblk m c 6 t)
      (View.ld (Val := Elt Ideal) (e' := .bf16) (iblk m c 9 t) r0_6) (iblk m c 7 t) (iblk m c 8 t) y =
    REF m c (((View.whole main_v16).slice (win0_10.rect t)).emb y) := by
  obtain ⟨r, e, rfl⟩ : ∃ (r : Fin 512) (e : Fin 1024), y = ix3 0 r e := ⟨y 1, y 2, by
    have h0 : (y 0).val < 1 := (y 0).isLt
    funext a
    fin_cases a
    · exact Fin.ext (by show (y 0).val = 0; omega)
    · rfl
    · rfl⟩
  have q : ((View.whole main_v16).slice (win0_10.rect t)).emb (ix3 0 r e) = ix3 (bat t) (row t r) e := by blk_ext [idx t]
  rw [q]
  refine (out_point _ _ _ _ _ _ _ _ r e).trans ?_
  rw [REF, ref_point, prod_ref, blk_x, blk_gate]
  refine congrArg (_ + _ * ·) (congrArg₂ (· + ·) (congrArg₂ (· + ·) (Finset.sum_congr rfl fun k _ => ?_) (Finset.sum_congr rfl fun k _ => ?_)) (Finset.sum_congr rfl fun k _ => ?_))
  · rw [dn_block m c R, ld_dn, blk_w]
  · rw [blk_hy, ld_hy, blk_w]
  · rw [blk_sw, ld_sw, blk_w]

theorem final (c : Dev nD) (R : Reals m c) : (dats m 0 c).arrAt 10 (cfgs 0).N = REF m c := by
  refine (dats m 0 c).arrAt_eq_of_covers 10 _ (by decide +kernel) fun t _ y => ?_
  blk_simp
  rw [after0_10]; frame_out
  exact point m c R t y

end Cert.OutProof

end
-- ==== Proof.OutClaims.lean ====
/-
  The claims about the output projection, its value for finite scan outputs.
-/
module

public import proofs.«01_k».proof.Defs
public import proofs.«01_k».proof.Proof.Gen.Pre_scan_finite
public import proofs.«01_k».proof.Proof.Gen.OutProj.Frame
public import proofs.«01_k».proof.Proof.Gen.OutProjIdeal.Value
public import proofs.«01_k».proof.Proof.Gen.OutRefIdeal.Run
public import proofs.«01_k».proof.Proof.Gen.OutRefIdeal.Read
public import proofs.«01_k».proof.Proof.MoeClaims
public import proofs.«01_k».proof.Proof.OutValue
public import Idealize.ShloMosaic.Lib.ReduceAll
public import Idealize.ShloMosaic.Adequacy
public import Idealize.ShloMosaic.Init

@[expose] public section

set_option maxRecDepth 16384

noncomputable section

open Idealize.ShloMosaic Idealize.ShloMosaic.TcCoe Idealize.SL.Sem

namespace Cert.OutClaims

theorem frame_p : Cert.quiescent_OutProj := fun m ρ _ => Cert.OutProj.Gen.frame m ρ

theorem frame_pi : Cert.quiescent_OutProjIdeal := fun m ρ _ => Cert.OutProjIdeal.Gen.frame m ρ

theorem frame_pi_pre : Cert.quiescent_OutProjIdeal_pre_scan_finite := fun m ρ _ => Cert.OutProjIdeal.Gen.frame m ρ

theorem frame_ri : Cert.quiescent_OutRefIdeal := fun m ρ _ => (θ_run Cert.OutRefIdeal.defs _ _).mono (fun r h => ⟨fun c => (h c).2,
      Idealize.ShloMosaic.sem_eq_zero_of_no_sems (by decide) r.2⟩) (Cert.OutRefIdeal.Value.run (F := Ideal) m ρ)

theorem frame_ri_pre : Cert.quiescent_OutRefIdeal_pre_scan_finite := fun m ρ _ => frame_ri m ρ trivial

theorem preserves : Cert.preserves_OutProj_OutProjIdeal := trivial

instance : Subsingleton Cert.Pre_scan_finite.S_.Idx := ⟨fun a b => funext fun d => d.elim0⟩

/-- What the precondition says of the scan outputs. -/
theorem reals {m : (ℓ : Loc Cert.OutProjIdeal.nD Cert.OutProjIdeal.τ Cert.OutProjIdeal.sig) → Buf (Elt Ideal) ℓ} (h : Cert.Pre_OutProjIdeal_scan_finite m)
    (c : Dev Cert.OutProjIdeal.nD) : Cert.OutProof.Reals m c := by
  have g := congrFun (h c) (fun d => d.elim0)
  dsimp only [Cert.Pre_scan_finite.fn] at g
  obtain ⟨h0, h1⟩ := IntOp.andi_eq_one.1 g
  exact ⟨fun i => Cert.MoeClaims.real_of_abs _ (Host.reduce_andi_all _ _ _ _ _ h0 i),
    fun i => Cert.MoeClaims.real_of_abs _ (Host.reduce_andi_all _ _ _ _ _ h1 i)⟩

/-- The reference program's result from memories that agree with the kernel's on the arguments. -/
theorem agree (x0 y0 x1 y1 x2 y2 : FVec Ideal Cert.OutRefIdeal.S4x4096x384 .f32) (x3 y3 : FVec Ideal Cert.OutRefIdeal.S64 .f32)
    (x4 y4 : FVec Ideal Cert.OutRefIdeal.S4x4096x256 .f32) (x5 y5 : FVec Ideal Cert.OutRefIdeal.S4x4096x384 .f32)
    (x6 y6 : FVec Ideal Cert.OutRefIdeal.S4x4096x1024 .f32) (x7 y7 : FVec Ideal Cert.OutRefIdeal.S4x1x1024 .f32)
    (x8 y8 : FVec Ideal Cert.OutRefIdeal.S1024x1024 .f32)
    (h : x0 = y0 ∧ x1 = y1 ∧ x2 = y2 ∧ x3 = y3 ∧ x4 = y4 ∧ x5 = y5 ∧ x6 = y6 ∧ x7 = y7 ∧ x8 = y8) :
    Cert.OutRefIdeal.Read.val_main_v23 (F := Ideal) x0 x1 x2 x3 x4 x5 x6 x7 x8
      = Cert.OutRefIdeal.Read.val_main_v23 (F := Ideal) y0 y1 y2 y3 y4 y5 y6 y7 y8 := by
  obtain ⟨e0, e1, e2, e3, e4, e5, e6, e7, e8⟩ := h
  rw [e0, e1, e2, e3, e4, e5, e6, e7, e8]

/-- At the ideal instance the kernel's result array and the reference program's are one function of the arguments. -/
theorem algebraic : Cert.algebraic_OutProjIdeal_OutRefIdeal_pre_scan_finite := by
  intro m ρ m' ρ' pre hagree
  refine ⟨fun c => Cert.OutProof.REF m c, (θ_run Cert.OutProjIdeal.defs _ _).mono
    (fun r h c => ⟨(h c).1.trans (Cert.OutProof.final m c (reals pre c)), (h c).2⟩) (Cert.OutProjIdeal.Value.run_blocks (F := Ideal) m ρ), ?_⟩
  exact (θ_run Cert.OutRefIdeal.defs _ _).mono (fun _ h c => ⟨(h c).1.trans
    ((Cert.OutRefIdeal.Read.val_main_v23_eq _ _ _ _ _ _ _ _ _).trans (agree _ _ _ _ _ _ _ _ _ _ _ _ _ _ _ _ _ _ (hagree c))), (h c).2⟩)
    (Cert.OutRefIdeal.Value.run (F := Ideal) m' ρ')

end Cert.OutClaims

end
-- ==== Proof.InFrames.lean ====
/-
  The claims about the input projection's runs.
-/
module

public import proofs.«01_k».proof.Defs
public import proofs.«01_k».proof.Proof.Gen.InProj.Frame
public import proofs.«01_k».proof.Proof.Gen.InProjIdeal.Frame
public import proofs.«01_k».proof.Proof.Gen.InRefIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.InFrames

theorem frame_p : Cert.quiescent_InProj := fun m ρ _ => Cert.InProj.Gen.frame m ρ

theorem frame_pi : Cert.quiescent_InProjIdeal := fun m ρ _ => Cert.InProjIdeal.Gen.frame m ρ

theorem frame_ri : Cert.quiescent_InRefIdeal := fun m ρ _ => (θ_run Cert.InRefIdeal.defs _ _).mono (fun r h => ⟨fun c => (h c).2.2.2.2.2.2.2,
      Idealize.ShloMosaic.sem_eq_zero_of_no_sems (by decide) r.2⟩) (Cert.InRefIdeal.Value.run (F := Ideal) m ρ)

theorem preserves : Cert.preserves_InProj_InProjIdeal := trivial

end Cert.InFrames

end
-- ==== Proof.InRef.lean ====
/-
  The reference's split columns of the input projection, read at an entry: each is a column of the one product, and the rotated ones
  mix two columns sixteen lanes apart.
-/
module

public import proofs.«01_k».proof.Proof.Gen.InRefIdeal.Read
public import Idealize.ShloMosaic.Lib.Pipeline.ValueKit

@[expose] public section

set_option maxRecDepth 16384

noncomputable section

open Idealize.ShloMosaic Idealize.ShloMosaic.TcCoe Idealize.SL.Sem

namespace Cert.InRef

open Cert.InRefIdeal Cert.InRefIdeal.Read

variable (x0 : FVec Ideal S4x4096x1024 .f32) (x1 : FVec Ideal S1024 .f32) (x2 x3 : FVec Ideal S4x1x1024 .f32) (x4 : FVec Ideal S1024x2968 .f32)

/-- A column of the product. -/
abbrev P (b : Fin 4) (r : Fin 4096) (n : Fin 2968) : EReal := val_main_v26 (F := Ideal) x0 x1 x2 x3 x4 (ix3 b r n)

theorem p_sum (b : Fin 4) (r : Fin 4096) (n : Fin 2968) :
    P x0 x1 x2 x3 x4 b r n = ∑ k : Fin 1024, val_main_v25 (F := Ideal) x0 x1 x2 x3 (ix3 b r k) * x4 (ix2 k n) := by
  rw [P, val_main_v26_apply]
  exact Finset.sum_congr rfl fun k _ => congrArg₂ (· * ·) (congrArg _ (by funext a; fin_cases a <;> rfl)) (congrArg _ (by funext a; fin_cases a <;> rfl))

theorem v27_at (b : Fin 4) (r : Fin 4096) (e : Fin 1152) :
    val_main_v27 (F := Ideal) x0 x1 x2 x3 x4 (ix3 b r e) = P x0 x1 x2 x3 x4 b r ⟨e.val, by omega⟩ := by
  rw [val_main_v27_apply]
  exact congrArg _ (by funext a; fin_cases a <;> refine Fin.ext ?_ <;> simp [idx_main_v27])

theorem v28_at (b : Fin 4) (r : Fin 4096) (e : Fin 384) :
    val_main_v28 (F := Ideal) x0 x1 x2 x3 x4 (ix3 b r e) = P x0 x1 x2 x3 x4 b r ⟨1152 + e.val, by omega⟩ := by
  rw [val_main_v28_apply]
  exact congrArg _ (by funext a; fin_cases a <;> refine Fin.ext ?_ <;> simp [idx_main_v28])

theorem v31_at (b : Fin 4) (r : Fin 4096) (e : Fin 768) :
    val_main_v31 (F := Ideal) x0 x1 x2 x3 x4 (ix3 b r e) = P x0 x1 x2 x3 x4 b r ⟨1560 + e.val, by omega⟩ := by
  rw [val_main_v31_apply]
  exact congrArg _ (by funext a; fin_cases a <;> refine Fin.ext ?_ <;> simp [idx_main_v31])

theorem v34_at (b : Fin 4) (r : Fin 4096) (e : Fin 128) :
    val_main_v34 (F := Ideal) x0 x1 x2 x3 x4 (ix3 b r e) = P x0 x1 x2 x3 x4 b r ⟨2840 + e.val, by omega⟩ := by
  rw [val_main_v34_apply]
  exact congrArg _ (by funext a; fin_cases a <;> refine Fin.ext ?_ <;> simp [idx_main_v34])

/-- The padded logits: the columns from 1536 on, then zeros. -/
theorem v162_at (b : Fin 4) (r : Fin 4096) (e : Fin 128) :
    val_main_v162 (F := Ideal) x0 x1 x2 x3 x4 (ix3 b r e) = if h : e.val < 24 then P x0 x1 x2 x3 x4 b r ⟨1536 + e.val, by omega⟩ else 0 := by
  rw [val_main_v162]
  generalize hz : val_main_v161 (F := Ideal) x0 x1 x2 x3 x4 = z
  pointwise [val_main_call0_v0, val_main_c]
  subst hz
  split
  · rename_i h
    rw [val_main_v161]
    generalize hu : val_main_v29 (F := Ideal) x0 x1 x2 x3 x4 = u
    generalize hv : val_main_v30 (F := Ideal) x0 x1 x2 x3 x4 = v
    pointwise
    subst hu hv
    split
    · rw [val_main_v29_apply]
      exact congrArg _ (by funext a; fin_cases a <;> refine Fin.ext ?_ <;> simp [idx_main_v29])
    · rw [val_main_v30_apply]
      exact congrArg _ (by funext a; fin_cases a <;> refine Fin.ext ?_ <;> simp [idx_main_v30] <;> omega)
  · pointwise
    simp [FloatOps.sitofp]

/-- Columns of the queries, by head and lane. -/
theorem v35_at (b : Fin 4) (r : Fin 4096) (h : Fin 6) (l : Fin 64) :
    val_main_v35 (F := Ideal) x0 x1 x2 x3 x4 (ix4 b r h l) = P x0 x1 x2 x3 x4 b r ⟨2328 + (h.val * 64 + l.val), by omega⟩ := by
  rw [val_main_v35_apply, val_main_v32_apply]
  exact congrArg _ (by funext a; fin_cases a <;> refine Fin.ext ?_ <;> simp [idx_main_v32, idx_main_v35] <;> omega)

/-- Columns of the keys, by head and lane. -/
theorem v99_at (b : Fin 4) (r : Fin 4096) (h : Fin 2) (l : Fin 64) :
    val_main_v99 (F := Ideal) x0 x1 x2 x3 x4 (ix4 b r h l) = P x0 x1 x2 x3 x4 b r ⟨2712 + (h.val * 64 + l.val), by omega⟩ := by
  rw [val_main_v99_apply, val_main_v33_apply]
  exact congrArg _ (by funext a; fin_cases a <;> refine Fin.ext ?_ <;> simp [idx_main_v33, idx_main_v99] <;> omega)

/-- The keys' angles are the queries'. -/
theorem cos_row : val_main_v113 (F := Ideal) = val_main_v49 := rfl
theorem sin_row : val_main_v115 (F := Ideal) = val_main_v51 := rfl
theorem cos_col : val_main_v143 (F := Ideal) = val_main_v79 := rfl
theorem sin_col : val_main_v145 (F := Ideal) = val_main_v81 := rfl

theorem q_0 (b : Fin 4) (r : Fin 4096) (h : Fin 6) (i : Fin 16) :
    val_main_v96 (F := Ideal) x0 x1 x2 x3 x4 (ix4 b r h ⟨0 + i.val, by omega⟩)
      = val_main_v35 (F := Ideal) x0 x1 x2 x3 x4 (ix4 b r h ⟨0 + i.val, by omega⟩) * val_main_v49 (F := Ideal) (ix2 r i)
        - val_main_v35 (F := Ideal) x0 x1 x2 x3 x4 (ix4 b r h ⟨16 + i.val, by omega⟩) * val_main_v51 (F := Ideal) (ix2 r i) := by
  have e : val_main_v96 (F := Ideal) x0 x1 x2 x3 x4 (ix4 b r h ⟨0 + i.val, by omega⟩) = val_main_v65 (F := Ideal) x0 x1 x2 x3 x4 (ix4 b r h ⟨0 + i.val, by omega⟩) := by
    rw [val_main_v96]
    generalize val_main_v65 (F := Ideal) x0 x1 x2 x3 x4 = u
    generalize val_main_v95 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v65 (F := Ideal) x0 x1 x2 x3 x4 (ix4 b r h ⟨0 + i.val, by omega⟩) = val_main_v59 (F := Ideal) x0 x1 x2 x3 x4 (ix4 b r h i) := by
    rw [val_main_v65]
    generalize val_main_v59 (F := Ideal) x0 x1 x2 x3 x4 = u
    generalize val_main_v64 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v59_apply, val_main_v56_apply, val_main_v58_apply, val_main_v53_apply, val_main_v54_apply, val_main_v36_apply, val_main_v36_apply, val_main_v55_apply, val_main_v57_apply,
    val_main_v50_apply, val_main_v52_apply]
  exact congrArg₂ (· - ·)
    (congrArg₂ (· * ·) (congrArg _ (by funext a; fin_cases a <;> refine Fin.ext ?_ <;> simp [idx_main_v36, idx_main_v53] <;> omega))
      (congrArg _ (by funext a; fin_cases a <;> refine Fin.ext ?_ <;> simp [idx_main_v50, idx_main_v55] <;> omega)))
    (congrArg₂ (· * ·) (congrArg _ (by funext a; fin_cases a <;> refine Fin.ext ?_ <;> simp [idx_main_v36, idx_main_v54] <;> omega))
      (congrArg _ (by funext a; fin_cases a <;> refine Fin.ext ?_ <;> simp [idx_main_v52, idx_main_v57] <;> omega)))

theorem q_1 (b : Fin 4) (r : Fin 4096) (h : Fin 6) (i : Fin 16) :
    val_main_v96 (F := Ideal) x0 x1 x2 x3 x4 (ix4 b r h ⟨16 + i.val, by omega⟩)
      = val_main_v35 (F := Ideal) x0 x1 x2 x3 x4 (ix4 b r h ⟨16 + i.val, by omega⟩) * val_main_v49 (F := Ideal) (ix2 r i)
        + val_main_v35 (F := Ideal) x0 x1 x2 x3 x4 (ix4 b r h ⟨0 + i.val, by omega⟩) * val_main_v51 (F := Ideal) (ix2 r i) := by
  have e : val_main_v96 (F := Ideal) x0 x1 x2 x3 x4 (ix4 b r h ⟨16 + i.val, by omega⟩) = val_main_v65 (F := Ideal) x0 x1 x2 x3 x4 (ix4 b r h ⟨16 + i.val, by omega⟩) := by
    rw [val_main_v96]
    generalize val_main_v65 (F := Ideal) x0 x1 x2 x3 x4 = u
    generalize val_main_v95 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v65 (F := Ideal) x0 x1 x2 x3 x4 (ix4 b r h ⟨16 + i.val, by omega⟩) = val_main_v64 (F := Ideal) x0 x1 x2 x3 x4 (ix4 b r h i) := by
    rw [val_main_v65]
    generalize val_main_v59 (F := Ideal) x0 x1 x2 x3 x4 = u
    generalize val_main_v64 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v64_apply, val_main_v61_apply, val_main_v63_apply, val_main_v54_apply, val_main_v53_apply, val_main_v36_apply, val_main_v36_apply, val_main_v60_apply, val_main_v62_apply,
    val_main_v50_apply, val_main_v52_apply]
  exact congrArg₂ (· + ·)
    (congrArg₂ (· * ·) (congrArg _ (by funext a; fin_cases a <;> refine Fin.ext ?_ <;> simp [idx_main_v36, idx_main_v54] <;> omega))
      (congrArg _ (by funext a; fin_cases a <;> refine Fin.ext ?_ <;> simp [idx_main_v50, idx_main_v60] <;> omega)))
    (congrArg₂ (· * ·) (congrArg _ (by funext a; fin_cases a <;> refine Fin.ext ?_ <;> simp [idx_main_v36, idx_main_v53] <;> omega))
      (congrArg _ (by funext a; fin_cases a <;> refine Fin.ext ?_ <;> simp [idx_main_v52, idx_main_v62] <;> omega)))

theorem q_2 (b : Fin 4) (r : Fin 4096) (h : Fin 6) (i : Fin 16) :
    val_main_v96 (F := Ideal) x0 x1 x2 x3 x4 (ix4 b r h ⟨32 + i.val, by omega⟩)
      = val_main_v35 (F := Ideal) x0 x1 x2 x3 x4 (ix4 b r h ⟨32 + i.val, by omega⟩) * val_main_v79 (F := Ideal) (ix2 r i)
        - val_main_v35 (F := Ideal) x0 x1 x2 x3 x4 (ix4 b r h ⟨48 + i.val, by omega⟩) * val_main_v81 (F := Ideal) (ix2 r i) := by
  have e : val_main_v96 (F := Ideal) x0 x1 x2 x3 x4 (ix4 b r h ⟨32 + i.val, by omega⟩) = val_main_v95 (F := Ideal) x0 x1 x2 x3 x4 (ix4 b r h ⟨0 + i.val, by omega⟩) := by
    rw [val_main_v96]
    generalize val_main_v65 (F := Ideal) x0 x1 x2 x3 x4 = u
    generalize val_main_v95 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v95 (F := Ideal) x0 x1 x2 x3 x4 (ix4 b r h ⟨0 + i.val, by omega⟩) = val_main_v89 (F := Ideal) x0 x1 x2 x3 x4 (ix4 b r h i) := by
    rw [val_main_v95]
    generalize val_main_v89 (F := Ideal) x0 x1 x2 x3 x4 = u
    generalize val_main_v94 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v89_apply, val_main_v86_apply, val_main_v88_apply, val_main_v83_apply, val_main_v84_apply, val_main_v66_apply, val_main_v66_apply, val_main_v85_apply, val_main_v87_apply,
    val_main_v80_apply, val_main_v82_apply]
  exact congrArg₂ (· - ·)
    (congrArg₂ (· * ·) (congrArg _ (by funext a; fin_cases a <;> refine Fin.ext ?_ <;> simp [idx_main_v66, idx_main_v83] <;> omega))
      (congrArg _ (by funext a; fin_cases a <;> refine Fin.ext ?_ <;> simp [idx_main_v80, idx_main_v85] <;> omega)))
    (congrArg₂ (· * ·) (congrArg _ (by funext a; fin_cases a <;> refine Fin.ext ?_ <;> simp [idx_main_v66, idx_main_v84] <;> omega))
      (congrArg _ (by funext a; fin_cases a <;> refine Fin.ext ?_ <;> simp [idx_main_v82, idx_main_v87] <;> omega)))

theorem q_3 (b : Fin 4) (r : Fin 4096) (h : Fin 6) (i : Fin 16) :
    val_main_v96 (F := Ideal) x0 x1 x2 x3 x4 (ix4 b r h ⟨48 + i.val, by omega⟩)
      = val_main_v35 (F := Ideal) x0 x1 x2 x3 x4 (ix4 b r h ⟨48 + i.val, by omega⟩) * val_main_v79 (F := Ideal) (ix2 r i)
        + val_main_v35 (F := Ideal) x0 x1 x2 x3 x4 (ix4 b r h ⟨32 + i.val, by omega⟩) * val_main_v81 (F := Ideal) (ix2 r i) := by
  have e : val_main_v96 (F := Ideal) x0 x1 x2 x3 x4 (ix4 b r h ⟨48 + i.val, by omega⟩) = val_main_v95 (F := Ideal) x0 x1 x2 x3 x4 (ix4 b r h ⟨16 + i.val, by omega⟩) := by
    rw [val_main_v96]
    generalize val_main_v65 (F := Ideal) x0 x1 x2 x3 x4 = u
    generalize val_main_v95 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v95 (F := Ideal) x0 x1 x2 x3 x4 (ix4 b r h ⟨16 + i.val, by omega⟩) = val_main_v94 (F := Ideal) x0 x1 x2 x3 x4 (ix4 b r h i) := by
    rw [val_main_v95]
    generalize val_main_v89 (F := Ideal) x0 x1 x2 x3 x4 = u
    generalize val_main_v94 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v94_apply, val_main_v91_apply, val_main_v93_apply, val_main_v84_apply, val_main_v83_apply, val_main_v66_apply, val_main_v66_apply, val_main_v90_apply, val_main_v92_apply,
    val_main_v80_apply, val_main_v82_apply]
  exact congrArg₂ (· + ·)
    (congrArg₂ (· * ·) (congrArg _ (by funext a; fin_cases a <;> refine Fin.ext ?_ <;> simp [idx_main_v66, idx_main_v84] <;> omega))
      (congrArg _ (by funext a; fin_cases a <;> refine Fin.ext ?_ <;> simp [idx_main_v80, idx_main_v90] <;> omega)))
    (congrArg₂ (· * ·) (congrArg _ (by funext a; fin_cases a <;> refine Fin.ext ?_ <;> simp [idx_main_v66, idx_main_v83] <;> omega))
      (congrArg _ (by funext a; fin_cases a <;> refine Fin.ext ?_ <;> simp [idx_main_v82, idx_main_v92] <;> omega)))

theorem k_0 (b : Fin 4) (r : Fin 4096) (h : Fin 2) (i : Fin 16) :
    val_main_v160 (F := Ideal) x0 x1 x2 x3 x4 (ix4 b r h ⟨0 + i.val, by omega⟩)
      = val_main_v99 (F := Ideal) x0 x1 x2 x3 x4 (ix4 b r h ⟨0 + i.val, by omega⟩) * val_main_v49 (F := Ideal) (ix2 r i)
        - val_main_v99 (F := Ideal) x0 x1 x2 x3 x4 (ix4 b r h ⟨16 + i.val, by omega⟩) * val_main_v51 (F := Ideal) (ix2 r i) := by
  have e : val_main_v160 (F := Ideal) x0 x1 x2 x3 x4 (ix4 b r h ⟨0 + i.val, by omega⟩) = val_main_v129 (F := Ideal) x0 x1 x2 x3 x4 (ix4 b r h ⟨0 + i.val, by omega⟩) := by
    rw [val_main_v160]
    generalize val_main_v129 (F := Ideal) x0 x1 x2 x3 x4 = u
    generalize val_main_v159 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v129 (F := Ideal) x0 x1 x2 x3 x4 (ix4 b r h ⟨0 + i.val, by omega⟩) = val_main_v123 (F := Ideal) x0 x1 x2 x3 x4 (ix4 b r h i) := by
    rw [val_main_v129]
    generalize val_main_v123 (F := Ideal) x0 x1 x2 x3 x4 = u
    generalize val_main_v128 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v123_apply, val_main_v120_apply, val_main_v122_apply, val_main_v117_apply, val_main_v118_apply, val_main_v100_apply, val_main_v100_apply, val_main_v119_apply, val_main_v121_apply,
    val_main_v114_apply, val_main_v116_apply, cos_row, sin_row]
  exact congrArg₂ (· - ·)
    (congrArg₂ (· * ·) (congrArg _ (by funext a; fin_cases a <;> refine Fin.ext ?_ <;> simp [idx_main_v100, idx_main_v117] <;> omega))
      (congrArg _ (by funext a; fin_cases a <;> refine Fin.ext ?_ <;> simp [idx_main_v114, idx_main_v119] <;> omega)))
    (congrArg₂ (· * ·) (congrArg _ (by funext a; fin_cases a <;> refine Fin.ext ?_ <;> simp [idx_main_v100, idx_main_v118] <;> omega))
      (congrArg _ (by funext a; fin_cases a <;> refine Fin.ext ?_ <;> simp [idx_main_v116, idx_main_v121] <;> omega)))

theorem k_1 (b : Fin 4) (r : Fin 4096) (h : Fin 2) (i : Fin 16) :
    val_main_v160 (F := Ideal) x0 x1 x2 x3 x4 (ix4 b r h ⟨16 + i.val, by omega⟩)
      = val_main_v99 (F := Ideal) x0 x1 x2 x3 x4 (ix4 b r h ⟨16 + i.val, by omega⟩) * val_main_v49 (F := Ideal) (ix2 r i)
        + val_main_v99 (F := Ideal) x0 x1 x2 x3 x4 (ix4 b r h ⟨0 + i.val, by omega⟩) * val_main_v51 (F := Ideal) (ix2 r i) := by
  have e : val_main_v160 (F := Ideal) x0 x1 x2 x3 x4 (ix4 b r h ⟨16 + i.val, by omega⟩) = val_main_v129 (F := Ideal) x0 x1 x2 x3 x4 (ix4 b r h ⟨16 + i.val, by omega⟩) := by
    rw [val_main_v160]
    generalize val_main_v129 (F := Ideal) x0 x1 x2 x3 x4 = u
    generalize val_main_v159 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v129 (F := Ideal) x0 x1 x2 x3 x4 (ix4 b r h ⟨16 + i.val, by omega⟩) = val_main_v128 (F := Ideal) x0 x1 x2 x3 x4 (ix4 b r h i) := by
    rw [val_main_v129]
    generalize val_main_v123 (F := Ideal) x0 x1 x2 x3 x4 = u
    generalize val_main_v128 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v128_apply, val_main_v125_apply, val_main_v127_apply, val_main_v118_apply, val_main_v117_apply, val_main_v100_apply, val_main_v100_apply, val_main_v124_apply, val_main_v126_apply,
    val_main_v114_apply, val_main_v116_apply, cos_row, sin_row]
  exact congrArg₂ (· + ·)
    (congrArg₂ (· * ·) (congrArg _ (by funext a; fin_cases a <;> refine Fin.ext ?_ <;> simp [idx_main_v100, idx_main_v118] <;> omega))
      (congrArg _ (by funext a; fin_cases a <;> refine Fin.ext ?_ <;> simp [idx_main_v114, idx_main_v124] <;> omega)))
    (congrArg₂ (· * ·) (congrArg _ (by funext a; fin_cases a <;> refine Fin.ext ?_ <;> simp [idx_main_v100, idx_main_v117] <;> omega))
      (congrArg _ (by funext a; fin_cases a <;> refine Fin.ext ?_ <;> simp [idx_main_v116, idx_main_v126] <;> omega)))

theorem k_2 (b : Fin 4) (r : Fin 4096) (h : Fin 2) (i : Fin 16) :
    val_main_v160 (F := Ideal) x0 x1 x2 x3 x4 (ix4 b r h ⟨32 + i.val, by omega⟩)
      = val_main_v99 (F := Ideal) x0 x1 x2 x3 x4 (ix4 b r h ⟨32 + i.val, by omega⟩) * val_main_v79 (F := Ideal) (ix2 r i)
        - val_main_v99 (F := Ideal) x0 x1 x2 x3 x4 (ix4 b r h ⟨48 + i.val, by omega⟩) * val_main_v81 (F := Ideal) (ix2 r i) := by
  have e : val_main_v160 (F := Ideal) x0 x1 x2 x3 x4 (ix4 b r h ⟨32 + i.val, by omega⟩) = val_main_v159 (F := Ideal) x0 x1 x2 x3 x4 (ix4 b r h ⟨0 + i.val, by omega⟩) := by
    rw [val_main_v160]
    generalize val_main_v129 (F := Ideal) x0 x1 x2 x3 x4 = u
    generalize val_main_v159 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v159 (F := Ideal) x0 x1 x2 x3 x4 (ix4 b r h ⟨0 + i.val, by omega⟩) = val_main_v153 (F := Ideal) x0 x1 x2 x3 x4 (ix4 b r h i) := by
    rw [val_main_v159]
    generalize val_main_v153 (F := Ideal) x0 x1 x2 x3 x4 = u
    generalize val_main_v158 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v153_apply, val_main_v150_apply, val_main_v152_apply, val_main_v147_apply, val_main_v148_apply, val_main_v130_apply, val_main_v130_apply, val_main_v149_apply, val_main_v151_apply,
    val_main_v144_apply, val_main_v146_apply, cos_col, sin_col]
  exact congrArg₂ (· - ·)
    (congrArg₂ (· * ·) (congrArg _ (by funext a; fin_cases a <;> refine Fin.ext ?_ <;> simp [idx_main_v130, idx_main_v147] <;> omega))
      (congrArg _ (by funext a; fin_cases a <;> refine Fin.ext ?_ <;> simp [idx_main_v144, idx_main_v149] <;> omega)))
    (congrArg₂ (· * ·) (congrArg _ (by funext a; fin_cases a <;> refine Fin.ext ?_ <;> simp [idx_main_v130, idx_main_v148] <;> omega))
      (congrArg _ (by funext a; fin_cases a <;> refine Fin.ext ?_ <;> simp [idx_main_v146, idx_main_v151] <;> omega)))

theorem k_3 (b : Fin 4) (r : Fin 4096) (h : Fin 2) (i : Fin 16) :
    val_main_v160 (F := Ideal) x0 x1 x2 x3 x4 (ix4 b r h ⟨48 + i.val, by omega⟩)
      = val_main_v99 (F := Ideal) x0 x1 x2 x3 x4 (ix4 b r h ⟨48 + i.val, by omega⟩) * val_main_v79 (F := Ideal) (ix2 r i)
        + val_main_v99 (F := Ideal) x0 x1 x2 x3 x4 (ix4 b r h ⟨32 + i.val, by omega⟩) * val_main_v81 (F := Ideal) (ix2 r i) := by
  have e : val_main_v160 (F := Ideal) x0 x1 x2 x3 x4 (ix4 b r h ⟨48 + i.val, by omega⟩) = val_main_v159 (F := Ideal) x0 x1 x2 x3 x4 (ix4 b r h ⟨16 + i.val, by omega⟩) := by
    rw [val_main_v160]
    generalize val_main_v129 (F := Ideal) x0 x1 x2 x3 x4 = u
    generalize val_main_v159 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  have f : val_main_v159 (F := Ideal) x0 x1 x2 x3 x4 (ix4 b r h ⟨16 + i.val, by omega⟩) = val_main_v158 (F := Ideal) x0 x1 x2 x3 x4 (ix4 b r h i) := by
    rw [val_main_v159]
    generalize val_main_v153 (F := Ideal) x0 x1 x2 x3 x4 = u
    generalize val_main_v158 (F := Ideal) x0 x1 x2 x3 x4 = v
    pointwise
    first | done | (split <;> first | omega | (refine congrArg _ ?_; funext a; fin_cases a <;> refine Fin.ext ?_ <;> simp <;> omega) | (refine congrArg _ ?_; funext a; fin_cases a <;> refine Fin.ext ?_ <;> simp))
  rw [e, f, val_main_v158_apply, val_main_v155_apply, val_main_v157_apply, val_main_v148_apply, val_main_v147_apply, val_main_v130_apply, val_main_v130_apply, val_main_v154_apply, val_main_v156_apply,
    val_main_v144_apply, val_main_v146_apply, cos_col, sin_col]
  exact congrArg₂ (· + ·)
    (congrArg₂ (· * ·) (congrArg _ (by funext a; fin_cases a <;> refine Fin.ext ?_ <;> simp [idx_main_v130, idx_main_v148] <;> omega))
      (congrArg _ (by funext a; fin_cases a <;> refine Fin.ext ?_ <;> simp [idx_main_v144, idx_main_v154] <;> omega)))
    (congrArg₂ (· * ·) (congrArg _ (by funext a; fin_cases a <;> refine Fin.ext ?_ <;> simp [idx_main_v130, idx_main_v147] <;> omega))
      (congrArg _ (by funext a; fin_cases a <;> refine Fin.ext ?_ <;> simp [idx_main_v146, idx_main_v156] <;> omega)))

/-- The queries the program returns, scaled. -/
theorem v163_at (b : Fin 4) (r : Fin 4096) (h : Fin 6) (l : Fin 64) :
    val_main_v163 (F := Ideal) x0 x1 x2 x3 x4 (ix3 b r ⟨h.val * 64 + l.val, by omega⟩)
      = val_main_v96 (F := Ideal) x0 x1 x2 x3 x4 (ix4 b r h l) * FloatOps.ofBits (F := Ideal) .f32 0x3E000000#32 := by
  rw [val_main_v163_apply, val_main_v98_apply, val_main_v97_apply, val_main_cst_7_apply]
  exact congrArg (fun i => val_main_v96 (F := Ideal) x0 x1 x2 x3 x4 i * FloatOps.ofBits (F := Ideal) .f32 0x3E000000#32)
    (by funext a; fin_cases a <;> refine Fin.ext ?_ <;> simp [idx_main_v163] <;> omega)

/-- The keys the program returns. -/
theorem v164_at (b : Fin 4) (r : Fin 4096) (h : Fin 2) (l : Fin 64) :
    val_main_v164 (F := Ideal) x0 x1 x2 x3 x4 (ix3 b r ⟨h.val * 64 + l.val, by omega⟩) = val_main_v160 (F := Ideal) x0 x1 x2 x3 x4 (ix4 b r h l) := by
  rw [val_main_v164_apply]
  exact congrArg _ (by funext a; fin_cases a <;> refine Fin.ext ?_ <;> simp [idx_main_v164] <;> omega)

/-- The angles: the row or the column of the position times the frequency. -/
def ANG (p i : ℕ) : EReal :=
  FloatOps.sitofp (F := Ideal) .f32 (BitVec.ofNat 32 p) * Ideal.pow (Ideal.ofBits .f32 1176256512#32)
    (Ideal.div (-FloatOps.sitofp (F := Ideal) .f32 (BitVec.ofNat 32 i)) (Ideal.ofBits .f32 1098907648#32))

theorem row_at (r : Fin 4096) (i : Fin 16) : val_main_v48 (F := Ideal) (ix2 r i) = ANG (r.val / 64) i.val := by
  pointwise [val_main_v48, val_main_v47, val_main_v46, val_main_v45, val_main_v44, val_main_v43, val_main_v42, val_main_v41, val_main_v40,
    val_main_v39, val_main_v38, val_main_v37, val_main_v2, val_main_v1, val_main_v0, val_main_cst_3, val_main_cst_4]
  rfl
theorem col_at (r : Fin 4096) (i : Fin 16) : val_main_v78 (F := Ideal) (ix2 r i) = ANG (r.val % 64) i.val := by
  pointwise [val_main_v78, val_main_v77, val_main_v76, val_main_v75, val_main_v74, val_main_v73, val_main_v72, val_main_v71, val_main_v70,
    val_main_v69, val_main_v68, val_main_v67, val_main_v6, val_main_v5, val_main_v4, val_main_v3, val_main_cst_5, val_main_cst_6]
  rfl

theorem cos_row_at (r : Fin 4096) (i : Fin 16) : val_main_v49 (F := Ideal) (ix2 r i) = Ideal.cos (ANG (r.val / 64) i.val) := by
  rw [← row_at, val_main_v49_apply]; rfl
theorem sin_row_at (r : Fin 4096) (i : Fin 16) : val_main_v51 (F := Ideal) (ix2 r i) = Ideal.sin (ANG (r.val / 64) i.val) := by
  rw [← row_at, val_main_v51_apply]; rfl
theorem cos_col_at (r : Fin 4096) (i : Fin 16) : val_main_v79 (F := Ideal) (ix2 r i) = Ideal.cos (ANG (r.val % 64) i.val) := by
  rw [← col_at, val_main_v79_apply]; rfl
theorem sin_col_at (r : Fin 4096) (i : Fin 16) : val_main_v81 (F := Ideal) (ix2 r i) = Ideal.sin (ANG (r.val % 64) i.val) := by
  rw [← col_at, val_main_v81_apply]; rfl

end Cert.InRef

end
-- ==== Proof.InBlocks.lean ====
/-
  The input projection: where each window's block of a grid point lies, what the host's operations leave in the arrays the kernel reads
  (the tables of cosines and sines apart).
-/
module

public import proofs.«01_k».proof.Proof.Gen.InProjIdeal.Value
public import proofs.«01_k».proof.Proof.InRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProof

open Cert.InRefIdeal.Read
open Cert.InProjIdeal Cert.InProjIdeal.Gen
open Cert.InRef (ANG)

variable (m : (ℓ : Loc nD τ sig) → Buf (Elt Ideal) ℓ)

/-- Where each window's block of a grid point lies: batch `t / 8`, row block `t % 8`. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![0, 0]
    ∧ win0_5.index t = ![t.val % 8, 0] ∧ win0_6.index t = ![t.val % 8, 0] ∧ win0_7.index t = ![t.val / 8, t.val % 8, 0]
    ∧ win0_8.index t = ![t.val / 8, t.val % 8, 0] ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0] ∧ win0_13.index t = ![t.val / 8, t.val % 8, 0] :=
  (by decide +kernel : ∀ t : Fin grid0.N, _)

theorem lt_of (t : Fin cfg0.N) : t.val < 32 := t.isLt

/-- The arguments of the program, by name. -/
abbrev aX (c : Dev nD) : FVec Ideal S4x4096x1024 .f32 := m ((c : Thread nD τ).loc main_arg0)
abbrev aG (c : Dev nD) : FVec Ideal S1024 .f32 := m ((c : Thread nD τ).loc main_arg1)
abbrev aShift (c : Dev nD) : FVec Ideal S4x1x1024 .f32 := m ((c : Thread nD τ).loc main_arg2)
abbrev aScale (c : Dev nD) : FVec Ideal S4x1x1024 .f32 := m ((c : Thread nD τ).loc main_arg3)
abbrev aW (c : Dev nD) : FVec Ideal S1024x2968 .f32 := m ((c : Thread nD τ).loc main_arg4)

/-- The hidden rows of the reference program. -/
abbrev HID (c : Dev nD) : FVec Ideal S4x4096x1024 .f32 := val_main_v25 (F := Ideal) (aX m c) (aG m c) (aShift m c) (aScale m c)

/-- Batch of a grid point. -/
abbrev bat (t : Fin cfg0.N) : Fin 4 := ⟨t.val / 8, by have := lt_of t; omega⟩
/-- Row of the whole array of a row of the point's block. -/
abbrev row (t : Fin cfg0.N) (r : Fin 512) : Fin 4096 := ⟨t.val % 8 * 512 + r.val, by omega⟩

theorem entry_gain (c : Dev nD) : V m c main_v0 = broadcastInDim S1x1024 ![1] bcast_S1024_S1x1024_1 (aG m c) := by
  show StableHlo.after (hostOps0 ++ (hostOps0_1 ++ (hostOps0_2 ++ (hostOps0_3 ++ hostOps0_4)))) (fun b => m (c, b)) (Proc.tc.devRef main_v0) = _
  simp only [hostOps0, hostOps0_1, hostOps0_2, hostOps0_3, hostOps0_4, List.cons_append, List.nil_append]
  after_results

/-- The kernel's normalised rows are the reference's, from blocks that read the arrays. -/
theorem hid_of (X : FVec Ideal S4x4096x1024 .f32) (G : FVec Ideal S1024 .f32) (H C : FVec Ideal S4x1x1024 .f32)
    (u0 : FVec Ideal S1x512x1024 .f32) (u1 : FVec Ideal S1x1024 .f32) (u2 u3 : FVec Ideal S1x1x1024 .f32) (b : Fin 4) (R : Fin 512 → Fin 4096)
    (h0 : ∀ r d, u0 (ix3 0 r d) = X (ix3 b (R r) d)) (h1 : ∀ d, u1 (ix2 0 d) = G (ix1 d)) (h2 : ∀ d, u2 (ix3 0 0 d) = H (ix3 b 0 d))
    (h3 : ∀ d, u3 (ix3 0 0 d) = C (ix3 b 0 d)) (r : Fin 512) (d : Fin 1024) :
    k0_pay4 (F := Ideal) u0 u1 u2 u3 (ix2 r d) = val_main_v25 (F := Ideal) X G H C (ix3 b (R r) d) := by
  simp only [val_main_v7_apply, val_main_v8_apply, val_main_v9_apply, val_main_v10_apply, val_main_v11_apply, val_main_v12_apply,
    val_main_v13_apply, val_main_v14_apply, val_main_v15_apply, val_main_v16_apply, val_main_v17_apply, val_main_v18_apply, val_main_v19_apply,
    val_main_v20_apply, val_main_v21_apply, val_main_v22_apply, val_main_v23_apply, val_main_v24_apply, val_main_v25_apply,
    val_main_cst_apply, val_main_cst_0_apply, val_main_cst_1_apply, val_main_cst_2_apply]
  pointwise [k0_pay4]
  simp only [h0, h1, h2, h3]
  have e1 : ∀ x, idx_main_v8 (idx_main_v9 (idx_main_v15 (ix3 b (R r) d))) x = ix3 b (R r) x := fun x => by funext a; fin_cases a <;> rfl
  have e2 : idx_main_v17 (idx_main_v18 (ix3 b (R r) d)) = ix1 d := by funext a; fin_cases a <;> rfl
  have e3 : idx_main_v22 (ix3 b (R r) d) = ix3 b 0 d := by funext a; fin_cases a <;> rfl
  have e4 : idx_main_v24 (ix3 b (R r) d) = ix3 b 0 d := by funext a; fin_cases a <;> rfl
  simp only [e1, e2, e3, e4]

theorem read_x (c : Dev nD) (t : Fin cfg0.N) (r : Fin 512) (d : Fin 1024) :
    (iblk m c 0 t : FVec Ideal S1x512x1024 .f32) (ix3 0 r d) = aX m c (ix3 (bat t) (row t r) d) := by
  show V m c main_arg0 ((win0_0.blk t).view.emb (ix3 0 r d)) = _
  rw [V_main_arg0]
  exact congrArg (aX m c) (by blk_ext [idx t])

theorem read_shift (c : Dev nD) (t : Fin cfg0.N) (d : Fin 1024) :
    (iblk m c 2 t : FVec Ideal S1x1x1024 .f32) (ix3 0 0 d) = aShift m c (ix3 (bat t) 0 d) := by
  show V m c main_arg2 ((win0_2.blk t).view.emb (ix3 0 0 d)) = _
  rw [V_main_arg2]
  exact congrArg (aShift m c) (by blk_ext [idx t])

theorem read_scale (c : Dev nD) (t : Fin cfg0.N) (d : Fin 1024) :
    (iblk m c 3 t : FVec Ideal S1x1x1024 .f32) (ix3 0 0 d) = aScale m c (ix3 (bat t) 0 d) := by
  show V m c main_arg3 ((win0_3.blk t).view.emb (ix3 0 0 d)) = _
  rw [V_main_arg3]
  exact congrArg (aScale m c) (by blk_ext [idx t])

theorem read_gain (c : Dev nD) (t : Fin cfg0.N) (d : Fin 1024) : (iblk m c 1 t : FVec Ideal S1x1024 .f32) (ix2 0 d) = aG m c (ix1 d) := by
  show V m c main_v0 ((win0_1.blk t).view.emb (ix2 0 d)) = _
  have q : (win0_1.blk t).view.emb (ix2 0 d) = ix2 0 d := by blk_ext [idx t]
  rw [q, entry_gain]
  generalize aG m c = g
  pointwise

theorem hid_point (c : Dev nD) (t : Fin cfg0.N) (r : Fin 512) (d : Fin 1024) :
    k0_pay4 (F := Ideal) (iblk m c 0 t) (iblk m c 1 t) (iblk m c 2 t) (iblk m c 3 t) (ix2 r d) = HID m c (ix3 (bat t) (row t r) d) :=
  hid_of _ _ _ _ _ _ _ _ (bat t) (row t) (read_x m c t) (read_gain m c t) (read_shift m c t) (read_scale m c t) r d

/-- The joined weights, column by column. -/
theorem entry_w (c : Dev nD) (k : Fin 1024) (e : Fin 3072) : (V m c main_v6 : FVec Ideal S1024x3072 .bf16) (ix2 k e)
    = if h : e.val < 1536 then aW m c (ix2 k ⟨e.val, by omega⟩) else if h' : e.val < 2944 then aW m c (ix2 k ⟨e.val + 24, by omega⟩)
      else if h'' : e.val < 2968 then aW m c (ix2 k ⟨e.val - 1408, by omega⟩) else 0 := by
  have q : V m c main_v6 = truncf .bf16 (concatenate S1024x3072 1
      [⟨S1024x1536, extractStridedSlice S1024x1536 ![0, 0] (aW m c) slices_S1024x2968_S1024x1536_0_0⟩,
        ⟨S1024x1408, extractStridedSlice S1024x1408 ![0, 1560] (aW m c) slices_S1024x2968_S1024x1408_0_1560⟩,
        ⟨S1024x24, extractStridedSlice S1024x24 ![0, 1536] (aW m c) slices_S1024x2968_S1024x24_0_1536⟩,
        ⟨S1024x104, broadcastInDim S1024x104 ![] bcast_S_S1024x104 (constant (F := Ideal) S_ .f32 0x00000000#32)⟩]
      concatenates_S1024x1536_S1024x1408_S1024x24_S1024x104_S1024x3072_d1) bitsLt_bf16_f32 := by
    show StableHlo.after (hostOps0 ++ (hostOps0_1 ++ (hostOps0_2 ++ (hostOps0_3 ++ hostOps0_4)))) (fun b => m (c, b)) (Proc.tc.devRef main_v6) = _
    simp only [hostOps0, hostOps0_1, hostOps0_2, hostOps0_3, hostOps0_4, List.cons_append, List.nil_append]
    after_results
    rfl
  rw [q]
  generalize aW m c = g
  pointwise
  by_cases h1 : e.val < 1536
  · rw [dif_pos h1, dif_pos h1]
  by_cases h2 : e.val < 2944
  · rw [dif_neg h1, dif_neg h1, dif_pos (by omega), dif_pos h2]
    exact congrArg g (congrArg (ix2 k) (Fin.ext (by show 1560 + (e.val - 1536) = e.val + 24; omega)))
  by_cases h3 : e.val < 2968
  · rw [dif_neg h1, dif_neg h1, dif_neg (by omega), dif_neg h2, dif_pos (by omega), dif_pos h3]
    exact congrArg g (congrArg (ix2 k) (Fin.ext (by show 1536 + (e.val - 1536 - 1408) = e.val - 1408; omega)))
  · rw [dif_neg h1, dif_neg h1, dif_neg (by omega), dif_neg h2, dif_neg (by omega), dif_neg h3]

end Cert.InProof

end
-- ==== Proof.InPlain.lean ====
/-
  The input projection: the products of the hidden rows with ranges of the joined weights, and the five results that are such products alone.
-/
module

public import proofs.«01_k».proof.Proof.InBlocks

@[expose] public section

set_option maxRecDepth 16384

noncomputable section

open Idealize.ShloMosaic Idealize.ShloMosaic.TcCoe Idealize.SL.Sem
open Idealize.ShloMosaic.Pipeline (Dat)

namespace Cert.InProof

open Cert.InRefIdeal.Read
open Cert.InProjIdeal Cert.InProjIdeal.Gen

variable (m : (ℓ : Loc nD τ sig) → Buf (Elt Ideal) ℓ)

/-- The reference's projection of the hidden rows, entry by entry. -/
abbrev PROJ (c : Dev nD) (b : Fin 4) (r : Fin 4096) (n : Fin 2968) : EReal := Cert.InRef.P (aX m c) (aG m c) (aShift m c) (aScale m c) (aW m c) b r n

/-- The hidden rows the kernel forms at a grid point. -/
abbrev HB (c : Dev nD) (t : Fin cfg0.N) : FVec Ideal S512x1024 .bf16 := k0_pay4 (F := Ideal) (iblk m c 0 t) (iblk m c 1 t) (iblk m c 2 t) (iblk m c 3 t)

/-- The block of joined weights at a grid point: all of them. -/
abbrev WB (c : Dev nD) (t : Fin cfg0.N) : FVec Ideal S1024x3072 .bf16 := iblk m c 4 t

theorem read_w (c : Dev nD) (t : Fin cfg0.N) (k : Fin 1024) (e : Fin 3072) : WB m c t (ix2 k e) = (V m c main_v6 : FVec Ideal S1024x3072 .bf16) (ix2 k e) := by
  show V m c main_v6 ((win0_4.blk t).view.emb (ix2 k e)) = _
  have q : (win0_4.blk t).view.emb (ix2 k e) = ix2 k e := by blk_ext [idx t]
  rw [q]

/-- A joined column below 1536 is the argument's. -/
theorem w_low (c : Dev nD) (t : Fin cfg0.N) (k : Fin 1024) (e : Fin 3072) (n : Fin 2968) (h : e.val < 1536) (hn : n.val = e.val) :
    WB m c t (ix2 k e) = aW m c (ix2 k n) := by
  rw [read_w, entry_w, dif_pos h]
  exact congrArg (fun n => aW m c (ix2 k n)) (Fin.ext hn.symm)

/-- A joined column between 1536 and 2944 is the argument's column 24 further on. -/
theorem w_mid (c : Dev nD) (t : Fin cfg0.N) (k : Fin 1024) (e : Fin 3072) (n : Fin 2968) (h : ¬ e.val < 1536) (h' : e.val < 2944) (hn : n.val = e.val + 24) :
    WB m c t (ix2 k e) = aW m c (ix2 k n) := by
  rw [read_w, entry_w, dif_neg h, dif_pos h']
  exact congrArg (fun n => aW m c (ix2 k n)) (Fin.ext hn.symm)

/-- The product with a column of the argument weights is the reference's projection. -/
theorem dot_col (c : Dev nD) (t : Fin cfg0.N) (r : Fin 512) (n : Fin 2968) (u : Fin 1024 → EReal) (hu : ∀ k, u k = aW m c (ix2 k n)) :
    ∑ k, HB m c t (ix2 r k) * u k = PROJ m c (bat t) (row t r) n := by
  rw [PROJ, Cert.InRef.p_sum]
  refine Finset.sum_congr rfl fun k _ => ?_
  rw [hu]
  exact congrArg (· * _) (hid_point m c t r k)

/-! The ranges of columns the kernel loads. -/

theorem ld_dq (w : FVec Ideal S1024x3072 .bf16) (k : Fin 1024) (e : Fin 1152) :
    (View.ld (Val := Elt Ideal) (e' := .bf16) w r0_3 : FVec Ideal S1024x1152 .bf16) (ix2 k e) = w (ix2 k ⟨e.val, by omega⟩) := by
  refine congrArg w ?_
  funext a
  fin_cases a <;> refine Fin.ext ?_
  · simp
  · simp

theorem ld_z (w : FVec Ideal S1024x3072 .bf16) (k : Fin 1024) (e : Fin 384) :
    (View.ld (Val := Elt Ideal) (e' := .bf16) w r0_5 : FVec Ideal S1024x384 .bf16) (ix2 k e) = w (ix2 k ⟨1152 + e.val, by omega⟩) := by
  refine congrArg w ?_
  funext a
  fin_cases a <;> refine Fin.ext ?_
  · simp
  · simp

theorem ld_hy (w : FVec Ideal S1024x3072 .bf16) (k : Fin 1024) (e : Fin 768) :
    (View.ld (Val := Elt Ideal) (e' := .bf16) w r0_7 : FVec Ideal S1024x768 .bf16) (ix2 k e) = w (ix2 k ⟨1536 + e.val, by omega⟩) := by
  refine congrArg w ?_
  funext a
  fin_cases a <;> refine Fin.ext ?_
  · simp
  · simp

theorem ld_q (w : FVec Ideal S1024x3072 .bf16) (k : Fin 1024) (e : Fin 384) :
    (View.ld (Val := Elt Ideal) (e' := .bf16) w r0_9 : FVec Ideal S1024x384 .bf16) (ix2 k e) = w (ix2 k ⟨2304 + e.val, by omega⟩) := by
  refine congrArg w ?_
  funext a
  fin_cases a <;> refine Fin.ext ?_
  · simp
  · simp

theorem ld_k (w : FVec Ideal S1024x3072 .bf16) (k : Fin 1024) (e : Fin 128) :
    (View.ld (Val := Elt Ideal) (e' := .bf16) w r0_11 : FVec Ideal S1024x128 .bf16) (ix2 k e) = w (ix2 k ⟨2688 + e.val, by omega⟩) := by
  refine congrArg w ?_
  funext a
  fin_cases a <;> refine Fin.ext ?_
  · simp
  · simp

theorem ld_v (w : FVec Ideal S1024x3072 .bf16) (k : Fin 1024) (e : Fin 128) :
    (View.ld (Val := Elt Ideal) (e' := .bf16) w r0_13 : FVec Ideal S1024x128 .bf16) (ix2 k e) = w (ix2 k ⟨2816 + e.val, by omega⟩) := by
  refine congrArg w ?_
  funext a
  fin_cases a <;> refine Fin.ext ?_
  · simp
  · simp

theorem ld_l (w : FVec Ideal S1024x3072 .bf16) (k : Fin 1024) (e : Fin 128) :
    (View.ld (Val := Elt Ideal) (e' := .bf16) w r0_14 : FVec Ideal S1024x128 .bf16) (ix2 k e) = w (ix2 k ⟨2944 + e.val, by omega⟩) := by
  refine congrArg w ?_
  funext a
  fin_cases a <;> refine Fin.ext ?_
  · simp
  · simp

/-- The hidden rows are formed of four whole blocks. -/
theorem hid_eq (x0 : FVec Ideal S1x512x1024 .f32) (x1 : FVec Ideal S1x1024 .f32) (x2 x3 : FVec Ideal S1x1x1024 .f32) (x4 : FVec Ideal S1024x3072 .bf16)
    (x5 x6 : FVec Ideal S512x128 .f32) : k0_pay20 (F := Ideal) x0 x1 x2 x3 x4 x5 x6 = k0_pay4 (F := Ideal) x0 x1 x2 x3 := by
  unfold k0_pay20
  simp (disch := decide) only [View.ld_unit_lit']

/-! What is stored, entry by entry. -/

theorem pay5_at (x : FVec Ideal S1x512x1024 .f32) (g : FVec Ideal S1x1024 .f32) (h s : FVec Ideal S1x1x1024 .f32) (w : FVec Ideal S1024x1152 .bf16)
    (r : Fin 512) (e : Fin 1152) : k0_pay5 (F := Ideal) x g h s w (ix3 0 r e) = ∑ k, k0_pay4 (F := Ideal) x g h s (ix2 r k) * w (ix2 k e) := by
  unfold k0_pay5
  generalize k0_pay4 (F := Ideal) x g h s = H
  pointwise

theorem pay6_at (H : FVec Ideal S512x1024 .bf16) (w : FVec Ideal S1024x384 .bf16) (r : Fin 512) (e : Fin 384) :
    k0_pay6 (F := Ideal) H w (ix3 0 r e) = ∑ k, H (ix2 r k) * w (ix2 k e) := by
  pointwise [k0_pay6]

theorem pay7_at (H : FVec Ideal S512x1024 .bf16) (w : FVec Ideal S1024x768 .bf16) (r : Fin 512) (e : Fin 768) :
    k0_pay7 (F := Ideal) H w (ix3 0 r e) = ∑ k, H (ix2 r k) * w (ix2 k e) := by
  pointwise [k0_pay7]

theorem pay2_at (H : FVec Ideal S512x1024 .bf16) (w : FVec Ideal S1024x128 .bf16) (r : Fin 512) (e : Fin 128) :
    k0_pay2 (F := Ideal) H w (ix3 0 r e) = ∑ k, H (ix2 r k) * w (ix2 k e) := by
  pointwise [k0_pay2]

theorem pay3_at (H : FVec Ideal S512x1024 .bf16) (w : FVec Ideal S1024x128 .bf16) (r : Fin 512) (e : Fin 128) :
    k0_pay3 (F := Ideal) H w (ix3 0 r e) = ∑ k, H (ix2 r k) * w (ix2 k e) := by
  pointwise [k0_pay3]

/-- Result 0 at an entry of a block. -/
theorem point_0 (c : Dev nD) (t : Fin cfg0.N) (y : S1x512x1152.Idx) : k0_pay5 (F := Ideal) (iblk m c 0 t) (iblk m c 1 t) (iblk m c 2 t) (iblk m c 3 t) (View.ld (Val := Elt Ideal) (e' := .bf16) (WB m c t) r0_3) y
    = val_main_v27 (F := Ideal) (aX m c) (aG m c) (aShift m c) (aScale m c) (aW m c) (((View.whole main_v46_0).slice (win0_7.rect t)).emb y) := by
  obtain ⟨r, e, rfl⟩ : ∃ (r : Fin 512) (e : Fin 1152), y = ix3 0 r e := ⟨y 1, y 2, by
    have h0 : (y 0).val < 1 := (y 0).isLt
    funext a
    fin_cases a
    · exact Fin.ext (by show (y 0).val = 0; omega)
    · rfl
    · rfl⟩
  have q : ((View.whole main_v46_0).slice (win0_7.rect t)).emb (ix3 0 r e) = ix3 (bat t) (row t r) e := by blk_ext [idx t]
  rw [q]
  refine (pay5_at _ _ _ _ _ r e).trans ((dot_col m c t r ⟨e.val, by omega⟩ _ fun k => ?_).trans (Cert.InRef.v27_at (aX m c) (aG m c) (aShift m c) (aScale m c) (aW m c) _ _ e).symm)
  exact (ld_dq (WB m c t) k e).trans (w_low m c t k _ _ (by show e.val < 1536; omega) rfl)

theorem final_0 (c : Dev nD) : (dats m 0 c).arrAt 7 (cfgs 0).N = val_main_v27 (F := Ideal) (aX m c) (aG m c) (aShift m c) (aScale m c) (aW m c) := by
  refine (dats m 0 c).arrAt_eq_of_covers 7 _ (by decide +kernel) fun t _ y => ?_
  blk_simp
  rw [after0_7]; frame_out
  exact point_0 m c t y

/-- Result 1 at an entry of a block. -/
theorem point_1 (c : Dev nD) (t : Fin cfg0.N) (y : S1x512x384.Idx) : k0_pay6 (F := Ideal) (HB m c t) (View.ld (Val := Elt Ideal) (e' := .bf16) (WB m c t) r0_5) y
    = val_main_v28 (F := Ideal) (aX m c) (aG m c) (aShift m c) (aScale m c) (aW m c) (((View.whole main_v46_1).slice (win0_8.rect t)).emb y) := by
  obtain ⟨r, e, rfl⟩ : ∃ (r : Fin 512) (e : Fin 384), y = ix3 0 r e := ⟨y 1, y 2, by
    have h0 : (y 0).val < 1 := (y 0).isLt
    funext a
    fin_cases a
    · exact Fin.ext (by show (y 0).val = 0; omega)
    · rfl
    · rfl⟩
  have q : ((View.whole main_v46_1).slice (win0_8.rect t)).emb (ix3 0 r e) = ix3 (bat t) (row t r) e := by blk_ext [idx t]
  rw [q]
  refine (pay6_at _ _ r e).trans ((dot_col m c t r ⟨1152 + e.val, by omega⟩ _ fun k => ?_).trans (Cert.InRef.v28_at (aX m c) (aG m c) (aShift m c) (aScale m c) (aW m c) _ _ e).symm)
  exact (ld_z (WB m c t) k e).trans (w_low m c t k _ _ (by show 1152 + e.val < 1536; omega) rfl)

theorem final_1 (c : Dev nD) : (dats m 0 c).arrAt 8 (cfgs 0).N = val_main_v28 (F := Ideal) (aX m c) (aG m c) (aShift m c) (aScale m c) (aW m c) := by
  refine (dats m 0 c).arrAt_eq_of_covers 8 _ (by decide +kernel) fun t _ y => ?_
  blk_simp
  rw [after0_8]; frame_out
  rw [hid_eq]
  exact point_1 m c t y

/-- Result 2 at an entry of a block. -/
theorem point_2 (c : Dev nD) (t : Fin cfg0.N) (y : S1x512x768.Idx) : k0_pay7 (F := Ideal) (HB m c t) (View.ld (Val := Elt Ideal) (e' := .bf16) (WB m c t) r0_7) y
    = val_main_v31 (F := Ideal) (aX m c) (aG m c) (aShift m c) (aScale m c) (aW m c) (((View.whole main_v46_2).slice (win0_9.rect t)).emb y) := by
  obtain ⟨r, e, rfl⟩ : ∃ (r : Fin 512) (e : Fin 768), y = ix3 0 r e := ⟨y 1, y 2, by
    have h0 : (y 0).val < 1 := (y 0).isLt
    funext a
    fin_cases a
    · exact Fin.ext (by show (y 0).val = 0; omega)
    · rfl
    · rfl⟩
  have q : ((View.whole main_v46_2).slice (win0_9.rect t)).emb (ix3 0 r e) = ix3 (bat t) (row t r) e := by blk_ext [idx t]
  rw [q]
  refine (pay7_at _ _ r e).trans ((dot_col m c t r ⟨1560 + e.val, by omega⟩ _ fun k => ?_).trans (Cert.InRef.v31_at (aX m c) (aG m c) (aShift m c) (aScale m c) (aW m c) _ _ e).symm)
  exact (ld_hy (WB m c t) k e).trans (w_mid m c t k _ _ (by show ¬ 1536 + e.val < 1536; omega) (by show 1536 + e.val < 2944; omega) (by show 1560 + e.val = 1536 + e.val + 24; omega))

theorem final_2 (c : Dev nD) : (dats m 0 c).arrAt 9 (cfgs 0).N = val_main_v31 (F := Ideal) (aX m c) (aG m c) (aShift m c) (aScale m c) (aW m c) := by
  refine (dats m 0 c).arrAt_eq_of_covers 9 _ (by decide +kernel) fun t _ y => ?_
  blk_simp
  rw [after0_9]; frame_out
  rw [hid_eq]
  exact point_2 m c t y

/-- Result 5 at an entry of a block. -/
theorem point_5 (c : Dev nD) (t : Fin cfg0.N) (y : S1x512x128.Idx) : k0_pay2 (F := Ideal) (HB m c t) (View.ld (Val := Elt Ideal) (e' := .bf16) (WB m c t) r0_13) y
    = val_main_v34 (F := Ideal) (aX m c) (aG m c) (aShift m c) (aScale m c) (aW m c) (((View.whole main_v46_5).slice (win0_12.rect t)).emb y) := by
  obtain ⟨r, e, rfl⟩ : ∃ (r : Fin 512) (e : Fin 128), y = ix3 0 r e := ⟨y 1, y 2, by
    have h0 : (y 0).val < 1 := (y 0).isLt
    funext a
    fin_cases a
    · exact Fin.ext (by show (y 0).val = 0; omega)
    · rfl
    · rfl⟩
  have q : ((View.whole main_v46_5).slice (win0_12.rect t)).emb (ix3 0 r e) = ix3 (bat t) (row t r) e := by blk_ext [idx t]
  rw [q]
  refine (pay2_at _ _ r e).trans ((dot_col m c t r ⟨2840 + e.val, by omega⟩ _ fun k => ?_).trans (Cert.InRef.v34_at (aX m c) (aG m c) (aShift m c) (aScale m c) (aW m c) _ _ e).symm)
  exact (ld_v (WB m c t) k e).trans (w_mid m c t k _ _ (by show ¬ 2816 + e.val < 1536; omega) (by show 2816 + e.val < 2944; omega) (by show 2840 + e.val = 2816 + e.val + 24; omega))

theorem final_5 (c : Dev nD) : (dats m 0 c).arrAt 12 (cfgs 0).N = val_main_v34 (F := Ideal) (aX m c) (aG m c) (aShift m c) (aScale m c) (aW m c) := by
  refine (dats m 0 c).arrAt_eq_of_covers 12 _ (by decide +kernel) fun t _ y => ?_
  blk_simp
  rw [after0_12]; frame_out
  rw [hid_eq]
  exact point_5 m c t y

/-- Result 6 at an entry of a block. -/
theorem point_6 (c : Dev nD) (t : Fin cfg0.N) (y : S1x512x128.Idx) : k0_pay3 (F := Ideal) (HB m c t) (View.ld (Val := Elt Ideal) (e' := .bf16) (WB m c t) r0_14) y
    = val_main_v162 (F := Ideal) (aX m c) (aG m c) (aShift m c) (aScale m c) (aW m c) (((View.whole main_v46_6).slice (win0_13.rect t)).emb y) := by
  obtain ⟨r, e, rfl⟩ : ∃ (r : Fin 512) (e : Fin 128), y = ix3 0 r e := ⟨y 1, y 2, by
    have h0 : (y 0).val < 1 := (y 0).isLt
    funext a
    fin_cases a
    · exact Fin.ext (by show (y 0).val = 0; omega)
    · rfl
    · rfl⟩
  have q : ((View.whole main_v46_6).slice (win0_13.rect t)).emb (ix3 0 r e) = ix3 (bat t) (row t r) e := by blk_ext [idx t]
  rw [q]
  refine (pay3_at _ _ r e).trans (Eq.trans ?_ (Cert.InRef.v162_at (aX m c) (aG m c) (aShift m c) (aScale m c) (aW m c) _ _ e).symm)
  by_cases h : e.val < 24
  · rw [dif_pos h]
    refine dot_col m c t r ⟨1536 + e.val, by omega⟩ _ fun k => ?_
    rw [ld_l (WB m c t) k e, read_w, entry_w, dif_neg (by show ¬ 2944 + e.val < 1536; omega), dif_neg (by show ¬ 2944 + e.val < 2944; omega),
      dif_pos (by show 2944 + e.val < 2968; omega)]
    exact congrArg (fun n => aW m c (ix2 k n)) (Fin.ext (by show 2944 + e.val - 1408 = 1536 + e.val; omega))
  · rw [dif_neg h]
    refine Finset.sum_eq_zero fun k _ => ?_
    rw [ld_l (WB m c t) k e, read_w, entry_w, dif_neg (by show ¬ 2944 + e.val < 1536; omega), dif_neg (by show ¬ 2944 + e.val < 2944; omega),
      dif_neg (by show ¬ 2944 + e.val < 2968; omega), mul_zero]

theorem final_6 (c : Dev nD) : (dats m 0 c).arrAt 13 (cfgs 0).N = val_main_v162 (F := Ideal) (aX m c) (aG m c) (aShift m c) (aScale m c) (aW m c) := by
  refine (dats m 0 c).arrAt_eq_of_covers 13 _ (by decide +kernel) fun t _ y => ?_
  blk_simp
  rw [after0_13]; frame_out
  rw [hid_eq]
  exact point_6 m c t y

end Cert.InProof

end
-- ==== Proof.InTables.lean ====
/-
  The input projection: the rotation the kernel makes of a block of lanes, and the tables of cosines and sines the host lays out for it.
-/
module

public import proofs.«01_k».proof.Proof.Gen.InProjIdeal.Value
public import proofs.«01_k».proof.Proof.InBlocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProof

open Cert.InRefIdeal.Read
open Cert.InProjIdeal Cert.InProjIdeal.Gen
open Cert.InRef (ANG)

variable (m : (ℓ : Loc nD τ sig) → Buf (Elt Ideal) ℓ)

/-- The kernel's rotation of a block of lanes. -/
def TURN (x cs sn : FVec Ideal S512x128 .f32) : FVec Ideal S512x128 .f32 :=
  addf (mulf x cs) (mulf (select (cmpi .slt (andi (iota .tc S512x128 32 [1] iota_S512x128_d1_w32) (broadcast S512x128 31#32)) (broadcast S512x128 16#32))
    (dynamicRotate 1 112#32 none x rotates_S512x128_d1) (dynamicRotate 1 16#32 none x rotates_S512x128_d1)) sn)

theorem turn_at (x cs sn : FVec Ideal S512x128 .f32) (r : Fin 512) (l : Fin 128) : TURN x cs sn (ix2 r l)
    = x (ix2 r l) * cs (ix2 r l) + (if l.val % 32 < 16 then x (ix2 r ⟨(l.val + 128 - 112) % 128, Nat.mod_lt _ (by decide)⟩)
        else x (ix2 r ⟨(l.val + 128 - 16) % 128, Nat.mod_lt _ (by decide)⟩)) * sn (ix2 r l) := by
  pointwise [TURN]
  by_cases h : l.val % 32 < 16
  · have e : IntOp.cmpi CmpIPredicate.slt (IntOp.andi (BitVec.ofNat 32 l.val) 31#32) 16#32 = 1#1 := by revert l; decide +kernel
    rw [if_pos h, e]; rfl
  · have e : IntOp.cmpi CmpIPredicate.slt (IntOp.andi (BitVec.ofNat 32 l.val) 31#32) 16#32 = 0#1 := by revert l; decide +kernel
    rw [if_neg h, e]; rfl

/-- Position divided by the grid's width, rounded down, as the host computes it. -/
def DIV (p : IVec S4096 32) (w : IVec S_ 32) : IVec S4096 32 :=
  select (andi (cmpi .ne (signi p) (broadcastInDim S4096 ![] bcast_S_S4096 (signi w)))
      (cmpi .ne (Host.remsi p (broadcastInDim S4096 ![] bcast_S_S4096 w)) (broadcastInDim S4096 ![] bcast_S_S4096 (constantI S_ 32 0#32))))
    (subi (Host.divsi p (broadcastInDim S4096 ![] bcast_S_S4096 w)) (broadcastInDim S4096 ![] bcast_S_S4096 (constantI S_ 32 1#32)))
    (Host.divsi p (broadcastInDim S4096 ![] bcast_S_S4096 w))

theorem div_at (t : Fin 4096) : DIV (iotaInDim S4096 32 0) (constantI S_ 32 64#32) (ix1 t) = BitVec.ofNat 32 (t.val / 64) := by
  pointwise [DIV]
  revert t
  decide +kernel

/-- The remainder of the position by the grid's width, as the host computes it. -/
def REM (p : IVec S4096 32) (w : IVec S_ 32) : IVec S4096 32 :=
  have d : IVec S_ 32 := select (cmpi .eq w (constantI S_ 32 0#32)) (constantI S_ 32 1#32) w
  have q : IVec S4096 32 := Host.remsi p (broadcastInDim S4096 ![] bcast_S_S4096 d)
  select (andi (cmpi .ne (cmpi .slt q (broadcastInDim S4096 ![] bcast_S_S4096 (constantI S_ 32 0#32)))
        (broadcastInDim S4096 ![] bcast_S_S4096 (cmpi .slt d (constantI S_ 32 0#32))))
      (cmpi .ne q (broadcastInDim S4096 ![] bcast_S_S4096 (constantI S_ 32 0#32))))
    (addi q (broadcastInDim S4096 ![] bcast_S_S4096 d)) q

theorem rem_at (t : Fin 4096) : REM (iotaInDim S4096 32 0) (constantI S_ 32 64#32) (ix1 t) = BitVec.ofNat 32 (t.val % 64) := by
  pointwise [REM]
  revert t
  decide +kernel

/-- The frequencies. -/
def INV : FVec Ideal S16 .f32 :=
  Host.powf (broadcastInDim S16 ![] bcast_S_S16 (constant (F := Ideal) S_ .f32 0x461C4000#32))
    (Host.divf (Host.negf (sitofp (F := Ideal) .f32 (iotaInDim S16 32 0))) (broadcastInDim S16 ![] bcast_S_S16 (constant (F := Ideal) S_ .f32 0x41800000#32)))

/-- The angles of a row of positions. -/
def ANGLES (p : IVec S4096 32) (f : FVec Ideal S16 .f32) : FVec Ideal S4096x16 .f32 :=
  mulf (broadcastInDim S4096x16 ![0, 1] bcast_S4096x1_S4096x16_0_1 (broadcastInDim S4096x1 ![0] bcast_S4096_S4096x1_0 (sitofp (F := Ideal) .f32 p)))
    (broadcastInDim S4096x16 ![0, 1] bcast_S1x16_S4096x16_0_1 (broadcastInDim S1x16 ![1] bcast_S16_S1x16_1 f))

theorem angles_at (p : IVec S4096 32) (n : ℕ) (t : Fin 4096) (i : Fin 16) (h : p (ix1 t) = BitVec.ofNat 32 n) : ANGLES p INV (ix2 t i) = ANG n i.val := by
  pointwise [ANGLES, INV]
  rw [h]
  rfl

/-- A table of four sixteens of lanes, laid out twice. -/
def TABLE (a b u v : FVec Ideal S4096x16 .f32) : FVec Ideal S4096x128 .f32 :=
  shapeCast S4096x128 (broadcastInDim S1x4096x2x64 ![0, 1, 2, 3] bcast_S1x4096x1x64_S1x4096x2x64_0_1_2_3 (shapeCast S1x4096x1x64
    (concatenate S4096x64 1 [⟨S4096x16, a⟩, ⟨S4096x16, b⟩, ⟨S4096x16, u⟩, ⟨S4096x16, v⟩]
      concatenates_S4096x16_S4096x16_S4096x16_S4096x16_S4096x64_d1) shapeCasts_S4096x64_S1x4096x1x64)) shapeCasts_S1x4096x2x64_S4096x128

theorem table_0 (a b u v : FVec Ideal S4096x16 .f32) (t : Fin 4096) (g : Fin 2) (i : Fin 16) :
    TABLE a b u v (ix2 t ⟨g.val * 64 + (0 + i.val), by omega⟩) = a (ix2 t i) := by
  pointwise [TABLE]
  rw [dif_pos (by omega)]
  exact congrArg (fun k => a (ix2 t k)) (Fin.ext (by show (g.val * 64 + i.val) % 64 = i.val; omega))

theorem table_1 (a b u v : FVec Ideal S4096x16 .f32) (t : Fin 4096) (g : Fin 2) (i : Fin 16) :
    TABLE a b u v (ix2 t ⟨g.val * 64 + (16 + i.val), by omega⟩) = b (ix2 t i) := by
  pointwise [TABLE]
  rw [dif_neg (by omega), dif_pos (by omega)]
  exact congrArg (fun k => b (ix2 t k)) (Fin.ext (by show (g.val * 64 + (16 + i.val)) % 64 - 16 = i.val; omega))

theorem table_2 (a b u v : FVec Ideal S4096x16 .f32) (t : Fin 4096) (g : Fin 2) (i : Fin 16) :
    TABLE a b u v (ix2 t ⟨g.val * 64 + (32 + i.val), by omega⟩) = u (ix2 t i) := by
  pointwise [TABLE]
  rw [dif_neg (by omega), dif_neg (by omega), dif_pos (by omega)]
  exact congrArg (fun k => u (ix2 t k)) (Fin.ext (by show (g.val * 64 + (32 + i.val)) % 64 - 16 - 16 = i.val; omega))

theorem table_3 (a b u v : FVec Ideal S4096x16 .f32) (t : Fin 4096) (g : Fin 2) (i : Fin 16) :
    TABLE a b u v (ix2 t ⟨g.val * 64 + (48 + i.val), by omega⟩) = v (ix2 t i) := by
  pointwise [TABLE]
  rw [dif_neg (by omega), dif_neg (by omega), dif_neg (by omega)]
  exact congrArg (fun k => v (ix2 t k)) (Fin.ext (by show (g.val * 64 + (48 + i.val)) % 64 - 16 - 16 - 16 = i.val; omega))

/-! The host's operations, stretch by stretch, from any contents before the stretch. -/

variable (S : Valuation τ sig (Elt Ideal))

theorem s4_cos : (StableHlo.after hostOps0_4 S (Proc.tc.devRef main_v42) : FVec Ideal S4096x128 .f32)
    = TABLE (Host.cos (S (Proc.tc.devRef main_v20) : FVec Ideal S4096x16 .f32)) (Host.cos (S (Proc.tc.devRef main_v20) : FVec Ideal S4096x16 .f32))
      (Host.cos (ANGLES (S (Proc.tc.devRef main_v21)) (S (Proc.tc.devRef main_v12)))) (Host.cos (ANGLES (S (Proc.tc.devRef main_v21)) (S (Proc.tc.devRef main_v12)))) := by
  simp only [hostOps0_4]
  after_results
  rfl

theorem s4_sin : (StableHlo.after hostOps0_4 S (Proc.tc.devRef main_v45) : FVec Ideal S4096x128 .f32)
    = TABLE (Host.negf (Host.sin (S (Proc.tc.devRef main_v20) : FVec Ideal S4096x16 .f32))) (Host.sin (S (Proc.tc.devRef main_v20) : FVec Ideal S4096x16 .f32))
      (Host.negf (Host.sin (ANGLES (S (Proc.tc.devRef main_v21)) (S (Proc.tc.devRef main_v12))))) (Host.sin (ANGLES (S (Proc.tc.devRef main_v21)) (S (Proc.tc.devRef main_v12)))) := by
  simp only [hostOps0_4]
  after_results
  rfl

set_option maxHeartbeats 4000000 in
theorem s3_rem : (StableHlo.after hostOps0_3 S (Proc.tc.devRef main_v21) : IVec S4096 32)
    = REM (S (Proc.tc.devRef main_v13)) (S (Proc.tc.devRef main_c_2)) := by
  simp only [hostOps0_3]
  after_results
  rfl

theorem s3_v20 : StableHlo.after hostOps0_3 S (Proc.tc.devRef main_v20) = S (Proc.tc.devRef main_v20) := by
  simp only [hostOps0_3]
  after_results

theorem s3_v12 : StableHlo.after hostOps0_3 S (Proc.tc.devRef main_v12) = S (Proc.tc.devRef main_v12) := by
  simp only [hostOps0_3]
  after_results

theorem s2_v20 : (StableHlo.after hostOps0_2 S (Proc.tc.devRef main_v20) : FVec Ideal S4096x16 .f32)
    = ANGLES (S (Proc.tc.devRef main_v14)) (S (Proc.tc.devRef main_v12)) := by
  simp only [hostOps0_2]
  after_results
  rfl

theorem s2_c : (StableHlo.after hostOps0_2 S (Proc.tc.devRef main_c_2) : IVec S_ 32) = constantI S_ 32 64#32 := by
  simp only [hostOps0_2]
  after_results

theorem s2_v12 : StableHlo.after hostOps0_2 S (Proc.tc.devRef main_v12) = S (Proc.tc.devRef main_v12) := by
  simp only [hostOps0_2]
  after_results

theorem s2_v13 : StableHlo.after hostOps0_2 S (Proc.tc.devRef main_v13) = S (Proc.tc.devRef main_v13) := by
  simp only [hostOps0_2]
  after_results

theorem s1_div : (StableHlo.after hostOps0_1 S (Proc.tc.devRef main_v14) : IVec S4096 32)
    = DIV (S (Proc.tc.devRef main_v13)) (S (Proc.tc.devRef main_c)) := by
  simp only [hostOps0_1]
  after_results
  rfl

theorem s1_v12 : StableHlo.after hostOps0_1 S (Proc.tc.devRef main_v12) = S (Proc.tc.devRef main_v12) := by
  simp only [hostOps0_1]
  after_results

theorem s1_v13 : StableHlo.after hostOps0_1 S (Proc.tc.devRef main_v13) = S (Proc.tc.devRef main_v13) := by
  simp only [hostOps0_1]
  after_results

theorem s0_inv : (StableHlo.after hostOps0 S (Proc.tc.devRef main_v12) : FVec Ideal S16 .f32) = INV := by
  simp only [hostOps0]
  after_results
  rfl

theorem s0_v13 : (StableHlo.after hostOps0 S (Proc.tc.devRef main_v13) : IVec S4096 32) = iotaInDim S4096 32 0 := by
  simp only [hostOps0]
  after_results

theorem s0_c : (StableHlo.after hostOps0 S (Proc.tc.devRef main_c) : IVec S_ 32) = constantI S_ 32 64#32 := by
  simp only [hostOps0]
  after_results

theorem entry_cos (c : Dev nD) : (V m c main_v42 : FVec Ideal S4096x128 .f32)
    = TABLE (Host.cos (ANGLES (DIV (iotaInDim S4096 32 0) (constantI S_ 32 64#32)) INV)) (Host.cos (ANGLES (DIV (iotaInDim S4096 32 0) (constantI S_ 32 64#32)) INV))
      (Host.cos (ANGLES (REM (iotaInDim S4096 32 0) (constantI S_ 32 64#32)) INV)) (Host.cos (ANGLES (REM (iotaInDim S4096 32 0) (constantI S_ 32 64#32)) INV)) := by
  show StableHlo.after (hostOps0 ++ (hostOps0_1 ++ (hostOps0_2 ++ (hostOps0_3 ++ hostOps0_4)))) (fun b => m (c, b)) (Proc.tc.devRef main_v42) = _
  rw [StableHlo.after_append, StableHlo.after_append, StableHlo.after_append, StableHlo.after_append, s4_cos, s3_rem, s3_v20, s3_v12, s2_v20, s2_c, s2_v12, s2_v13, s1_div, s1_v12, s1_v13, s0_inv, s0_v13, s0_c]

theorem entry_sin (c : Dev nD) : (V m c main_v45 : FVec Ideal S4096x128 .f32)
    = TABLE (Host.negf (Host.sin (ANGLES (DIV (iotaInDim S4096 32 0) (constantI S_ 32 64#32)) INV))) (Host.sin (ANGLES (DIV (iotaInDim S4096 32 0) (constantI S_ 32 64#32)) INV))
      (Host.negf (Host.sin (ANGLES (REM (iotaInDim S4096 32 0) (constantI S_ 32 64#32)) INV))) (Host.sin (ANGLES (REM (iotaInDim S4096 32 0) (constantI S_ 32 64#32)) INV)) := by
  show StableHlo.after (hostOps0 ++ (hostOps0_1 ++ (hostOps0_2 ++ (hostOps0_3 ++ hostOps0_4)))) (fun b => m (c, b)) (Proc.tc.devRef main_v45) = _
  rw [StableHlo.after_append, StableHlo.after_append, StableHlo.after_append, StableHlo.after_append, s4_sin, s3_rem, s3_v20, s3_v12, s2_v20, s2_c, s2_v12, s2_v13, s1_div, s1_v12, s1_v13, s0_inv, s0_v13, s0_c]

end Cert.InProof

end
-- ==== Proof.InRope.lean ====
/-
  The input projection: its two rotated results are the reference's rotary embedding, quarter by quarter of a head.
-/
module

public import proofs.«01_k».proof.Proof.InPlain
public import proofs.«01_k».proof.Proof.InTables

@[expose] public section

set_option maxRecDepth 16384

noncomputable section

open Idealize.ShloMosaic Idealize.ShloMosaic.TcCoe Idealize.SL.Sem
open Idealize.ShloMosaic.Pipeline (Dat)

namespace Cert.InProof

open Cert.InRefIdeal.Read
open Cert.InProjIdeal Cert.InProjIdeal.Gen

variable (m : (ℓ : Loc nD τ sig) → Buf (Elt Ideal) ℓ)

/-- The block of the table of cosines, and of the table of sines, at a grid point. -/
abbrev CB (c : Dev nD) (t : Fin cfg0.N) : FVec Ideal S512x128 .f32 := iblk m c 5 t
abbrev SB (c : Dev nD) (t : Fin cfg0.N) : FVec Ideal S512x128 .f32 := iblk m c 6 t

theorem read_cos (c : Dev nD) (t : Fin cfg0.N) (r : Fin 512) (l : Fin 128) : CB m c t (ix2 r l) = (V m c main_v42 : FVec Ideal S4096x128 .f32) (ix2 (row t r) l) := by
  show V m c main_v42 ((win0_5.blk t).view.emb (ix2 r l)) = _
  have q : (win0_5.blk t).view.emb (ix2 r l) = ix2 (row t r) l := by blk_ext [idx t]
  rw [q]

theorem read_sin (c : Dev nD) (t : Fin cfg0.N) (r : Fin 512) (l : Fin 128) : SB m c t (ix2 r l) = (V m c main_v45 : FVec Ideal S4096x128 .f32) (ix2 (row t r) l) := by
  show V m c main_v45 ((win0_6.blk t).view.emb (ix2 r l)) = _
  have q : (win0_6.blk t).view.emb (ix2 r l) = ix2 (row t r) l := by blk_ext [idx t]
  rw [q]

/-! The tables, quarter by quarter. -/

theorem cos_0 (c : Dev nD) (t : Fin cfg0.N) (r : Fin 512) (g : Fin 2) (i : Fin 16) :
    CB m c t (ix2 r ⟨g.val * 64 + (0 + i.val), by omega⟩) = val_main_v49 (F := Ideal) (ix2 (row t r) i) := by
  rw [read_cos, entry_cos, table_0, Cert.InRef.cos_row_at]
  exact congrArg Ideal.cos (angles_at _ _ _ i (div_at _))

theorem sin_0 (c : Dev nD) (t : Fin cfg0.N) (r : Fin 512) (g : Fin 2) (i : Fin 16) :
    SB m c t (ix2 r ⟨g.val * 64 + (0 + i.val), by omega⟩) = -val_main_v51 (F := Ideal) (ix2 (row t r) i) := by
  rw [read_sin, entry_sin, table_0, Cert.InRef.sin_row_at]
  exact congrArg (fun a => -Ideal.sin a) (angles_at _ _ _ i (div_at _))

theorem cos_1 (c : Dev nD) (t : Fin cfg0.N) (r : Fin 512) (g : Fin 2) (i : Fin 16) :
    CB m c t (ix2 r ⟨g.val * 64 + (16 + i.val), by omega⟩) = val_main_v49 (F := Ideal) (ix2 (row t r) i) := by
  rw [read_cos, entry_cos, table_1, Cert.InRef.cos_row_at]
  exact congrArg Ideal.cos (angles_at _ _ _ i (div_at _))

theorem sin_1 (c : Dev nD) (t : Fin cfg0.N) (r : Fin 512) (g : Fin 2) (i : Fin 16) :
    SB m c t (ix2 r ⟨g.val * 64 + (16 + i.val), by omega⟩) = val_main_v51 (F := Ideal) (ix2 (row t r) i) := by
  rw [read_sin, entry_sin, table_1, Cert.InRef.sin_row_at]
  exact congrArg (fun a => Ideal.sin a) (angles_at _ _ _ i (div_at _))

theorem cos_2 (c : Dev nD) (t : Fin cfg0.N) (r : Fin 512) (g : Fin 2) (i : Fin 16) :
    CB m c t (ix2 r ⟨g.val * 64 + (32 + i.val), by omega⟩) = val_main_v79 (F := Ideal) (ix2 (row t r) i) := by
  rw [read_cos, entry_cos, table_2, Cert.InRef.cos_col_at]
  exact congrArg Ideal.cos (angles_at _ _ _ i (rem_at _))

theorem sin_2 (c : Dev nD) (t : Fin cfg0.N) (r : Fin 512) (g : Fin 2) (i : Fin 16) :
    SB m c t (ix2 r ⟨g.val * 64 + (32 + i.val), by omega⟩) = -val_main_v81 (F := Ideal) (ix2 (row t r) i) := by
  rw [read_sin, entry_sin, table_2, Cert.InRef.sin_col_at]
  exact congrArg (fun a => -Ideal.sin a) (angles_at _ _ _ i (rem_at _))

theorem cos_3 (c : Dev nD) (t : Fin cfg0.N) (r : Fin 512) (g : Fin 2) (i : Fin 16) :
    CB m c t (ix2 r ⟨g.val * 64 + (48 + i.val), by omega⟩) = val_main_v79 (F := Ideal) (ix2 (row t r) i) := by
  rw [read_cos, entry_cos, table_3, Cert.InRef.cos_col_at]
  exact congrArg Ideal.cos (angles_at _ _ _ i (rem_at _))

theorem sin_3 (c : Dev nD) (t : Fin cfg0.N) (r : Fin 512) (g : Fin 2) (i : Fin 16) :
    SB m c t (ix2 r ⟨g.val * 64 + (48 + i.val), by omega⟩) = val_main_v81 (F := Ideal) (ix2 (row t r) i) := by
  rw [read_sin, entry_sin, table_3, Cert.InRef.sin_col_at]
  exact congrArg (fun a => Ideal.sin a) (angles_at _ _ _ i (rem_at _))

/-- An eighth, the scale of the queries. -/
abbrev EIGHTH : EReal := FloatOps.ofBits (F := Ideal) .f32 0x3E000000#32

theorem eighth : 0 ≤ EIGHTH ∧ EIGHTH ≠ ⊤ := by
  have e : EIGHTH = ((1 / 8 : ℝ) : EReal) := by
    show Ideal.ofBits .f32 0x3E000000#32 = _
    simp [Ideal.ofBits, Ideal.ieee, -EReal.coe_mul]
    norm_num
  rw [e]
  exact ⟨EReal.coe_nonneg.2 (by norm_num), EReal.coe_ne_top _⟩

theorem distrib (a b : EReal) : (a + b) * EIGHTH = a * EIGHTH + b * EIGHTH :=
  EReal.right_distrib_of_nonneg_of_ne_top eighth.1 eighth.2 a b

theorem scale_add (a b x y : EReal) : a * EIGHTH * x + b * EIGHTH * y = (a * x + b * y) * EIGHTH := by
  rw [distrib, mul_right_comm a, mul_right_comm b]

theorem scale_sub (a b x y : EReal) : a * EIGHTH * x + b * EIGHTH * -y = (a * x - b * y) * EIGHTH := by
  rw [scale_add, mul_neg, sub_eq_add_neg]

theorem plain_sub (a b x y : EReal) : a * x + b * -y = a * x - b * y := by
  rw [mul_neg, sub_eq_add_neg]

/-- The scaled queries before the rotation. -/
abbrev QB (c : Dev nD) (t : Fin cfg0.N) : FVec Ideal S512x384 .f32 := k0_pay8 (F := Ideal) (HB m c t) (View.ld (Val := Elt Ideal) (e' := .bf16) (WB m c t) r0_9)
/-- The keys before the rotation. -/
abbrev KB (c : Dev nD) (t : Fin cfg0.N) : FVec Ideal S512x128 .f32 := k0_pay15 (F := Ideal) (HB m c t) (View.ld (Val := Elt Ideal) (e' := .bf16) (WB m c t) r0_11)

theorem pay8_at (H : FVec Ideal S512x1024 .bf16) (w : FVec Ideal S1024x384 .bf16) (r : Fin 512) (e : Fin 384) :
    k0_pay8 (F := Ideal) H w (ix2 r e) = (∑ k, H (ix2 r k) * w (ix2 k e)) * EIGHTH := by
  pointwise [k0_pay8]

theorem pay15_at (H : FVec Ideal S512x1024 .bf16) (w : FVec Ideal S1024x128 .bf16) (r : Fin 512) (e : Fin 128) :
    k0_pay15 (F := Ideal) H w (ix2 r e) = ∑ k, H (ix2 r k) * w (ix2 k e) := by
  pointwise [k0_pay15]

theorem q_at (c : Dev nD) (t : Fin cfg0.N) (r : Fin 512) (e : Fin 384) (n : Fin 2968) (hn : n.val = 2328 + e.val) :
    QB m c t (ix2 r e) = PROJ m c (bat t) (row t r) n * EIGHTH := by
  refine (pay8_at _ _ r e).trans (congrArg (· * _) (dot_col m c t r n _ fun k => ?_))
  exact (ld_q (WB m c t) k e).trans (w_mid m c t k _ _ (by show ¬ 2304 + e.val < 1536; omega) (by show 2304 + e.val < 2944; omega)
    (by show n.val = 2304 + e.val + 24; omega))

theorem k_at (c : Dev nD) (t : Fin cfg0.N) (r : Fin 512) (e : Fin 128) (n : Fin 2968) (hn : n.val = 2712 + e.val) :
    KB m c t (ix2 r e) = PROJ m c (bat t) (row t r) n := by
  refine (pay15_at _ _ r e).trans (dot_col m c t r n _ fun k => ?_)
  exact (ld_k (WB m c t) k e).trans (w_mid m c t k _ _ (by show ¬ 2688 + e.val < 1536; omega) (by show 2688 + e.val < 2944; omega)
    (by show n.val = 2688 + e.val + 24; omega))

/-- The three rotated blocks of lanes, side by side. -/
theorem three_0 (A B D : FVec Ideal S512x128 .f32) (r : Fin 512) (l : Fin 128) :
    shapeCast S1x512x384 (concatenate S512x384 1 [⟨S512x128, A⟩, ⟨S512x128, B⟩, ⟨S512x128, D⟩] concatenates_S512x128_S512x128_S512x128_S512x384_d1)
      shapeCasts_S512x384_S1x512x384 (ix3 0 r ⟨0 + l.val, by omega⟩) = A (ix2 r l) := by
  pointwise

theorem three_1 (A B D : FVec Ideal S512x128 .f32) (r : Fin 512) (l : Fin 128) :
    shapeCast S1x512x384 (concatenate S512x384 1 [⟨S512x128, A⟩, ⟨S512x128, B⟩, ⟨S512x128, D⟩] concatenates_S512x128_S512x128_S512x128_S512x384_d1)
      shapeCasts_S512x384_S1x512x384 (ix3 0 r ⟨128 + l.val, by omega⟩) = B (ix2 r l) := by
  pointwise

theorem three_2 (A B D : FVec Ideal S512x128 .f32) (r : Fin 512) (l : Fin 128) :
    shapeCast S1x512x384 (concatenate S512x384 1 [⟨S512x128, A⟩, ⟨S512x128, B⟩, ⟨S512x128, D⟩] concatenates_S512x128_S512x128_S512x128_S512x384_d1)
      shapeCasts_S512x384_S1x512x384 (ix3 0 r ⟨256 + l.val, by omega⟩) = D (ix2 r l) := by
  pointwise
  rw [dif_neg (by omega), dif_neg (by omega)]
  exact congrArg (fun l => D (ix2 r l)) (Fin.ext (by dsimp only; omega))

/-- The queries the kernel stores. -/
abbrev QPAY (H : FVec Ideal S512x1024 .bf16) (w : FVec Ideal S1024x384 .bf16) (cs sn : FVec Ideal S512x128 .f32) : FVec Ideal S1x512x384 .f32 :=
  k0_pay14 (F := Ideal) (k0_pay8 H w) (k0_pay9 cs) (k0_pay10 sn) (k0_pay11 H w cs sn) (k0_pay12 H w) (iota .tc S512x128 32 [1] iota_S512x128_d1_w32) k0_pay13

theorem pay9_at (cs : FVec Ideal S512x128 .f32) (r : Fin 512) (l : Fin 128) : k0_pay9 (F := Ideal) cs (ix2 r l) = cs (ix2 r l) := by pointwise [k0_pay9]
theorem pay10_at (cs : FVec Ideal S512x128 .f32) (r : Fin 512) (l : Fin 128) : k0_pay10 (F := Ideal) cs (ix2 r l) = cs (ix2 r l) := by pointwise [k0_pay10]
theorem pay16_at (cs : FVec Ideal S512x128 .f32) (r : Fin 512) (l : Fin 128) : k0_pay16 (F := Ideal) cs (ix2 r l) = cs (ix2 r l) := by pointwise [k0_pay16]
theorem pay17_at (cs : FVec Ideal S512x128 .f32) (r : Fin 512) (l : Fin 128) : k0_pay17 (F := Ideal) cs (ix2 r l) = cs (ix2 r l) := by pointwise [k0_pay17]

theorem slice_0 (Q : FVec Ideal S512x384 .f32) (r : Fin 512) (l : Fin 128) :
    extractStridedSlice S512x128 ![0, 0] Q slices_S512x384_o0_0_S512x128 (ix2 r l) = Q (ix2 r ⟨0 + l.val, by omega⟩) := by
  pointwise

theorem slice_1 (Q : FVec Ideal S512x384 .f32) (r : Fin 512) (l : Fin 128) :
    extractStridedSlice S512x128 ![0, 128] Q slices_S512x384_o0_128_S512x128 (ix2 r l) = Q (ix2 r ⟨128 + l.val, by omega⟩) := by
  pointwise

theorem slice_2 (Q : FVec Ideal S512x384 .f32) (r : Fin 512) (l : Fin 128) :
    extractStridedSlice S512x128 ![0, 256] Q slices_S512x384_o0_256_S512x128 (ix2 r l) = Q (ix2 r ⟨256 + l.val, by omega⟩) := by
  pointwise

theorem qpay_eq (H : FVec Ideal S512x1024 .bf16) (w : FVec Ideal S1024x384 .bf16) (cs sn : FVec Ideal S512x128 .f32) :
    QPAY H w cs sn = shapeCast S1x512x384 (concatenate S512x384 1
      [⟨S512x128, TURN (extractStridedSlice S512x128 ![0, 0] (k0_pay8 (F := Ideal) H w) slices_S512x384_o0_0_S512x128) (k0_pay9 cs) (k0_pay10 sn)⟩,
        ⟨S512x128, TURN (extractStridedSlice S512x128 ![0, 128] (k0_pay8 (F := Ideal) H w) slices_S512x384_o0_128_S512x128) (k0_pay9 cs) (k0_pay10 sn)⟩,
        ⟨S512x128, TURN (extractStridedSlice S512x128 ![0, 256] (k0_pay8 (F := Ideal) H w) slices_S512x384_o0_256_S512x128) (k0_pay9 cs) (k0_pay10 sn)⟩]
      concatenates_S512x128_S512x128_S512x128_S512x384_d1) shapeCasts_S512x384_S1x512x384 := rfl

theorem qpay_0 (H : FVec Ideal S512x1024 .bf16) (w : FVec Ideal S1024x384 .bf16) (cs sn : FVec Ideal S512x128 .f32) (r : Fin 512) (l : Fin 128) :
    QPAY H w cs sn (ix3 0 r ⟨0 + l.val, by omega⟩)
      = k0_pay8 (F := Ideal) H w (ix2 r ⟨0 + l.val, by omega⟩) * cs (ix2 r l)
        + (if l.val % 32 < 16 then k0_pay8 (F := Ideal) H w (ix2 r ⟨0 + (l.val + 128 - 112) % 128, by omega⟩)
            else k0_pay8 (F := Ideal) H w (ix2 r ⟨0 + (l.val + 128 - 16) % 128, by omega⟩)) * sn (ix2 r l) := by
  rw [qpay_eq, three_0, turn_at, pay9_at, pay10_at, slice_0, slice_0, slice_0]

theorem qpay_1 (H : FVec Ideal S512x1024 .bf16) (w : FVec Ideal S1024x384 .bf16) (cs sn : FVec Ideal S512x128 .f32) (r : Fin 512) (l : Fin 128) :
    QPAY H w cs sn (ix3 0 r ⟨128 + l.val, by omega⟩)
      = k0_pay8 (F := Ideal) H w (ix2 r ⟨128 + l.val, by omega⟩) * cs (ix2 r l)
        + (if l.val % 32 < 16 then k0_pay8 (F := Ideal) H w (ix2 r ⟨128 + (l.val + 128 - 112) % 128, by omega⟩)
            else k0_pay8 (F := Ideal) H w (ix2 r ⟨128 + (l.val + 128 - 16) % 128, by omega⟩)) * sn (ix2 r l) := by
  rw [qpay_eq, three_1, turn_at, pay9_at, pay10_at, slice_1, slice_1, slice_1]

theorem qpay_2 (H : FVec Ideal S512x1024 .bf16) (w : FVec Ideal S1024x384 .bf16) (cs sn : FVec Ideal S512x128 .f32) (r : Fin 512) (l : Fin 128) :
    QPAY H w cs sn (ix3 0 r ⟨256 + l.val, by omega⟩)
      = k0_pay8 (F := Ideal) H w (ix2 r ⟨256 + l.val, by omega⟩) * cs (ix2 r l)
        + (if l.val % 32 < 16 then k0_pay8 (F := Ideal) H w (ix2 r ⟨256 + (l.val + 128 - 112) % 128, by omega⟩)
            else k0_pay8 (F := Ideal) H w (ix2 r ⟨256 + (l.val + 128 - 16) % 128, by omega⟩)) * sn (ix2 r l) := by
  rw [qpay_eq, three_2, turn_at, pay9_at, pay10_at, slice_2, slice_2, slice_2]

theorem qpay_at (H : FVec Ideal S512x1024 .bf16) (w : FVec Ideal S1024x384 .bf16) (cs sn : FVec Ideal S512x128 .f32) (r : Fin 512) (j : Fin 3) (l : Fin 128) :
    QPAY H w cs sn (ix3 0 r ⟨j.val * 128 + l.val, by omega⟩)
      = k0_pay8 (F := Ideal) H w (ix2 r ⟨j.val * 128 + l.val, by omega⟩) * cs (ix2 r l)
        + (if l.val % 32 < 16 then k0_pay8 (F := Ideal) H w (ix2 r ⟨j.val * 128 + (l.val + 128 - 112) % 128, by omega⟩)
            else k0_pay8 (F := Ideal) H w (ix2 r ⟨j.val * 128 + (l.val + 128 - 16) % 128, by omega⟩)) * sn (ix2 r l) := by
  fin_cases j
  · exact qpay_0 H w cs sn r l
  · exact qpay_1 H w cs sn r l
  · exact qpay_2 H w cs sn r l

/-- The keys the kernel stores. -/
abbrev KPAY (H : FVec Ideal S512x1024 .bf16) (w : FVec Ideal S1024x128 .bf16) (cs sn : FVec Ideal S512x128 .f32) : FVec Ideal S1x512x128 .f32 :=
  k0_pay1 (F := Ideal) (k0_pay15 H w) (k0_pay16 cs) (k0_pay17 sn) k0_pay18 (k0_pay19 H w) 16#32

theorem kpay_at (H : FVec Ideal S512x1024 .bf16) (w : FVec Ideal S1024x128 .bf16) (cs sn : FVec Ideal S512x128 .f32) (r : Fin 512) (l : Fin 128) :
    KPAY H w cs sn (ix3 0 r l)
      = k0_pay15 (F := Ideal) H w (ix2 r l) * cs (ix2 r l)
        + (if l.val % 32 < 16 then k0_pay15 (F := Ideal) H w (ix2 r ⟨(l.val + 128 - 112) % 128, Nat.mod_lt _ (by decide)⟩)
            else k0_pay15 (F := Ideal) H w (ix2 r ⟨(l.val + 128 - 16) % 128, Nat.mod_lt _ (by decide)⟩)) * sn (ix2 r l) := by
  have e : KPAY H w cs sn = shapeCast S1x512x128 (TURN (k0_pay15 (F := Ideal) H w) (k0_pay16 cs) (k0_pay17 sn)) shapeCasts_S512x128_S1x512x128 := rfl
  rw [e]
  refine Eq.trans (b := TURN (k0_pay15 (F := Ideal) H w) (k0_pay16 cs) (k0_pay17 sn) (ix2 r l)) ?_ (by rw [turn_at, pay16_at, pay17_at])
  generalize TURN (k0_pay15 (F := Ideal) H w) (k0_pay16 cs) (k0_pay17 sn) = T
  pointwise

theorem q_quarter_0 (c : Dev nD) (t : Fin cfg0.N) (r : Fin 512) (h : Fin 6) (i : Fin 16) :
    QPAY (HB m c t) (View.ld (Val := Elt Ideal) (e' := .bf16) (WB m c t) r0_9) (CB m c t) (SB m c t) (ix3 0 r ⟨h.val * 64 + (0 + i.val), by omega⟩)
      = val_main_v163 (F := Ideal) (aX m c) (aG m c) (aShift m c) (aScale m c) (aW m c) (ix3 (bat t) (row t r) ⟨h.val * 64 + (0 + i.val), by omega⟩) := by
  refine Eq.trans ?_ (Cert.InRef.v163_at (aX m c) (aG m c) (aShift m c) (aScale m c) (aW m c) _ _ h ⟨0 + i.val, by omega⟩).symm
  rw [Cert.InRef.q_0, Cert.InRef.v35_at, Cert.InRef.v35_at]
  have hl : (⟨h.val * 64 + (0 + i.val), by omega⟩ : Fin 384) = ⟨(h.val / 2) * 128 + ((h.val % 2) * 64 + (0 + i.val)), by omega⟩ := Fin.ext (by show h.val * 64 + (0 + i.val) = (h.val / 2) * 128 + ((h.val % 2) * 64 + (0 + i.val)); omega)
  refine (congrArg (fun e => QPAY (HB m c t) (View.ld (Val := Elt Ideal) (e' := .bf16) (WB m c t) r0_9) (CB m c t) (SB m c t) (ix3 0 r e)) hl).trans
    ((qpay_at _ _ _ _ r ⟨h.val / 2, by omega⟩ ⟨(h.val % 2) * 64 + (0 + i.val), by omega⟩).trans ?_)
  exact (congrArg₂ (· + ·)
    (congrArg₂ (· * ·) (q_at m c t r _ ⟨2328 + (h.val * 64 + (0 + i.val)), by omega⟩
      (by show 2328 + (h.val * 64 + (0 + i.val)) = 2328 + ((h.val / 2) * 128 + ((h.val % 2) * 64 + (0 + i.val))); omega)) (cos_0 m c t r ⟨h.val % 2, by omega⟩ i))
    (congrArg₂ (· * ·) ((if_pos (by show ((h.val % 2) * 64 + (0 + i.val)) % 32 < 16; omega)).trans (q_at m c t r _ ⟨2328 + (h.val * 64 + (16 + i.val)), by omega⟩
      (by show 2328 + (h.val * 64 + (16 + i.val)) = 2328 + ((h.val / 2) * 128 + ((h.val % 2) * 64 + (0 + i.val) + 128 - 112) % 128); omega)))
      (sin_0 m c t r ⟨h.val % 2, by omega⟩ i))).trans (scale_sub _ _ _ _)

theorem k_quarter_0 (c : Dev nD) (t : Fin cfg0.N) (r : Fin 512) (h : Fin 2) (i : Fin 16) :
    KPAY (HB m c t) (View.ld (Val := Elt Ideal) (e' := .bf16) (WB m c t) r0_11) (CB m c t) (SB m c t) (ix3 0 r ⟨h.val * 64 + (0 + i.val), by omega⟩)
      = val_main_v164 (F := Ideal) (aX m c) (aG m c) (aShift m c) (aScale m c) (aW m c) (ix3 (bat t) (row t r) ⟨h.val * 64 + (0 + i.val), by omega⟩) := by
  refine Eq.trans ?_ (Cert.InRef.v164_at (aX m c) (aG m c) (aShift m c) (aScale m c) (aW m c) _ _ h ⟨0 + i.val, by omega⟩).symm
  rw [Cert.InRef.k_0, Cert.InRef.v99_at, Cert.InRef.v99_at]
  refine (kpay_at _ _ _ _ r ⟨h.val * 64 + (0 + i.val), by omega⟩).trans ?_
  exact (congrArg₂ (· + ·)
    (congrArg₂ (· * ·) (k_at m c t r _ ⟨2712 + (h.val * 64 + (0 + i.val)), by omega⟩ rfl) (cos_0 m c t r h i))
    (congrArg₂ (· * ·) ((if_pos (by show (h.val * 64 + (0 + i.val)) % 32 < 16; omega)).trans (k_at m c t r _ ⟨2712 + (h.val * 64 + (16 + i.val)), by omega⟩
      (by show 2712 + (h.val * 64 + (16 + i.val)) = 2712 + (h.val * 64 + (0 + i.val) + 128 - 112) % 128; omega)))
      (sin_0 m c t r h i))).trans (plain_sub _ _ _ _)

theorem q_quarter_1 (c : Dev nD) (t : Fin cfg0.N) (r : Fin 512) (h : Fin 6) (i : Fin 16) :
    QPAY (HB m c t) (View.ld (Val := Elt Ideal) (e' := .bf16) (WB m c t) r0_9) (CB m c t) (SB m c t) (ix3 0 r ⟨h.val * 64 + (16 + i.val), by omega⟩)
      = val_main_v163 (F := Ideal) (aX m c) (aG m c) (aShift m c) (aScale m c) (aW m c) (ix3 (bat t) (row t r) ⟨h.val * 64 + (16 + i.val), by omega⟩) := by
  refine Eq.trans ?_ (Cert.InRef.v163_at (aX m c) (aG m c) (aShift m c) (aScale m c) (aW m c) _ _ h ⟨16 + i.val, by omega⟩).symm
  rw [Cert.InRef.q_1, Cert.InRef.v35_at, Cert.InRef.v35_at]
  have hl : (⟨h.val * 64 + (16 + i.val), by omega⟩ : Fin 384) = ⟨(h.val / 2) * 128 + ((h.val % 2) * 64 + (16 + i.val)), by omega⟩ := Fin.ext (by show h.val * 64 + (16 + i.val) = (h.val / 2) * 128 + ((h.val % 2) * 64 + (16 + i.val)); omega)
  refine (congrArg (fun e => QPAY (HB m c t) (View.ld (Val := Elt Ideal) (e' := .bf16) (WB m c t) r0_9) (CB m c t) (SB m c t) (ix3 0 r e)) hl).trans
    ((qpay_at _ _ _ _ r ⟨h.val / 2, by omega⟩ ⟨(h.val % 2) * 64 + (16 + i.val), by omega⟩).trans ?_)
  exact (congrArg₂ (· + ·)
    (congrArg₂ (· * ·) (q_at m c t r _ ⟨2328 + (h.val * 64 + (16 + i.val)), by omega⟩
      (by show 2328 + (h.val * 64 + (16 + i.val)) = 2328 + ((h.val / 2) * 128 + ((h.val % 2) * 64 + (16 + i.val))); omega)) (cos_1 m c t r ⟨h.val % 2, by omega⟩ i))
    (congrArg₂ (· * ·) ((if_neg (by show ¬ ((h.val % 2) * 64 + (16 + i.val)) % 32 < 16; omega)).trans (q_at m c t r _ ⟨2328 + (h.val * 64 + (0 + i.val)), by omega⟩
      (by show 2328 + (h.val * 64 + (0 + i.val)) = 2328 + ((h.val / 2) * 128 + ((h.val % 2) * 64 + (16 + i.val) + 128 - 16) % 128); omega)))
      (sin_1 m c t r ⟨h.val % 2, by omega⟩ i))).trans (scale_add _ _ _ _)

theorem k_quarter_1 (c : Dev nD) (t : Fin cfg0.N) (r : Fin 512) (h : Fin 2) (i : Fin 16) :
    KPAY (HB m c t) (View.ld (Val := Elt Ideal) (e' := .bf16) (WB m c t) r0_11) (CB m c t) (SB m c t) (ix3 0 r ⟨h.val * 64 + (16 + i.val), by omega⟩)
      = val_main_v164 (F := Ideal) (aX m c) (aG m c) (aShift m c) (aScale m c) (aW m c) (ix3 (bat t) (row t r) ⟨h.val * 64 + (16 + i.val), by omega⟩) := by
  refine Eq.trans ?_ (Cert.InRef.v164_at (aX m c) (aG m c) (aShift m c) (aScale m c) (aW m c) _ _ h ⟨16 + i.val, by omega⟩).symm
  rw [Cert.InRef.k_1, Cert.InRef.v99_at, Cert.InRef.v99_at]
  refine (kpay_at _ _ _ _ r ⟨h.val * 64 + (16 + i.val), by omega⟩).trans ?_
  exact (congrArg₂ (· + ·)
    (congrArg₂ (· * ·) (k_at m c t r _ ⟨2712 + (h.val * 64 + (16 + i.val)), by omega⟩ rfl) (cos_1 m c t r h i))
    (congrArg₂ (· * ·) ((if_neg (by show ¬ (h.val * 64 + (16 + i.val)) % 32 < 16; omega)).trans (k_at m c t r _ ⟨2712 + (h.val * 64 + (0 + i.val)), by omega⟩
      (by show 2712 + (h.val * 64 + (0 + i.val)) = 2712 + (h.val * 64 + (16 + i.val) + 128 - 16) % 128; omega)))
      (sin_1 m c t r h i))).trans (rfl)

theorem q_quarter_2 (c : Dev nD) (t : Fin cfg0.N) (r : Fin 512) (h : Fin 6) (i : Fin 16) :
    QPAY (HB m c t) (View.ld (Val := Elt Ideal) (e' := .bf16) (WB m c t) r0_9) (CB m c t) (SB m c t) (ix3 0 r ⟨h.val * 64 + (32 + i.val), by omega⟩)
      = val_main_v163 (F := Ideal) (aX m c) (aG m c) (aShift m c) (aScale m c) (aW m c) (ix3 (bat t) (row t r) ⟨h.val * 64 + (32 + i.val), by omega⟩) := by
  refine Eq.trans ?_ (Cert.InRef.v163_at (aX m c) (aG m c) (aShift m c) (aScale m c) (aW m c) _ _ h ⟨32 + i.val, by omega⟩).symm
  rw [Cert.InRef.q_2, Cert.InRef.v35_at, Cert.InRef.v35_at]
  have hl : (⟨h.val * 64 + (32 + i.val), by omega⟩ : Fin 384) = ⟨(h.val / 2) * 128 + ((h.val % 2) * 64 + (32 + i.val)), by omega⟩ := Fin.ext (by show h.val * 64 + (32 + i.val) = (h.val / 2) * 128 + ((h.val % 2) * 64 + (32 + i.val)); omega)
  refine (congrArg (fun e => QPAY (HB m c t) (View.ld (Val := Elt Ideal) (e' := .bf16) (WB m c t) r0_9) (CB m c t) (SB m c t) (ix3 0 r e)) hl).trans
    ((qpay_at _ _ _ _ r ⟨h.val / 2, by omega⟩ ⟨(h.val % 2) * 64 + (32 + i.val), by omega⟩).trans ?_)
  exact (congrArg₂ (· + ·)
    (congrArg₂ (· * ·) (q_at m c t r _ ⟨2328 + (h.val * 64 + (32 + i.val)), by omega⟩
      (by show 2328 + (h.val * 64 + (32 + i.val)) = 2328 + ((h.val / 2) * 128 + ((h.val % 2) * 64 + (32 + i.val))); omega)) (cos_2 m c t r ⟨h.val % 2, by omega⟩ i))
    (congrArg₂ (· * ·) ((if_pos (by show ((h.val % 2) * 64 + (32 + i.val)) % 32 < 16; omega)).trans (q_at m c t r _ ⟨2328 + (h.val * 64 + (48 + i.val)), by omega⟩
      (by show 2328 + (h.val * 64 + (48 + i.val)) = 2328 + ((h.val / 2) * 128 + ((h.val % 2) * 64 + (32 + i.val) + 128 - 112) % 128); omega)))
      (sin_2 m c t r ⟨h.val % 2, by omega⟩ i))).trans (scale_sub _ _ _ _)

theorem k_quarter_2 (c : Dev nD) (t : Fin cfg0.N) (r : Fin 512) (h : Fin 2) (i : Fin 16) :
    KPAY (HB m c t) (View.ld (Val := Elt Ideal) (e' := .bf16) (WB m c t) r0_11) (CB m c t) (SB m c t) (ix3 0 r ⟨h.val * 64 + (32 + i.val), by omega⟩)
      = val_main_v164 (F := Ideal) (aX m c) (aG m c) (aShift m c) (aScale m c) (aW m c) (ix3 (bat t) (row t r) ⟨h.val * 64 + (32 + i.val), by omega⟩) := by
  refine Eq.trans ?_ (Cert.InRef.v164_at (aX m c) (aG m c) (aShift m c) (aScale m c) (aW m c) _ _ h ⟨32 + i.val, by omega⟩).symm
  rw [Cert.InRef.k_2, Cert.InRef.v99_at, Cert.InRef.v99_at]
  refine (kpay_at _ _ _ _ r ⟨h.val * 64 + (32 + i.val), by omega⟩).trans ?_
  exact (congrArg₂ (· + ·)
    (congrArg₂ (· * ·) (k_at m c t r _ ⟨2712 + (h.val * 64 + (32 + i.val)), by omega⟩ rfl) (cos_2 m c t r h i))
    (congrArg₂ (· * ·) ((if_pos (by show (h.val * 64 + (32 + i.val)) % 32 < 16; omega)).trans (k_at m c t r _ ⟨2712 + (h.val * 64 + (48 + i.val)), by omega⟩
      (by show 2712 + (h.val * 64 + (48 + i.val)) = 2712 + (h.val * 64 + (32 + i.val) + 128 - 112) % 128; omega)))
      (sin_2 m c t r h i))).trans (plain_sub _ _ _ _)

theorem q_quarter_3 (c : Dev nD) (t : Fin cfg0.N) (r : Fin 512) (h : Fin 6) (i : Fin 16) :
    QPAY (HB m c t) (View.ld (Val := Elt Ideal) (e' := .bf16) (WB m c t) r0_9) (CB m c t) (SB m c t) (ix3 0 r ⟨h.val * 64 + (48 + i.val), by omega⟩)
      = val_main_v163 (F := Ideal) (aX m c) (aG m c) (aShift m c) (aScale m c) (aW m c) (ix3 (bat t) (row t r) ⟨h.val * 64 + (48 + i.val), by omega⟩) := by
  refine Eq.trans ?_ (Cert.InRef.v163_at (aX m c) (aG m c) (aShift m c) (aScale m c) (aW m c) _ _ h ⟨48 + i.val, by omega⟩).symm
  rw [Cert.InRef.q_3, Cert.InRef.v35_at, Cert.InRef.v35_at]
  have hl : (⟨h.val * 64 + (48 + i.val), by omega⟩ : Fin 384) = ⟨(h.val / 2) * 128 + ((h.val % 2) * 64 + (48 + i.val)), by omega⟩ := Fin.ext (by show h.val * 64 + (48 + i.val) = (h.val / 2) * 128 + ((h.val % 2) * 64 + (48 + i.val)); omega)
  refine (congrArg (fun e => QPAY (HB m c t) (View.ld (Val := Elt Ideal) (e' := .bf16) (WB m c t) r0_9) (CB m c t) (SB m c t) (ix3 0 r e)) hl).trans
    ((qpay_at _ _ _ _ r ⟨h.val / 2, by omega⟩ ⟨(h.val % 2) * 64 + (48 + i.val), by omega⟩).trans ?_)
  exact (congrArg₂ (· + ·)
    (congrArg₂ (· * ·) (q_at m c t r _ ⟨2328 + (h.val * 64 + (48 + i.val)), by omega⟩
      (by show 2328 + (h.val * 64 + (48 + i.val)) = 2328 + ((h.val / 2) * 128 + ((h.val % 2) * 64 + (48 + i.val))); omega)) (cos_3 m c t r ⟨h.val % 2, by omega⟩ i))
    (congrArg₂ (· * ·) ((if_neg (by show ¬ ((h.val % 2) * 64 + (48 + i.val)) % 32 < 16; omega)).trans (q_at m c t r _ ⟨2328 + (h.val * 64 + (32 + i.val)), by omega⟩
      (by show 2328 + (h.val * 64 + (32 + i.val)) = 2328 + ((h.val / 2) * 128 + ((h.val % 2) * 64 + (48 + i.val) + 128 - 16) % 128); omega)))
      (sin_3 m c t r ⟨h.val % 2, by omega⟩ i))).trans (scale_add _ _ _ _)

theorem k_quarter_3 (c : Dev nD) (t : Fin cfg0.N) (r : Fin 512) (h : Fin 2) (i : Fin 16) :
    KPAY (HB m c t) (View.ld (Val := Elt Ideal) (e' := .bf16) (WB m c t) r0_11) (CB m c t) (SB m c t) (ix3 0 r ⟨h.val * 64 + (48 + i.val), by omega⟩)
      = val_main_v164 (F := Ideal) (aX m c) (aG m c) (aShift m c) (aScale m c) (aW m c) (ix3 (bat t) (row t r) ⟨h.val * 64 + (48 + i.val), by omega⟩) := by
  refine Eq.trans ?_ (Cert.InRef.v164_at (aX m c) (aG m c) (aShift m c) (aScale m c) (aW m c) _ _ h ⟨48 + i.val, by omega⟩).symm
  rw [Cert.InRef.k_3, Cert.InRef.v99_at, Cert.InRef.v99_at]
  refine (kpay_at _ _ _ _ r ⟨h.val * 64 + (48 + i.val), by omega⟩).trans ?_
  exact (congrArg₂ (· + ·)
    (congrArg₂ (· * ·) (k_at m c t r _ ⟨2712 + (h.val * 64 + (48 + i.val)), by omega⟩ rfl) (cos_3 m c t r h i))
    (congrArg₂ (· * ·) ((if_neg (by show ¬ (h.val * 64 + (48 + i.val)) % 32 < 16; omega)).trans (k_at m c t r _ ⟨2712 + (h.val * 64 + (32 + i.val)), by omega⟩
      (by show 2712 + (h.val * 64 + (32 + i.val)) = 2712 + (h.val * 64 + (48 + i.val) + 128 - 16) % 128; omega)))
      (sin_3 m c t r h i))).trans (rfl)

/-- Result 3 at an entry of a block. -/
theorem point_3 (c : Dev nD) (t : Fin cfg0.N) (y : S1x512x384.Idx) : QPAY (HB m c t) (View.ld (Val := Elt Ideal) (e' := .bf16) (WB m c t) r0_9) (CB m c t) (SB m c t) y
    = val_main_v163 (F := Ideal) (aX m c) (aG m c) (aShift m c) (aScale m c) (aW m c) (((View.whole main_v46_3).slice (win0_10.rect t)).emb y) := by
  obtain ⟨r, e, rfl⟩ : ∃ (r : Fin 512) (e : Fin 384), y = ix3 0 r e := ⟨y 1, y 2, by
    have h0 : (y 0).val < 1 := (y 0).isLt
    funext a
    fin_cases a
    · exact Fin.ext (by show (y 0).val = 0; omega)
    · rfl
    · rfl⟩
  have q : ((View.whole main_v46_3).slice (win0_10.rect t)).emb (ix3 0 r e) = ix3 (bat t) (row t r) e := by blk_ext [idx t]
  rw [q]
  obtain ⟨h, i, u⟩ : ∃ (h : Fin 6) (i : Fin 16), e.val = h.val * 64 + (0 + i.val) ∨ e.val = h.val * 64 + (16 + i.val)
      ∨ e.val = h.val * 64 + (32 + i.val) ∨ e.val = h.val * 64 + (48 + i.val) :=
    ⟨⟨e.val / 64, by omega⟩, ⟨e.val % 16, by omega⟩, by
      show e.val = e.val / 64 * 64 + (0 + e.val % 16) ∨ e.val = e.val / 64 * 64 + (16 + e.val % 16)
        ∨ e.val = e.val / 64 * 64 + (32 + e.val % 16) ∨ e.val = e.val / 64 * 64 + (48 + e.val % 16)
      omega⟩
  rcases u with u | u | u | u
  · have z : e = ⟨h.val * 64 + (0 + i.val), by omega⟩ := Fin.ext u
    rw [z]
    exact q_quarter_0 m c t r h i
  · have z : e = ⟨h.val * 64 + (16 + i.val), by omega⟩ := Fin.ext u
    rw [z]
    exact q_quarter_1 m c t r h i
  · have z : e = ⟨h.val * 64 + (32 + i.val), by omega⟩ := Fin.ext u
    rw [z]
    exact q_quarter_2 m c t r h i
  · have z : e = ⟨h.val * 64 + (48 + i.val), by omega⟩ := Fin.ext u
    rw [z]
    exact q_quarter_3 m c t r h i

theorem final_3 (c : Dev nD) : (dats m 0 c).arrAt 10 (cfgs 0).N = val_main_v163 (F := Ideal) (aX m c) (aG m c) (aShift m c) (aScale m c) (aW m c) := by
  refine (dats m 0 c).arrAt_eq_of_covers 10 _ (by decide +kernel) fun t _ y => ?_
  blk_simp
  rw [after0_10]; frame_out
  rw [hid_eq]
  exact point_3 m c t y

/-- Result 4 at an entry of a block. -/
theorem point_4 (c : Dev nD) (t : Fin cfg0.N) (y : S1x512x128.Idx) : KPAY (HB m c t) (View.ld (Val := Elt Ideal) (e' := .bf16) (WB m c t) r0_11) (CB m c t) (SB m c t) y
    = val_main_v164 (F := Ideal) (aX m c) (aG m c) (aShift m c) (aScale m c) (aW m c) (((View.whole main_v46_4).slice (win0_11.rect t)).emb y) := by
  obtain ⟨r, e, rfl⟩ : ∃ (r : Fin 512) (e : Fin 128), y = ix3 0 r e := ⟨y 1, y 2, by
    have h0 : (y 0).val < 1 := (y 0).isLt
    funext a
    fin_cases a
    · exact Fin.ext (by show (y 0).val = 0; omega)
    · rfl
    · rfl⟩
  have q : ((View.whole main_v46_4).slice (win0_11.rect t)).emb (ix3 0 r e) = ix3 (bat t) (row t r) e := by blk_ext [idx t]
  rw [q]
  obtain ⟨h, i, u⟩ : ∃ (h : Fin 2) (i : Fin 16), e.val = h.val * 64 + (0 + i.val) ∨ e.val = h.val * 64 + (16 + i.val)
      ∨ e.val = h.val * 64 + (32 + i.val) ∨ e.val = h.val * 64 + (48 + i.val) :=
    ⟨⟨e.val / 64, by omega⟩, ⟨e.val % 16, by omega⟩, by
      show e.val = e.val / 64 * 64 + (0 + e.val % 16) ∨ e.val = e.val / 64 * 64 + (16 + e.val % 16)
        ∨ e.val = e.val / 64 * 64 + (32 + e.val % 16) ∨ e.val = e.val / 64 * 64 + (48 + e.val % 16)
      omega⟩
  rcases u with u | u | u | u
  · have z : e = ⟨h.val * 64 + (0 + i.val), by omega⟩ := Fin.ext u
    rw [z]
    exact k_quarter_0 m c t r h i
  · have z : e = ⟨h.val * 64 + (16 + i.val), by omega⟩ := Fin.ext u
    rw [z]
    exact k_quarter_1 m c t r h i
  · have z : e = ⟨h.val * 64 + (32 + i.val), by omega⟩ := Fin.ext u
    rw [z]
    exact k_quarter_2 m c t r h i
  · have z : e = ⟨h.val * 64 + (48 + i.val), by omega⟩ := Fin.ext u
    rw [z]
    exact k_quarter_3 m c t r h i

theorem final_4 (c : Dev nD) : (dats m 0 c).arrAt 11 (cfgs 0).N = val_main_v164 (F := Ideal) (aX m c) (aG m c) (aShift m c) (aScale m c) (aW m c) := by
  refine (dats m 0 c).arrAt_eq_of_covers 11 _ (by decide +kernel) fun t _ y => ?_
  blk_simp
  rw [after0_11]; frame_out
  rw [hid_eq]
  exact point_4 m c t y

end Cert.InProof

end
-- ==== Proof.InClaims.lean ====
/-
  The value claim about the input projection: its seven results are the plain input projection's, without a precondition.
-/
module

public import proofs.«01_k».proof.Defs
public import proofs.«01_k».proof.Proof.Gen.InProjIdeal.Value
public import proofs.«01_k».proof.Proof.Gen.InRefIdeal.Run
public import proofs.«01_k».proof.Proof.Gen.InRefIdeal.Read
public import proofs.«01_k».proof.Proof.InPlain
public import proofs.«01_k».proof.Proof.InRope
public import Idealize.ShloMosaic.Adequacy
public import Idealize.ShloMosaic.Init

@[expose] public section

set_option maxRecDepth 16384

noncomputable section

open Idealize.ShloMosaic Idealize.ShloMosaic.TcCoe Idealize.SL.Sem

namespace Cert.InClaims

open Cert.InProof (aX aG aShift aScale aW)

/-- A function of the five arguments takes equal arguments to equal values. -/
theorem agree {β : Type} (f : FVec Ideal Cert.InRefIdeal.S4x4096x1024 .f32 → FVec Ideal Cert.InRefIdeal.S1024 .f32 → FVec Ideal Cert.InRefIdeal.S4x1x1024 .f32
      → FVec Ideal Cert.InRefIdeal.S4x1x1024 .f32 → FVec Ideal Cert.InRefIdeal.S1024x2968 .f32 → β)
    (x0 y0 : FVec Ideal Cert.InRefIdeal.S4x4096x1024 .f32) (x1 y1 : FVec Ideal Cert.InRefIdeal.S1024 .f32)
    (x2 y2 x3 y3 : FVec Ideal Cert.InRefIdeal.S4x1x1024 .f32) (x4 y4 : FVec Ideal Cert.InRefIdeal.S1024x2968 .f32)
    (h : x0 = y0 ∧ x1 = y1 ∧ x2 = y2 ∧ x3 = y3 ∧ x4 = y4) : f x0 x1 x2 x3 x4 = f y0 y1 y2 y3 y4 := by
  obtain ⟨e0, e1, e2, e3, e4⟩ := h
  rw [e0, e1, e2, e3, e4]

/-- At the ideal instance the kernel's seven result arrays and the reference program's are the same functions of the arguments. -/
theorem algebraic : Cert.algebraic_InProjIdeal_InRefIdeal := by
  intro m ρ m' ρ' _ hagree
  refine ⟨fun c => Cert.InRefIdeal.Read.val_main_v27 (F := Ideal) (aX m c) (aG m c) (aShift m c) (aScale m c) (aW m c),
    fun c => Cert.InRefIdeal.Read.val_main_v28 (F := Ideal) (aX m c) (aG m c) (aShift m c) (aScale m c) (aW m c),
    fun c => Cert.InRefIdeal.Read.val_main_v31 (F := Ideal) (aX m c) (aG m c) (aShift m c) (aScale m c) (aW m c),
    fun c => Cert.InRefIdeal.Read.val_main_v163 (F := Ideal) (aX m c) (aG m c) (aShift m c) (aScale m c) (aW m c),
    fun c => Cert.InRefIdeal.Read.val_main_v164 (F := Ideal) (aX m c) (aG m c) (aShift m c) (aScale m c) (aW m c),
    fun c => Cert.InRefIdeal.Read.val_main_v34 (F := Ideal) (aX m c) (aG m c) (aShift m c) (aScale m c) (aW m c),
    fun c => Cert.InRefIdeal.Read.val_main_v162 (F := Ideal) (aX m c) (aG m c) (aShift m c) (aScale m c) (aW m c),
    (θ_run Cert.InProjIdeal.defs _ _).mono (fun r h c => ⟨(h c).1.trans (Cert.InProof.final_0 m c), (h c).2.1.trans (Cert.InProof.final_1 m c), (h c).2.2.1.trans (Cert.InProof.final_2 m c), (h c).2.2.2.1.trans (Cert.InProof.final_3 m c), (h c).2.2.2.2.1.trans (Cert.InProof.final_4 m c), (h c).2.2.2.2.2.1.trans (Cert.InProof.final_5 m c), (h c).2.2.2.2.2.2.1.trans (Cert.InProof.final_6 m c), (h c).2.2.2.2.2.2.2⟩) (Cert.InProjIdeal.Value.run_blocks (F := Ideal) m ρ), ?_⟩
  exact (θ_run Cert.InRefIdeal.defs _ _).mono (fun _ h c => ⟨(h c).1.trans ((Cert.InRefIdeal.Read.val_main_v27_eq _ _ _ _ _).trans (agree (Cert.InRefIdeal.Read.val_main_v27 (F := Ideal)) _ _ _ _ _ _ _ _ _ _ (hagree c))),
    (h c).2.1.trans ((Cert.InRefIdeal.Read.val_main_v28_eq _ _ _ _ _).trans (agree (Cert.InRefIdeal.Read.val_main_v28 (F := Ideal)) _ _ _ _ _ _ _ _ _ _ (hagree c))),
    (h c).2.2.1.trans ((Cert.InRefIdeal.Read.val_main_v31_eq _ _ _ _ _).trans (agree (Cert.InRefIdeal.Read.val_main_v31 (F := Ideal)) _ _ _ _ _ _ _ _ _ _ (hagree c))),
    (h c).2.2.2.1.trans ((Cert.InRefIdeal.Read.val_main_v163_eq m' c).trans (agree (Cert.InRefIdeal.Read.val_main_v163 (F := Ideal)) _ _ _ _ _ _ _ _ _ _ (hagree c))),
    (h c).2.2.2.2.1.trans ((Cert.InRefIdeal.Read.val_main_v164_eq m' c).trans (agree (Cert.InRefIdeal.Read.val_main_v164 (F := Ideal)) _ _ _ _ _ _ _ _ _ _ (hagree c))),
    (h c).2.2.2.2.2.1.trans ((Cert.InRefIdeal.Read.val_main_v34_eq _ _ _ _ _).trans (agree (Cert.InRefIdeal.Read.val_main_v34 (F := Ideal)) _ _ _ _ _ _ _ _ _ _ (hagree c))),
    (h c).2.2.2.2.2.2.1.trans ((Cert.InRefIdeal.Read.val_main_v162_eq _ _ _ _ _).trans (agree (Cert.InRefIdeal.Read.val_main_v162 (F := Ideal)) _ _ _ _ _ _ _ _ _ _ (hagree c))),
    (h c).2.2.2.2.2.2.2⟩) (Cert.InRefIdeal.Value.run (F := Ideal) m' ρ')

end Cert.InClaims

end
-- ==== Proof.CtxMoeFrames.lean ====
/-
  The claims about the routed mixture-of-experts sub-layer that do not speak of its value: its runs and its one named literal.
-/
module

public import proofs.«01_k».proof.Defs
public import proofs.«01_k».proof.Proof.Gen.CtxMoe.Frame
public import proofs.«01_k».proof.Proof.Gen.CtxMoeIdeal.Value
public import proofs.«01_k».proof.Proof.Gen.CtxMoeRefIdeal.Run
public import proofs.«01_k».proof.Proof.Gen.Pre_ctx_finite
public import Idealize.ShloMosaic.Adequacy
public import Idealize.ShloMosaic.Init

@[expose] public section

set_option maxRecDepth 16384

noncomputable section

open Idealize.ShloMosaic Idealize.ShloMosaic.TcCoe Idealize.SL.Sem

namespace Cert.CtxMoeClaims

theorem frame_p : Cert.quiescent_CtxMoe := fun m ρ _ => Cert.CtxMoe.Gen.frame m ρ

theorem frame_pi : Cert.quiescent_CtxMoeIdeal := fun m ρ _ => Cert.CtxMoeIdeal.Gen.frame m ρ

theorem frame_ri : Cert.quiescent_CtxMoeRefIdeal := fun m ρ _ => (θ_run Cert.CtxMoeRefIdeal.defs _ _).mono (fun r h => ⟨fun c => (h c).2,
      Idealize.ShloMosaic.sem_eq_zero_of_no_sems (by decide) r.2⟩) (Cert.CtxMoeRefIdeal.Value.run (F := Ideal) m ρ)

theorem frame_pi_pre : Cert.quiescent_CtxMoeIdeal_pre_ctx_finite := fun m ρ _ => Cert.CtxMoeIdeal.Gen.frame m ρ

theorem frame_ri_pre : Cert.quiescent_CtxMoeRefIdeal_pre_ctx_finite := fun m ρ _ => frame_ri m ρ trivial

/-- The one named literal: the mask constant stands for minus infinity. -/
theorem preserves : Cert.preserves_CtxMoe_CtxMoeIdeal :=
  IdealRules.named_const.statement Cert.CtxMoeIdeal.κ "mask" .f32 0xF149F2CA#32 ⊥ rfl

end Cert.CtxMoeClaims

end
-- ==== Proof.CtxMoeSteps.lean ====
/-
  The expert kernel's run of sixteen grid points per row block (eight experts, two halves of the inner width), as payloads of
  the input blocks: the first point stores the hidden rows and the gates and starts the sum, every point adds its term, the
  last writes the row block.
-/
module

public import proofs.«01_k».proof.Proof.Gen.CtxMoeIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CtxMoeProof

open Cert.CtxMoeIdeal Cert.CtxMoeIdeal.Gen

variable (m : (ℓ : Loc nD τ sig) → Buf (Elt Ideal) ℓ)

/-- The gates of a row block as the run's first point stores them, from the rows' block, norm gain, shift, scale and router. -/
def GATES (x : FVec Ideal S1x256x1024 .f32) (g : FVec Ideal S1x1024 .f32) (sh sc : FVec Ideal S1x1x1024 .f32) (w : FVec Ideal S1024x128 .f32) :
    FVec Ideal S256x128 .f32 :=
  k0_pay19 (F := Ideal) (k0_pay16 (F := Ideal) (k0_pay6 (F := Ideal) x g sh sc) (k0_pay7 (F := Ideal) x g sh sc) (k0_pay8 (F := Ideal) w) (k0_pay9 (F := Ideal) w))
    (k0_pay17 (F := Ideal) (k0_pay6 (F := Ideal) x g sh sc) (k0_pay7 (F := Ideal) x g sh sc) (k0_pay8 (F := Ideal) w) (k0_pay9 (F := Ideal) w))
    (k0_pay18 (F := Ideal) (k0_pay6 (F := Ideal) x g sh sc) (k0_pay7 (F := Ideal) x g sh sc) (k0_pay8 (F := Ideal) w) (k0_pay9 (F := Ideal) w))

theorem first_hid (c : Dev nD) (t : Fin cfg0.N) (h0 : t.val % 16 = 0) (h1 : ¬t.val % 16 = 15) :
    (outsAt0 m c t.val t.isLt).2.1 = k0_pay4 (F := Ideal) (iblk m c 0 t) (iblk m c 1 t) (iblk m c 2 t) (iblk m c 3 t) := by
  rw [outsAt0_A m c t h0 h1]; frame_out; simp only [k0_pay4, k0_pay3]

theorem first_acc (c : Dev nD) (t : Fin cfg0.N) (h0 : t.val % 16 = 0) (h1 : ¬t.val % 16 = 15) :
    (outsAt0 m c t.val t.isLt).2.2.1 = k0_pay1 (F := Ideal) (k0_pay20 (F := Ideal))
      (k0_pay21 (F := Ideal) (grid0.coords t) (k0_pay4 (F := Ideal) (iblk m c 0 t) (iblk m c 1 t) (iblk m c 2 t) (iblk m c 3 t))
        (GATES (iblk m c 0 t) (iblk m c 1 t) (iblk m c 2 t) (iblk m c 3 t) (iblk m c 5 t)) (iblk m c 6 t) (iblk m c 7 t)) (iblk m c 8 t) := by
  rw [outsAt0_A m c t h0 h1]; frame_out; simp only [GATES, k0_pay4, k0_pay6, k0_pay7, k0_pay8, k0_pay9, k0_pay5, k0_pay3]

theorem first_gates (c : Dev nD) (t : Fin cfg0.N) (h0 : t.val % 16 = 0) (h1 : ¬t.val % 16 = 15) :
    (outsAt0 m c t.val t.isLt).2.2.2 = GATES (iblk m c 0 t) (iblk m c 1 t) (iblk m c 2 t) (iblk m c 3 t) (iblk m c 5 t) := by
  rw [outsAt0_A m c t h0 h1]; frame_out; simp only [GATES, k0_pay4, k0_pay6, k0_pay7, k0_pay8, k0_pay9, k0_pay5, k0_pay3]

theorem mid_hid (c : Dev nD) (t : Fin cfg0.N) (h0 : ¬t.val % 16 = 0) (h1 : ¬t.val % 16 = 15) :
    (outsAt0 m c t.val t.isLt).2.1 = (outsAt0 m c (t.val - 1) (by omega)).2.1 := by
  rw [outsAt0_B m c t h0 h1]; rfl

theorem mid_acc (c : Dev nD) (t : Fin cfg0.N) (h0 : ¬t.val % 16 = 0) (h1 : ¬t.val % 16 = 15) :
    (outsAt0 m c t.val t.isLt).2.2.1 = k0_pay1 (F := Ideal) (outsAt0 m c (t.val - 1) (by omega)).2.2.1
      (k0_pay21 (F := Ideal) (grid0.coords t) (outsAt0 m c (t.val - 1) (by omega)).2.1 (outsAt0 m c (t.val - 1) (by omega)).2.2.2
        (iblk m c 6 t) (iblk m c 7 t)) (iblk m c 8 t) := by
  rw [outsAt0_B m c t h0 h1]; frame_out; simp only [read_unread_whole]

theorem mid_gates (c : Dev nD) (t : Fin cfg0.N) (h0 : ¬t.val % 16 = 0) (h1 : ¬t.val % 16 = 15) :
    (outsAt0 m c t.val t.isLt).2.2.2 = (outsAt0 m c (t.val - 1) (by omega)).2.2.2 := by
  rw [outsAt0_B m c t h0 h1]; rfl

theorem last_out (c : Dev nD) (t : Fin cfg0.N) (h0 : ¬t.val % 16 = 0) (h1 : t.val % 16 = 15) :
    (outsAt0 m c t.val t.isLt).1 = k0_pay2 (F := Ideal) (iblk m c 0 t) (iblk m c 4 t)
      (k0_pay1 (F := Ideal) (outsAt0 m c (t.val - 1) (by omega)).2.2.1
        (k0_pay21 (F := Ideal) (grid0.coords t) (outsAt0 m c (t.val - 1) (by omega)).2.1 (outsAt0 m c (t.val - 1) (by omega)).2.2.2
          (iblk m c 6 t) (iblk m c 7 t)) (iblk m c 8 t)) := by
  rw [outsAt0_C m c t h0 h1]; frame_out; simp only [read_unread_whole]

end Cert.CtxMoeProof

end
-- ==== Proof.CtxMoeGates.lean ====
/-
  The gates of the expert kernel. A row of eight logits on the first lanes, −∞ on the rest: the kernel's two row maxima and first
  lanes are the two greatest entries, and its stored row holds their softmax weights at their lanes and 0 elsewhere.
-/
module

public import proofs.«01_k».proof.Proof.TopTwo
public import proofs.«01_k».proof.Proof.CtxMoeSteps

@[expose] public section

set_option maxRecDepth 16384

noncomputable section

open Idealize.ShloMosaic Idealize.ShloMosaic.TcCoe Idealize.SL.Sem

namespace Cert.CtxMoeProof

open Cert.CtxMoeIdeal Cert.CtxMoeIdeal.Gen Cert.TopTwo

/-- The weight of an expert when `i` and `j` are the two of greatest logit: the softmax over the two logits. -/
def WEIGHT (f : Fin 8 → EReal) (i j e : Fin 8) : EReal :=
  if e = i then Ideal.div 1 (1 + Ideal.exp (f j - f i))
  else if e = j then Ideal.exp (f j - f i) * Ideal.div 1 (1 + Ideal.exp (f j - f i)) else 0

theorem mask_bot : (Named.named κ "mask" 0xF149F2CA#32 : Ideal .f32) = (⊥ : EReal) := by
  rfl

theorem eq_lane (k : Fin 128) (i : Fin 8) : IntOp.cmpi CmpIPredicate.eq (BitVec.ofNat 32 k.val) (BitVec.ofNat 32 i.val) = BitVec.ofBool (decide (k = lane i)) := by
  have : (BitVec.ofNat 32 k.val = BitVec.ofNat 32 i.val) ↔ k = lane i := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  exact congrArg BitVec.ofBool (by rw [Bool.eq_iff_iff, beq_iff_eq, decide_eq_true_iff]; exact this)

theorem select_eq {α : Type} (k : Fin 128) (i : Fin 8) (a b : α) :
    Scalar.select (IntOp.cmpi CmpIPredicate.eq (BitVec.ofNat 32 k.val) (BitVec.ofNat 32 i.val)) a b = if k = lane i then a else b := by
  rw [eq_lane]
  by_cases h : k = lane i <;> simp [h, Scalar.select]

section
variable (a b : FVec Ideal S256x1024 .bf16) (u v : FVec Ideal S1024x128 .bf16) (f : Fin 8 → EReal) (hf : ∀ k, f k ≠ ⊥)
  (i j : Fin 8) (T : Two f i j) (r : Fin 256) (hL : ∀ k : Fin 128, k0_pay10 (F := Ideal) a b u v (ix2 r k) = Wide f k)
include hf T hL

theorem max_one : k0_pay11 (F := Ideal) a b u v (ix2 r 0) = f i := by
  simp only [k0_pay11]
  generalize k0_pay10 (F := Ideal) a b u v = L at hL
  pointwise
  rw [show Ideal.ofBits FTy.f32 4286578688#32 = ⊥ from rfl]
  simp only [hL]
  rw [fold_max _ _ (first_wide f hf i j T), wide_lane]

theorem lane_one : k0_pay12 (F := Ideal) a b u v (ix2 r 0) = BitVec.ofNat 32 i.val := by
  have h := max_one a b u v f hf i j T r hL
  simp only [k0_pay12]
  generalize k0_pay11 (F := Ideal) a b u v = M at h
  generalize k0_pay10 (F := Ideal) a b u v = L at hL
  pointwise
  simp only [hL, h]
  have := fold_min _ _ (first_wide f hf i j T)
  rw [wide_lane] at this
  exact this

theorem rest (k : Fin 128) : k0_pay13 (F := Ideal) a b u v (ix2 r k) = if k = lane i then ⊥ else Wide f k := by
  have h := lane_one a b u v f hf i j T r hL
  simp only [k0_pay13]
  generalize k0_pay12 (F := Ideal) a b u v = M at h
  generalize k0_pay10 (F := Ideal) a b u v = L at hL
  pointwise
  simp only [h, hL]
  rw [select_eq, mask_bot]

theorem max_two : k0_pay14 (F := Ideal) a b u v (ix2 r 0) = f j := by
  have h := rest a b u v f hf i j T r hL
  simp only [k0_pay14]
  generalize k0_pay13 (F := Ideal) a b u v = L at h
  pointwise
  rw [show Ideal.ofBits FTy.f32 4286578688#32 = ⊥ from rfl]
  simp only [h]
  rw [fold_max _ _ (second_wide f hf i j T), wide_lane, if_neg]
  exact fun e => T.ne (Fin.ext (congrArg (fun x : Fin 128 => x.val) e))

theorem ratio : k0_pay15 (F := Ideal) a b u v (ix2 r 0) = Ideal.exp (f j - f i) := by
  have h := max_two a b u v f hf i j T r hL
  have h' := max_one a b u v f hf i j T r hL
  simp only [k0_pay15]
  generalize k0_pay14 (F := Ideal) a b u v = M at h
  generalize k0_pay11 (F := Ideal) a b u v = M' at h'
  pointwise
  rw [h, h']

theorem weight_one : k0_pay16 (F := Ideal) a b u v (ix2 r 0) = Ideal.div 1 (1 + Ideal.exp (f j - f i)) := by
  have h := ratio a b u v f hf i j T r hL
  simp only [k0_pay16]
  generalize k0_pay15 (F := Ideal) a b u v = M at h
  pointwise
  rw [h]

theorem hit_one (k : Fin 128) : k0_pay17 (F := Ideal) a b u v (ix2 r k) = BitVec.ofBool (decide (k = lane i)) := by
  have h := lane_one a b u v f hf i j T r hL
  simp only [k0_pay17]
  generalize k0_pay12 (F := Ideal) a b u v = M at h
  pointwise
  rw [h]
  exact eq_lane k i

theorem weight_two (k : Fin 128) : k0_pay18 (F := Ideal) a b u v (ix2 r k)
    = if k = lane j then Ideal.exp (f j - f i) * Ideal.div 1 (1 + Ideal.exp (f j - f i)) else 0 := by
  have h := ratio a b u v f hf i j T r hL
  have h1 := weight_one a b u v f hf i j T r hL
  have h2 := rest a b u v f hf i j T r hL
  have h3 := max_two a b u v f hf i j T r hL
  have hne : lane j ≠ lane i := fun e => T.ne (Fin.ext (congrArg (fun x : Fin 128 => x.val) e))
  simp only [k0_pay18]
  generalize k0_pay16 (F := Ideal) a b u v = M1 at h1
  generalize k0_pay15 (F := Ideal) a b u v = M at h
  generalize k0_pay13 (F := Ideal) a b u v = M2 at h2
  generalize k0_pay14 (F := Ideal) a b u v = M3 at h3
  pointwise
  simp only [h, h1, h2, h3]
  have := fold_min _ _ (second_wide f hf i j T)
  rw [if_neg hne, wide_lane] at this
  rw [this]
  exact select_eq k j _ _

/-- The stored row of gates. -/
theorem gates_row (e : Fin 8) : k0_pay19 (F := Ideal) (k0_pay16 (F := Ideal) a b u v) (k0_pay17 (F := Ideal) a b u v)
    (k0_pay18 (F := Ideal) a b u v) (ix2 r (lane e)) = WEIGHT f i j e := by
  have h1 := weight_one a b u v f hf i j T r hL
  have h2 := hit_one a b u v f hf i j T r hL (lane e)
  have h3 := weight_two a b u v f hf i j T r hL (lane e)
  generalize k0_pay16 (F := Ideal) a b u v = M1 at *
  generalize k0_pay17 (F := Ideal) a b u v = M2 at *
  generalize k0_pay18 (F := Ideal) a b u v = M3 at *
  pointwise [k0_pay19]
  have q : ∀ x y : Fin 8, lane x = lane y ↔ x = y := fun x y =>
    ⟨fun h => Fin.ext (congrArg (fun x : Fin 128 => x.val) h), fun h => h ▸ rfl⟩
  simp only [q] at h2 h3
  rw [h1, h2, h3]
  unfold WEIGHT
  by_cases h : e = i <;> simp [h, Scalar.select]

end

end Cert.CtxMoeProof

end
-- ==== Proof.CtxMoeRefGates.lean ====
/-
  The gates of the reference expert layer: the softmax of the two greatest logits, written at their experts, is the weight that the
  two greatest entries of the row of logits name.
-/
module

public import proofs.«01_k».proof.Proof.CtxMoeGates
public import proofs.«01_k».proof.Proof.Gen.CtxMoeRefIdeal.Read
public import Idealize.ShloMosaic.Lib.Pipeline.ValueKit

@[expose] public section

set_option maxRecDepth 16384

noncomputable section

open Idealize.ShloMosaic Idealize.ShloMosaic.TcCoe Idealize.SL.Sem

namespace Cert.CtxMoeProof

open Cert.CtxMoeRefIdeal Cert.CtxMoeRefIdeal.Gen Cert.TopTwo

theorem gt_word (a c : Ideal .f32) : (FloatOps.cmpfTotal (F := Ideal) (φ := .f32) .gt a c == 1#1) = decide ((c : EReal) < a) := by
  show (BitVec.ofBool (decide ((c : EReal) < a)) == 1#1) = _
  cases decide ((c : EReal) < a) <;> rfl

theorem along_entry (b : Fin 4) (r : Fin 256) (q : Fin 8) (h : 2 < S4x256x8.rank) (k : Fin (S4x256x8.size ⟨2, h⟩)) :
    (ix3 b r q : S4x256x8.Idx).along ⟨2, h⟩ k = ix3 b r (show Fin 8 from k) := by
  funext a
  match a with
  | ⟨0, _⟩ => rfl
  | ⟨1, _⟩ => rfl
  | ⟨2, _⟩ => rfl

/-- Where the sort takes its two first entries from. -/
theorem sort_pair {α : Type} (L : FVec Ideal S4x256x8 .f32) (I : IVec S4x256x8 32) (x : S4x256x8.Idx → α) (b : Fin 4) (r : Fin 256) (i j : Fin 8)
    (T : Two (fun k => L (ix3 b r k)) i j) (q : Fin 2) :
    extractStridedSlice S4x256x2 (fun _ => 0) (Host.sortBy S4x256x8 2
      (fun l r => FloatOps.cmpfTotal (F := Ideal) (φ := .f32) CmpDirection.gt l.1 r.1) (fun j => (L j, I j)) x) sliceFits_S4x256x8_S4x256x2 (ix3 b r q)
      = x (ix3 b r (![i, j] q)) := by
  refine (extractStridedSlice_apply _ _ _ (ix3 b r q) (ix3 b r (q.castLE (by decide))) fun a => ?_).trans ?_
  · match a with
    | ⟨0, _⟩ => exact (Nat.zero_add _).symm
    | ⟨1, _⟩ => exact (Nat.zero_add _).symm
    | ⟨2, _⟩ => exact (Nat.zero_add _).symm
  · have h := sortedFrom_two _ i j T (by decide) q
    have e := fun k => along_entry b r (q.castLE (by decide : 2 ≤ 8)) (by decide) k
    unfold Host.sortBy
    rw [dif_pos (by decide)]
    refine congrArg x ((e _).trans ?_)
    rw [← h]
    refine congrArg (fun z => ix3 b r z) ?_
    refine congrArg (fun R => sortedFrom R (q.castLE (by decide : 2 ≤ 8))) ?_
    funext k k'
    rw [gt_word]
    show decide (L _ < L _) = _
    rw [e, e]

theorem top_pair (L : FVec Ideal S4x256x8 .f32) (b : Fin 4) (r : Fin 256) (i j : Fin 8) (T : Two (fun k => L (ix3 b r k)) i j) (q : Fin 2) :
    (Host.topK S4x256x2 2 (FloatOps.cmpfTotal (F := Ideal) (φ := .f32) .gt) L sliceFits_S4x256x8_S4x256x2).1 (ix3 b r q) = L (ix3 b r (![i, j] q))
    ∧ (Host.topK S4x256x2 2 (FloatOps.cmpfTotal (F := Ideal) (φ := .f32) .gt) L sliceFits_S4x256x8_S4x256x2).2 (ix3 b r q) = BitVec.ofNat 32 (![i, j] q).val := by
  unfold Host.topK
  dsimp only
  rw [Host.sort2_eq_sortBy]
  dsimp only
  refine ⟨sort_pair L _ L b r i j T q, (sort_pair L _ _ b r i j T q).trans ?_⟩
  rw [dif_pos (by decide)]
  rfl

theorem eq_expert (i e : Fin 8) : IntOp.cmpi CmpIPredicate.eq (BitVec.ofNat 32 i.val) (BitVec.ofNat 32 e.val) = BitVec.ofBool (decide (e = i)) := by
  revert i e; decide

theorem one_hot (i e : Fin 8) : (FloatOps.uitofp FTy.f32 (IntOp.cmpi CmpIPredicate.eq (BitVec.ofNat 32 i.val) (BitVec.ofNat 32 e.val)) : Ideal .f32)
    = (if e = i then (1 : EReal) else 0) := by
  rw [eq_expert]
  by_cases h : e = i <;> simp [h, FloatOps.uitofp]

/-- The softmax of two reals, the greater first. -/
theorem soft_two (p q : ℝ) : Ideal.div (Ideal.exp ((p : EReal) - p)) (Ideal.exp ((p : EReal) - p) + Ideal.exp ((q : EReal) - p))
      = Ideal.div 1 (1 + Ideal.exp ((q : EReal) - p))
    ∧ Ideal.div (Ideal.exp ((q : EReal) - p)) (Ideal.exp ((p : EReal) - p) + Ideal.exp ((q : EReal) - p))
      = Ideal.exp ((q : EReal) - p) * Ideal.div 1 (1 + Ideal.exp ((q : EReal) - p)) := by
  have e0 : (p : EReal) - p = ((0 : ℝ) : EReal) := by rw [← EReal.coe_sub, sub_self]
  have e1 : Ideal.exp ((0 : ℝ) : EReal) = 1 := by rw [Ideal.exp_coe, Real.exp_zero]; rfl
  have hp : (0 : ℝ) < 1 + Real.exp (q - p) := by positivity
  rw [e0, e1, ← EReal.coe_sub, Ideal.exp_coe, show (1 : EReal) + (Real.exp (q - p) : EReal) = ((1 + Real.exp (q - p) : ℝ) : EReal) from rfl,
    Ideal.div_coe hp.ne', Ideal.div_coe hp.ne']
  exact ⟨rfl, by rw [one_mul]⟩

variable (x0 : FVec Ideal S4x256x1024 .f32) (x1 : FVec Ideal S1024 .f32) (x2 x3 : FVec Ideal S4x1x1024 .f32) (x5 : FVec Ideal S1024x8 .f32)

/-- The gate of the reference at an expert. -/
theorem ref_gates (b : Fin 4) (r : Fin 256) (f : Fin 8 → EReal) (hf : ∀ k, ∃ z : ℝ, f k = z)
    (hL : ∀ k, Read.val_main_v19 (F := Ideal) x0 x1 x2 x3 x5 (ix3 b r k) = f k) (i j : Fin 8) (T : Two f i j) (e : Fin 8) :
    Read.val_main_v35 (F := Ideal) x0 x1 x2 x3 x5 (ix3 b r e) = WEIGHT f i j e := by
  simp only [Read.val_main_v35_apply, Read.val_main_v34_apply, Read.val_main_v33_apply, Read.val_main_v32_apply, Read.val_main_v31_apply,
    Read.val_main_v30_apply, Read.val_main_v29_apply, Read.val_main_v28_apply, Read.val_main_v27_apply, Read.val_main_v26_apply,
    Read.val_main_v25_apply, Read.val_main_v24_apply, Read.val_main_v23_apply, Read.val_main_v22_apply, Read.val_main_v21_apply,
    Read.val_main_call0_v4_apply, Read.val_main_call0_v3_apply, Read.val_main_call0_v2_apply, Read.val_main_call0_v1_apply,
    Read.val_main_call0_v0_apply, Read.val_main_cst_6_apply, Read.val_main_cst_5_apply, Read.val_main_cst_4_apply]
  simp only [Read.val_main_v20, Read.val_main_values, Read.val_main_indices, Read.val_main_cst_3]
  generalize Read.val_main_v19 (F := Ideal) x0 x1 x2 x3 x5 = L at hL
  have T' : Two (fun k => L (ix3 b r k)) i j := by rw [show (fun k => L (ix3 b r k)) = f from funext hL]; exact T
  have hV := fun q => (top_pair L b r i j T' q).1
  have hI := fun q => (top_pair L b r i j T' q).2
  generalize (Host.topK S4x256x2 2 (FloatOps.cmpfTotal (F := Ideal) (φ := .f32) .gt) L sliceFits_S4x256x8_S4x256x2).1 = V at hV
  generalize (Host.topK S4x256x2 2 (FloatOps.cmpfTotal (F := Ideal) (φ := .f32) .gt) L sliceFits_S4x256x8_S4x256x2).2 = I at hI
  pointwise
  simp only [hL] at hV
  have i1 : ∀ x : Fin 2, Read.idx_main_call0_v0 (Read.idx_main_call0_v2 (Read.idx_main_v35 (ix3 b r e) x)) = ix3 b r x := by
    intro x; funext a; match a with | ⟨0, _⟩ => rfl | ⟨1, _⟩ => rfl | ⟨2, _⟩ => rfl
  have i2 : ∀ x : Fin 2, Read.idx_main_v32 (Read.idx_main_v33 (Read.idx_main_v35 (ix3 b r e) x)) = ix3 b r x := by
    intro x; funext a; match a with | ⟨0, _⟩ => rfl | ⟨1, _⟩ => rfl | ⟨2, _⟩ => rfl
  have i3 : ∀ x k : Fin 2, Read.idx_main_v27 (Read.idx_main_v28 (Read.idx_main_v29 (ix3 b r x))) k = ix3 b r k := by
    intro x k; funext a; match a with | ⟨0, _⟩ => rfl | ⟨1, _⟩ => rfl | ⟨2, _⟩ => rfl
  simp only [i1, i2, i3, hV, hI]
  have m : max (Ideal.ofBits FTy.f32 4286578688#32) (Finset.fold max (Ideal.ofBits FTy.f32 4286578688#32) (fun x : Fin 2 => f (![i, j] x)) Finset.univ) = f i := by
    rw [show Ideal.ofBits FTy.f32 4286578688#32 = (⊥ : EReal) from rfl]
    rw [fold_max (fun x : Fin 2 => f (![i, j] x)) (0 : Fin 2) ⟨fun k => T.first.le _, fun k hk => absurd hk (by omega)⟩]
    exact max_eq_right bot_le
  rw [m]
  simp only [Fin.sum_univ_two, one_hot]
  show (if e = i then (1 : EReal) else 0) * Ideal.div (Ideal.exp (f i - f i)) (Ideal.exp (f i - f i) + Ideal.exp (f j - f i))
    + (if e = j then (1 : EReal) else 0) * Ideal.div (Ideal.exp (f j - f i)) (Ideal.exp (f i - f i) + Ideal.exp (f j - f i)) = _
  obtain ⟨p, hp⟩ := hf i
  obtain ⟨q, hq⟩ := hf j
  unfold WEIGHT
  rw [hp, hq, (soft_two p q).1, (soft_two p q).2]
  have ne := T.ne
  by_cases h1 : e = i
  · have h2 : ¬ e = j := fun h => ne (h.symm.trans h1)
    simp [h1, h2, Ne.symm ne]
  · by_cases h2 : e = j <;> simp [h1, h2, ne]

end Cert.CtxMoeProof

end
-- ==== Proof.CtxMoeExperts.lean ====
/-
  The experts of the reference layer, one by one: the reference runs its eight experts as eight stretches of stages; each stretch is the
  same sum of activation and down projection, at that expert's weights.
-/
module

public import proofs.«01_k».proof.Proof.Gen.CtxMoeRefIdeal.Read
public import Idealize.ShloMosaic.Lib.Pipeline.ValueKit

@[expose] public section

set_option maxRecDepth 16384

noncomputable section

open Idealize.ShloMosaic Idealize.ShloMosaic.TcCoe Idealize.SL.Sem

namespace Cert.CtxMoeProof

open Cert.CtxMoeRefIdeal Cert.CtxMoeRefIdeal.Gen

/-- An expert's product of gated activation and down projection at one inner unit, of the hidden rows `H`. -/
def PROD (H : FVec Ideal S4x256x1024 .f32) (wg wu : FVec Ideal S8x1024x3584 .f32) (wd : FVec Ideal S8x3584x1024 .f32)
    (e : Fin 8) (b : Fin 4) (r : Fin 256) (d : Fin 1024) (f : Fin 3584) : EReal :=
  (∑ k : Fin 1024, H (ix3 b r k) * wg (ix3 e k f)) * Ideal.div 1 (1 + Ideal.exp (-∑ k : Fin 1024, H (ix3 b r k) * wg (ix3 e k f)))
    * (∑ k : Fin 1024, H (ix3 b r k) * wu (ix3 e k f)) * wd (ix3 e f d)

variable (x0 : FVec Ideal S4x256x1024 .f32) (x1 : FVec Ideal S1024 .f32) (x2 x3 : FVec Ideal S4x1x1024 .f32) (x5 : FVec Ideal S1024x8 .f32)
  (x6 x7 : FVec Ideal S8x1024x3584 .f32) (x8 : FVec Ideal S8x3584x1024 .f32)

theorem expert_0 (b : Fin 4) (r : Fin 256) (d : Fin 1024) :
    Read.val_main_v48 (F := Ideal) x0 x1 x2 x3 x6 x7 x8 (ix3 b r d)
      = ∑ f : Fin 3584, PROD (Read.val_main_v18 (F := Ideal) x0 x1 x2 x3) x6 x7 x8 0 b r d f := by
  simp only [Read.val_main_v48_apply, Read.val_main_v47_apply, Read.val_main_v46_apply, Read.val_main_v45_apply, Read.val_main_v44_apply, Read.val_main_v43_apply, Read.val_main_v42_apply, Read.val_main_v41_apply, Read.val_main_v40_apply, Read.val_main_v39_apply, Read.val_main_v38_apply, Read.val_main_call1_v5_apply, Read.val_main_call1_v4_apply, Read.val_main_call1_v3_apply, Read.val_main_call1_v2_apply, Read.val_main_call1_v1_apply, Read.val_main_call1_v0_apply, Read.val_main_call1_cst_apply, Read.val_main_call1_cst_0_apply]
  generalize Read.val_main_v18 (F := Ideal) x0 x1 x2 x3 = H
  unfold PROD
  pointwise
  blk_point []

theorem expert_1 (b : Fin 4) (r : Fin 256) (d : Fin 1024) :
    Read.val_main_v63 (F := Ideal) x0 x1 x2 x3 x6 x7 x8 (ix3 b r d)
      = ∑ f : Fin 3584, PROD (Read.val_main_v18 (F := Ideal) x0 x1 x2 x3) x6 x7 x8 1 b r d f := by
  simp only [Read.val_main_v63_apply, Read.val_main_v62_apply, Read.val_main_v61_apply, Read.val_main_v60_apply, Read.val_main_v59_apply, Read.val_main_v58_apply, Read.val_main_v57_apply, Read.val_main_v56_apply, Read.val_main_v55_apply, Read.val_main_v54_apply, Read.val_main_v53_apply, Read.val_main_call2_v5_apply, Read.val_main_call2_v4_apply, Read.val_main_call2_v3_apply, Read.val_main_call2_v2_apply, Read.val_main_call2_v1_apply, Read.val_main_call2_v0_apply, Read.val_main_call2_cst_apply, Read.val_main_call2_cst_0_apply]
  generalize Read.val_main_v18 (F := Ideal) x0 x1 x2 x3 = H
  unfold PROD
  pointwise
  blk_point []

theorem expert_2 (b : Fin 4) (r : Fin 256) (d : Fin 1024) :
    Read.val_main_v78 (F := Ideal) x0 x1 x2 x3 x6 x7 x8 (ix3 b r d)
      = ∑ f : Fin 3584, PROD (Read.val_main_v18 (F := Ideal) x0 x1 x2 x3) x6 x7 x8 2 b r d f := by
  simp only [Read.val_main_v78_apply, Read.val_main_v77_apply, Read.val_main_v76_apply, Read.val_main_v75_apply, Read.val_main_v74_apply, Read.val_main_v73_apply, Read.val_main_v72_apply, Read.val_main_v71_apply, Read.val_main_v70_apply, Read.val_main_v69_apply, Read.val_main_v68_apply, Read.val_main_call3_v5_apply, Read.val_main_call3_v4_apply, Read.val_main_call3_v3_apply, Read.val_main_call3_v2_apply, Read.val_main_call3_v1_apply, Read.val_main_call3_v0_apply, Read.val_main_call3_cst_apply, Read.val_main_call3_cst_0_apply]
  generalize Read.val_main_v18 (F := Ideal) x0 x1 x2 x3 = H
  unfold PROD
  pointwise
  blk_point []

theorem expert_3 (b : Fin 4) (r : Fin 256) (d : Fin 1024) :
    Read.val_main_v93 (F := Ideal) x0 x1 x2 x3 x6 x7 x8 (ix3 b r d)
      = ∑ f : Fin 3584, PROD (Read.val_main_v18 (F := Ideal) x0 x1 x2 x3) x6 x7 x8 3 b r d f := by
  simp only [Read.val_main_v93_apply, Read.val_main_v92_apply, Read.val_main_v91_apply, Read.val_main_v90_apply, Read.val_main_v89_apply, Read.val_main_v88_apply, Read.val_main_v87_apply, Read.val_main_v86_apply, Read.val_main_v85_apply, Read.val_main_v84_apply, Read.val_main_v83_apply, Read.val_main_call4_v5_apply, Read.val_main_call4_v4_apply, Read.val_main_call4_v3_apply, Read.val_main_call4_v2_apply, Read.val_main_call4_v1_apply, Read.val_main_call4_v0_apply, Read.val_main_call4_cst_apply, Read.val_main_call4_cst_0_apply]
  generalize Read.val_main_v18 (F := Ideal) x0 x1 x2 x3 = H
  unfold PROD
  pointwise
  blk_point []

theorem expert_4 (b : Fin 4) (r : Fin 256) (d : Fin 1024) :
    Read.val_main_v108 (F := Ideal) x0 x1 x2 x3 x6 x7 x8 (ix3 b r d)
      = ∑ f : Fin 3584, PROD (Read.val_main_v18 (F := Ideal) x0 x1 x2 x3) x6 x7 x8 4 b r d f := by
  simp only [Read.val_main_v108_apply, Read.val_main_v107_apply, Read.val_main_v106_apply, Read.val_main_v105_apply, Read.val_main_v104_apply, Read.val_main_v103_apply, Read.val_main_v102_apply, Read.val_main_v101_apply, Read.val_main_v100_apply, Read.val_main_v99_apply, Read.val_main_v98_apply, Read.val_main_call5_v5_apply, Read.val_main_call5_v4_apply, Read.val_main_call5_v3_apply, Read.val_main_call5_v2_apply, Read.val_main_call5_v1_apply, Read.val_main_call5_v0_apply, Read.val_main_call5_cst_apply, Read.val_main_call5_cst_0_apply]
  generalize Read.val_main_v18 (F := Ideal) x0 x1 x2 x3 = H
  unfold PROD
  pointwise
  blk_point []

theorem expert_5 (b : Fin 4) (r : Fin 256) (d : Fin 1024) :
    Read.val_main_v123 (F := Ideal) x0 x1 x2 x3 x6 x7 x8 (ix3 b r d)
      = ∑ f : Fin 3584, PROD (Read.val_main_v18 (F := Ideal) x0 x1 x2 x3) x6 x7 x8 5 b r d f := by
  simp only [Read.val_main_v123_apply, Read.val_main_v122_apply, Read.val_main_v121_apply, Read.val_main_v120_apply, Read.val_main_v119_apply, Read.val_main_v118_apply, Read.val_main_v117_apply, Read.val_main_v116_apply, Read.val_main_v115_apply, Read.val_main_v114_apply, Read.val_main_v113_apply, Read.val_main_call6_v5_apply, Read.val_main_call6_v4_apply, Read.val_main_call6_v3_apply, Read.val_main_call6_v2_apply, Read.val_main_call6_v1_apply, Read.val_main_call6_v0_apply, Read.val_main_call6_cst_apply, Read.val_main_call6_cst_0_apply]
  generalize Read.val_main_v18 (F := Ideal) x0 x1 x2 x3 = H
  unfold PROD
  pointwise
  blk_point []

theorem expert_6 (b : Fin 4) (r : Fin 256) (d : Fin 1024) :
    Read.val_main_v138 (F := Ideal) x0 x1 x2 x3 x6 x7 x8 (ix3 b r d)
      = ∑ f : Fin 3584, PROD (Read.val_main_v18 (F := Ideal) x0 x1 x2 x3) x6 x7 x8 6 b r d f := by
  simp only [Read.val_main_v138_apply, Read.val_main_v137_apply, Read.val_main_v136_apply, Read.val_main_v135_apply, Read.val_main_v134_apply, Read.val_main_v133_apply, Read.val_main_v132_apply, Read.val_main_v131_apply, Read.val_main_v130_apply, Read.val_main_v129_apply, Read.val_main_v128_apply, Read.val_main_call7_v5_apply, Read.val_main_call7_v4_apply, Read.val_main_call7_v3_apply, Read.val_main_call7_v2_apply, Read.val_main_call7_v1_apply, Read.val_main_call7_v0_apply, Read.val_main_call7_cst_apply, Read.val_main_call7_cst_0_apply]
  generalize Read.val_main_v18 (F := Ideal) x0 x1 x2 x3 = H
  unfold PROD
  pointwise
  blk_point []

theorem expert_7 (b : Fin 4) (r : Fin 256) (d : Fin 1024) :
    Read.val_main_v153 (F := Ideal) x0 x1 x2 x3 x6 x7 x8 (ix3 b r d)
      = ∑ f : Fin 3584, PROD (Read.val_main_v18 (F := Ideal) x0 x1 x2 x3) x6 x7 x8 7 b r d f := by
  simp only [Read.val_main_v153_apply, Read.val_main_v152_apply, Read.val_main_v151_apply, Read.val_main_v150_apply, Read.val_main_v149_apply, Read.val_main_v148_apply, Read.val_main_v147_apply, Read.val_main_v146_apply, Read.val_main_v145_apply, Read.val_main_v144_apply, Read.val_main_v143_apply, Read.val_main_call8_v5_apply, Read.val_main_call8_v4_apply, Read.val_main_call8_v3_apply, Read.val_main_call8_v2_apply, Read.val_main_call8_v1_apply, Read.val_main_call8_v0_apply, Read.val_main_call8_cst_apply, Read.val_main_call8_cst_0_apply]
  generalize Read.val_main_v18 (F := Ideal) x0 x1 x2 x3 = H
  unfold PROD
  pointwise
  blk_point []

/-- The reference's result: the rows plus the gated, router-weighted sum of the experts. -/
theorem ref_point (x4 : FVec Ideal S4x1x1024 .f32) (b : Fin 4) (r : Fin 256) (d : Fin 1024) :
    Read.val_main_v159 (F := Ideal) x0 x1 x2 x3 x4 x5 x6 x7 x8 (ix3 b r d)
      = x0 (ix3 b r d) + x4 (ix3 b 0 d) * ∑ e : Fin 8, Read.val_main_v35 (F := Ideal) x0 x1 x2 x3 x5 (ix3 b r e)
          * ∑ f : Fin 3584, PROD (Read.val_main_v18 (F := Ideal) x0 x1 x2 x3) x6 x7 x8 e b r d f := by
  simp only [Read.val_main_v51_apply, Read.val_main_v50_apply, Read.val_main_v49_apply, Read.val_main_v37_apply, Read.val_main_v66_apply, Read.val_main_v65_apply, Read.val_main_v64_apply, Read.val_main_v52_apply, Read.val_main_v81_apply, Read.val_main_v80_apply, Read.val_main_v79_apply, Read.val_main_v67_apply, Read.val_main_v96_apply, Read.val_main_v95_apply, Read.val_main_v94_apply, Read.val_main_v82_apply, Read.val_main_v111_apply, Read.val_main_v110_apply, Read.val_main_v109_apply, Read.val_main_v97_apply, Read.val_main_v126_apply, Read.val_main_v125_apply, Read.val_main_v124_apply, Read.val_main_v112_apply, Read.val_main_v141_apply, Read.val_main_v140_apply, Read.val_main_v139_apply, Read.val_main_v127_apply, Read.val_main_v156_apply, Read.val_main_v155_apply, Read.val_main_v154_apply, Read.val_main_v142_apply, Read.val_main_v36_apply, Read.val_main_cst_7_apply, Read.val_main_v157_apply, Read.val_main_v158_apply, Read.val_main_v159_apply]
  simp only [expert_0, expert_1, expert_2, expert_3, expert_4, expert_5, expert_6, expert_7, Fin.sum_univ_eight]
  generalize Read.val_main_v18 (F := Ideal) x0 x1 x2 x3 = H
  generalize Read.val_main_v35 (F := Ideal) x0 x1 x2 x3 x5 = G
  pointwise
  blk_point []

end Cert.CtxMoeProof

end
-- ==== Proof.CtxMoeReals.lean ====
/-
  Under the precondition the hidden rows and the router's logits of the expert layer are reals: the norm's root is of a positive real,
  and the rest are sums and products of reals.
-/
module

public import proofs.«01_k».proof.Proof.Gen.CtxMoeRefIdeal.Read
public import Idealize.ShloMosaic.Lib.Pipeline.ValueKit

@[expose] public section

set_option maxRecDepth 16384

noncomputable section

open Idealize.ShloMosaic Idealize.ShloMosaic.TcCoe Idealize.SL.Sem

namespace Cert.CtxMoeProof

open Cert.CtxMoeRefIdeal Cert.CtxMoeRefIdeal.Gen

/-- A value that is neither infinity. -/
def Fin' (x : EReal) : Prop := ∃ z : ℝ, x = z

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem sub_self' {x : EReal} (hx : Fin' x) : x - x = 0 := by
  obtain ⟨a, rfl⟩ := hx
  rw [← EReal.coe_sub, sub_self]; rfl

theorem Fin'.sum {n : Nat} {g : Fin n → EReal} (h : ∀ k, Fin' (g k)) : Fin' (∑ k, g k) := by
  choose z hz using h
  refine ⟨∑ k, z k, ?_⟩
  rw [show g = fun k => (z k : EReal) from funext hz]
  exact (map_sum (⟨⟨Real.toEReal, EReal.coe_zero⟩, EReal.coe_add⟩ : ℝ →+ EReal) z Finset.univ).symm

/-- The root of a mean of squares of reals, a positive constant added, is real. -/
theorem root_fin {n : Nat} {g : Fin n → EReal} (h : ∀ k, Fin' (g k)) (p q : ℝ) (hp : 0 < p) (hq : 0 < q) :
    Fin' (Ideal.rsqrt (Ideal.div (∑ k, g k * g k) (p : EReal) + (q : EReal))) := by
  choose z hz using h
  have s : ∑ k, g k * g k = ((∑ k, z k * z k : ℝ) : EReal) := by
    rw [show (fun k => g k * g k) = fun k => ((z k * z k : ℝ) : EReal) from funext fun k => by rw [hz k, EReal.coe_mul]]
    exact (map_sum (⟨⟨Real.toEReal, EReal.coe_zero⟩, EReal.coe_add⟩ : ℝ →+ EReal) (fun k => z k * z k) Finset.univ).symm
  have pos : 0 < (∑ k, z k * z k) * (1 / p) + q := by
    have : 0 ≤ ∑ k, z k * z k := Finset.sum_nonneg fun k _ => mul_self_nonneg _
    positivity
  rw [s, Ideal.div_coe hp.ne', ← EReal.coe_mul, ← EReal.coe_add, Ideal.rsqrt_coe, if_neg (by linarith), if_neg pos.ne']
  exact ⟨_, rfl⟩

theorem const_count : Ideal.ofBits FTy.f32 1149239296#32 = ((1024 : ℝ) : EReal) := by
  simp [Ideal.ofBits, Ideal.ieee, -EReal.coe_mul]
  norm_num

theorem const_eps : ∃ q : ℝ, 0 < q ∧ Ideal.ofBits FTy.f32 897988541#32 = (q : EReal) := by
  refine ⟨8796093 * 2 ^ (-43 : Int), by positivity, ?_⟩
  simp [Ideal.ofBits, Ideal.ieee, -EReal.coe_mul]

variable (x0 : FVec Ideal S4x256x1024 .f32) (x1 : FVec Ideal S1024 .f32) (x2 x3 : FVec Ideal S4x1x1024 .f32) (x5 : FVec Ideal S1024x8 .f32)
  (h0 : ∀ i, Fin' (x0 i)) (h1 : ∀ i, Fin' (x1 i)) (h2 : ∀ i, Fin' (x2 i)) (h3 : ∀ i, Fin' (x3 i)) (h5 : ∀ i, Fin' (x5 i))
include h0 h1 h2 h3

/-- The hidden rows are real. -/
theorem hid_fin (b : Fin 4) (r : Fin 256) (d : Fin 1024) : Fin' (Read.val_main_v18 (F := Ideal) x0 x1 x2 x3 (ix3 b r d)) := by
  simp only [Read.val_main_cst_apply, Read.val_main_v0_apply, Read.val_main_v1_apply,
    Read.val_main_v2_apply, Read.val_main_v3_apply, Read.val_main_v4_apply,
    Read.val_main_v5_apply, Read.val_main_v6_apply, Read.val_main_v7_apply,
    Read.val_main_v8_apply, Read.val_main_v9_apply, Read.val_main_v10_apply,
    Read.val_main_v11_apply, Read.val_main_v12_apply, Read.val_main_v13_apply,
    Read.val_main_v14_apply, Read.val_main_v15_apply, Read.val_main_v16_apply,
    Read.val_main_v17_apply, Read.val_main_v18_apply, Read.val_main_cst_0_apply,
    Read.val_main_cst_1_apply, Read.val_main_cst_2_apply]
  pointwise
  obtain ⟨q, hq, e⟩ := const_eps
  rw [const_count, e]
  exact (((((h0 _).mul (root_fin (fun k => h0 _) 1024 q (by norm_num) hq)).mul (h1 _)).mul (Fin'.add ⟨1, rfl⟩ (h3 _))).add (h2 _))

include h5

/-- The router's logits are real. -/
theorem logit_fin (b : Fin 4) (r : Fin 256) (e : Fin 8) :
    Fin' (∑ k : Fin 1024, Read.val_main_v18 (F := Ideal) x0 x1 x2 x3 (ix3 b r k) * x5 (ix2 k e)) :=
  Fin'.sum fun k => (hid_fin x0 x1 x2 x3 h0 h1 h2 h3 b r k).mul (h5 _)

omit h0 h1 h2 h3 h5 in
theorem logit_ref (b : Fin 4) (r : Fin 256) (e : Fin 8) : Read.val_main_v19 (F := Ideal) x0 x1 x2 x3 x5 (ix3 b r e)
    = ∑ k : Fin 1024, Read.val_main_v18 (F := Ideal) x0 x1 x2 x3 (ix3 b r k) * x5 (ix2 k e) := by
  rw [Read.val_main_v19_apply]
  generalize Read.val_main_v18 (F := Ideal) x0 x1 x2 x3 = H
  blk_point []

end Cert.CtxMoeProof

end
-- ==== Proof.CtxMoeBlocks.lean ====
/-
  The blocks of the expert kernel: where each window's block of a grid point lies, the hidden rows a run's first point keeps, and the
  gates it stores.
-/
module

public import proofs.«01_k».proof.Proof.CtxMoeRefGates
public import proofs.«01_k».proof.Proof.CtxMoeExperts
public import proofs.«01_k».proof.Proof.CtxMoeReals
public import proofs.«01_k».proof.Proof.Gen.CtxMoeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxMoeProof

open Cert.CtxMoeIdeal Cert.CtxMoeIdeal.Gen Cert.TopTwo

variable (m : (ℓ : Loc nD τ sig) → Buf (Elt Ideal) ℓ)

/-- Where each window's block of a grid point lies: batch `t / 16`, row block `t / 16 % 1`, expert `t / 2 % 8`, half `t % 2`. -/
theorem idx : ∀ t : Fin cfg0.N, win0_0.index t = ![t.val / 16, t.val / 16 % 1, 0] ∧ win0_1.index t = ![0, 0]
    ∧ win0_2.index t = ![t.val / 16, 0, 0] ∧ win0_3.index t = ![t.val / 16, 0, 0] ∧ win0_4.index t = ![t.val / 16, 0, 0]
    ∧ win0_5.index t = ![0, 0] ∧ win0_6.index t = ![t.val / 2 % 8, 0, t.val % 2] ∧ win0_7.index t = ![t.val / 2 % 8, 0, t.val % 2]
    ∧ win0_8.index t = ![t.val / 2 % 8, t.val % 2, 0] ∧ win0_9.index t = ![t.val / 16, t.val / 16 % 1, 0] :=
  (by decide +kernel : ∀ t : Fin grid0.N, _)

theorem coord : ∀ t : Fin cfg0.N, (grid0.coords t 2).val = t.val / 2 % 8 := (by decide +kernel : ∀ t : Fin grid0.N, _)

theorem lt_of (t : Fin cfg0.N) : t.val < 64 := t.isLt

/-- The arguments of the program, by name. -/
abbrev aX (c : Dev nD) : FVec Ideal S4x256x1024 .f32 := m ((c : Thread nD τ).loc main_arg0)
abbrev aG (c : Dev nD) : FVec Ideal S1024 .f32 := m ((c : Thread nD τ).loc main_arg1)
abbrev aShift (c : Dev nD) : FVec Ideal S4x1x1024 .f32 := m ((c : Thread nD τ).loc main_arg2)
abbrev aScale (c : Dev nD) : FVec Ideal S4x1x1024 .f32 := m ((c : Thread nD τ).loc main_arg3)
abbrev aGate (c : Dev nD) : FVec Ideal S4x1x1024 .f32 := m ((c : Thread nD τ).loc main_arg4)
abbrev aRouter (c : Dev nD) : FVec Ideal S1024x8 .f32 := m ((c : Thread nD τ).loc main_arg5)
abbrev aWg (c : Dev nD) : FVec Ideal S8x1024x3584 .f32 := m ((c : Thread nD τ).loc main_arg6)
abbrev aWu (c : Dev nD) : FVec Ideal S8x1024x3584 .f32 := m ((c : Thread nD τ).loc main_arg7)
abbrev aWd (c : Dev nD) : FVec Ideal S8x3584x1024 .f32 := m ((c : Thread nD τ).loc main_arg8)

/-- The hidden rows of the reference program. -/
abbrev HID (c : Dev nD) : FVec Ideal S4x256x1024 .f32 :=
  Cert.CtxMoeRefIdeal.Read.val_main_v18 (F := Ideal) (aX m c) (aG m c) (aShift m c) (aScale m c)

/-- The arguments the precondition bounds are real. -/
structure Reals (c : Dev nD) : Prop where
  x : ∀ i, Fin' (aX m c i)
  g : ∀ i, Fin' (aG m c i)
  sh : ∀ i, Fin' (aShift m c i)
  sc : ∀ i, Fin' (aScale m c i)
  w : ∀ i, Fin' (aRouter m c i)

/-- Batch of a grid point. -/
abbrev bat (t : Fin cfg0.N) : Fin 4 := ⟨t.val / 16, by have := lt_of t; omega⟩
/-- Row of the whole array of a row of the point's block. -/
abbrev row (t : Fin cfg0.N) (r : Fin 256) : Fin 256 := ⟨t.val / 16 % 1 * 256 + r.val, by omega⟩

theorem entry_gain (c : Dev nD) : V m c main_v1 = broadcastInDim S1x1024 ![1] bcast_S1024_S1x1024_1 (aG m c) := by
  show StableHlo.after (hostOps0 ++ (hostOps0_1 ++ hostOps0_2)) (fun b => m (c, b)) (Proc.tc.devRef main_v1) = _
  simp only [hostOps0, hostOps0_1, hostOps0_2, List.cons_append, List.nil_append]
  after_results

theorem entry_router (c : Dev nD) : V m c main_v0 = pad S1024x128 ![0, 0] ![0, 120] ![0, 0] (aRouter m c)
    (sitofp (F := Ideal) .f32 (constantI S_ 32 0#32)) pads_S1024x8_S1024x128_000_01200 h_S_ := by
  show StableHlo.after (hostOps0 ++ (hostOps0_1 ++ hostOps0_2)) (fun b => m (c, b)) (Proc.tc.devRef main_v0) = _
  simp only [hostOps0, hostOps0_1, hostOps0_2, List.cons_append, List.nil_append]
  after_results
  rfl

theorem entry_wg (c : Dev nD) : V m c main_v2 = aWg m c := by
  show StableHlo.after (hostOps0 ++ (hostOps0_1 ++ hostOps0_2)) (fun b => m (c, b)) (Proc.tc.devRef main_v2) = _
  simp only [hostOps0, hostOps0_1, hostOps0_2, List.cons_append, List.nil_append]
  after_results
  rfl

theorem entry_wu (c : Dev nD) : V m c main_v3 = aWu m c := by
  show StableHlo.after (hostOps0 ++ (hostOps0_1 ++ hostOps0_2)) (fun b => m (c, b)) (Proc.tc.devRef main_v3) = _
  simp only [hostOps0, hostOps0_1, hostOps0_2, List.cons_append, List.nil_append]
  after_results
  rfl

theorem entry_wd (c : Dev nD) : V m c main_v4 = aWd m c := by
  show StableHlo.after (hostOps0 ++ (hostOps0_1 ++ hostOps0_2)) (fun b => m (c, b)) (Proc.tc.devRef main_v4) = _
  simp only [hostOps0, hostOps0_1, hostOps0_2, List.cons_append, List.nil_append]
  after_results
  rfl

theorem hid_point (c : Dev nD) (t : Fin cfg0.N) (y : S256x1024.Idx) :
    k0_pay3 (F := Ideal) (iblk m c 0 t) (iblk m c 1 t) (iblk m c 2 t) (iblk m c 3 t) y = HID m c (ix3 (bat t) (row t (y 0)) (y 1)) := by
  simp only [HID, Cert.CtxMoeRefIdeal.Read.val_main_cst_apply, Cert.CtxMoeRefIdeal.Read.val_main_v0_apply, Cert.CtxMoeRefIdeal.Read.val_main_v1_apply,
    Cert.CtxMoeRefIdeal.Read.val_main_v2_apply, Cert.CtxMoeRefIdeal.Read.val_main_v3_apply, Cert.CtxMoeRefIdeal.Read.val_main_v4_apply,
    Cert.CtxMoeRefIdeal.Read.val_main_v5_apply, Cert.CtxMoeRefIdeal.Read.val_main_v6_apply, Cert.CtxMoeRefIdeal.Read.val_main_v7_apply,
    Cert.CtxMoeRefIdeal.Read.val_main_v8_apply, Cert.CtxMoeRefIdeal.Read.val_main_v9_apply, Cert.CtxMoeRefIdeal.Read.val_main_v10_apply,
    Cert.CtxMoeRefIdeal.Read.val_main_v11_apply, Cert.CtxMoeRefIdeal.Read.val_main_v12_apply, Cert.CtxMoeRefIdeal.Read.val_main_v13_apply,
    Cert.CtxMoeRefIdeal.Read.val_main_v14_apply, Cert.CtxMoeRefIdeal.Read.val_main_v15_apply, Cert.CtxMoeRefIdeal.Read.val_main_v16_apply,
    Cert.CtxMoeRefIdeal.Read.val_main_v17_apply, Cert.CtxMoeRefIdeal.Read.val_main_v18_apply, Cert.CtxMoeRefIdeal.Read.val_main_cst_0_apply,
    Cert.CtxMoeRefIdeal.Read.val_main_cst_1_apply, Cert.CtxMoeRefIdeal.Read.val_main_cst_2_apply]
  pointwise [k0_pay3]
  blk_point [iblk, V, idx t]
  rw [entry_gain]
  generalize aG m c = g
  pointwise
  blk_point [idx t]

/-- The router's block on the first eight lanes. -/
theorem router_point (c : Dev nD) (t : Fin cfg0.N) (k : Fin 1024) (e : Fin 8) :
    (iblk m c 5 t : FVec Ideal S1024x128 .f32) (ix2 k (lane e)) = aRouter m c (ix2 k e) := by
  show V m c main_v0 ((win0_5.blk t).view.emb (ix2 k (lane e))) = _
  have q : (win0_5.blk t).view.emb (ix2 k (lane e)) = ix2 k (lane e) := by blk_ext [idx t]
  rw [q, entry_router]
  generalize aRouter m c = g
  pointwise

/-- A logit of the router. -/
def LOGIT (c : Dev nD) (b : Fin 4) (r : Fin 256) (e : Fin 8) : EReal := ∑ k : Fin 1024, HID m c (ix3 b r k) * aRouter m c (ix2 k e)

variable {m}

theorem Reals.hid {c : Dev nD} (R : Reals m c) (b : Fin 4) (r : Fin 256) (d : Fin 1024) : Fin' (HID m c (ix3 b r d)) :=
  hid_fin _ _ _ _ R.x R.g R.sh R.sc b r d

theorem Reals.logit {c : Dev nD} (R : Reals m c) (b : Fin 4) (r : Fin 256) (e : Fin 8) : Fin' (LOGIT m c b r e) :=
  logit_fin _ _ _ _ _ R.x R.g R.sh R.sc R.w b r e

/-- Split products whose low halves vanish are the logits, the lanes past the experts masked. -/
theorem wide_logits (a b : FVec Ideal S256x1024 .bf16) (u v : FVec Ideal S1024x128 .bf16) (r : Fin 256) (H : Fin 1024 → EReal) (w : Fin 1024 → Fin 8 → EReal)
    (ha : ∀ k, a (ix2 r k) = H k) (hb : ∀ k, b (ix2 r k) = 0) (hu : ∀ k e, u (ix2 k (lane e)) = w k e) (hv : ∀ k e, v (ix2 k (lane e)) = 0) (k : Fin 128) :
    k0_pay10 (F := Ideal) a b u v (ix2 r k) = Wide (fun e => ∑ k, H k * w k e) k := by
  pointwise [k0_pay10]
  rw [mask_bot]
  by_cases h : k.val < 8
  · obtain ⟨e, rfl⟩ : ∃ e, k = lane e := ⟨⟨k.val, h⟩, rfl⟩
    rw [wide_lane]
    simp only [ha, hb, hu, hv, zero_mul, mul_zero, Finset.sum_const_zero, add_zero]
    have : IntOp.cmpi CmpIPredicate.slt (BitVec.ofNat 32 (lane e).val) 8#32 = 1#1 := by revert e; decide
    rw [this]; rfl
  · have e : IntOp.cmpi CmpIPredicate.slt (BitVec.ofNat 32 k.val) 8#32 = 0#1 := by revert k; decide
    rw [e, Wide, dif_neg h]
    rfl

/-- The gates the first point stores are the reference program's. -/
theorem gate_point {c : Dev nD} (R : Reals m c) (t : Fin cfg0.N) (r : Fin 256) (e : Fin 8) :
    GATES (iblk m c 0 t) (iblk m c 1 t) (iblk m c 2 t) (iblk m c 3 t) (iblk m c 5 t) (ix2 r (lane e))
      = Cert.CtxMoeRefIdeal.Read.val_main_v35 (F := Ideal) (aX m c) (aG m c) (aShift m c) (aScale m c) (aRouter m c) (ix3 (bat t) (row t r) e) := by
  obtain ⟨i, j, T⟩ := exists_two (LOGIT m c (bat t) (row t r)) 0 1 (by decide)
  rw [ref_gates _ _ _ _ _ (bat t) (row t r) (LOGIT m c (bat t) (row t r)) (R.logit _ _) (logit_ref _ _ _ _ _ _ _) i j T e]
  have hp := hid_point m c t
  have hr := router_point m c t
  unfold GATES
  refine gates_row _ _ _ _ _ (fun k => ?_) i j T r (fun k => ?_) e
  · obtain ⟨z, hz⟩ := R.logit (bat t) (row t r) k
    rw [hz]; exact EReal.coe_ne_bot z
  · refine wide_logits _ _ _ _ r (fun k => HID m c (ix3 (bat t) (row t r) k)) (fun k e => aRouter m c (ix2 k e)) (fun k => ?_) (fun k => ?_) (fun k e => ?_) (fun k e => ?_) k
    · exact hp (ix2 r k)
    · have h : k0_pay7 (F := Ideal) (iblk m c 0 t) (iblk m c 1 t) (iblk m c 2 t) (iblk m c 3 t) (ix2 r k)
          = k0_pay3 (F := Ideal) (iblk m c 0 t) (iblk m c 1 t) (iblk m c 2 t) (iblk m c 3 t) (ix2 r k)
            - k0_pay3 (F := Ideal) (iblk m c 0 t) (iblk m c 1 t) (iblk m c 2 t) (iblk m c 3 t) (ix2 r k) := rfl
      rw [h, hp (ix2 r k)]
      exact sub_self' (R.hid _ _ _)
    · pointwise [k0_pay8, k0_pay5]
      exact hr k e
    · pointwise [k0_pay9, k0_pay8, k0_pay5]
      rw [hr k e]
      exact sub_self' (R.w _)

end Cert.CtxMoeProof

end
-- ==== Proof.CtxMoeValue.lean ====
/-
  The value of the expert kernel: a run of sixteen points visits the eight experts, each in two halves of its inner width; the
  accumulator holds the router-weighted sum of what has been visited, and the last point stores the reference program's rows.
-/
module

public import proofs.«01_k».proof.Proof.CtxMoeBlocks

@[expose] public section

set_option maxRecDepth 16384

noncomputable section

open Idealize.ShloMosaic Idealize.ShloMosaic.TcCoe Idealize.SL.Sem
open Idealize.ShloMosaic.Pipeline (Dat)

namespace Cert.CtxMoeProof

open Cert.CtxMoeIdeal Cert.CtxMoeIdeal.Gen Cert.TopTwo

variable (m : (ℓ : Loc nD τ sig) → Buf (Elt Ideal) ℓ)

/-- A finite factor that is not negative goes through a sum. -/
theorem weight_sum {n : Nat} (w : EReal) (h0 : 0 ≤ w) (h1 : w ≠ ⊤) (g : Fin n → EReal) : w * ∑ k, g k = ∑ k, w * g k := by
  induction n with
  | zero => simp
  | succ n ih => rw [Fin.sum_univ_succ, Fin.sum_univ_succ, EReal.left_distrib_of_nonneg_of_ne_top h0 h1, ih]

/-- A softmax weight of two reals is finite and not negative. -/
theorem weight_ok (f : Fin 8 → EReal) (hf : ∀ k, Fin' (f k)) (i j e : Fin 8) : 0 ≤ WEIGHT f i j e ∧ WEIGHT f i j e ≠ ⊤ := by
  obtain ⟨p, hp⟩ := hf i
  obtain ⟨q, hq⟩ := hf j
  have pos : (0 : ℝ) < 1 + Real.exp (q - p) := by positivity
  unfold WEIGHT
  rw [hp, hq, ← EReal.coe_sub, Ideal.exp_coe, show (1 : EReal) + (Real.exp (q - p) : EReal) = ((1 + Real.exp (q - p) : ℝ) : EReal) from rfl,
    Ideal.div_coe pos.ne', one_mul, ← EReal.coe_mul]
  split
  · exact ⟨EReal.coe_nonneg.mpr (by positivity), EReal.coe_ne_top _⟩
  · split
    · exact ⟨EReal.coe_nonneg.mpr (by positivity), EReal.coe_ne_top _⟩
    · exact ⟨le_rfl, EReal.zero_ne_top⟩

/-- The gate of the reference program at a row and an expert. -/
def GREF (c : Dev nD) (b : Fin 4) (r : Fin 256) (e : Fin 8) : EReal :=
  Cert.CtxMoeRefIdeal.Read.val_main_v35 (F := Ideal) (aX m c) (aG m c) (aShift m c) (aScale m c) (aRouter m c) (ix3 b r e)

/-- What one half of an expert's inner width adds to a row. -/
def PART (c : Dev nD) (b : Fin 4) (r : Fin 256) (d : Fin 1024) (e : Fin 8) (u : Fin 2) : EReal :=
  ∑ f : Fin 1792, PROD (HID m c) (aWg m c) (aWu m c) (aWd m c) e b r d ⟨u.val * 1792 + f.val, by omega⟩

/-- The reference program's whole result. -/
abbrev REF (c : Dev nD) : FVec Ideal S4x256x1024 .f32 :=
  Cert.CtxMoeRefIdeal.Read.val_main_v159 (F := Ideal) (aX m c) (aG m c) (aShift m c) (aScale m c) (aGate m c) (aRouter m c) (aWg m c) (aWu m c) (aWd m c)

/-- Expert of a grid point. -/
abbrev exp_ (t : Fin cfg0.N) : Fin 8 := ⟨t.val / 2 % 8, by omega⟩
/-- Half of a grid point. -/
abbrev half (t : Fin cfg0.N) : Fin 2 := ⟨t.val % 2, by omega⟩

variable {m}

theorem gref_ok {c : Dev nD} (R : Reals m c) (b : Fin 4) (r : Fin 256) (e : Fin 8) : 0 ≤ GREF m c b r e ∧ GREF m c b r e ≠ ⊤ := by
  obtain ⟨i, j, T⟩ := exists_two (LOGIT m c b r) 0 1 (by decide)
  rw [GREF, ref_gates _ _ _ _ _ b r (LOGIT m c b r) (R.logit _ _) (logit_ref _ _ _ _ _ _ _) i j T e]
  exact weight_ok _ (R.logit _ _) i j e

/-- The gate a point picks from the stored row. -/
theorem pick (t : Fin cfg0.N) (g : Fin 128 → EReal) :
    ∑ x : Fin 128, Scalar.select (IntOp.cmpi CmpIPredicate.eq (BitVec.ofNat 32 x.val) (BitVec.ofNat 32 (grid0.coords t 2).val)) (g x) (0 : EReal) = g (lane (exp_ t)) := by
  have e : ∀ x : Fin 128, Scalar.select (IntOp.cmpi CmpIPredicate.eq (BitVec.ofNat 32 x.val) (BitVec.ofNat 32 (grid0.coords t 2).val)) (g x) (0 : EReal)
      = if x = lane (exp_ t) then g x else 0 := by
    intro x
    rw [show (grid0.coords t 2).val = (exp_ t).val from coord t]
    exact select_eq x (exp_ t) _ _
  simp only [e]
  rw [Finset.sum_ite_eq' Finset.univ (lane (exp_ t)) g]
  simp

theorem wg_point (c : Dev nD) (t : Fin cfg0.N) (k : Fin 1024) (f : Fin 1792) :
    (iblk m c 6 t : FVec Ideal S1x1024x1792 .bf16) (ix3 0 k f) = aWg m c (ix3 (exp_ t) k ⟨t.val % 2 * 1792 + f.val, by omega⟩) := by
  show V m c main_v2 ((win0_6.blk t).view.emb (ix3 0 k f)) = _
  rw [entry_wg]
  blk_ext [idx t]

theorem wu_point (c : Dev nD) (t : Fin cfg0.N) (k : Fin 1024) (f : Fin 1792) :
    (iblk m c 7 t : FVec Ideal S1x1024x1792 .bf16) (ix3 0 k f) = aWu m c (ix3 (exp_ t) k ⟨t.val % 2 * 1792 + f.val, by omega⟩) := by
  show V m c main_v3 ((win0_7.blk t).view.emb (ix3 0 k f)) = _
  rw [entry_wu]
  blk_ext [idx t]

theorem wd_point (c : Dev nD) (t : Fin cfg0.N) (f : Fin 1792) (d : Fin 1024) :
    (iblk m c 8 t : FVec Ideal S1x1792x1024 .bf16) (ix3 0 f d) = aWd m c (ix3 (exp_ t) ⟨t.val % 2 * 1792 + f.val, by omega⟩ d) := by
  show V m c main_v4 ((win0_8.blk t).view.emb (ix3 0 f d)) = _
  rw [entry_wd]
  blk_ext [idx t]

/-- One point: the accumulator grows by its expert's half, weighted by its gate. -/
theorem act_point {c : Dev nD} (R : Reals m c) (t : Fin cfg0.N) (h : FVec Ideal S256x1024 .bf16) (g : FVec Ideal S256x128 .f32)
    (hh : ∀ y : S256x1024.Idx, h y = HID m c (ix3 (bat t) (row t (y 0)) (y 1)))
    (hg : ∀ (r : Fin 256) (e : Fin 8), g (ix2 r (lane e)) = GREF m c (bat t) (row t r) e)
    (acc : FVec Ideal S256x1024 .f32) (y : S256x1024.Idx) :
    k0_pay1 (F := Ideal) acc (k0_pay21 (F := Ideal) (grid0.coords t) h g (iblk m c 6 t) (iblk m c 7 t)) (iblk m c 8 t) y
      = acc y + GREF m c (bat t) (row t (y 0)) (exp_ t) * PART m c (bat t) (row t (y 0)) (y 1) (exp_ t) (half t) := by
  have ok := gref_ok R (bat t) (row t (y 0)) (exp_ t)
  have hg' := hg (y 0) (exp_ t)
  obtain rfl : h = _ := funext hh
  unfold PART
  rw [weight_sum _ ok.1 ok.2, ← hg']
  generalize HID m c = H
  unfold PROD
  pointwise [k0_pay1, k0_pay21]
  have w1 := wg_point (m := m) c t
  have w2 := wu_point (m := m) c t
  have w3 := wd_point (m := m) c t
  generalize (iblk m c 6 t : FVec Ideal S1x1024x1792 .bf16) = b6 at *
  generalize (iblk m c 7 t : FVec Ideal S1x1024x1792 .bf16) = b7 at *
  generalize (iblk m c 8 t : FVec Ideal S1x1792x1024 .bf16) = b8 at *
  have q := pick t (fun x => g (ix2 (y 0) x))
  rw [q]
  generalize g (ix2 (y 0) (lane (exp_ t))) = G
  have e : ∀ a w : EReal, a * G * w = G * (a * w) := fun a w => by rw [mul_comm a G, mul_assoc]
  simp only [zero_sub, e, w1, w2]
  exact congrArg (acc y + ·) (Finset.sum_congr rfl fun x _ => congrArg (G * ·) (congrArg (_ * ·) (w3 x (y 1))))

/-- The sum over a run's points up to the `s`-th of what each adds. -/
def UPTO (c : Dev nD) (b : Fin 4) (r : Fin 256) (d : Fin 1024) (s : Nat) : EReal :=
  ∑ k ∈ Finset.range s, GREF m c b r ⟨k / 2 % 8, by omega⟩ * PART m c b r d ⟨k / 2 % 8, by omega⟩ ⟨k % 2, by omega⟩

theorem weight_add (w : EReal) (h0 : 0 ≤ w) (h1 : w ≠ ⊤) (a b : EReal) : w * a + w * b = w * (a + b) :=
  (EReal.left_distrib_of_nonneg_of_ne_top h0 h1 a b).symm

/-- The whole inner width is the first half and the second. -/
theorem halves (T : Fin 3584 → EReal) :
    ∑ f : Fin 3584, T f = (∑ f : Fin 1792, T ⟨0 * 1792 + f.val, by omega⟩) + ∑ f : Fin 1792, T ⟨1 * 1792 + f.val, by omega⟩ := by
  rw [show (∑ f : Fin 3584, T f) = ∑ f : Fin (1792 + 1792), T f from rfl, Fin.sum_univ_add]
  refine congrArg₂ (· + ·) (Finset.sum_congr rfl fun f _ => congrArg T (Fin.ext ?_)) (Finset.sum_congr rfl fun f _ => congrArg T (Fin.ext ?_))
  · show f.val = 0 * 1792 + f.val
    omega
  · show 1792 + f.val = 1 * 1792 + f.val
    omega

/-- Over the sixteen points of a run every expert is added whole. -/
theorem upto_all {c : Dev nD} (R : Reals m c) (b : Fin 4) (r : Fin 256) (d : Fin 1024) :
    UPTO (m := m) c b r d 16 = ∑ e : Fin 8, GREF m c b r e * ∑ f : Fin 3584, PROD (HID m c) (aWg m c) (aWu m c) (aWd m c) e b r d f := by
  have one : ∀ e : Fin 8, GREF m c b r e * ∑ f : Fin 3584, PROD (HID m c) (aWg m c) (aWu m c) (aWd m c) e b r d f
      = GREF m c b r e * PART m c b r d e 0 + GREF m c b r e * PART m c b r d e 1 := by
    intro e
    have ok := gref_ok R b r e
    rw [weight_add _ ok.1 ok.2, halves]
    rfl
  simp only [one, Fin.sum_univ_eight]
  unfold UPTO
  generalize GREF m c b r = G
  generalize PART m c b r d = P
  simp only [Finset.sum_range_succ, Finset.sum_range_zero, zero_add]
  simp only [← add_assoc]
  rfl

/-- What a run keeps after its point `s`, for batch `b` and the rows `q`: the hidden rows, the gates and the accumulator. -/
structure Kept (c : Dev nD) (b : Fin 4) (q : Fin 256 → Fin 256) (s : Nat) (h : FVec Ideal S256x1024 .bf16) (g : FVec Ideal S256x128 .f32)
    (a : FVec Ideal S256x1024 .f32) : Prop where
  hid : ∀ y : S256x1024.Idx, h y = HID m c (ix3 b (q (y 0)) (y 1))
  gate : ∀ (r : Fin 256) (e : Fin 8), g (ix2 r (lane e)) = GREF m c b (q r) e
  acc : ∀ y : S256x1024.Idx, a y = UPTO (m := m) c b (q (y 0)) (y 1) (s + 1)

/-- What the point before kept, with this point's batch and rows: they are the same within a run. -/
theorem kept_prev {c : Dev nD} {s : Nat} (hs : s < 15) (t : Fin cfg0.N) (n0 : ¬t.val % 16 = 0) {h : FVec Ideal S256x1024 .bf16}
    {g : FVec Ideal S256x128 .f32} {a : FVec Ideal S256x1024 .f32}
    (k : Kept (m := m) c (bat ⟨t.val - 1, by have := lt_of t; omega⟩) (row ⟨t.val - 1, by have := lt_of t; omega⟩) s h g a) :
    Kept (m := m) c (bat t) (row t) s h g a := by
  have tl := lt_of t
  have e1 : bat ⟨t.val - 1, by omega⟩ = bat t := Fin.ext (by show (t.val - 1) / 16 = t.val / 16; omega)
  have e2 : row ⟨t.val - 1, by omega⟩ = row t := funext fun r => Fin.ext (by
    show (t.val - 1) / 16 % 1 * 256 + r.val = t.val / 16 % 1 * 256 + r.val
    omega)
  exact e1 ▸ e2 ▸ k

/-- The state of a run after its point `s`. -/
theorem state {c : Dev nD} (R : Reals m c) : ∀ (s : Nat) (hs : s < 15) (t : Fin cfg0.N), t.val % 16 = s →
    Kept (m := m) c (bat t) (row t) s (outsAt0 m c t.val t.isLt).2.1 (outsAt0 m c t.val t.isLt).2.2.2 (outsAt0 m c t.val t.isLt).2.2.1 := by
  intro s
  induction s with
  | zero =>
    intro hs t ht
    have n1 : ¬t.val % 16 = 15 := by omega
    have hid : ∀ y : S256x1024.Idx, k0_pay4 (F := Ideal) (iblk m c 0 t) (iblk m c 1 t) (iblk m c 2 t) (iblk m c 3 t) y
        = HID m c (ix3 (bat t) (row t (y 0)) (y 1)) := fun y => by
      rw [← hid_point m c t y]
      pointwise [k0_pay4]
    have gate := gate_point R t
    have acc := act_point R t _ _ hid gate (k0_pay20 (F := Ideal))
    rw [← first_acc m c t ht n1] at acc
    rw [← first_hid m c t ht n1] at hid
    refine ⟨hid, fun r e => ?_, fun y => ?_⟩
    · rw [first_gates m c t ht n1]
      exact gate r e
    · rw [acc y]
      have z : k0_pay20 (F := Ideal) y = 0 := by pointwise [k0_pay20]
      rw [z, zero_add]
      unfold UPTO
      rw [Finset.sum_range_one]
      have q1 : exp_ t = ⟨0 / 2 % 8, by omega⟩ := Fin.ext (by show t.val / 2 % 8 = 0 / 2 % 8; omega)
      have q2 : half t = ⟨0 % 2, by omega⟩ := Fin.ext (by show t.val % 2 = 0 % 2; omega)
      rw [q1, q2]
  | succ s ih =>
    intro hs t ht
    have tl := lt_of t
    have n0 : ¬t.val % 16 = 0 := by omega
    have n1 : ¬t.val % 16 = 15 := by omega
    have prev := kept_prev (s := s) (by omega) t n0 (ih (by omega) ⟨t.val - 1, by omega⟩ (by show (t.val - 1) % 16 = s; omega))
    obtain ⟨hid, gate, acc⟩ := prev
    have step := act_point R t _ _ hid gate (outsAt0 m c (t.val - 1) (by omega)).2.2.1
    rw [← mid_acc m c t n0 n1] at step
    refine ⟨fun y => ?_, fun r e => ?_, fun y => ?_⟩
    · rw [mid_hid m c t n0 n1]
      exact hid y
    · rw [mid_gates m c t n0 n1]
      exact gate r e
    · rw [step y, acc y]
      have q1 : exp_ t = ⟨(s + 1) / 2 % 8, by omega⟩ := Fin.ext (by show t.val / 2 % 8 = (s + 1) / 2 % 8; omega)
      have q2 : half t = ⟨(s + 1) % 2, by omega⟩ := Fin.ext (by show t.val % 2 = (s + 1) % 2; omega)
      rw [q1, q2]
      unfold UPTO
      rw [Finset.sum_range_succ _ (s + 1)]

/-- A run's last point stores the reference program's rows. -/
theorem flush_point {c : Dev nD} (R : Reals m c) (t : Fin cfg0.N) (h1 : t.val % 16 = 15) (y : S1x256x1024.Idx) :
    (outsAt0 m c t.val t.isLt).1 y = REF m c (((cfg0.win 9).blk t).view.emb y) := by
  have tl := lt_of t
  have n0 : ¬t.val % 16 = 0 := by omega
  rw [last_out m c t n0 h1]
  have prev := kept_prev (s := 14) (by omega) t n0 (state R 14 (by omega) ⟨t.val - 1, by omega⟩ (by show (t.val - 1) % 16 = 14; omega))
  obtain ⟨hid, gate, acc⟩ := prev
  have step := act_point R t _ _ hid gate (outsAt0 m c (t.val - 1) (by omega)).2.2.1
  have tot : ∀ w : S256x1024.Idx, k0_pay1 (F := Ideal) (outsAt0 m c (t.val - 1) (by omega)).2.2.1
        (k0_pay21 (F := Ideal) (grid0.coords t) (outsAt0 m c (t.val - 1) (by omega)).2.1 (outsAt0 m c (t.val - 1) (by omega)).2.2.2
          (iblk m c 6 t) (iblk m c 7 t)) (iblk m c 8 t) w
      = ∑ e : Fin 8, GREF m c (bat t) (row t (w 0)) e * ∑ f : Fin 3584, PROD (HID m c) (aWg m c) (aWu m c) (aWd m c) e (bat t) (row t (w 0)) (w 1) f := by
    intro w
    refine Eq.trans ?_ (upto_all R (bat t) (row t (w 0)) (w 1))
    rw [step w, acc w]
    have q1 : exp_ t = ⟨15 / 2 % 8, by omega⟩ := Fin.ext (by show t.val / 2 % 8 = 15 / 2 % 8; omega)
    have q2 : half t = ⟨15 % 2, by omega⟩ := Fin.ext (by show t.val % 2 = 15 % 2; omega)
    rw [q1, q2]
    unfold UPTO
    rw [Finset.sum_range_succ _ 15]
  generalize k0_pay1 (F := Ideal) (outsAt0 m c (t.val - 1) (by omega)).2.2.1
        (k0_pay21 (F := Ideal) (grid0.coords t) (outsAt0 m c (t.val - 1) (by omega)).2.1 (outsAt0 m c (t.val - 1) (by omega)).2.2.2
          (iblk m c 6 t) (iblk m c 7 t)) (iblk m c 8 t) = A at tot ⊢
  have q : ((cfg0.win 9).blk t).view.emb y = ix3 (bat t) (row t (y 1)) (y 2) := by blk_ext [idx t]
  rw [q]
  refine Eq.trans ?_ (ref_point _ _ _ _ _ _ _ _ _ _ _ _).symm
  refine Eq.trans ?_ (congrArg (fun z => aX m c (ix3 (bat t) (row t (y 1)) (y 2)) + aGate m c (ix3 (bat t) 0 (y 2)) * z) (tot (ix2 (y 1) (y 2))))
  pointwise [k0_pay2]
  blk_point [iblk, V, idx t]

theorem final {c : Dev nD} (R : Reals m c) : (dats m 0 c).arrAt 9 cfg0.N = REF m c := by
  refine (dats m 0 c).arrAt_eq_of_covers 9 _ (by decide +kernel) fun t ht y => ?_
  blk_simp
  rw [after0_9]
  exact flush_point R t ((flush0_9 t).mp ht) y

end Cert.CtxMoeProof

end
-- ==== Proof.CtxMoeClaims.lean ====
/-
  The claim about the value of the routed mixture-of-experts sub-layer, for finite activations, gain, modulation and router.
-/
module

public import proofs.«01_k».proof.Defs
public import proofs.«01_k».proof.Proof.Gen.Pre_ctx_finite
public import proofs.«01_k».proof.Proof.Gen.CtxMoeIdeal.Value
public import proofs.«01_k».proof.Proof.Gen.CtxMoeRefIdeal.Run
public import proofs.«01_k».proof.Proof.Gen.CtxMoeRefIdeal.Read
public import proofs.«01_k».proof.Proof.CtxMoeValue
public import Idealize.ShloMosaic.Lib.ReduceAll
public import Idealize.ShloMosaic.Adequacy
public import Idealize.ShloMosaic.Init

@[expose] public section

set_option maxRecDepth 16384

noncomputable section

open Idealize.ShloMosaic Idealize.ShloMosaic.TcCoe Idealize.SL.Sem

namespace Cert.CtxMoeClaims

/-- An extended real whose absolute value is below the positive infinity of the 32-bit format is a real. -/
theorem real_of_abs (x : Ideal .f32) (h : FloatOps.cmpf .olt (FloatOps.hostAbsf x) (FloatOps.ofBits (F := Ideal) .f32 0x7F800000#32) = 1#1) :
    Cert.CtxMoeProof.Fin' x := by
  have top : FloatOps.ofBits (F := Ideal) .f32 0x7F800000#32 = (⊤ : EReal) := by
    simp [FloatOps.ofBits, FloatOps.scalar, Ideal.ofBits, Ideal.ieee]
  rw [top] at h
  induction x using EReal.rec with
  | bot => exact absurd h (by simp [FloatOps.cmpf, FloatOps.hostAbsf, FloatOps.scalar, Ideal.cmp])
  | coe r => exact ⟨r, rfl⟩
  | top => exact absurd h (by simp [FloatOps.cmpf, FloatOps.hostAbsf, FloatOps.scalar, Ideal.cmp])

instance : Subsingleton Cert.Pre_ctx_finite.S_.Idx := ⟨fun a b => funext fun d => d.elim0⟩

/-- What the precondition says of the arguments. -/
theorem reals {m : (ℓ : Loc Cert.CtxMoeIdeal.nD Cert.CtxMoeIdeal.τ Cert.CtxMoeIdeal.sig) → Buf (Elt Ideal) ℓ} (h : Cert.Pre_CtxMoeIdeal_ctx_finite m)
    (c : Dev Cert.CtxMoeIdeal.nD) : Cert.CtxMoeProof.Reals m c := by
  have g := congrFun (h c) (fun d => d.elim0)
  dsimp only [Cert.Pre_ctx_finite.fn, Cert.Pre_ctx_finite.fn_part1] at g
  obtain ⟨g, h5⟩ := IntOp.andi_eq_one.1 g
  obtain ⟨g, h3⟩ := IntOp.andi_eq_one.1 g
  obtain ⟨g, h2⟩ := IntOp.andi_eq_one.1 g
  obtain ⟨h0, h1⟩ := IntOp.andi_eq_one.1 g
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h5 i)⟩

/-- The reference program's result from memories that agree with the kernel's on the arguments. -/
theorem agree (x0 y0 : FVec Ideal Cert.CtxMoeRefIdeal.S4x256x1024 .f32) (x1 y1 : FVec Ideal Cert.CtxMoeRefIdeal.S1024 .f32)
    (x2 y2 x3 y3 x4 y4 : FVec Ideal Cert.CtxMoeRefIdeal.S4x1x1024 .f32) (x5 y5 : FVec Ideal Cert.CtxMoeRefIdeal.S1024x8 .f32)
    (x6 y6 x7 y7 : FVec Ideal Cert.CtxMoeRefIdeal.S8x1024x3584 .f32) (x8 y8 : FVec Ideal Cert.CtxMoeRefIdeal.S8x3584x1024 .f32)
    (h : x0 = y0 ∧ x1 = y1 ∧ x2 = y2 ∧ x3 = y3 ∧ x4 = y4 ∧ x5 = y5 ∧ x6 = y6 ∧ x7 = y7 ∧ x8 = y8) :
    Cert.CtxMoeRefIdeal.Read.val_main_v159 (F := Ideal) x0 x1 x2 x3 x4 x5 x6 x7 x8
      = Cert.CtxMoeRefIdeal.Read.val_main_v159 (F := Ideal) y0 y1 y2 y3 y4 y5 y6 y7 y8 := by
  obtain ⟨e0, e1, e2, e3, e4, e5, e6, e7, e8⟩ := h
  rw [e0, e1, e2, e3, e4, e5, e6, e7, e8]

/-- At the ideal instance the kernel's result array and the reference program's are one function of the arguments. -/
theorem algebraic : Cert.algebraic_CtxMoeIdeal_CtxMoeRefIdeal_pre_ctx_finite := by
  intro m ρ m' ρ' pre hagree
  refine ⟨fun c => Cert.CtxMoeProof.REF m c, (θ_run Cert.CtxMoeIdeal.defs _ _).mono
    (fun r h c => ⟨(h c).1.trans (Cert.CtxMoeProof.final (reals pre c)), (h c).2⟩) (Cert.CtxMoeIdeal.Value.run_blocks (F := Ideal) m ρ), ?_⟩
  exact (θ_run Cert.CtxMoeRefIdeal.defs _ _).mono (fun _ h c => ⟨(h c).1.trans
    ((Cert.CtxMoeRefIdeal.Read.val_main_v159_eq _).trans (agree _ _ _ _ _ _ _ _ _ _ _ _ _ _ _ _ _ _ (hagree c))), (h c).2⟩)
    (Cert.CtxMoeRefIdeal.Value.run (F := Ideal) m' ρ')

end Cert.CtxMoeClaims

end
-- ==== Proof.CtxFfnSteps.lean ====
/-
  The dense feed-forward kernel's run of two grid points per row block, as payloads of the input blocks: the first point stores the
  hidden rows and starts the sum, the second adds its half of the inner width and writes the row block.
-/
module

public import proofs.«01_k».proof.Proof.Gen.CtxFfnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CtxFfnProof

open Cert.CtxFfnIdeal Cert.CtxFfnIdeal.Gen

variable (m : (ℓ : Loc nD τ sig) → Buf (Elt Ideal) ℓ)

theorem first_hid (c : Dev nD) (t : Fin cfg0.N) (h0 : t.val % 2 = 0) (h1 : ¬t.val % 2 = 1) :
    (outsAt0 m c t.val t.isLt).2.1 = k0_pay1 (F := Ideal) (iblk m c 0 t) (iblk m c 1 t) (iblk m c 2 t) (iblk m c 3 t) := by
  rw [outsAt0_A m c t h0 h1]; frame_out

theorem first_acc (c : Dev nD) (t : Fin cfg0.N) (h0 : t.val % 2 = 0) (h1 : ¬t.val % 2 = 1) :
    (outsAt0 m c t.val t.isLt).2.2 = k0_pay3 (F := Ideal) (k0_pay1 (F := Ideal) (iblk m c 0 t) (iblk m c 1 t) (iblk m c 2 t) (iblk m c 3 t))
      (iblk m c 5 t) (iblk m c 6 t) (k0_pay2 (F := Ideal)) (iblk m c 7 t) := by
  rw [outsAt0_A m c t h0 h1]; frame_out

theorem last_out (c : Dev nD) (t : Fin cfg0.N) (h0 : ¬t.val % 2 = 0) (h1 : t.val % 2 = 1) :
    (outsAt0 m c t.val t.isLt).1 = k0_pay4 (F := Ideal) (iblk m c 0 t) (iblk m c 4 t)
      (k0_pay3 (F := Ideal) (outsAt0 m c (t.val - 1) (by omega)).2.1
        (iblk m c 5 t) (iblk m c 6 t) (outsAt0 m c (t.val - 1) (by omega)).2.2 (iblk m c 7 t)) := by
  rw [outsAt0_B m c t h0 h1]; frame_out; simp only [read_unread_whole]

end Cert.CtxFfnProof

end
-- ==== Proof.CtxFfnValue.lean ====
/-
  The dense feed-forward sub-layer: what its kernel leaves in the result array is the plain sub-layer of the argument arrays.
-/
module

public import proofs.«01_k».proof.Proof.CtxFfnSteps
public import proofs.«01_k».proof.Proof.Gen.CtxFfnRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CtxFfnProof

open Cert.CtxFfnIdeal Cert.CtxFfnIdeal.Gen

variable (m : (ℓ : Loc nD τ sig) → Buf (Elt Ideal) ℓ)

/-- Where each window's block of a grid point lies: batch `t / 2`, row block `t / 2 % 1`, half `t % 2` of the inner width. -/
theorem idx : ∀ t : Fin cfg0.N, win0_0.index t = ![t.val / 2, t.val / 2 % 1, 0] ∧ win0_1.index t = ![0, 0]
    ∧ win0_2.index t = ![t.val / 2, 0, 0] ∧ win0_3.index t = ![t.val / 2, 0, 0] ∧ win0_4.index t = ![t.val / 2, 0, 0]
    ∧ win0_5.index t = ![0, t.val % 2] ∧ win0_6.index t = ![0, t.val % 2] ∧ win0_7.index t = ![t.val % 2, 0]
    ∧ win0_8.index t = ![t.val / 2, t.val / 2 % 1, 0] :=
  (by decide +kernel : ∀ t : Fin grid0.N, _)

/-- The arguments of the program, by name. -/
abbrev aX (c : Dev nD) : FVec Ideal S4x256x1024 .f32 := m ((c : Thread nD τ).loc main_arg0)
abbrev aG (c : Dev nD) : FVec Ideal S1024 .f32 := m ((c : Thread nD τ).loc main_arg1)
abbrev aShift (c : Dev nD) : FVec Ideal S4x1x1024 .f32 := m ((c : Thread nD τ).loc main_arg2)
abbrev aScale (c : Dev nD) : FVec Ideal S4x1x1024 .f32 := m ((c : Thread nD τ).loc main_arg3)
abbrev aGate (c : Dev nD) : FVec Ideal S4x1x1024 .f32 := m ((c : Thread nD τ).loc main_arg4)
abbrev aWg (c : Dev nD) : FVec Ideal S1024x2816 .f32 := m ((c : Thread nD τ).loc main_arg5)
abbrev aWu (c : Dev nD) : FVec Ideal S1024x2816 .f32 := m ((c : Thread nD τ).loc main_arg6)
abbrev aWd (c : Dev nD) : FVec Ideal S2816x1024 .f32 := m ((c : Thread nD τ).loc main_arg7)

/-- The hidden rows of the reference program. -/
abbrev HID (c : Dev nD) : FVec Ideal S4x256x1024 .f32 :=
  Cert.CtxFfnRefIdeal.Read.val_main_v18 (F := Ideal) (aX m c) (aG m c) (aShift m c) (aScale m c)

/-- The product of activation and down projection at one inner unit. -/
def TERM (c : Dev nD) (b : Fin 4) (r : Fin 256) (d : Fin 1024) (f : Fin 2816) : EReal :=
  Cert.CtxFfnRefIdeal.Read.val_main_v22 (F := Ideal) (aX m c) (aG m c) (aShift m c) (aScale m c) (aWg m c) (aWu m c) (ix3 b r f)
    * aWd m c (ix2 f d)

/-- The reference program's whole result. -/
abbrev REF (c : Dev nD) : FVec Ideal S4x256x1024 .f32 :=
  Cert.CtxFfnRefIdeal.Read.val_main_v26 (F := Ideal) (aX m c) (aG m c) (aShift m c) (aScale m c) (aGate m c) (aWg m c) (aWu m c) (aWd m c)

theorem lt_of (t : Fin cfg0.N) : t.val < 8 := t.isLt

/-- The hidden rows a run of two points keeps are the reference program's. -/
theorem hid_point (c : Dev nD) (t : Fin cfg0.N) (y : S256x1024.Idx) :
    k0_pay1 (F := Ideal) (iblk m c 0 t) (iblk m c 1 t) (iblk m c 2 t) (iblk m c 3 t) y
      = HID m c (ix3 ⟨t.val / 2, by have := lt_of t; omega⟩ ⟨t.val / 2 % 1 * 256 + (y 0).val, by have : (y 0).val < 256 := (y 0).isLt; omega⟩ (y 1)) := by
  simp only [HID, Cert.CtxFfnRefIdeal.Read.val_main_cst_apply, Cert.CtxFfnRefIdeal.Read.val_main_v0_apply, Cert.CtxFfnRefIdeal.Read.val_main_v1_apply,
    Cert.CtxFfnRefIdeal.Read.val_main_v2_apply, Cert.CtxFfnRefIdeal.Read.val_main_v3_apply, Cert.CtxFfnRefIdeal.Read.val_main_v4_apply,
    Cert.CtxFfnRefIdeal.Read.val_main_v5_apply, Cert.CtxFfnRefIdeal.Read.val_main_v6_apply, Cert.CtxFfnRefIdeal.Read.val_main_v7_apply,
    Cert.CtxFfnRefIdeal.Read.val_main_v8_apply, Cert.CtxFfnRefIdeal.Read.val_main_v9_apply, Cert.CtxFfnRefIdeal.Read.val_main_v10_apply,
    Cert.CtxFfnRefIdeal.Read.val_main_v11_apply, Cert.CtxFfnRefIdeal.Read.val_main_v12_apply, Cert.CtxFfnRefIdeal.Read.val_main_v13_apply,
    Cert.CtxFfnRefIdeal.Read.val_main_v14_apply, Cert.CtxFfnRefIdeal.Read.val_main_v15_apply, Cert.CtxFfnRefIdeal.Read.val_main_v16_apply,
    Cert.CtxFfnRefIdeal.Read.val_main_v17_apply, Cert.CtxFfnRefIdeal.Read.val_main_v18_apply, Cert.CtxFfnRefIdeal.Read.val_main_cst_0_apply,
    Cert.CtxFfnRefIdeal.Read.val_main_cst_1_apply, Cert.CtxFfnRefIdeal.Read.val_main_cst_2_apply]
  pointwise [k0_pay1]
  blk_point [iblk, V, idx t]

theorem act_point (c : Dev nD) (t : Fin cfg0.N) (h : FVec Ideal S256x1024 .bf16)
    (hh : ∀ y : S256x1024.Idx, h y = HID m c (ix3 ⟨t.val / 2, by have := lt_of t; omega⟩ ⟨t.val / 2 % 1 * 256 + (y 0).val, by have : (y 0).val < 256 := (y 0).isLt; omega⟩ (y 1)))
    (acc : FVec Ideal S256x1024 .f32) (y : S256x1024.Idx) :
    k0_pay3 (F := Ideal) h (iblk m c 5 t) (iblk m c 6 t) acc (iblk m c 7 t) y
      = acc y + ∑ f : Fin 1408, TERM m c ⟨t.val / 2, by have := lt_of t; omega⟩ ⟨t.val / 2 % 1 * 256 + (y 0).val, by have : (y 0).val < 256 := (y 0).isLt; omega⟩ (y 1)
          ⟨t.val % 2 * 1408 + f.val, by omega⟩ := by
  obtain rfl : h = _ := funext hh
  simp only [TERM, Cert.CtxFfnRefIdeal.Read.val_main_v22_apply, Cert.CtxFfnRefIdeal.Read.val_main_v21_apply, Cert.CtxFfnRefIdeal.Read.val_main_v20_apply,
    Cert.CtxFfnRefIdeal.Read.val_main_v19_apply, Cert.CtxFfnRefIdeal.Read.val_main_call0_v5_apply, Cert.CtxFfnRefIdeal.Read.val_main_call0_v4_apply,
    Cert.CtxFfnRefIdeal.Read.val_main_call0_v3_apply, Cert.CtxFfnRefIdeal.Read.val_main_call0_v2_apply, Cert.CtxFfnRefIdeal.Read.val_main_call0_v1_apply,
    Cert.CtxFfnRefIdeal.Read.val_main_call0_v0_apply, Cert.CtxFfnRefIdeal.Read.val_main_call0_cst_apply, Cert.CtxFfnRefIdeal.Read.val_main_call0_cst_0_apply]
  simp only [HID]
  generalize Cert.CtxFfnRefIdeal.Read.val_main_v18 (F := Ideal) (aX m c) (aG m c) (aShift m c) (aScale m c) = H
  pointwise [k0_pay3]
  simp only [zero_sub]
  blk_point [iblk, V, idx t]

/-- The whole inner width is the first half and the second. -/
theorem halves (T : Fin 2816 → EReal) :
    ∑ f : Fin 2816, T f = (∑ f : Fin 1408, T ⟨0 * 1408 + f.val, by omega⟩) + ∑ f : Fin 1408, T ⟨1 * 1408 + f.val, by omega⟩ := by
  rw [show (∑ f : Fin 2816, T f) = ∑ f : Fin (1408 + 1408), T f from rfl, Fin.sum_univ_add]
  refine congrArg₂ (· + ·) (Finset.sum_congr rfl fun f _ => congrArg T (Fin.ext ?_)) (Finset.sum_congr rfl fun f _ => congrArg T (Fin.ext ?_))
  · show f.val = 0 * 1408 + f.val
    omega
  · show 1408 + f.val = 1 * 1408 + f.val
    omega

theorem flush_point (c : Dev nD) (t : Fin cfg0.N) (h1 : t.val % 2 = 1) (y : S1x256x1024.Idx) :
    (outsAt0 m c t.val t.isLt).1 y = REF m c (((cfg0.win 8).blk t).view.emb y) := by
  have ht := lt_of t
  rw [last_out m c t (by omega) h1]
  have e0 := first_hid m c ⟨t.val - 1, by omega⟩ (by show (t.val - 1) % 2 = 0; omega) (by show ¬(t.val - 1) % 2 = 1; omega)
  have e1 := first_acc m c ⟨t.val - 1, by omega⟩ (by show (t.val - 1) % 2 = 0; omega) (by show ¬(t.val - 1) % 2 = 1; omega)
  have hid := hid_point m c ⟨t.val - 1, by omega⟩
  have acc := act_point m c ⟨t.val - 1, by omega⟩ _ hid (k0_pay2 (F := Ideal))
  rw [← e0] at hid
  rw [← e1] at acc
  generalize (outsAt0 m c (t.val - 1) (by omega)).2.1 = h at hid ⊢
  generalize (outsAt0 m c (t.val - 1) (by omega)).2.2 = a at acc ⊢
  have q1 : (t.val - 1) / 2 = t.val / 2 := by omega
  have q2 : (t.val - 1) / 2 = t.val / 2 := by omega
  have q3 : (t.val - 1) % 2 = 0 := by omega
  simp only [q1, q2, q3] at hid acc
  have tot : ∀ w : S256x1024.Idx, k0_pay3 (F := Ideal) h (iblk m c 5 t) (iblk m c 6 t) a (iblk m c 7 t) w
      = ∑ f : Fin 2816, TERM m c ⟨t.val / 2, by omega⟩ ⟨t.val / 2 % 1 * 256 + (w 0).val, by have : (w 0).val < 256 := (w 0).isLt; omega⟩ (w 1) f := by
    intro w
    rw [act_point m c t h hid a w, acc w, halves]
    have z : k0_pay2 (F := Ideal) w = 0 := by pointwise [k0_pay2]
    simp only [h1, z, zero_add]
  generalize k0_pay3 (F := Ideal) h (iblk m c 5 t) (iblk m c 6 t) a (iblk m c 7 t) = A at tot ⊢
  obtain rfl : A = _ := funext tot
  simp only [REF, Cert.CtxFfnRefIdeal.Read.val_main_v26_apply, Cert.CtxFfnRefIdeal.Read.val_main_v25_apply, Cert.CtxFfnRefIdeal.Read.val_main_v24_apply,
    Cert.CtxFfnRefIdeal.Read.val_main_v23_apply, TERM]
  generalize Cert.CtxFfnRefIdeal.Read.val_main_v22 (F := Ideal) (aX m c) (aG m c) (aShift m c) (aScale m c) (aWg m c) (aWu m c) = A
  pointwise [k0_pay4]
  blk_point [iblk, V, idx t]

theorem final (c : Dev nD) : (dats m 0 c).arrAt 8 cfg0.N = REF m c := by
  refine (dats m 0 c).arrAt_eq_of_covers 8 _ (by decide +kernel) fun t ht y => ?_
  blk_simp
  rw [after0_8]
  exact flush_point m c t ((flush0_8 t).mp ht) y

end Cert.CtxFfnProof

end
-- ==== Proof.CtxFfnClaims.lean ====
/-
  The claims about the dense feed-forward sub-layer.
-/
module

public import proofs.«01_k».proof.Defs
public import proofs.«01_k».proof.Proof.Gen.CtxFfn.Frame
public import proofs.«01_k».proof.Proof.Gen.CtxFfnIdeal.Value
public import proofs.«01_k».proof.Proof.Gen.CtxFfnRefIdeal.Run
public import proofs.«01_k».proof.Proof.Gen.CtxFfnRefIdeal.Read
public import proofs.«01_k».proof.Proof.CtxFfnValue
public import Idealize.ShloMosaic.Adequacy
public import Idealize.ShloMosaic.Init

@[expose] public section

set_option maxRecDepth 16384

noncomputable section

open Idealize.ShloMosaic Idealize.ShloMosaic.TcCoe Idealize.SL.Sem

namespace Cert.CtxFfnClaims

theorem frame_p : Cert.quiescent_CtxFfn := fun m ρ _ => Cert.CtxFfn.Gen.frame m ρ

theorem frame_pi : Cert.quiescent_CtxFfnIdeal := fun m ρ _ => Cert.CtxFfnIdeal.Gen.frame m ρ

theorem frame_ri : Cert.quiescent_CtxFfnRefIdeal := fun m ρ _ => (θ_run Cert.CtxFfnRefIdeal.defs _ _).mono (fun r h => ⟨fun c => (h c).2,
      Idealize.ShloMosaic.sem_eq_zero_of_no_sems (by decide) r.2⟩) (Cert.CtxFfnRefIdeal.Value.run (F := Ideal) m ρ)

theorem preserves : Cert.preserves_CtxFfn_CtxFfnIdeal := trivial

/-- At the ideal instance the kernel's result array and the reference program's are one function of the arguments. -/
theorem algebraic : Cert.algebraic_CtxFfnIdeal_CtxFfnRefIdeal := by
  intro m ρ m' ρ' _ hagree
  refine ⟨fun c => Cert.CtxFfnProof.REF m c, (θ_run Cert.CtxFfnIdeal.defs _ _).mono (fun r h c => ⟨(h c).1.trans (Cert.CtxFfnProof.final m c), (h c).2⟩)
    (Cert.CtxFfnIdeal.Value.run_blocks (F := Ideal) m ρ), ?_⟩
  refine (θ_run Cert.CtxFfnRefIdeal.defs _ _).mono (fun _ h c => ⟨(h c).1.trans ?_, (h c).2⟩)
    (Cert.CtxFfnRefIdeal.Value.run (F := Ideal) m' ρ')
  obtain ⟨e0, e1, e2, e3, e4, e5, e6, e7⟩ := hagree c
  rw [Cert.CtxFfnRefIdeal.Read.val_main_v26_eq, e0, e1, e2, e3, e4, e5, e6, e7]

end Cert.CtxFfnClaims

end
-- ==== Proof.CtxOutBlocks.lean ====
/-
  The output projection: where each window's block of a grid point lies, and what the host's operations leave in the arrays the kernel reads.
-/
module

public import proofs.«01_k».proof.Proof.Gen.CtxOutProjIdeal.Value
public import proofs.«01_k».proof.Proof.Gen.CtxOutRefIdeal.Read
public import proofs.«01_k».proof.Proof.MoeReals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxOutProof

open Cert.CtxOutRefIdeal.Read
open Cert.CtxOutProjIdeal Cert.CtxOutProjIdeal.Gen
open Cert.MoeProof (Fin' sub_self')

variable (m : (ℓ : Loc nD τ sig) → Buf (Elt Ideal) ℓ)

/-- Where each window's block of a grid point lies: batch `t / 8`, row block `t % 8`. -/
theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![0, 0] ∧ win0_4.index t = ![0, 0]
    ∧ win0_5.index t = ![t.val % 1, t.val / 1] ∧ win0_6.index t = ![t.val / 1, t.val % 1, 0] ∧ win0_7.index t = ![t.val / 1, t.val % 1, 0]
    ∧ win0_8.index t = ![t.val / 1, 0, 0] ∧ win0_9.index t = ![0, 0] ∧ win0_10.index t = ![t.val / 1, t.val % 1, 0] :=
  (by decide +kernel : ∀ t : Fin grid0.N, _)

theorem lt_of (t : Fin cfg0.N) : t.val < 4 := t.isLt

/-- The arguments of the program, by name. -/
abbrev aOf (c : Dev nD) : FVec Ideal S4x256x384 .f32 := m ((c : Thread nD τ).loc main_arg0)
abbrev aOb (c : Dev nD) : FVec Ideal S4x256x384 .f32 := m ((c : Thread nD τ).loc main_arg1)
abbrev aZ (c : Dev nD) : FVec Ideal S4x256x384 .f32 := m ((c : Thread nD τ).loc main_arg2)
abbrev aG (c : Dev nD) : FVec Ideal S64 .f32 := m ((c : Thread nD τ).loc main_arg3)
abbrev aHy (c : Dev nD) : FVec Ideal S4x256x256 .f32 := m ((c : Thread nD τ).loc main_arg4)
abbrev aSw (c : Dev nD) : FVec Ideal S4x256x384 .f32 := m ((c : Thread nD τ).loc main_arg5)
abbrev aX (c : Dev nD) : FVec Ideal S4x256x1024 .f32 := m ((c : Thread nD τ).loc main_arg6)
abbrev aGate (c : Dev nD) : FVec Ideal S4x1x1024 .f32 := m ((c : Thread nD τ).loc main_arg7)
abbrev aW (c : Dev nD) : FVec Ideal S1024x1024 .f32 := m ((c : Thread nD τ).loc main_arg8)

/-- Batch of a grid point. -/
abbrev bat (t : Fin cfg0.N) : Fin 4 := ⟨t.val / 1, by have := lt_of t; omega⟩
/-- Row of the whole array of a row of the point's block. -/
abbrev row (t : Fin cfg0.N) (r : Fin 256) : Fin 256 := ⟨t.val % 1 * 256 + r.val, by omega⟩

/-- The tiled gain: lane `d` of its row is the gain of lane `d % 64` of a head. -/
theorem gain_entry (c : Dev nD) (d : Fin 384) : (V m c main_v3 : FVec Ideal S1x384 .f32) (ix2 0 d) = aG m c (ix1 ⟨d.val % 64, by omega⟩) := by
  have e : V m c main_v3 = broadcastInDim S1x384 ![1] bcast_S384_S1x384_1 (shapeCast S384 (broadcastInDim S6x64 ![0, 1] bcast_S1x64_S6x64_0_1
      (shapeCast S1x64 (aG m c) shapeCasts_S64_S1x64)) shapeCasts_S6x64_S384) := by
    show StableHlo.after hostOps0 (fun b => m (c, b)) (Proc.tc.devRef main_v3) = _
    simp only [hostOps0]
    after_results
    rfl
  rw [e]
  generalize aG m c = g
  pointwise

/-- The head matrix is one where the two lanes are of one head, zero elsewhere. -/
theorem heads_entry (c : Dev nD) (k d : Fin 384) : (V m c main_v12 : FVec Ideal S384x384 .bf16) (ix2 k d) = if k.val / 64 = d.val / 64 then (1 : EReal) else 0 := by
  have e : V m c main_v12 = uitofp (F := Ideal) .bf16 (cmpi .eq
      (broadcastInDim S384x384 ![0, 1] bcast_S384x1_S384x384_0_1 (broadcastInDim S384x1 ![0] bcast_S384_S384x1_0
        (shapeCast S384 (broadcastInDim S6x64 ![0] bcast_S6_S6x64_0 (iotaInDim S6 32 0)) shapeCasts_S6x64_S384)))
      (broadcastInDim S384x384 ![0, 1] bcast_S1x384_S384x384_0_1 (broadcastInDim S1x384 ![1] bcast_S384_S1x384_1
        (shapeCast S384 (broadcastInDim S6x64 ![0] bcast_S6_S6x64_0 (iotaInDim S6 32 0)) shapeCasts_S6x64_S384)))) := by
    show StableHlo.after hostOps0 (fun b => m (c, b)) (Proc.tc.devRef main_v12) = _
    simp only [hostOps0]
    after_results
    rfl
  rw [e]
  pointwise
  have hk := k.isLt
  have hd := d.isLt
  by_cases h : k.val / 64 = d.val / 64
  · simp [h, IntOp.cmpi, FloatOps.uitofp]
  · have q : BitVec.ofNat 32 (k.val / 64) ≠ BitVec.ofNat 32 (d.val / 64) := fun h' => h (by
      have := congrArg BitVec.toNat h'
      simp only [BitVec.toNat_ofNat] at this
      omega)
    simp [h, beq_eq_false_iff_ne.mpr q, IntOp.cmpi, FloatOps.uitofp]

/-- The transposed array: row `r`, lane `b * 256 + d` is entry `b, r, d`. -/
theorem hy_entry (c : Dev nD) (r : Fin 256) (e : Fin 1024) : (V m c main_v14 : FVec Ideal S256x1024 .f32) (ix2 r e)
    = aHy m c (ix3 ⟨e.val / 256, by omega⟩ r ⟨e.val % 256, by omega⟩) := by
  have e : V m c main_v14 = shapeCast S256x1024 (transpose S256x4x256 [1, 0, 2] (aHy m c) transposes_S4x256x256_S256x4x256_1_0_2) shapeCasts_S256x4x256_S256x1024 := by
    show StableHlo.after hostOps0 (fun b => m (c, b)) (Proc.tc.devRef main_v14) = _
    simp only [hostOps0]
    after_results
    rfl
  rw [e]
  generalize aHy m c = g
  pointwise

theorem w_entry (c : Dev nD) : V m c main_v15 = aW m c := by
  show StableHlo.after hostOps0 (fun b => m (c, b)) (Proc.tc.devRef main_v15) = _
  simp only [hostOps0]
  after_results
  rfl

/-- A head's gated norm on one lane: the head's 64 lanes `o`, the lane's own entry, gain and gate. -/
def HN (o : Fin 64 → EReal) (od g z : EReal) : EReal :=
  od * Ideal.rsqrt (Ideal.div (∑ k, o k * o k) (Ideal.ofBits FTy.f32 1115684864#32) + Ideal.ofBits FTy.f32 897988541#32) * g
    * (z * Ideal.div 1 (1 + Ideal.exp (-z)))

/-- A lane of the same head. -/
abbrev mate (d : Fin 384) (k : Fin 64) : Fin 384 := ⟨d.val / 64 * 64 + k.val, by omega⟩

/-- A sum against the column of the head matrix is the sum over the head's lanes. -/
theorem head_sum (s G : Fin 384 → EReal) (d : Fin 384) (hG : ∀ x, G x = if x.val / 64 = d.val / 64 then (1 : EReal) else 0) :
    ∑ x, s x * G x = ∑ k : Fin 64, s (mate d k) := by
  have e : (∑ x : Fin 384, s x * G x) = ∑ p : Fin 6 × Fin 64, s (finProdFinEquiv p) * G (finProdFinEquiv p) :=
    (Equiv.sum_comp (finProdFinEquiv (m := 6) (n := 64)) (fun x : Fin 384 => s x * G x)).symm
  rw [e, Fintype.sum_prod_type, Finset.sum_eq_single (⟨d.val / 64, by omega⟩ : Fin 6)]
  · refine Finset.sum_congr rfl fun k _ => ?_
    have q : (finProdFinEquiv ((⟨d.val / 64, by omega⟩ : Fin 6), k) : Fin 384) = mate d k := Fin.ext (by
      show k.val + 64 * (d.val / 64) = d.val / 64 * 64 + k.val
      omega)
    rw [q, hG, if_pos (by show (d.val / 64 * 64 + k.val) / 64 = d.val / 64; omega), mul_one]
  · intro a _ ha
    refine Finset.sum_eq_zero fun k _ => ?_
    rw [hG, if_neg, mul_zero]
    intro h
    refine ha (Fin.ext ?_)
    have h' : (k.val + 64 * a.val) / 64 = d.val / 64 := h
    show a.val = d.val / 64
    omega
  · exact fun h => absurd (Finset.mem_univ _) h

theorem const_head : Ideal.ofBits FTy.f32 1115684864#32 = ((64 : ℝ) : EReal) := by
  simp [Ideal.ofBits, Ideal.ieee, -EReal.coe_mul]
  norm_num

theorem const_inv : Ideal.ofBits FTy.f32 1015021568#32 = ((1 / 64 : ℝ) : EReal) := by
  simp [Ideal.ofBits, Ideal.ieee, -EReal.coe_mul]
  norm_num

/-- The gated head norm, from blocks whose head matrix is the one of the heads. -/
theorem dn_point (a b : FVec Ideal S1x256x384 .f32) (G : FVec Ideal S384x384 .bf16) (g : FVec Ideal S1x384 .f32) (z : FVec Ideal S1x256x384 .f32)
    (ha : ∀ r d, Fin' (a (ix3 0 r d))) (hb : ∀ r d, Fin' (b (ix3 0 r d)))
    (hG : ∀ x d, G (ix2 x d) = if x.val / 64 = d.val / 64 then (1 : EReal) else 0) (r : Fin 256) (d : Fin 384) :
    k0_pay2 (F := Ideal) a b G g z (ix2 r d)
      = HN (fun k => a (ix3 0 r (mate d k)) + b (ix3 0 r (mate d k))) (a (ix3 0 r d) + b (ix3 0 r d)) (g (ix2 0 d)) (z (ix3 0 r d)) := by
  have low : ∀ x, (a (ix3 0 r x) + b (ix3 0 r x)) * (a (ix3 0 r x) + b (ix3 0 r x)) - (a (ix3 0 r x) + b (ix3 0 r x)) * (a (ix3 0 r x) + b (ix3 0 r x)) = 0 :=
    fun x => sub_self' (((ha r x).add (hb r x)).mul ((ha r x).add (hb r x)))
  pointwise [k0_pay2]
  simp only [low, zero_mul, Finset.sum_const_zero, add_zero, zero_sub]
  rw [head_sum (fun x => (a (ix3 0 r x) + b (ix3 0 r x)) * (a (ix3 0 r x) + b (ix3 0 r x))) (fun x => G (ix2 x d)) d (fun x => hG x d)]
  rw [HN, const_head, Ideal.div_coe (by norm_num), const_inv]

theorem dn_ref (x0 x1 x2 : FVec Ideal S4x256x384 .f32) (x3 : FVec Ideal S64 .f32) (b : Fin 4) (r : Fin 256) (d : Fin 384) :
    Cert.CtxOutRefIdeal.Read.val_main_v18 (F := Ideal) x0 x1 x2 x3 (ix3 b r d)
      = HN (fun k => x0 (ix3 b r (mate d k)) + x1 (ix3 b r (mate d k))) (x0 (ix3 b r d) + x1 (ix3 b r d)) (x3 (ix1 ⟨d.val % 64, by omega⟩)) (x2 (ix3 b r d)) := by
  simp only [val_main_v18_apply, val_main_v17_apply, val_main_v16_apply, val_main_call0_v5_apply, val_main_call0_v4_apply, val_main_call0_cst_0_apply, val_main_call0_v3_apply, val_main_call0_v2_apply, val_main_call0_cst_apply, val_main_call0_v1_apply, val_main_call0_v0_apply, val_main_v15_apply, val_main_v14_apply, val_main_v13_apply, val_main_v12_apply, val_main_v11_apply, val_main_v10_apply, val_main_v9_apply, val_main_v8_apply, val_main_v7_apply, val_main_cst_1_apply, val_main_v6_apply, val_main_v5_apply, val_main_cst_0_apply, val_main_v4_apply, val_main_v3_apply, val_main_cst_apply, val_main_v2_apply, val_main_v1_apply, val_main_v0_apply]
  have e1 : idx_main_v1 (idx_main_v18 (ix3 b r d)) = ix3 b r d := by
    funext a; fin_cases a <;> refine Fin.ext ?_ <;> simp [idx_main_v1, idx_main_v18] <;> omega
  have e2 : ∀ k, idx_main_v1 (idx_main_v3 (idx_main_v4 (idx_main_v10 (idx_main_v18 (ix3 b r d)))) k) = ix3 b r (mate d k) := by
    intro k
    funext a; fin_cases a <;> refine Fin.ext ?_ <;> simp [idx_main_v1, idx_main_v3, idx_main_v4, idx_main_v10, idx_main_v18, mate] <;> omega
  have e3 : idx_main_v12 (idx_main_v13 (idx_main_v18 (ix3 b r d))) = ix1 ⟨d.val % 64, by omega⟩ := by
    funext a; fin_cases a <;> refine Fin.ext ?_ <;> simp [idx_main_v12, idx_main_v13, idx_main_v18] <;> omega
  have e4 : idx_main_v15 (idx_main_v18 (ix3 b r d)) = ix3 b r d := by
    funext a; fin_cases a <;> refine Fin.ext ?_ <;> simp [idx_main_v15, idx_main_v18] <;> omega
  simp only [e1, e2, e3, e4]
  pointwise [HN]

/-- The three parts laid side by side, entry by entry. -/
theorem cat_ref (x0 x1 x2 : FVec Ideal S4x256x384 .f32) (x3 : FVec Ideal S64 .f32) (x4 : FVec Ideal S4x256x256 .f32) (x5 : FVec Ideal S4x256x384 .f32)
    (b : Fin 4) (r : Fin 256) (k : Fin 1024) :
    val_main_v19 (F := Ideal) x0 x1 x2 x3 x4 x5 (ix3 b r k)
      = if h : k.val < 384 then val_main_v18 (F := Ideal) x0 x1 x2 x3 (ix3 b r ⟨k.val, h⟩)
        else if h : k.val - 384 < 256 then x4 (ix3 b r ⟨k.val - 384, h⟩) else x5 (ix3 b r ⟨k.val - 384 - 256, by omega⟩) := by
  rw [val_main_v19]
  generalize val_main_v18 (F := Ideal) x0 x1 x2 x3 = D
  pointwise

/-- A sum over the 1024 lanes is the sum over the three parts. -/
theorem parts (T : Fin 1024 → EReal) :
    ∑ k, T k = ((∑ k : Fin 384, T ⟨k.val, by omega⟩) + ∑ k : Fin 256, T ⟨384 + k.val, by omega⟩) + ∑ k : Fin 384, T ⟨640 + k.val, by omega⟩ := by
  rw [show (∑ k, T k) = ∑ k : Fin (384 + 256 + 384), T k from rfl, Fin.sum_univ_add, Fin.sum_univ_add]
  rfl

/-- The reference's product, part by part. -/
theorem prod_ref (x0 x1 x2 : FVec Ideal S4x256x384 .f32) (x3 : FVec Ideal S64 .f32) (x4 : FVec Ideal S4x256x256 .f32) (x5 : FVec Ideal S4x256x384 .f32)
    (x8 : FVec Ideal S1024x1024 .f32) (b : Fin 4) (r : Fin 256) (e : Fin 1024) :
    val_main_v20 (F := Ideal) x0 x1 x2 x3 x4 x5 x8 (ix3 b r e)
      = ((∑ k : Fin 384, val_main_v18 (F := Ideal) x0 x1 x2 x3 (ix3 b r k) * x8 (ix2 ⟨k.val, by omega⟩ e))
          + ∑ k : Fin 256, x4 (ix3 b r k) * x8 (ix2 ⟨384 + k.val, by omega⟩ e))
        + ∑ k : Fin 384, x5 (ix3 b r k) * x8 (ix2 ⟨640 + k.val, by omega⟩ e) := by
  have h : val_main_v20 (F := Ideal) x0 x1 x2 x3 x4 x5 x8 (ix3 b r e)
      = ∑ k : Fin 1024, val_main_v19 (F := Ideal) x0 x1 x2 x3 x4 x5 (ix3 b r k) * x8 (ix2 k e) := by
    rw [val_main_v20_apply]
    refine Finset.sum_congr rfl fun k _ => congrArg₂ (· * ·) (congrArg _ ?_) (congrArg _ ?_)
    · funext a; fin_cases a <;> rfl
    · funext a; fin_cases a <;> rfl
  rw [h, parts]
  refine congrArg₂ (· + ·) (congrArg₂ (· + ·) (Finset.sum_congr rfl fun k _ => ?_) (Finset.sum_congr rfl fun k _ => ?_)) (Finset.sum_congr rfl fun k _ => ?_)
  · rw [cat_ref, dif_pos k.isLt]
  · rw [cat_ref, dif_neg (by show ¬ 384 + k.val < 384; omega), dif_pos (by show 384 + k.val - 384 < 256; omega)]
    refine congrArg₂ (· * ·) (congrArg x4 (congrArg (ix3 b r) (Fin.ext ?_))) rfl
    show 384 + k.val - 384 = k.val
    omega
  · rw [cat_ref, dif_neg (by show ¬ 640 + k.val < 384; omega), dif_neg (by show ¬ 640 + k.val - 384 < 256; omega)]
    refine congrArg₂ (· * ·) (congrArg x5 (congrArg (ix3 b r) (Fin.ext ?_))) rfl
    show 640 + k.val - 384 - 256 = k.val
    omega

end Cert.CtxOutProof

end
-- ==== Proof.CtxOutValue.lean ====
/-
  The output projection: what its kernel leaves in the result array is the plain output projection of the argument arrays.
-/
module

public import proofs.«01_k».proof.Proof.CtxOutBlocks

@[expose] public section

set_option maxRecDepth 16384

noncomputable section

open Idealize.ShloMosaic Idealize.ShloMosaic.TcCoe Idealize.SL.Sem
open Idealize.ShloMosaic.Pipeline (Dat)

namespace Cert.CtxOutProof

open Cert.CtxOutRefIdeal.Read
open Cert.CtxOutProjIdeal Cert.CtxOutProjIdeal.Gen
open Cert.MoeProof (Fin' sub_self')

variable (m : (ℓ : Loc nD τ sig) → Buf (Elt Ideal) ℓ)

/-- The two scan outputs are real. -/
structure Reals (c : Dev nD) : Prop where
  f : ∀ i, Fin' (aOf m c i)
  b : ∀ i, Fin' (aOb m c i)

/-- The reference's gated head norm. -/
abbrev DN (c : Dev nD) : FVec Ideal S4x256x384 .f32 := val_main_v18 (F := Ideal) (aOf m c) (aOb m c) (aZ m c) (aG m c)

/-- The reference's whole result. -/
abbrev REF (c : Dev nD) : FVec Ideal S4x256x1024 .f32 :=
  val_main_v23 (F := Ideal) (aOf m c) (aOb m c) (aZ m c) (aG m c) (aHy m c) (aSw m c) (aX m c) (aGate m c) (aW m c)

theorem blk_of (c : Dev nD) (t : Fin cfg0.N) (r : Fin 256) (d : Fin 384) :
    (iblk m c 0 t : FVec Ideal S1x256x384 .f32) (ix3 0 r d) = aOf m c (ix3 (bat t) (row t r) d) := by
  blk_ext [iblk, V, idx t]

theorem blk_ob (c : Dev nD) (t : Fin cfg0.N) (r : Fin 256) (d : Fin 384) :
    (iblk m c 1 t : FVec Ideal S1x256x384 .f32) (ix3 0 r d) = aOb m c (ix3 (bat t) (row t r) d) := by
  blk_ext [iblk, V, idx t]

theorem blk_z (c : Dev nD) (t : Fin cfg0.N) (r : Fin 256) (d : Fin 384) :
    (iblk m c 2 t : FVec Ideal S1x256x384 .f32) (ix3 0 r d) = aZ m c (ix3 (bat t) (row t r) d) := by
  blk_ext [iblk, V, idx t]

theorem blk_g (c : Dev nD) (t : Fin cfg0.N) (d : Fin 384) :
    (iblk m c 3 t : FVec Ideal S1x384 .f32) (ix2 0 d) = aG m c (ix1 ⟨d.val % 64, by omega⟩) := by
  show V m c main_v3 ((win0_3.blk t).view.emb (ix2 0 d)) = _
  have q : (win0_3.blk t).view.emb (ix2 0 d) = ix2 0 d := by blk_ext [idx t]
  rw [q]
  exact gain_entry m c d

theorem blk_heads (c : Dev nD) (t : Fin cfg0.N) (k d : Fin 384) :
    (iblk m c 4 t : FVec Ideal S384x384 .bf16) (ix2 k d) = if k.val / 64 = d.val / 64 then (1 : EReal) else 0 := by
  show V m c main_v12 ((win0_4.blk t).view.emb (ix2 k d)) = _
  have q : (win0_4.blk t).view.emb (ix2 k d) = ix2 k d := by blk_ext [idx t]
  rw [q]
  exact heads_entry m c k d

theorem blk_hy (c : Dev nD) (t : Fin cfg0.N) (r : Fin 256) (d : Fin 256) :
    (iblk m c 5 t : FVec Ideal S256x256 .f32) (ix2 r d) = aHy m c (ix3 (bat t) (row t r) d) := by
  have ht := lt_of t
  show V m c main_v14 ((win0_5.blk t).view.emb (ix2 r d)) = _
  have q : (win0_5.blk t).view.emb (ix2 r d) = ix2 (row t r) ⟨t.val / 1 * 256 + d.val, by omega⟩ := by blk_ext [idx t]
  rw [q]
  refine (hy_entry m c _ _).trans (congrArg (aHy m c) ?_)
  funext a
  fin_cases a <;> refine Fin.ext ?_
  · show (t.val / 1 * 256 + d.val) / 256 = t.val / 1; omega
  · rfl
  · show (t.val / 1 * 256 + d.val) % 256 = d.val; omega

theorem blk_sw (c : Dev nD) (t : Fin cfg0.N) (r : Fin 256) (d : Fin 384) :
    (iblk m c 6 t : FVec Ideal S1x256x384 .f32) (ix3 0 r d) = aSw m c (ix3 (bat t) (row t r) d) := by
  blk_ext [iblk, V, idx t]

theorem blk_w (c : Dev nD) (t : Fin cfg0.N) (k e : Fin 1024) :
    (iblk m c 9 t : FVec Ideal S1024x1024 .bf16) (ix2 k e) = aW m c (ix2 k e) := by
  show V m c main_v15 ((win0_9.blk t).view.emb (ix2 k e)) = _
  have q : (win0_9.blk t).view.emb (ix2 k e) = ix2 k e := by blk_ext [idx t]
  rw [q, w_entry]

/-- The rows the kernel forms from the scans are the reference's gated head norm. -/
theorem dn_block (c : Dev nD) (R : Reals m c) (t : Fin cfg0.N) (r : Fin 256) (d : Fin 384) :
    k0_pay2 (F := Ideal) (iblk m c 0 t) (iblk m c 1 t) (iblk m c 4 t) (iblk m c 3 t) (iblk m c 2 t) (ix2 r d) = DN m c (ix3 (bat t) (row t r) d) := by
  refine (dn_point _ _ _ _ _ (fun r d => by rw [blk_of]; exact R.f _) (fun r d => by rw [blk_ob]; exact R.b _) (blk_heads m c t) r d).trans ?_
  rw [DN, dn_ref, blk_g, blk_z, blk_of, blk_ob]
  refine congrArg (HN · _ _ _) (funext fun k => ?_)
  rw [blk_of, blk_ob]

/-- What is stored, from the rows and the blocks. -/
theorem out_point (D : FVec Ideal S256x384 .bf16) (w1 : FVec Ideal S384x1024 .bf16) (hy : FVec Ideal S256x256 .f32) (w2 : FVec Ideal S256x1024 .bf16)
    (sw : FVec Ideal S1x256x384 .f32) (w3 : FVec Ideal S384x1024 .bf16) (x : FVec Ideal S1x256x1024 .f32) (g : FVec Ideal S1x1x1024 .f32) (r : Fin 256) (e : Fin 1024) :
    k0_pay1 (F := Ideal) D w1 hy w2 sw w3 x g (ix3 0 r e)
      = x (ix3 0 r e) + g (ix3 0 0 e) * (((∑ k, D (ix2 r k) * w1 (ix2 k e)) + ∑ k, hy (ix2 r k) * w2 (ix2 k e)) + ∑ k, sw (ix3 0 r k) * w3 (ix2 k e)) := by
  pointwise [k0_pay1]

/-- The three row ranges of the weights the kernel loads. -/
theorem ld_dn (w : FVec Ideal S1024x1024 .bf16) (k : Fin 384) (e : Fin 1024) :
    (View.ld (Val := Elt Ideal) (e' := .bf16) w r0_3 : FVec Ideal S384x1024 .bf16) (ix2 k e) = w (ix2 ⟨k.val, by omega⟩ e) := by
  refine congrArg w ?_
  funext a
  fin_cases a <;> refine Fin.ext ?_
  · simp
  · simp
theorem ld_hy (w : FVec Ideal S1024x1024 .bf16) (k : Fin 256) (e : Fin 1024) :
    (View.ld (Val := Elt Ideal) (e' := .bf16) w r0_5 : FVec Ideal S256x1024 .bf16) (ix2 k e) = w (ix2 ⟨384 + k.val, by omega⟩ e) := by
  refine congrArg w ?_
  funext a
  fin_cases a <;> refine Fin.ext ?_
  · simp
  · simp
theorem ld_sw (w : FVec Ideal S1024x1024 .bf16) (k : Fin 384) (e : Fin 1024) :
    (View.ld (Val := Elt Ideal) (e' := .bf16) w r0_6 : FVec Ideal S384x1024 .bf16) (ix2 k e) = w (ix2 ⟨640 + k.val, by omega⟩ e) := by
  refine congrArg w ?_
  funext a
  fin_cases a <;> refine Fin.ext ?_
  · simp
  · simp

theorem ref_point (x0 x1 x2 : FVec Ideal S4x256x384 .f32) (x3 : FVec Ideal S64 .f32) (x4 : FVec Ideal S4x256x256 .f32) (x5 : FVec Ideal S4x256x384 .f32)
    (x6 : FVec Ideal S4x256x1024 .f32) (x7 : FVec Ideal S4x1x1024 .f32) (x8 : FVec Ideal S1024x1024 .f32) (b : Fin 4) (r : Fin 256) (e : Fin 1024) :
    val_main_v23 (F := Ideal) x0 x1 x2 x3 x4 x5 x6 x7 x8 (ix3 b r e)
      = x6 (ix3 b r e) + x7 (ix3 b 0 e) * val_main_v20 (F := Ideal) x0 x1 x2 x3 x4 x5 x8 (ix3 b r e) := by
  simp only [val_main_v23_apply, val_main_v22_apply, val_main_v21_apply]
  generalize val_main_v20 (F := Ideal) x0 x1 x2 x3 x4 x5 x8 = P
  pointwise
  blk_point []

theorem blk_x (c : Dev nD) (t : Fin cfg0.N) (r : Fin 256) (e : Fin 1024) :
    (iblk m c 7 t : FVec Ideal S1x256x1024 .f32) (ix3 0 r e) = aX m c (ix3 (bat t) (row t r) e) := by
  blk_ext [iblk, V, idx t]

theorem blk_gate (c : Dev nD) (t : Fin cfg0.N) (e : Fin 1024) :
    (iblk m c 8 t : FVec Ideal S1x1x1024 .f32) (ix3 0 0 e) = aGate m c (ix3 (bat t) 0 e) := by
  blk_ext [iblk, V, idx t]

theorem point (c : Dev nD) (R : Reals m c) (t : Fin cfg0.N) (y : S1x256x1024.Idx) :
    k0_pay1 (F := Ideal) (k0_pay2 (iblk m c 0 t) (iblk m c 1 t) (iblk m c 4 t) (iblk m c 3 t) (iblk m c 2 t))
      (View.ld (Val := Elt Ideal) (e' := .bf16) (iblk m c 9 t) r0_3) (iblk m c 5 t) (View.ld (Val := Elt Ideal) (e' := .bf16) (iblk m c 9 t) r0_5) (iblk m c 6 t)
      (View.ld (Val := Elt Ideal) (e' := .bf16) (iblk m c 9 t) r0_6) (iblk m c 7 t) (iblk m c 8 t) y =
    REF m c (((View.whole main_v16).slice (win0_10.rect t)).emb y) := by
  obtain ⟨r, e, rfl⟩ : ∃ (r : Fin 256) (e : Fin 1024), y = ix3 0 r e := ⟨y 1, y 2, by
    have h0 : (y 0).val < 1 := (y 0).isLt
    funext a
    fin_cases a
    · exact Fin.ext (by show (y 0).val = 0; omega)
    · rfl
    · rfl⟩
  have q : ((View.whole main_v16).slice (win0_10.rect t)).emb (ix3 0 r e) = ix3 (bat t) (row t r) e := by blk_ext [idx t]
  rw [q]
  refine (out_point _ _ _ _ _ _ _ _ r e).trans ?_
  rw [REF, ref_point, prod_ref, blk_x, blk_gate]
  refine congrArg (_ + _ * ·) (congrArg₂ (· + ·) (congrArg₂ (· + ·) (Finset.sum_congr rfl fun k _ => ?_) (Finset.sum_congr rfl fun k _ => ?_)) (Finset.sum_congr rfl fun k _ => ?_))
  · rw [dn_block m c R, ld_dn, blk_w]
  · rw [blk_hy, ld_hy, blk_w]
  · rw [blk_sw, ld_sw, blk_w]

theorem final (c : Dev nD) (R : Reals m c) : (dats m 0 c).arrAt 10 (cfgs 0).N = REF m c := by
  refine (dats m 0 c).arrAt_eq_of_covers 10 _ (by decide +kernel) fun t _ y => ?_
  blk_simp
  rw [after0_10]; frame_out
  exact point m c R t y

end Cert.CtxOutProof

end
-- ==== Proof.CtxOutClaims.lean ====
/-
  The claims about the output projection, its value for finite scan outputs.
-/
module

public import proofs.«01_k».proof.Defs
public import proofs.«01_k».proof.Proof.Gen.Pre_ctx_scan_finite
public import proofs.«01_k».proof.Proof.Gen.CtxOutProj.Frame
public import proofs.«01_k».proof.Proof.Gen.CtxOutProjIdeal.Value
public import proofs.«01_k».proof.Proof.Gen.CtxOutRefIdeal.Run
public import proofs.«01_k».proof.Proof.Gen.CtxOutRefIdeal.Read
public import proofs.«01_k».proof.Proof.MoeClaims
public import proofs.«01_k».proof.Proof.CtxOutValue
public import Idealize.ShloMosaic.Lib.ReduceAll
public import Idealize.ShloMosaic.Adequacy
public import Idealize.ShloMosaic.Init

@[expose] public section

set_option maxRecDepth 16384

noncomputable section

open Idealize.ShloMosaic Idealize.ShloMosaic.TcCoe Idealize.SL.Sem

namespace Cert.CtxOutClaims

theorem frame_p : Cert.quiescent_CtxOutProj := fun m ρ _ => Cert.CtxOutProj.Gen.frame m ρ

theorem frame_pi : Cert.quiescent_CtxOutProjIdeal := fun m ρ _ => Cert.CtxOutProjIdeal.Gen.frame m ρ

theorem frame_pi_pre : Cert.quiescent_CtxOutProjIdeal_pre_ctx_scan_finite := fun m ρ _ => Cert.CtxOutProjIdeal.Gen.frame m ρ

theorem frame_ri : Cert.quiescent_CtxOutRefIdeal := fun m ρ _ => (θ_run Cert.CtxOutRefIdeal.defs _ _).mono (fun r h => ⟨fun c => (h c).2,
      Idealize.ShloMosaic.sem_eq_zero_of_no_sems (by decide) r.2⟩) (Cert.CtxOutRefIdeal.Value.run (F := Ideal) m ρ)

theorem frame_ri_pre : Cert.quiescent_CtxOutRefIdeal_pre_ctx_scan_finite := fun m ρ _ => frame_ri m ρ trivial

theorem preserves : Cert.preserves_CtxOutProj_CtxOutProjIdeal := trivial

instance : Subsingleton Cert.Pre_ctx_scan_finite.S_.Idx := ⟨fun a b => funext fun d => d.elim0⟩

/-- What the precondition says of the scan outputs. -/
theorem reals {m : (ℓ : Loc Cert.CtxOutProjIdeal.nD Cert.CtxOutProjIdeal.τ Cert.CtxOutProjIdeal.sig) → Buf (Elt Ideal) ℓ} (h : Cert.Pre_CtxOutProjIdeal_ctx_scan_finite m)
    (c : Dev Cert.CtxOutProjIdeal.nD) : Cert.CtxOutProof.Reals m c := by
  have g := congrFun (h c) (fun d => d.elim0)
  dsimp only [Cert.Pre_ctx_scan_finite.fn] at g
  obtain ⟨h0, h1⟩ := IntOp.andi_eq_one.1 g
  exact ⟨fun i => Cert.MoeClaims.real_of_abs _ (Host.reduce_andi_all _ _ _ _ _ h0 i),
    fun i => Cert.MoeClaims.real_of_abs _ (Host.reduce_andi_all _ _ _ _ _ h1 i)⟩

/-- The reference program's result from memories that agree with the kernel's on the arguments. -/
theorem agree (x0 y0 x1 y1 x2 y2 : FVec Ideal Cert.CtxOutRefIdeal.S4x256x384 .f32) (x3 y3 : FVec Ideal Cert.CtxOutRefIdeal.S64 .f32)
    (x4 y4 : FVec Ideal Cert.CtxOutRefIdeal.S4x256x256 .f32) (x5 y5 : FVec Ideal Cert.CtxOutRefIdeal.S4x256x384 .f32)
    (x6 y6 : FVec Ideal Cert.CtxOutRefIdeal.S4x256x1024 .f32) (x7 y7 : FVec Ideal Cert.CtxOutRefIdeal.S4x1x1024 .f32)
    (x8 y8 : FVec Ideal Cert.CtxOutRefIdeal.S1024x1024 .f32)
    (h : x0 = y0 ∧ x1 = y1 ∧ x2 = y2 ∧ x3 = y3 ∧ x4 = y4 ∧ x5 = y5 ∧ x6 = y6 ∧ x7 = y7 ∧ x8 = y8) :
    Cert.CtxOutRefIdeal.Read.val_main_v23 (F := Ideal) x0 x1 x2 x3 x4 x5 x6 x7 x8
      = Cert.CtxOutRefIdeal.Read.val_main_v23 (F := Ideal) y0 y1 y2 y3 y4 y5 y6 y7 y8 := by
  obtain ⟨e0, e1, e2, e3, e4, e5, e6, e7, e8⟩ := h
  rw [e0, e1, e2, e3, e4, e5, e6, e7, e8]

/-- At the ideal instance the kernel's result array and the reference program's are one function of the arguments. -/
theorem algebraic : Cert.algebraic_CtxOutProjIdeal_CtxOutRefIdeal_pre_ctx_scan_finite := by
  intro m ρ m' ρ' pre hagree
  refine ⟨fun c => Cert.CtxOutProof.REF m c, (θ_run Cert.CtxOutProjIdeal.defs _ _).mono
    (fun r h c => ⟨(h c).1.trans (Cert.CtxOutProof.final m c (reals pre c)), (h c).2⟩) (Cert.CtxOutProjIdeal.Value.run_blocks (F := Ideal) m ρ), ?_⟩
  exact (θ_run Cert.CtxOutRefIdeal.defs _ _).mono (fun _ h c => ⟨(h c).1.trans
    ((Cert.CtxOutRefIdeal.Read.val_main_v23_eq _ _ _ _ _ _ _ _ _).trans (agree _ _ _ _ _ _ _ _ _ _ _ _ _ _ _ _ _ _ (hagree c))), (h c).2⟩)
    (Cert.CtxOutRefIdeal.Value.run (F := Ideal) m' ρ')

end Cert.CtxOutClaims

end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite
public import proofs.«01_k».proof.Proof.Gen.MoeIdeal.Value
public import proofs.«01_k».proof.Proof.Gen.MoeRefIdeal.Run
public import proofs.«01_k».proof.Proof.Gen.MoeRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InRefIdeal.Run
public import proofs.«01_k».proof.Proof.Gen.InRefIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutRefIdeal.Run
public import proofs.«01_k».proof.Proof.Gen.OutRefIdeal.Read
public import proofs.«01_k».proof.Proof.Gen.Pre_scan_finite
public import proofs.«01_k».proof.Proof.Gen.CtxMoe.Frame
public import proofs.«01_k».proof.Proof.Gen.CtxMoeIdeal.Frame
public import proofs.«01_k».proof.Proof.Gen.CtxMoeIdeal.Value
public import proofs.«01_k».proof.Proof.Gen.CtxMoeRefIdeal.Run
public import proofs.«01_k».proof.Proof.Gen.CtxMoeRefIdeal.Read
public import proofs.«01_k».proof.Proof.Gen.CtxFfn.Frame
public import proofs.«01_k».proof.Proof.Gen.CtxFfnIdeal.Frame
public import proofs.«01_k».proof.Proof.Gen.CtxFfnIdeal.Value
public import proofs.«01_k».proof.Proof.Gen.CtxFfnRefIdeal.Run
public import proofs.«01_k».proof.Proof.Gen.CtxFfnRefIdeal.Read
public import proofs.«01_k».proof.Proof.Gen.CtxOutProj.Frame
public import proofs.«01_k».proof.Proof.Gen.CtxOutProjIdeal.Frame
public import proofs.«01_k».proof.Proof.Gen.CtxOutProjIdeal.Value
public import proofs.«01_k».proof.Proof.Gen.CtxOutRefIdeal.Run
public import proofs.«01_k».proof.Proof.Gen.CtxOutRefIdeal.Read
public import proofs.«01_k».proof.Proof.Gen.Pre_ctx_finite
public import proofs.«01_k».proof.Proof.Gen.Pre_ctx_scan_finite
public import proofs.«01_k».proof.Proof.Gen.AttnRefIdeal.Read
public import proofs.«01_k».proof.Proof.MoeFrames
public import proofs.«01_k».proof.Proof.MoeClaims
public import proofs.«01_k».proof.Proof.AttnFrames
public import proofs.«01_k».proof.Proof.FfnClaims
public import proofs.«01_k».proof.Proof.NormClaims
public import proofs.«01_k».proof.Proof.OutClaims
public import proofs.«01_k».proof.Proof.InFrames
public import proofs.«01_k».proof.Proof.InClaims
public import proofs.«01_k».proof.Proof.CtxMoeFrames
public import proofs.«01_k».proof.Proof.CtxMoeClaims
public import proofs.«01_k».proof.Proof.CtxFfnClaims
public import proofs.«01_k».proof.Proof.CtxOutClaims
public import Idealize.ShloMosaic.Adequacy
public import Idealize.ShloMosaic.Init

@[expose] public section

noncomputable section

-- The claims about the programs also say that every semaphore counter ends at zero; the frames show that too.

namespace Cert.Proof

open Idealize.ShloMosaic Idealize.SL.Sem Cert.Moe

theorem claim : Cert.Claim := ⟨Cert.Moe.Gen.facts, Cert.MoeIdeal.Gen.facts, Cert.MoeRefIdeal.Gen.facts, Cert.Ffn.Gen.facts, Cert.FfnIdeal.Gen.facts, Cert.FfnRefIdeal.Gen.facts, Cert.Norm.Gen.facts, Cert.NormIdeal.Gen.facts, Cert.NormRefIdeal.Gen.facts, Cert.Attn.Gen.facts, Cert.AttnIdeal.Gen.facts, Cert.AttnRefIdeal.Gen.facts, Cert.InProj.Gen.facts, Cert.InProjIdeal.Gen.facts, Cert.InRefIdeal.Gen.facts, Cert.OutProj.Gen.facts, Cert.OutProjIdeal.Gen.facts, Cert.OutRefIdeal.Gen.facts, Cert.CtxMoe.Gen.facts, Cert.CtxMoeIdeal.Gen.facts, Cert.CtxMoeRefIdeal.Gen.facts, Cert.CtxFfn.Gen.facts, Cert.CtxFfnIdeal.Gen.facts, Cert.CtxFfnRefIdeal.Gen.facts, Cert.CtxOutProj.Gen.facts, Cert.CtxOutProjIdeal.Gen.facts, Cert.CtxOutRefIdeal.Gen.facts, Cert.Pre_finite.Gen.facts, Cert.Pre_scan_finite.Gen.facts, Cert.Pre_ctx_finite.Gen.facts, Cert.Pre_ctx_scan_finite.Gen.facts,
  Cert.MoeClaims.frame_p, Cert.MoeClaims.frame_pi, Cert.MoeClaims.frame_pi_pre, Cert.MoeClaims.frame_ri, Cert.MoeClaims.frame_ri_pre, Cert.FfnClaims.frame_p, Cert.FfnClaims.frame_pi, Cert.FfnClaims.frame_ri, Cert.NormClaims.frame_p, Cert.NormClaims.frame_pi, Cert.NormClaims.frame_ri, Cert.AttnClaims.frame_p, Cert.AttnClaims.frame_pi, Cert.AttnClaims.frame_ri,
  Cert.InFrames.frame_p, Cert.InFrames.frame_pi, Cert.InFrames.frame_ri, Cert.OutClaims.frame_p, Cert.OutClaims.frame_pi, Cert.OutClaims.frame_pi_pre, Cert.OutClaims.frame_ri, Cert.OutClaims.frame_ri_pre,
  Cert.CtxMoeClaims.frame_p, Cert.CtxMoeClaims.frame_pi, Cert.CtxMoeClaims.frame_pi_pre, Cert.CtxMoeClaims.frame_ri, Cert.CtxMoeClaims.frame_ri_pre, Cert.CtxFfnClaims.frame_p, Cert.CtxFfnClaims.frame_pi, Cert.CtxFfnClaims.frame_ri,
  Cert.CtxOutClaims.frame_p, Cert.CtxOutClaims.frame_pi, Cert.CtxOutClaims.frame_pi_pre, Cert.CtxOutClaims.frame_ri, Cert.CtxOutClaims.frame_ri_pre,
  Cert.MoeClaims.preserves, Cert.MoeClaims.algebraic, Cert.FfnClaims.preserves, Cert.FfnClaims.algebraic, Cert.NormClaims.preserves, Cert.NormClaims.algebraic,
  Cert.AttnClaims.preserves, Cert.InFrames.preserves, Cert.InClaims.algebraic, Cert.OutClaims.preserves, Cert.OutClaims.algebraic,
  Cert.CtxMoeClaims.preserves, Cert.CtxMoeClaims.algebraic, Cert.CtxFfnClaims.preserves, Cert.CtxFfnClaims.algebraic, Cert.CtxOutClaims.preserves, Cert.CtxOutClaims.algebraic⟩

end Cert.Proof

end
